-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_KernelIdeal_finite [hPre_finite : Cert.Pre_finite.Facts] (m : (ℓ : Loc Cert.KernelIdeal.nD Cert.KernelIdeal.τ Cert.KernelIdeal.sig) → Buf (Elt Ideal) ℓ) : Prop :=
  ∀ c : Dev Cert.KernelIdeal.nD,
    (Cert.Pre_finite.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11)) (m ((c.tc : Thread Cert.KernelIdeal.nD Cert.KernelIdeal.τ).loc Cert.KernelIdeal.main_arg12))) = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_finite [hPre_finite : Cert.Pre_finite.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10)) (m ((c.tc : Thread Cert.ReferenceIdeal.nD Cert.ReferenceIdeal.τ).loc Cert.ReferenceIdeal.main_arg11)) (m ((c.tc : Thread Cert.ReferenceIdeal.nD Cert.ReferenceIdeal.τ).loc Cert.ReferenceIdeal.main_arg12))) = (fun _ => 1#1)

def Pre_Kernel2 (m : (ℓ : Loc Cert.Kernel2.nD Cert.Kernel2.τ Cert.Kernel2.sig) → Buf (Elt Bits) ℓ) : Prop :=
  True

def Pre_Kernel2Ideal (m : (ℓ : Loc Cert.Kernel2Ideal.nD Cert.Kernel2Ideal.τ Cert.Kernel2Ideal.sig) → Buf (Elt Ideal) ℓ) : Prop :=
  True

def Pre_Reference2Ideal (m : (ℓ : Loc Cert.Reference2Ideal.nD Cert.Reference2Ideal.τ Cert.Reference2Ideal.sig) → Buf (Elt Ideal) ℓ) : Prop :=
  True

def Pre_Kernel3 (m : (ℓ : Loc Cert.Kernel3.nD Cert.Kernel3.τ Cert.Kernel3.sig) → Buf (Elt Bits) ℓ) : Prop :=
  True

def Pre_Kernel3Ideal (m : (ℓ : Loc Cert.Kernel3Ideal.nD Cert.Kernel3Ideal.τ Cert.Kernel3Ideal.sig) → Buf (Elt Ideal) ℓ) : Prop :=
  True

def Pre_Reference3Ideal (m : (ℓ : Loc Cert.Reference3Ideal.nD Cert.Reference3Ideal.τ Cert.Reference3Ideal.sig) → Buf (Elt Ideal) ℓ) : Prop :=
  True

def Pre_Kernel4 (m : (ℓ : Loc Cert.Kernel4.nD Cert.Kernel4.τ Cert.Kernel4.sig) → Buf (Elt Bits) ℓ) : Prop :=
  True

def Pre_Kernel4Ideal (m : (ℓ : Loc Cert.Kernel4Ideal.nD Cert.Kernel4Ideal.τ Cert.Kernel4Ideal.sig) → Buf (Elt Ideal) ℓ) : Prop :=
  True

def Pre_Reference4Ideal (m : (ℓ : Loc Cert.Reference4Ideal.nD Cert.Reference4Ideal.τ Cert.Reference4Ideal.sig) → Buf (Elt Ideal) ℓ) : Prop :=
  True

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9)
      ∧ r.2.mem ((c.tc : Thread Cert.Kernel.nD Cert.Kernel.τ).loc Cert.Kernel.main_arg10) = m ((c.tc : Thread Cert.Kernel.nD Cert.Kernel.τ).loc Cert.Kernel.main_arg10)
      ∧ r.2.mem ((c.tc : Thread Cert.Kernel.nD Cert.Kernel.τ).loc Cert.Kernel.main_arg11) = m ((c.tc : Thread Cert.Kernel.nD Cert.Kernel.τ).loc Cert.Kernel.main_arg11)
      ∧ r.2.mem ((c.tc : Thread Cert.Kernel.nD Cert.Kernel.τ).loc Cert.Kernel.main_arg12) = m ((c.tc : Thread Cert.Kernel.nD Cert.Kernel.τ).loc Cert.Kernel.main_arg12))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
      ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
      ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
      ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12))
      ∧ r.2.sem = fun _ => 0)

def quiescent_KernelIdeal_pre_finite [hKernelIdeal : Cert.KernelIdeal.Facts] [hPre_finite : Cert.Pre_finite.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_finite m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
      ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
      ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
      ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9)
      ∧ r.2.mem ((c.tc : Thread Cert.ReferenceIdeal.nD Cert.ReferenceIdeal.τ).loc Cert.ReferenceIdeal.main_arg10) = m ((c.tc : Thread Cert.ReferenceIdeal.nD Cert.ReferenceIdeal.τ).loc Cert.ReferenceIdeal.main_arg10)
      ∧ r.2.mem ((c.tc : Thread Cert.ReferenceIdeal.nD Cert.ReferenceIdeal.τ).loc Cert.ReferenceIdeal.main_arg11) = m ((c.tc : Thread Cert.ReferenceIdeal.nD Cert.ReferenceIdeal.τ).loc Cert.ReferenceIdeal.main_arg11)
      ∧ r.2.mem ((c.tc : Thread Cert.ReferenceIdeal.nD Cert.ReferenceIdeal.τ).loc Cert.ReferenceIdeal.main_arg12) = m ((c.tc : Thread Cert.ReferenceIdeal.nD Cert.ReferenceIdeal.τ).loc Cert.ReferenceIdeal.main_arg12))
      ∧ r.2.sem = fun _ => 0)

def quiescent_ReferenceIdeal_pre_finite [hReferenceIdeal : Cert.ReferenceIdeal.Facts] [hPre_finite : Cert.Pre_finite.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_finite m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9)
      ∧ r.2.mem ((c.tc : Thread Cert.ReferenceIdeal.nD Cert.ReferenceIdeal.τ).loc Cert.ReferenceIdeal.main_arg10) = m ((c.tc : Thread Cert.ReferenceIdeal.nD Cert.ReferenceIdeal.τ).loc Cert.ReferenceIdeal.main_arg10)
      ∧ r.2.mem ((c.tc : Thread Cert.ReferenceIdeal.nD Cert.ReferenceIdeal.τ).loc Cert.ReferenceIdeal.main_arg11) = m ((c.tc : Thread Cert.ReferenceIdeal.nD Cert.ReferenceIdeal.τ).loc Cert.ReferenceIdeal.main_arg11)
      ∧ r.2.mem ((c.tc : Thread Cert.ReferenceIdeal.nD Cert.ReferenceIdeal.τ).loc Cert.ReferenceIdeal.main_arg12) = m ((c.tc : Thread Cert.ReferenceIdeal.nD Cert.ReferenceIdeal.τ).loc Cert.ReferenceIdeal.main_arg12))
      ∧ r.2.sem = fun _ => 0)

def quiescent_Kernel2 [hKernel2 : Cert.Kernel2.Facts] : Prop :=
  ∀ (m : (ℓ : Loc Cert.Kernel2.nD Cert.Kernel2.τ Cert.Kernel2.sig) → Buf (Elt Bits) ℓ) (g : Dev Cert.Kernel2.nD → PrngReg), Pre_Kernel2 m →
    θ_run (Cert.Kernel2.defs (F := Bits)) (onTc (τ := Cert.Kernel2.τ) (Cert.Kernel2.main (F := Bits))) ⟨m, fun _ => 0, g⟩ (fun r => (∀ c : Dev Cert.Kernel2.nD,
      r.2.mem ((c.tc : Thread Cert.Kernel2.nD Cert.Kernel2.τ).loc Cert.Kernel2.main_arg0) = m ((c.tc : Thread Cert.Kernel2.nD Cert.Kernel2.τ).loc Cert.Kernel2.main_arg0)
      ∧ r.2.mem ((c.tc : Thread Cert.Kernel2.nD Cert.Kernel2.τ).loc Cert.Kernel2.main_arg1) = m ((c.tc : Thread Cert.Kernel2.nD Cert.Kernel2.τ).loc Cert.Kernel2.main_arg1)
      ∧ r.2.mem ((c.tc : Thread Cert.Kernel2.nD Cert.Kernel2.τ).loc Cert.Kernel2.main_arg2) = m ((c.tc : Thread Cert.Kernel2.nD Cert.Kernel2.τ).loc Cert.Kernel2.main_arg2)
      ∧ r.2.mem ((c.tc : Thread Cert.Kernel2.nD Cert.Kernel2.τ).loc Cert.Kernel2.main_arg3) = m ((c.tc : Thread Cert.Kernel2.nD Cert.Kernel2.τ).loc Cert.Kernel2.main_arg3))
      ∧ r.2.sem = fun _ => 0)

def quiescent_Kernel2Ideal [hKernel2Ideal : Cert.Kernel2Ideal.Facts] : Prop :=
  ∀ (m : (ℓ : Loc Cert.Kernel2Ideal.nD Cert.Kernel2Ideal.τ Cert.Kernel2Ideal.sig) → Buf (Elt Ideal) ℓ) (g : Dev Cert.Kernel2Ideal.nD → PrngReg), Pre_Kernel2Ideal m →
    θ_run (Cert.Kernel2Ideal.defs (F := Ideal)) (onTc (τ := Cert.Kernel2Ideal.τ) (Cert.Kernel2Ideal.main (F := Ideal))) ⟨m, fun _ => 0, g⟩ (fun r => (∀ c : Dev Cert.Kernel2Ideal.nD,
      r.2.mem ((c.tc : Thread Cert.Kernel2Ideal.nD Cert.Kernel2Ideal.τ).loc Cert.Kernel2Ideal.main_arg0) = m ((c.tc : Thread Cert.Kernel2Ideal.nD Cert.Kernel2Ideal.τ).loc Cert.Kernel2Ideal.main_arg0)
      ∧ r.2.mem ((c.tc : Thread Cert.Kernel2Ideal.nD Cert.Kernel2Ideal.τ).loc Cert.Kernel2Ideal.main_arg1) = m ((c.tc : Thread Cert.Kernel2Ideal.nD Cert.Kernel2Ideal.τ).loc Cert.Kernel2Ideal.main_arg1)
      ∧ r.2.mem ((c.tc : Thread Cert.Kernel2Ideal.nD Cert.Kernel2Ideal.τ).loc Cert.Kernel2Ideal.main_arg2) = m ((c.tc : Thread Cert.Kernel2Ideal.nD Cert.Kernel2Ideal.τ).loc Cert.Kernel2Ideal.main_arg2)
      ∧ r.2.mem ((c.tc : Thread Cert.Kernel2Ideal.nD Cert.Kernel2Ideal.τ).loc Cert.Kernel2Ideal.main_arg3) = m ((c.tc : Thread Cert.Kernel2Ideal.nD Cert.Kernel2Ideal.τ).loc Cert.Kernel2Ideal.main_arg3))
      ∧ r.2.sem = fun _ => 0)

def quiescent_Reference2Ideal [hReference2Ideal : Cert.Reference2Ideal.Facts] : Prop :=
  ∀ (m : (ℓ : Loc Cert.Reference2Ideal.nD Cert.Reference2Ideal.τ Cert.Reference2Ideal.sig) → Buf (Elt Ideal) ℓ) (g : Dev Cert.Reference2Ideal.nD → PrngReg), Pre_Reference2Ideal m →
    θ_run (Cert.Reference2Ideal.defs (F := Ideal)) (onTc (τ := Cert.Reference2Ideal.τ) (Cert.Reference2Ideal.main (F := Ideal))) ⟨m, fun _ => 0, g⟩ (fun r => (∀ c : Dev Cert.Reference2Ideal.nD,
      r.2.mem ((c.tc : Thread Cert.Reference2Ideal.nD Cert.Reference2Ideal.τ).loc Cert.Reference2Ideal.main_arg0) = m ((c.tc : Thread Cert.Reference2Ideal.nD Cert.Reference2Ideal.τ).loc Cert.Reference2Ideal.main_arg0)
      ∧ r.2.mem ((c.tc : Thread Cert.Reference2Ideal.nD Cert.Reference2Ideal.τ).loc Cert.Reference2Ideal.main_arg1) = m ((c.tc : Thread Cert.Reference2Ideal.nD Cert.Reference2Ideal.τ).loc Cert.Reference2Ideal.main_arg1)
      ∧ r.2.mem ((c.tc : Thread Cert.Reference2Ideal.nD Cert.Reference2Ideal.τ).loc Cert.Reference2Ideal.main_arg2) = m ((c.tc : Thread Cert.Reference2Ideal.nD Cert.Reference2Ideal.τ).loc Cert.Reference2Ideal.main_arg2)
      ∧ r.2.mem ((c.tc : Thread Cert.Reference2Ideal.nD Cert.Reference2Ideal.τ).loc Cert.Reference2Ideal.main_arg3) = m ((c.tc : Thread Cert.Reference2Ideal.nD Cert.Reference2Ideal.τ).loc Cert.Reference2Ideal.main_arg3))
      ∧ r.2.sem = fun _ => 0)

def quiescent_Kernel3 [hKernel3 : Cert.Kernel3.Facts] : Prop :=
  ∀ (m : (ℓ : Loc Cert.Kernel3.nD Cert.Kernel3.τ Cert.Kernel3.sig) → Buf (Elt Bits) ℓ) (g : Dev Cert.Kernel3.nD → PrngReg), Pre_Kernel3 m →
    θ_run (Cert.Kernel3.defs (F := Bits)) (onTc (τ := Cert.Kernel3.τ) (Cert.Kernel3.main (F := Bits))) ⟨m, fun _ => 0, g⟩ (fun r => (∀ c : Dev Cert.Kernel3.nD,
      r.2.mem ((c.tc : Thread Cert.Kernel3.nD Cert.Kernel3.τ).loc Cert.Kernel3.main_arg0) = m ((c.tc : Thread Cert.Kernel3.nD Cert.Kernel3.τ).loc Cert.Kernel3.main_arg0)
      ∧ r.2.mem ((c.tc : Thread Cert.Kernel3.nD Cert.Kernel3.τ).loc Cert.Kernel3.main_arg1) = m ((c.tc : Thread Cert.Kernel3.nD Cert.Kernel3.τ).loc Cert.Kernel3.main_arg1)
      ∧ r.2.mem ((c.tc : Thread Cert.Kernel3.nD Cert.Kernel3.τ).loc Cert.Kernel3.main_arg2) = m ((c.tc : Thread Cert.Kernel3.nD Cert.Kernel3.τ).loc Cert.Kernel3.main_arg2)
      ∧ r.2.mem ((c.tc : Thread Cert.Kernel3.nD Cert.Kernel3.τ).loc Cert.Kernel3.main_arg3) = m ((c.tc : Thread Cert.Kernel3.nD Cert.Kernel3.τ).loc Cert.Kernel3.main_arg3))
      ∧ r.2.sem = fun _ => 0)

def quiescent_Kernel3Ideal [hKernel3Ideal : Cert.Kernel3Ideal.Facts] : Prop :=
  ∀ (m : (ℓ : Loc Cert.Kernel3Ideal.nD Cert.Kernel3Ideal.τ Cert.Kernel3Ideal.sig) → Buf (Elt Ideal) ℓ) (g : Dev Cert.Kernel3Ideal.nD → PrngReg), Pre_Kernel3Ideal m →
    θ_run (Cert.Kernel3Ideal.defs (F := Ideal)) (onTc (τ := Cert.Kernel3Ideal.τ) (Cert.Kernel3Ideal.main (F := Ideal))) ⟨m, fun _ => 0, g⟩ (fun r => (∀ c : Dev Cert.Kernel3Ideal.nD,
      r.2.mem ((c.tc : Thread Cert.Kernel3Ideal.nD Cert.Kernel3Ideal.τ).loc Cert.Kernel3Ideal.main_arg0) = m ((c.tc : Thread Cert.Kernel3Ideal.nD Cert.Kernel3Ideal.τ).loc Cert.Kernel3Ideal.main_arg0)
      ∧ r.2.mem ((c.tc : Thread Cert.Kernel3Ideal.nD Cert.Kernel3Ideal.τ).loc Cert.Kernel3Ideal.main_arg1) = m ((c.tc : Thread Cert.Kernel3Ideal.nD Cert.Kernel3Ideal.τ).loc Cert.Kernel3Ideal.main_arg1)
      ∧ r.2.mem ((c.tc : Thread Cert.Kernel3Ideal.nD Cert.Kernel3Ideal.τ).loc Cert.Kernel3Ideal.main_arg2) = m ((c.tc : Thread Cert.Kernel3Ideal.nD Cert.Kernel3Ideal.τ).loc Cert.Kernel3Ideal.main_arg2)
      ∧ r.2.mem ((c.tc : Thread Cert.Kernel3Ideal.nD Cert.Kernel3Ideal.τ).loc Cert.Kernel3Ideal.main_arg3) = m ((c.tc : Thread Cert.Kernel3Ideal.nD Cert.Kernel3Ideal.τ).loc Cert.Kernel3Ideal.main_arg3))
      ∧ r.2.sem = fun _ => 0)

def quiescent_Reference3Ideal [hReference3Ideal : Cert.Reference3Ideal.Facts] : Prop :=
  ∀ (m : (ℓ : Loc Cert.Reference3Ideal.nD Cert.Reference3Ideal.τ Cert.Reference3Ideal.sig) → Buf (Elt Ideal) ℓ) (g : Dev Cert.Reference3Ideal.nD → PrngReg), Pre_Reference3Ideal m →
    θ_run (Cert.Reference3Ideal.defs (F := Ideal)) (onTc (τ := Cert.Reference3Ideal.τ) (Cert.Reference3Ideal.main (F := Ideal))) ⟨m, fun _ => 0, g⟩ (fun r => (∀ c : Dev Cert.Reference3Ideal.nD,
      r.2.mem ((c.tc : Thread Cert.Reference3Ideal.nD Cert.Reference3Ideal.τ).loc Cert.Reference3Ideal.main_arg0) = m ((c.tc : Thread Cert.Reference3Ideal.nD Cert.Reference3Ideal.τ).loc Cert.Reference3Ideal.main_arg0)
      ∧ r.2.mem ((c.tc : Thread Cert.Reference3Ideal.nD Cert.Reference3Ideal.τ).loc Cert.Reference3Ideal.main_arg1) = m ((c.tc : Thread Cert.Reference3Ideal.nD Cert.Reference3Ideal.τ).loc Cert.Reference3Ideal.main_arg1)
      ∧ r.2.mem ((c.tc : Thread Cert.Reference3Ideal.nD Cert.Reference3Ideal.τ).loc Cert.Reference3Ideal.main_arg2) = m ((c.tc : Thread Cert.Reference3Ideal.nD Cert.Reference3Ideal.τ).loc Cert.Reference3Ideal.main_arg2)
      ∧ r.2.mem ((c.tc : Thread Cert.Reference3Ideal.nD Cert.Reference3Ideal.τ).loc Cert.Reference3Ideal.main_arg3) = m ((c.tc : Thread Cert.Reference3Ideal.nD Cert.Reference3Ideal.τ).loc Cert.Reference3Ideal.main_arg3))
      ∧ r.2.sem = fun _ => 0)

def quiescent_Kernel4 [hKernel4 : Cert.Kernel4.Facts] : Prop :=
  ∀ (m : (ℓ : Loc Cert.Kernel4.nD Cert.Kernel4.τ Cert.Kernel4.sig) → Buf (Elt Bits) ℓ) (g : Dev Cert.Kernel4.nD → PrngReg), Pre_Kernel4 m →
    θ_run (Cert.Kernel4.defs (F := Bits)) (onTc (τ := Cert.Kernel4.τ) (Cert.Kernel4.main (F := Bits))) ⟨m, fun _ => 0, g⟩ (fun r => (∀ c : Dev Cert.Kernel4.nD,
      r.2.mem ((c.tc : Thread Cert.Kernel4.nD Cert.Kernel4.τ).loc Cert.Kernel4.main_arg0) = m ((c.tc : Thread Cert.Kernel4.nD Cert.Kernel4.τ).loc Cert.Kernel4.main_arg0)
      ∧ r.2.mem ((c.tc : Thread Cert.Kernel4.nD Cert.Kernel4.τ).loc Cert.Kernel4.main_arg1) = m ((c.tc : Thread Cert.Kernel4.nD Cert.Kernel4.τ).loc Cert.Kernel4.main_arg1)
      ∧ r.2.mem ((c.tc : Thread Cert.Kernel4.nD Cert.Kernel4.τ).loc Cert.Kernel4.main_arg2) = m ((c.tc : Thread Cert.Kernel4.nD Cert.Kernel4.τ).loc Cert.Kernel4.main_arg2)
      ∧ r.2.mem ((c.tc : Thread Cert.Kernel4.nD Cert.Kernel4.τ).loc Cert.Kernel4.main_arg3) = m ((c.tc : Thread Cert.Kernel4.nD Cert.Kernel4.τ).loc Cert.Kernel4.main_arg3))
      ∧ r.2.sem = fun _ => 0)

def quiescent_Kernel4Ideal [hKernel4Ideal : Cert.Kernel4Ideal.Facts] : Prop :=
  ∀ (m : (ℓ : Loc Cert.Kernel4Ideal.nD Cert.Kernel4Ideal.τ Cert.Kernel4Ideal.sig) → Buf (Elt Ideal) ℓ) (g : Dev Cert.Kernel4Ideal.nD → PrngReg), Pre_Kernel4Ideal m →
    θ_run (Cert.Kernel4Ideal.defs (F := Ideal)) (onTc (τ := Cert.Kernel4Ideal.τ) (Cert.Kernel4Ideal.main (F := Ideal))) ⟨m, fun _ => 0, g⟩ (fun r => (∀ c : Dev Cert.Kernel4Ideal.nD,
      r.2.mem ((c.tc : Thread Cert.Kernel4Ideal.nD Cert.Kernel4Ideal.τ).loc Cert.Kernel4Ideal.main_arg0) = m ((c.tc : Thread Cert.Kernel4Ideal.nD Cert.Kernel4Ideal.τ).loc Cert.Kernel4Ideal.main_arg0)
      ∧ r.2.mem ((c.tc : Thread Cert.Kernel4Ideal.nD Cert.Kernel4Ideal.τ).loc Cert.Kernel4Ideal.main_arg1) = m ((c.tc : Thread Cert.Kernel4Ideal.nD Cert.Kernel4Ideal.τ).loc Cert.Kernel4Ideal.main_arg1)
      ∧ r.2.mem ((c.tc : Thread Cert.Kernel4Ideal.nD Cert.Kernel4Ideal.τ).loc Cert.Kernel4Ideal.main_arg2) = m ((c.tc : Thread Cert.Kernel4Ideal.nD Cert.Kernel4Ideal.τ).loc Cert.Kernel4Ideal.main_arg2)
      ∧ r.2.mem ((c.tc : Thread Cert.Kernel4Ideal.nD Cert.Kernel4Ideal.τ).loc Cert.Kernel4Ideal.main_arg3) = m ((c.tc : Thread Cert.Kernel4Ideal.nD Cert.Kernel4Ideal.τ).loc Cert.Kernel4Ideal.main_arg3))
      ∧ r.2.sem = fun _ => 0)

def quiescent_Reference4Ideal [hReference4Ideal : Cert.Reference4Ideal.Facts] : Prop :=
  ∀ (m : (ℓ : Loc Cert.Reference4Ideal.nD Cert.Reference4Ideal.τ Cert.Reference4Ideal.sig) → Buf (Elt Ideal) ℓ) (g : Dev Cert.Reference4Ideal.nD → PrngReg), Pre_Reference4Ideal m →
    θ_run (Cert.Reference4Ideal.defs (F := Ideal)) (onTc (τ := Cert.Reference4Ideal.τ) (Cert.Reference4Ideal.main (F := Ideal))) ⟨m, fun _ => 0, g⟩ (fun r => (∀ c : Dev Cert.Reference4Ideal.nD,
      r.2.mem ((c.tc : Thread Cert.Reference4Ideal.nD Cert.Reference4Ideal.τ).loc Cert.Reference4Ideal.main_arg0) = m ((c.tc : Thread Cert.Reference4Ideal.nD Cert.Reference4Ideal.τ).loc Cert.Reference4Ideal.main_arg0)
      ∧ r.2.mem ((c.tc : Thread Cert.Reference4Ideal.nD Cert.Reference4Ideal.τ).loc Cert.Reference4Ideal.main_arg1) = m ((c.tc : Thread Cert.Reference4Ideal.nD Cert.Reference4Ideal.τ).loc Cert.Reference4Ideal.main_arg1)
      ∧ r.2.mem ((c.tc : Thread Cert.Reference4Ideal.nD Cert.Reference4Ideal.τ).loc Cert.Reference4Ideal.main_arg2) = m ((c.tc : Thread Cert.Reference4Ideal.nD Cert.Reference4Ideal.τ).loc Cert.Reference4Ideal.main_arg2)
      ∧ r.2.mem ((c.tc : Thread Cert.Reference4Ideal.nD Cert.Reference4Ideal.τ).loc Cert.Reference4Ideal.main_arg3) = m ((c.tc : Thread Cert.Reference4Ideal.nD Cert.Reference4Ideal.τ).loc Cert.Reference4Ideal.main_arg3))
      ∧ r.2.sem = fun _ => 0)

def preserves_Kernel_KernelIdeal : Prop :=
  True

def algebraic_KernelIdeal_ReferenceIdeal_pre_finite [hKernelIdeal : Cert.KernelIdeal.Facts] [hReferenceIdeal : Cert.ReferenceIdeal.Facts] [hPre_finite : Cert.Pre_finite.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_finite m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)
      ∧ m' ((c.tc : Thread Cert.ReferenceIdeal.nD Cert.ReferenceIdeal.τ).loc Cert.ReferenceIdeal.main_arg10) = m ((c.tc : Thread Cert.KernelIdeal.nD Cert.KernelIdeal.τ).loc Cert.KernelIdeal.main_arg10)
      ∧ m' ((c.tc : Thread Cert.ReferenceIdeal.nD Cert.ReferenceIdeal.τ).loc Cert.ReferenceIdeal.main_arg11) = m ((c.tc : Thread Cert.KernelIdeal.nD Cert.KernelIdeal.τ).loc Cert.KernelIdeal.main_arg11)
      ∧ m' ((c.tc : Thread Cert.ReferenceIdeal.nD Cert.ReferenceIdeal.τ).loc Cert.ReferenceIdeal.main_arg12) = m ((c.tc : Thread Cert.KernelIdeal.nD Cert.KernelIdeal.τ).loc Cert.KernelIdeal.main_arg12)) →
    ∃ (v0 : (c : Dev Cert.KernelIdeal.nD) → Buf (Elt Ideal) ((c.tc : Thread Cert.KernelIdeal.nD Cert.KernelIdeal.τ).loc Cert.KernelIdeal.main_v30)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v30) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
          ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
          ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
          ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
          ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v94) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
          ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9)
          ∧ r.2.mem ((c.tc : Thread Cert.ReferenceIdeal.nD Cert.ReferenceIdeal.τ).loc Cert.ReferenceIdeal.main_arg10) = m' ((c.tc : Thread Cert.ReferenceIdeal.nD Cert.ReferenceIdeal.τ).loc Cert.ReferenceIdeal.main_arg10)
          ∧ r.2.mem ((c.tc : Thread Cert.ReferenceIdeal.nD Cert.ReferenceIdeal.τ).loc Cert.ReferenceIdeal.main_arg11) = m' ((c.tc : Thread Cert.ReferenceIdeal.nD Cert.ReferenceIdeal.τ).loc Cert.ReferenceIdeal.main_arg11)
          ∧ r.2.mem ((c.tc : Thread Cert.ReferenceIdeal.nD Cert.ReferenceIdeal.τ).loc Cert.ReferenceIdeal.main_arg12) = m' ((c.tc : Thread Cert.ReferenceIdeal.nD Cert.ReferenceIdeal.τ).loc Cert.ReferenceIdeal.main_arg12))

def preserves_Kernel2_Kernel2Ideal : Prop :=
  True

def algebraic_Kernel2Ideal_Reference2Ideal [hKernel2Ideal : Cert.Kernel2Ideal.Facts] [hReference2Ideal : Cert.Reference2Ideal.Facts] : Prop :=
  ∀ (m : (ℓ : Loc Cert.Kernel2Ideal.nD Cert.Kernel2Ideal.τ Cert.Kernel2Ideal.sig) → Buf (Elt Ideal) ℓ) (g : Dev Cert.Kernel2Ideal.nD → PrngReg)
    (m' : (ℓ : Loc Cert.Reference2Ideal.nD Cert.Reference2Ideal.τ Cert.Reference2Ideal.sig) → Buf (Elt Ideal) ℓ) (g' : Dev Cert.Reference2Ideal.nD → PrngReg), Pre_Kernel2Ideal m →
    (∀ c : Dev Cert.Kernel2Ideal.nD,
      m' ((c.tc : Thread Cert.Reference2Ideal.nD Cert.Reference2Ideal.τ).loc Cert.Reference2Ideal.main_arg0) = m ((c.tc : Thread Cert.Kernel2Ideal.nD Cert.Kernel2Ideal.τ).loc Cert.Kernel2Ideal.main_arg0)
      ∧ m' ((c.tc : Thread Cert.Reference2Ideal.nD Cert.Reference2Ideal.τ).loc Cert.Reference2Ideal.main_arg1) = m ((c.tc : Thread Cert.Kernel2Ideal.nD Cert.Kernel2Ideal.τ).loc Cert.Kernel2Ideal.main_arg1)
      ∧ m' ((c.tc : Thread Cert.Reference2Ideal.nD Cert.Reference2Ideal.τ).loc Cert.Reference2Ideal.main_arg2) = m ((c.tc : Thread Cert.Kernel2Ideal.nD Cert.Kernel2Ideal.τ).loc Cert.Kernel2Ideal.main_arg2)
      ∧ m' ((c.tc : Thread Cert.Reference2Ideal.nD Cert.Reference2Ideal.τ).loc Cert.Reference2Ideal.main_arg3) = m ((c.tc : Thread Cert.Kernel2Ideal.nD Cert.Kernel2Ideal.τ).loc Cert.Kernel2Ideal.main_arg3)) →
    ∃ (v0 : (c : Dev Cert.Kernel2Ideal.nD) → Buf (Elt Ideal) ((c.tc : Thread Cert.Kernel2Ideal.nD Cert.Kernel2Ideal.τ).loc Cert.Kernel2Ideal.main_v46_0)) (v1 : (c : Dev Cert.Kernel2Ideal.nD) → Buf (Elt Ideal) ((c.tc : Thread Cert.Kernel2Ideal.nD Cert.Kernel2Ideal.τ).loc Cert.Kernel2Ideal.main_v46_1)) (v2 : (c : Dev Cert.Kernel2Ideal.nD) → Buf (Elt Ideal) ((c.tc : Thread Cert.Kernel2Ideal.nD Cert.Kernel2Ideal.τ).loc Cert.Kernel2Ideal.main_v46_2)) (v3 : (c : Dev Cert.Kernel2Ideal.nD) → Buf (Elt Ideal) ((c.tc : Thread Cert.Kernel2Ideal.nD Cert.Kernel2Ideal.τ).loc Cert.Kernel2Ideal.main_v46_3)) (v4 : (c : Dev Cert.Kernel2Ideal.nD) → Buf (Elt Ideal) ((c.tc : Thread Cert.Kernel2Ideal.nD Cert.Kernel2Ideal.τ).loc Cert.Kernel2Ideal.main_v46_4)) (v5 : (c : Dev Cert.Kernel2Ideal.nD) → Buf (Elt Ideal) ((c.tc : Thread Cert.Kernel2Ideal.nD Cert.Kernel2Ideal.τ).loc Cert.Kernel2Ideal.main_v46_5)) (v6 : (c : Dev Cert.Kernel2Ideal.nD) → Buf (Elt Ideal) ((c.tc : Thread Cert.Kernel2Ideal.nD Cert.Kernel2Ideal.τ).loc Cert.Kernel2Ideal.main_v46_6)),
      θ_run (Cert.Kernel2Ideal.defs (F := Ideal)) (onTc (τ := Cert.Kernel2Ideal.τ) (Cert.Kernel2Ideal.main (F := Ideal))) ⟨m, fun _ => 0, g⟩ (fun r => ∀ c : Dev Cert.Kernel2Ideal.nD,
          r.2.mem ((c.tc : Thread Cert.Kernel2Ideal.nD Cert.Kernel2Ideal.τ).loc Cert.Kernel2Ideal.main_v46_0) = v0 c
          ∧ r.2.mem ((c.tc : Thread Cert.Kernel2Ideal.nD Cert.Kernel2Ideal.τ).loc Cert.Kernel2Ideal.main_v46_1) = v1 c
          ∧ r.2.mem ((c.tc : Thread Cert.Kernel2Ideal.nD Cert.Kernel2Ideal.τ).loc Cert.Kernel2Ideal.main_v46_2) = v2 c
          ∧ r.2.mem ((c.tc : Thread Cert.Kernel2Ideal.nD Cert.Kernel2Ideal.τ).loc Cert.Kernel2Ideal.main_v46_3) = v3 c
          ∧ r.2.mem ((c.tc : Thread Cert.Kernel2Ideal.nD Cert.Kernel2Ideal.τ).loc Cert.Kernel2Ideal.main_v46_4) = v4 c
          ∧ r.2.mem ((c.tc : Thread Cert.Kernel2Ideal.nD Cert.Kernel2Ideal.τ).loc Cert.Kernel2Ideal.main_v46_5) = v5 c
          ∧ r.2.mem ((c.tc : Thread Cert.Kernel2Ideal.nD Cert.Kernel2Ideal.τ).loc Cert.Kernel2Ideal.main_v46_6) = v6 c
          ∧ r.2.mem ((c.tc : Thread Cert.Kernel2Ideal.nD Cert.Kernel2Ideal.τ).loc Cert.Kernel2Ideal.main_arg0) = m ((c.tc : Thread Cert.Kernel2Ideal.nD Cert.Kernel2Ideal.τ).loc Cert.Kernel2Ideal.main_arg0)
          ∧ r.2.mem ((c.tc : Thread Cert.Kernel2Ideal.nD Cert.Kernel2Ideal.τ).loc Cert.Kernel2Ideal.main_arg1) = m ((c.tc : Thread Cert.Kernel2Ideal.nD Cert.Kernel2Ideal.τ).loc Cert.Kernel2Ideal.main_arg1)
          ∧ r.2.mem ((c.tc : Thread Cert.Kernel2Ideal.nD Cert.Kernel2Ideal.τ).loc Cert.Kernel2Ideal.main_arg2) = m ((c.tc : Thread Cert.Kernel2Ideal.nD Cert.Kernel2Ideal.τ).loc Cert.Kernel2Ideal.main_arg2)
          ∧ r.2.mem ((c.tc : Thread Cert.Kernel2Ideal.nD Cert.Kernel2Ideal.τ).loc Cert.Kernel2Ideal.main_arg3) = m ((c.tc : Thread Cert.Kernel2Ideal.nD Cert.Kernel2Ideal.τ).loc Cert.Kernel2Ideal.main_arg3))
      ∧ θ_run (Cert.Reference2Ideal.defs (F := Ideal)) (onTc (τ := Cert.Reference2Ideal.τ) (Cert.Reference2Ideal.main (F := Ideal))) ⟨m', fun _ => 0, g'⟩ (fun r => ∀ c : Dev Cert.Reference2Ideal.nD,
          r.2.mem ((c.tc : Thread Cert.Reference2Ideal.nD Cert.Reference2Ideal.τ).loc Cert.Reference2Ideal.main_v111) = v0 c
          ∧ r.2.mem ((c.tc : Thread Cert.Reference2Ideal.nD Cert.Reference2Ideal.τ).loc Cert.Reference2Ideal.main_v112) = v1 c
          ∧ r.2.mem ((c.tc : Thread Cert.Reference2Ideal.nD Cert.Reference2Ideal.τ).loc Cert.Reference2Ideal.main_v31) = v2 c
          ∧ r.2.mem ((c.tc : Thread Cert.Reference2Ideal.nD Cert.Reference2Ideal.τ).loc Cert.Reference2Ideal.main_v113) = v3 c
          ∧ r.2.mem ((c.tc : Thread Cert.Reference2Ideal.nD Cert.Reference2Ideal.τ).loc Cert.Reference2Ideal.main_v114) = v4 c
          ∧ r.2.mem ((c.tc : Thread Cert.Reference2Ideal.nD Cert.Reference2Ideal.τ).loc Cert.Reference2Ideal.main_v129) = v5 c
          ∧ r.2.mem ((c.tc : Thread Cert.Reference2Ideal.nD Cert.Reference2Ideal.τ).loc Cert.Reference2Ideal.main_v35) = v6 c
          ∧ r.2.mem ((c.tc : Thread Cert.Reference2Ideal.nD Cert.Reference2Ideal.τ).loc Cert.Reference2Ideal.main_arg0) = m' ((c.tc : Thread Cert.Reference2Ideal.nD Cert.Reference2Ideal.τ).loc Cert.Reference2Ideal.main_arg0)
          ∧ r.2.mem ((c.tc : Thread Cert.Reference2Ideal.nD Cert.Reference2Ideal.τ).loc Cert.Reference2Ideal.main_arg1) = m' ((c.tc : Thread Cert.Reference2Ideal.nD Cert.Reference2Ideal.τ).loc Cert.Reference2Ideal.main_arg1)
          ∧ r.2.mem ((c.tc : Thread Cert.Reference2Ideal.nD Cert.Reference2Ideal.τ).loc Cert.Reference2Ideal.main_arg2) = m' ((c.tc : Thread Cert.Reference2Ideal.nD Cert.Reference2Ideal.τ).loc Cert.Reference2Ideal.main_arg2)
          ∧ r.2.mem ((c.tc : Thread Cert.Reference2Ideal.nD Cert.Reference2Ideal.τ).loc Cert.Reference2Ideal.main_arg3) = m' ((c.tc : Thread Cert.Reference2Ideal.nD Cert.Reference2Ideal.τ).loc Cert.Reference2Ideal.main_arg3))

def preserves_Kernel3_Kernel3Ideal : Prop :=
  True

def algebraic_Kernel3Ideal_Reference3Ideal [hKernel3Ideal : Cert.Kernel3Ideal.Facts] [hReference3Ideal : Cert.Reference3Ideal.Facts] : Prop :=
  ∀ (m : (ℓ : Loc Cert.Kernel3Ideal.nD Cert.Kernel3Ideal.τ Cert.Kernel3Ideal.sig) → Buf (Elt Ideal) ℓ) (g : Dev Cert.Kernel3Ideal.nD → PrngReg)
    (m' : (ℓ : Loc Cert.Reference3Ideal.nD Cert.Reference3Ideal.τ Cert.Reference3Ideal.sig) → Buf (Elt Ideal) ℓ) (g' : Dev Cert.Reference3Ideal.nD → PrngReg), Pre_Kernel3Ideal m →
    (∀ c : Dev Cert.Kernel3Ideal.nD,
      m' ((c.tc : Thread Cert.Reference3Ideal.nD Cert.Reference3Ideal.τ).loc Cert.Reference3Ideal.main_arg0) = m ((c.tc : Thread Cert.Kernel3Ideal.nD Cert.Kernel3Ideal.τ).loc Cert.Kernel3Ideal.main_arg0)
      ∧ m' ((c.tc : Thread Cert.Reference3Ideal.nD Cert.Reference3Ideal.τ).loc Cert.Reference3Ideal.main_arg1) = m ((c.tc : Thread Cert.Kernel3Ideal.nD Cert.Kernel3Ideal.τ).loc Cert.Kernel3Ideal.main_arg1)
      ∧ m' ((c.tc : Thread Cert.Reference3Ideal.nD Cert.Reference3Ideal.τ).loc Cert.Reference3Ideal.main_arg2) = m ((c.tc : Thread Cert.Kernel3Ideal.nD Cert.Kernel3Ideal.τ).loc Cert.Kernel3Ideal.main_arg2)
      ∧ m' ((c.tc : Thread Cert.Reference3Ideal.nD Cert.Reference3Ideal.τ).loc Cert.Reference3Ideal.main_arg3) = m ((c.tc : Thread Cert.Kernel3Ideal.nD Cert.Kernel3Ideal.τ).loc Cert.Kernel3Ideal.main_arg3)) →
    ∃ (v0 : (c : Dev Cert.Kernel3Ideal.nD) → Buf (Elt Ideal) ((c.tc : Thread Cert.Kernel3Ideal.nD Cert.Kernel3Ideal.τ).loc Cert.Kernel3Ideal.main_v2)),
      θ_run (Cert.Kernel3Ideal.defs (F := Ideal)) (onTc (τ := Cert.Kernel3Ideal.τ) (Cert.Kernel3Ideal.main (F := Ideal))) ⟨m, fun _ => 0, g⟩ (fun r => ∀ c : Dev Cert.Kernel3Ideal.nD,
          r.2.mem ((c.tc : Thread Cert.Kernel3Ideal.nD Cert.Kernel3Ideal.τ).loc Cert.Kernel3Ideal.main_v2) = v0 c
          ∧ r.2.mem ((c.tc : Thread Cert.Kernel3Ideal.nD Cert.Kernel3Ideal.τ).loc Cert.Kernel3Ideal.main_arg0) = m ((c.tc : Thread Cert.Kernel3Ideal.nD Cert.Kernel3Ideal.τ).loc Cert.Kernel3Ideal.main_arg0)
          ∧ r.2.mem ((c.tc : Thread Cert.Kernel3Ideal.nD Cert.Kernel3Ideal.τ).loc Cert.Kernel3Ideal.main_arg1) = m ((c.tc : Thread Cert.Kernel3Ideal.nD Cert.Kernel3Ideal.τ).loc Cert.Kernel3Ideal.main_arg1)
          ∧ r.2.mem ((c.tc : Thread Cert.Kernel3Ideal.nD Cert.Kernel3Ideal.τ).loc Cert.Kernel3Ideal.main_arg2) = m ((c.tc : Thread Cert.Kernel3Ideal.nD Cert.Kernel3Ideal.τ).loc Cert.Kernel3Ideal.main_arg2)
          ∧ r.2.mem ((c.tc : Thread Cert.Kernel3Ideal.nD Cert.Kernel3Ideal.τ).loc Cert.Kernel3Ideal.main_arg3) = m ((c.tc : Thread Cert.Kernel3Ideal.nD Cert.Kernel3Ideal.τ).loc Cert.Kernel3Ideal.main_arg3))
      ∧ θ_run (Cert.Reference3Ideal.defs (F := Ideal)) (onTc (τ := Cert.Reference3Ideal.τ) (Cert.Reference3Ideal.main (F := Ideal))) ⟨m', fun _ => 0, g'⟩ (fun r => ∀ c : Dev Cert.Reference3Ideal.nD,
          r.2.mem ((c.tc : Thread Cert.Reference3Ideal.nD Cert.Reference3Ideal.τ).loc Cert.Reference3Ideal.main_v40) = v0 c
          ∧ r.2.mem ((c.tc : Thread Cert.Reference3Ideal.nD Cert.Reference3Ideal.τ).loc Cert.Reference3Ideal.main_arg0) = m' ((c.tc : Thread Cert.Reference3Ideal.nD Cert.Reference3Ideal.τ).loc Cert.Reference3Ideal.main_arg0)
          ∧ r.2.mem ((c.tc : Thread Cert.Reference3Ideal.nD Cert.Reference3Ideal.τ).loc Cert.Reference3Ideal.main_arg1) = m' ((c.tc : Thread Cert.Reference3Ideal.nD Cert.Reference3Ideal.τ).loc Cert.Reference3Ideal.main_arg1)
          ∧ r.2.mem ((c.tc : Thread Cert.Reference3Ideal.nD Cert.Reference3Ideal.τ).loc Cert.Reference3Ideal.main_arg2) = m' ((c.tc : Thread Cert.Reference3Ideal.nD Cert.Reference3Ideal.τ).loc Cert.Reference3Ideal.main_arg2)
          ∧ r.2.mem ((c.tc : Thread Cert.Reference3Ideal.nD Cert.Reference3Ideal.τ).loc Cert.Reference3Ideal.main_arg3) = m' ((c.tc : Thread Cert.Reference3Ideal.nD Cert.Reference3Ideal.τ).loc Cert.Reference3Ideal.main_arg3))

def preserves_Kernel4_Kernel4Ideal : Prop :=
  True

def algebraic_Kernel4Ideal_Reference4Ideal [hKernel4Ideal : Cert.Kernel4Ideal.Facts] [hReference4Ideal : Cert.Reference4Ideal.Facts] : Prop :=
  ∀ (m : (ℓ : Loc Cert.Kernel4Ideal.nD Cert.Kernel4Ideal.τ Cert.Kernel4Ideal.sig) → Buf (Elt Ideal) ℓ) (g : Dev Cert.Kernel4Ideal.nD → PrngReg)
    (m' : (ℓ : Loc Cert.Reference4Ideal.nD Cert.Reference4Ideal.τ Cert.Reference4Ideal.sig) → Buf (Elt Ideal) ℓ) (g' : Dev Cert.Reference4Ideal.nD → PrngReg), Pre_Kernel4Ideal m →
    (∀ c : Dev Cert.Kernel4Ideal.nD,
      m' ((c.tc : Thread Cert.Reference4Ideal.nD Cert.Reference4Ideal.τ).loc Cert.Reference4Ideal.main_arg0) = m ((c.tc : Thread Cert.Kernel4Ideal.nD Cert.Kernel4Ideal.τ).loc Cert.Kernel4Ideal.main_arg0)
      ∧ m' ((c.tc : Thread Cert.Reference4Ideal.nD Cert.Reference4Ideal.τ).loc Cert.Reference4Ideal.main_arg1) = m ((c.tc : Thread Cert.Kernel4Ideal.nD Cert.Kernel4Ideal.τ).loc Cert.Kernel4Ideal.main_arg1)
      ∧ m' ((c.tc : Thread Cert.Reference4Ideal.nD Cert.Reference4Ideal.τ).loc Cert.Reference4Ideal.main_arg2) = m ((c.tc : Thread Cert.Kernel4Ideal.nD Cert.Kernel4Ideal.τ).loc Cert.Kernel4Ideal.main_arg2)
      ∧ m' ((c.tc : Thread Cert.Reference4Ideal.nD Cert.Reference4Ideal.τ).loc Cert.Reference4Ideal.main_arg3) = m ((c.tc : Thread Cert.Kernel4Ideal.nD Cert.Kernel4Ideal.τ).loc Cert.Kernel4Ideal.main_arg3)) →
    ∃ (v0 : (c : Dev Cert.Kernel4Ideal.nD) → Buf (Elt Ideal) ((c.tc : Thread Cert.Kernel4Ideal.nD Cert.Kernel4Ideal.τ).loc Cert.Kernel4Ideal.main_v51_0)) (v1 : (c : Dev Cert.Kernel4Ideal.nD) → Buf (Elt Ideal) ((c.tc : Thread Cert.Kernel4Ideal.nD Cert.Kernel4Ideal.τ).loc Cert.Kernel4Ideal.main_v51_1)) (v2 : (c : Dev Cert.Kernel4Ideal.nD) → Buf (Elt Ideal) ((c.tc : Thread Cert.Kernel4Ideal.nD Cert.Kernel4Ideal.τ).loc Cert.Kernel4Ideal.main_v51_2)) (v3 : (c : Dev Cert.Kernel4Ideal.nD) → Buf (Elt Ideal) ((c.tc : Thread Cert.Kernel4Ideal.nD Cert.Kernel4Ideal.τ).loc Cert.Kernel4Ideal.main_v51_3)) (v4 : (c : Dev Cert.Kernel4Ideal.nD) → Buf (Elt Ideal) ((c.tc : Thread Cert.Kernel4Ideal.nD Cert.Kernel4Ideal.τ).loc Cert.Kernel4Ideal.main_v51_4)) (v5 : (c : Dev Cert.Kernel4Ideal.nD) → Buf (Elt Ideal) ((c.tc : Thread Cert.Kernel4Ideal.nD Cert.Kernel4Ideal.τ).loc Cert.Kernel4Ideal.main_v51_5)) (v6 : (c : Dev Cert.Kernel4Ideal.nD) → Buf (Elt Ideal) ((c.tc : Thread Cert.Kernel4Ideal.nD Cert.Kernel4Ideal.τ).loc Cert.Kernel4Ideal.main_v51_6)),
      θ_run (Cert.Kernel4Ideal.defs (F := Ideal)) (onTc (τ := Cert.Kernel4Ideal.τ) (Cert.Kernel4Ideal.main (F := Ideal))) ⟨m, fun _ => 0, g⟩ (fun r => ∀ c : Dev Cert.Kernel4Ideal.nD,
          r.2.mem ((c.tc : Thread Cert.Kernel4Ideal.nD Cert.Kernel4Ideal.τ).loc Cert.Kernel4Ideal.main_v51_0) = v0 c
          ∧ r.2.mem ((c.tc : Thread Cert.Kernel4Ideal.nD Cert.Kernel4Ideal.τ).loc Cert.Kernel4Ideal.main_v51_1) = v1 c
          ∧ r.2.mem ((c.tc : Thread Cert.Kernel4Ideal.nD Cert.Kernel4Ideal.τ).loc Cert.Kernel4Ideal.main_v51_2) = v2 c
          ∧ r.2.mem ((c.tc : Thread Cert.Kernel4Ideal.nD Cert.Kernel4Ideal.τ).loc Cert.Kernel4Ideal.main_v51_3) = v3 c
          ∧ r.2.mem ((c.tc : Thread Cert.Kernel4Ideal.nD Cert.Kernel4Ideal.τ).loc Cert.Kernel4Ideal.main_v51_4) = v4 c
          ∧ r.2.mem ((c.tc : Thread Cert.Kernel4Ideal.nD Cert.Kernel4Ideal.τ).loc Cert.Kernel4Ideal.main_v51_5) = v5 c
          ∧ r.2.mem ((c.tc : Thread Cert.Kernel4Ideal.nD Cert.Kernel4Ideal.τ).loc Cert.Kernel4Ideal.main_v51_6) = v6 c
          ∧ r.2.mem ((c.tc : Thread Cert.Kernel4Ideal.nD Cert.Kernel4Ideal.τ).loc Cert.Kernel4Ideal.main_arg0) = m ((c.tc : Thread Cert.Kernel4Ideal.nD Cert.Kernel4Ideal.τ).loc Cert.Kernel4Ideal.main_arg0)
          ∧ r.2.mem ((c.tc : Thread Cert.Kernel4Ideal.nD Cert.Kernel4Ideal.τ).loc Cert.Kernel4Ideal.main_arg1) = m ((c.tc : Thread Cert.Kernel4Ideal.nD Cert.Kernel4Ideal.τ).loc Cert.Kernel4Ideal.main_arg1)
          ∧ r.2.mem ((c.tc : Thread Cert.Kernel4Ideal.nD Cert.Kernel4Ideal.τ).loc Cert.Kernel4Ideal.main_arg2) = m ((c.tc : Thread Cert.Kernel4Ideal.nD Cert.Kernel4Ideal.τ).loc Cert.Kernel4Ideal.main_arg2)
          ∧ r.2.mem ((c.tc : Thread Cert.Kernel4Ideal.nD Cert.Kernel4Ideal.τ).loc Cert.Kernel4Ideal.main_arg3) = m ((c.tc : Thread Cert.Kernel4Ideal.nD Cert.Kernel4Ideal.τ).loc Cert.Kernel4Ideal.main_arg3))
      ∧ θ_run (Cert.Reference4Ideal.defs (F := Ideal)) (onTc (τ := Cert.Reference4Ideal.τ) (Cert.Reference4Ideal.main (F := Ideal))) ⟨m', fun _ => 0, g'⟩ (fun r => ∀ c : Dev Cert.Reference4Ideal.nD,
          r.2.mem ((c.tc : Thread Cert.Reference4Ideal.nD Cert.Reference4Ideal.τ).loc Cert.Reference4Ideal.main_v89) = v0 c
          ∧ r.2.mem ((c.tc : Thread Cert.Reference4Ideal.nD Cert.Reference4Ideal.τ).loc Cert.Reference4Ideal.main_v29) = v1 c
          ∧ r.2.mem ((c.tc : Thread Cert.Reference4Ideal.nD Cert.Reference4Ideal.τ).loc Cert.Reference4Ideal.main_v30) = v2 c
          ∧ r.2.mem ((c.tc : Thread Cert.Reference4Ideal.nD Cert.Reference4Ideal.τ).loc Cert.Reference4Ideal.main_v112) = v3 c
          ∧ r.2.mem ((c.tc : Thread Cert.Reference4Ideal.nD Cert.Reference4Ideal.τ).loc Cert.Reference4Ideal.main_v111) = v4 c
          ∧ r.2.mem ((c.tc : Thread Cert.Reference4Ideal.nD Cert.Reference4Ideal.τ).loc Cert.Reference4Ideal.main_v127) = v5 c
          ∧ r.2.mem ((c.tc : Thread Cert.Reference4Ideal.nD Cert.Reference4Ideal.τ).loc Cert.Reference4Ideal.main_v34) = v6 c
          ∧ r.2.mem ((c.tc : Thread Cert.Reference4Ideal.nD Cert.Reference4Ideal.τ).loc Cert.Reference4Ideal.main_arg0) = m' ((c.tc : Thread Cert.Reference4Ideal.nD Cert.Reference4Ideal.τ).loc Cert.Reference4Ideal.main_arg0)
          ∧ r.2.mem ((c.tc : Thread Cert.Reference4Ideal.nD Cert.Reference4Ideal.τ).loc Cert.Reference4Ideal.main_arg1) = m' ((c.tc : Thread Cert.Reference4Ideal.nD Cert.Reference4Ideal.τ).loc Cert.Reference4Ideal.main_arg1)
          ∧ r.2.mem ((c.tc : Thread Cert.Reference4Ideal.nD Cert.Reference4Ideal.τ).loc Cert.Reference4Ideal.main_arg2) = m' ((c.tc : Thread Cert.Reference4Ideal.nD Cert.Reference4Ideal.τ).loc Cert.Reference4Ideal.main_arg2)
          ∧ r.2.mem ((c.tc : Thread Cert.Reference4Ideal.nD Cert.Reference4Ideal.τ).loc Cert.Reference4Ideal.main_arg3) = m' ((c.tc : Thread Cert.Reference4Ideal.nD Cert.Reference4Ideal.τ).loc Cert.Reference4Ideal.main_arg3))

def Claim : Prop :=
  ∃ (hKernel : Cert.Kernel.Facts) (hKernelIdeal : Cert.KernelIdeal.Facts) (hReferenceIdeal : Cert.ReferenceIdeal.Facts) (hKernel2 : Cert.Kernel2.Facts) (hKernel2Ideal : Cert.Kernel2Ideal.Facts) (hReference2Ideal : Cert.Reference2Ideal.Facts) (hKernel3 : Cert.Kernel3.Facts) (hKernel3Ideal : Cert.Kernel3Ideal.Facts) (hReference3Ideal : Cert.Reference3Ideal.Facts) (hKernel4 : Cert.Kernel4.Facts) (hKernel4Ideal : Cert.Kernel4Ideal.Facts) (hReference4Ideal : Cert.Reference4Ideal.Facts) (hPre_finite : Cert.Pre_finite.Facts),
    quiescent_Kernel (hKernel := hKernel)
    ∧ quiescent_KernelIdeal (hKernelIdeal := hKernelIdeal)
    ∧ quiescent_KernelIdeal_pre_finite (hKernelIdeal := hKernelIdeal) (hPre_finite := hPre_finite)
    ∧ quiescent_ReferenceIdeal (hReferenceIdeal := hReferenceIdeal)
    ∧ quiescent_ReferenceIdeal_pre_finite (hReferenceIdeal := hReferenceIdeal) (hPre_finite := hPre_finite)
    ∧ quiescent_Kernel2 (hKernel2 := hKernel2)
    ∧ quiescent_Kernel2Ideal (hKernel2Ideal := hKernel2Ideal)
    ∧ quiescent_Reference2Ideal (hReference2Ideal := hReference2Ideal)
    ∧ quiescent_Kernel3 (hKernel3 := hKernel3)
    ∧ quiescent_Kernel3Ideal (hKernel3Ideal := hKernel3Ideal)
    ∧ quiescent_Reference3Ideal (hReference3Ideal := hReference3Ideal)
    ∧ quiescent_Kernel4 (hKernel4 := hKernel4)
    ∧ quiescent_Kernel4Ideal (hKernel4Ideal := hKernel4Ideal)
    ∧ quiescent_Reference4Ideal (hReference4Ideal := hReference4Ideal)
    ∧ preserves_Kernel_KernelIdeal
    ∧ algebraic_KernelIdeal_ReferenceIdeal_pre_finite (hKernelIdeal := hKernelIdeal) (hReferenceIdeal := hReferenceIdeal) (hPre_finite := hPre_finite)
    ∧ preserves_Kernel2_Kernel2Ideal
    ∧ algebraic_Kernel2Ideal_Reference2Ideal (hKernel2Ideal := hKernel2Ideal) (hReference2Ideal := hReference2Ideal)
    ∧ preserves_Kernel3_Kernel3Ideal
    ∧ algebraic_Kernel3Ideal_Reference3Ideal (hKernel3Ideal := hKernel3Ideal) (hReference3Ideal := hReference3Ideal)
    ∧ preserves_Kernel4_Kernel4Ideal
    ∧ algebraic_Kernel4Ideal_Reference4Ideal (hKernel4Ideal := hKernel4Ideal) (hReference4Ideal := hReference4Ideal)
-- ==== Pre_finite.lean ====
abbrev S16384x256 : Shape := ⟨2, ![16384, 256]⟩
abbrev S16384x512 : Shape := ⟨2, ![16384, 512]⟩
abbrev S16384x1024 : Shape := ⟨2, ![16384, 1024]⟩
abbrev S8x1x6144 : Shape := ⟨3, ![8, 1, 6144]⟩
abbrev S1x1024 : Shape := ⟨2, ![1, 1024]⟩
abbrev S1024x1024 : Shape := ⟨2, ![1024, 1024]⟩
abbrev S1024x16 : Shape := ⟨2, ![1024, 16]⟩
abbrev S16 : Shape := ⟨1, ![16]⟩
abbrev S16x1024x256 : Shape := ⟨3, ![16, 1024, 256]⟩
abbrev S4096x1024 : Shape := ⟨2, ![4096, 1024]⟩
abbrev S8x6144 : Shape := ⟨2, ![8, 6144]⟩
abbrev S8x2048x6144 : Shape := ⟨3, ![8, 2048, 6144]⟩
abbrev S16384x6144 : Shape := ⟨2, ![16384, 6144]⟩
abbrev S_ : Shape := ⟨0, ![]⟩
abbrev S16x1024 : Shape := ⟨2, ![16, 1024]⟩
abbrev S1x16x1x1024 : Shape := ⟨4, ![1, 16, 1, 1024]⟩
abbrev S1024x16x1x1024 : Shape := ⟨4, ![1024, 16, 1, 1024]⟩
abbrev S1x16 : Shape := ⟨2, ![1, 16]⟩
abbrev S64x16 : Shape := ⟨2, ![64, 16]⟩
abbrev S1024 : Shape := ⟨1, ![1024]⟩

class Facts : Prop where
  shapeCasts_S8x1x6144_S8x6144 : S8x1x6144.ShapeCasts S8x6144
  bcast_S8x6144_S8x2048x6144_0_2 : S8x6144.BroadcastsInDim S8x2048x6144 (![0, 2] : Fin 2 → Fin S8x2048x6144.rank)
  shapeCasts_S8x2048x6144_S16384x6144 : S8x2048x6144.ShapeCasts S16384x6144
  slices_S16384x6144_S16384x1024_0_0 : S16384x6144.Slices ![0, 0] S16384x1024
  slices_S16384x6144_S16384x1024_0_1024 : S16384x6144.Slices ![0, 1024] S16384x1024
  slices_S16384x6144_S16384x1024_0_2048 : S16384x6144.Slices ![0, 2048] S16384x1024
  slices_S16384x6144_S16384x1024_0_3072 : S16384x6144.Slices ![0, 3072] S16384x1024
  slices_S16384x6144_S16384x1024_0_4096 : S16384x6144.Slices ![0, 4096] S16384x1024
  slices_S16384x6144_S16384x1024_0_5120 : S16384x6144.Slices ![0, 5120] S16384x1024
  bcast_S_S16384x1024 : S_.BroadcastsInDim S16384x1024 (![] : Fin 0 → Fin S16384x1024.rank)
  bcast_S_S1x1024 : S_.BroadcastsInDim S1x1024 (![] : Fin 0 → Fin S1x1024.rank)
  bcast_S1x1024_S16384x1024_0_1 : S1x1024.BroadcastsInDim S16384x1024 (![0, 1] : Fin 2 → Fin S16384x1024.rank)
  bcast_S_S1024x16 : S_.BroadcastsInDim S1024x16 (![] : Fin 0 → Fin S1024x16.rank)
  transposes_S1024x16_S16x1024_1_0 : S1024x16.Transposes [1, 0] S16x1024
  shapeCasts_S16x1024_S1x16x1x1024 : S16x1024.ShapeCasts S1x16x1x1024
  bcast_S1x16x1x1024_S1024x16x1x1024_0_1_2_3 : S1x16x1x1024.BroadcastsInDim S1024x16x1x1024 (![0, 1, 2, 3] : Fin 4 → Fin S1024x16x1x1024.rank)
  shapeCasts_S1024x16x1x1024_S16384x1024 : S1024x16x1x1024.ShapeCasts S16384x1024
  bcast_S_S16 : S_.BroadcastsInDim S16 (![] : Fin 0 → Fin S16.rank)
  shapeCasts_S16_S1x16 : S16.ShapeCasts S1x16
  bcast_S1x16_S64x16_0_1 : S1x16.BroadcastsInDim S64x16 (![0, 1] : Fin 2 → Fin S64x16.rank)
  shapeCasts_S64x16_S1024 : S64x16.ShapeCasts S1024
  bcast_S1024_S1x1024_1 : S1024.BroadcastsInDim S1x1024 (![1] : Fin 1 → Fin S1x1024.rank)

variable [Facts]

def fn_part1 {F : FTy → Type} [FloatOps F] (main_arg7 : FVec F S1024x16 .f32) (main_arg8 : FVec F S16 .f32) (main_v20 : IVec S16384x1024 1) : IVec S16384x1024 1 :=
  let main_v21 : FVec F S1024x16 .f32 := Host.absf main_arg7
  let main_cst_2 : FVec F S_ .f32 := constant S_ .f32 0x7F800000#32
  let main_v22 : FVec F S1024x16 .f32 := broadcastInDim S1024x16 ![] bcast_S_S1024x16 main_cst_2
  let main_v23 : IVec S1024x16 1 := cmpf .olt main_v21 main_v22
  let main_v24 : IVec S16x1024 1 := (transpose S16x1024 [1, 0] · transposes_S1024x16_S16x1024_1_0) main_v23
  let main_v25 : IVec S1x16x1x1024 1 := shapeCast S1x16x1x1024 main_v24 shapeCasts_S16x1024_S1x16x1x1024
  let main_v26 : IVec S1024x16x1x1024 1 := broadcastInDim S1024x16x1x1024 ![0, 1, 2, 3] bcast_S1x16x1x1024_S1024x16x1x1024_0_1_2_3 main_v25
  let main_v27 : IVec S16384x1024 1 := shapeCast S16384x1024 main_v26 shapeCasts_S1024x16x1x1024_S16384x1024
  let main_v28 : IVec S16384x1024 1 := andi main_v20 main_v27
  let main_v29 : FVec F S16 .f32 := Host.absf main_arg8
  let main_cst_3 : FVec F S_ .f32 := constant S_ .f32 0x7F800000#32
  let main_v30 : FVec F S16 .f32 := broadcastInDim S16 ![] bcast_S_S16 main_cst_3
  let main_v31 : IVec S16 1 := cmpf .olt main_v29 main_v30
  let main_v32 : IVec S1x16 1 := shapeCast S1x16 main_v31 shapeCasts_S16_S1x16
  let main_v33 : IVec S64x16 1 := broadcastInDim S64x16 ![0, 1] bcast_S1x16_S64x16_0_1 main_v32
  let main_v34 : IVec S1024 1 := shapeCast S1024 main_v33 shapeCasts_S64x16_S1024
  let main_v35 : IVec S1x1024 1 := broadcastInDim S1x1024 ![1] bcast_S1024_S1x1024_1 main_v34
  let main_v36 : IVec S16384x1024 1 := broadcastInDim S16384x1024 ![0, 1] bcast_S1x1024_S16384x1024_0_1 main_v35
  let main_v37 : IVec S16384x1024 1 := andi main_v28 main_v36
  main_v37

def fn {F : FTy → Type} [FloatOps F] (main_arg0 : FVec F S16384x256 .bf16) (main_arg1 : FVec F S16384x512 .bf16) (main_arg2 : FVec F S16384x256 .bf16) (main_arg3 : FVec F S16384x1024 .f32) (main_arg4 : FVec F S8x1x6144 .f32) (main_arg5 : FVec F S1x1024 .f32) (main_arg6 : FVec F S1024x1024 .bf16) (main_arg7 : FVec F S1024x16 .f32) (main_arg8 : FVec F S16 .f32) (main_arg9 : FVec F S16x1024x256 .bf16) (main_arg10 : FVec F S16x1024x256 .bf16) (main_arg11 : FVec F S4096x1024 .bf16) (main_arg12 : FVec F S1x1024 .f32) : IVec S16384x1024 1 :=
  let main_v0 : FVec F S8x6144 .f32 := shapeCast S8x6144 main_arg4 shapeCasts_S8x1x6144_S8x6144
  let main_v1 : FVec F S8x2048x6144 .f32 := broadcastInDim S8x2048x6144 ![0, 2] bcast_S8x6144_S8x2048x6144_0_2 main_v0
  let main_v2 : FVec F S16384x6144 .f32 := shapeCast S16384x6144 main_v1 shapeCasts_S8x2048x6144_S16384x6144
  let main_v3 : FVec F S16384x1024 .f32 := (extractStridedSlice S16384x1024 ![0, 0] · slices_S16384x6144_S16384x1024_0_0) main_v2
  let main_v4 : FVec F S16384x1024 .f32 := (extractStridedSlice S16384x1024 ![0, 1024] · slices_S16384x6144_S16384x1024_0_1024) main_v2
  let main_v5 : FVec F S16384x1024 .f32 := (extractStridedSlice S16384x1024 ![0, 2048] · slices_S16384x6144_S16384x1024_0_2048) main_v2
  let main_v6 : FVec F S16384x1024 .f32 := (extractStridedSlice S16384x1024 ![0, 3072] · slices_S16384x6144_S16384x1024_0_3072) main_v2
  let main_v7 : FVec F S16384x1024 .f32 := (extractStridedSlice S16384x1024 ![0, 4096] · slices_S16384x6144_S16384x1024_0_4096) main_v2
  let main_v8 : FVec F S16384x1024 .f32 := (extractStridedSlice S16384x1024 ![0, 5120] · slices_S16384x6144_S16384x1024_0_5120) main_v2
  let main_v9 : FVec F S16384x1024 .f32 := Host.absf main_v6
  let main_cst : FVec F S_ .f32 := constant S_ .f32 0x7F800000#32
  let main_v10 : FVec F S16384x1024 .f32 := broadcastInDim S16384x1024 ![] bcast_S_S16384x1024 main_cst
  let main_v11 : IVec S16384x1024 1 := cmpf .olt main_v9 main_v10
  let main_v12 : FVec F S16384x1024 .f32 := Host.absf main_v7
  let main_cst_0 : FVec F S_ .f32 := constant S_ .f32 0x7F800000#32
  let main_v13 : FVec F S16384x1024 .f32 := broadcastInDim S16384x1024 ![] bcast_S_S16384x1024 main_cst_0
  let main_v14 : IVec S16384x1024 1 := cmpf .olt main_v12 main_v13
  let main_v15 : IVec S16384x1024 1 := andi main_v11 main_v14
  let main_v16 : FVec F S1x1024 .f32 := Host.absf main_arg5
  let main_cst_1 : FVec F S_ .f32 := constant S_ .f32 0x7F800000#32
  let main_v17 : FVec F S1x1024 .f32 := broadcastInDim S1x1024 ![] bcast_S_S1x1024 main_cst_1
  let main_v18 : IVec S1x1024 1 := cmpf .olt main_v16 main_v17
  let main_v19 : IVec S16384x1024 1 := broadcastInDim S16384x1024 ![0, 1] bcast_S1x1024_S16384x1024_0_1 main_v18
  let main_v20 : IVec S16384x1024 1 := andi main_v15 main_v19
  fn_part1 (F := F) main_arg7 main_arg8 main_v20
-- ==== Kernel.lean ====
abbrev S16384x256 : Shape := ⟨2, ![16384, 256]⟩
abbrev S16384x512 : Shape := ⟨2, ![16384, 512]⟩
abbrev S16384x1024 : Shape := ⟨2, ![16384, 1024]⟩
abbrev S8x1x6144 : Shape := ⟨3, ![8, 1, 6144]⟩
abbrev S1x1024 : Shape := ⟨2, ![1, 1024]⟩
abbrev S1024x1024 : Shape := ⟨2, ![1024, 1024]⟩
abbrev S1024x16 : Shape := ⟨2, ![1024, 16]⟩
abbrev S16 : Shape := ⟨1, ![16]⟩
abbrev S16x1024x256 : Shape := ⟨3, ![16, 1024, 256]⟩
abbrev S4096x1024 : Shape := ⟨2, ![4096, 1024]⟩
abbrev S_ : Shape := ⟨0, ![]⟩
abbrev S1024x128 : Shape := ⟨2, ![1024, 128]⟩
abbrev S16x1 : Shape := ⟨2, ![16, 1]⟩
abbrev S1x128 : Shape := ⟨2, ![1, 128]⟩
abbrev S16x2 : Shape := ⟨2, ![16, 2]⟩
abbrev S512x256 : Shape := ⟨2, ![512, 256]⟩
abbrev S512x512 : Shape := ⟨2, ![512, 512]⟩
abbrev S512x1024 : Shape := ⟨2, ![512, 1024]⟩
abbrev S1x1x1024 : Shape := ⟨3, ![1, 1, 1024]⟩
abbrev S256x256 : Shape := ⟨2, ![256, 256]⟩
abbrev S256x512 : Shape := ⟨2, ![256, 512]⟩
abbrev S256x1024 : Shape := ⟨2, ![256, 1024]⟩
abbrev S256 : Shape := ⟨1, ![256]⟩
abbrev S256x1 : Shape := ⟨2, ![256, 1]⟩
abbrev S256x128 : Shape := ⟨2, ![256, 128]⟩
abbrev S1x1024x256 : Shape := ⟨3, ![1, 1024, 256]⟩
abbrev S1024x256 : Shape := ⟨2, ![1024, 256]⟩
abbrev S256x4096 : Shape := ⟨2, ![256, 4096]⟩

abbrev nBuf : Space → Nat
  | .hbm => 90
  | .vmem => 27
  | .smem => 0
  | _ => 0

abbrev bufTy : (tb : Table) → Fin (tcTables nBuf tb) → BufTy
  | .hbm, ⟨0, _⟩ => ⟨S16384x256, .bf16⟩
  | .hbm, ⟨1, _⟩ => ⟨S16384x512, .bf16⟩
  | .hbm, ⟨2, _⟩ => ⟨S16384x256, .bf16⟩
  | .hbm, ⟨3, _⟩ => ⟨S16384x1024, .f32⟩
  | .hbm, ⟨4, _⟩ => ⟨S8x1x6144, .f32⟩
  | .hbm, ⟨5, _⟩ => ⟨S1x1024, .f32⟩
  | .hbm, ⟨6, _⟩ => ⟨S1024x1024, .bf16⟩
  | .hbm, ⟨7, _⟩ => ⟨S1024x16, .f32⟩
  | .hbm, ⟨8, _⟩ => ⟨S16, .f32⟩
  | .hbm, ⟨9, _⟩ => ⟨S16x1024x256, .bf16⟩
  | .hbm, ⟨10, _⟩ => ⟨S16x1024x256, .bf16⟩
  | .hbm, ⟨11, _⟩ => ⟨S4096x1024, .bf16⟩
  | .hbm, ⟨12, _⟩ => ⟨S1x1024, .f32⟩
  | .hbm, ⟨13, _⟩ => ⟨S16, .i32⟩
  | .hbm, ⟨14, _⟩ => ⟨S_, .i32⟩
  | .hbm, ⟨15, _⟩ => ⟨S_, .i32⟩
  | .hbm, ⟨16, _⟩ => ⟨S_, .i32⟩
  | .hbm, ⟨17, _⟩ => ⟨S_, .i1⟩
  | .hbm, ⟨18, _⟩ => ⟨S_, .i32⟩
  | .hbm, ⟨19, _⟩ => ⟨S_, .i32⟩
  | .hbm, ⟨20, _⟩ => ⟨S16, .i32⟩
  | .hbm, ⟨21, _⟩ => ⟨S16, .i32⟩
  | .hbm, ⟨22, _⟩ => ⟨S_, .i32⟩
  | .hbm, ⟨23, _⟩ => ⟨S16, .i32⟩
  | .hbm, ⟨24, _⟩ => ⟨S16, .i1⟩
  | .hbm, ⟨25, _⟩ => ⟨S_, .i32⟩
  | .hbm, ⟨26, _⟩ => ⟨S16, .i32⟩
  | .hbm, ⟨27, _⟩ => ⟨S16, .i1⟩
  | .hbm, ⟨28, _⟩ => ⟨S_, .i32⟩
  | .hbm, ⟨29, _⟩ => ⟨S_, .i1⟩
  | .hbm, ⟨30, _⟩ => ⟨S16, .i1⟩
  | .hbm, ⟨31, _⟩ => ⟨S16, .i1⟩
  | .hbm, ⟨32, _⟩ => ⟨S16, .i1⟩
  | .hbm, ⟨33, _⟩ => ⟨S16, .i32⟩
  | .hbm, ⟨34, _⟩ => ⟨S16, .i32⟩
  | .hbm, ⟨35, _⟩ => ⟨S16, .i32⟩
  | .hbm, ⟨36, _⟩ => ⟨S_, .i32⟩
  | .hbm, ⟨37, _⟩ => ⟨S16, .i32⟩
  | .hbm, ⟨38, _⟩ => ⟨S16, .i32⟩
  | .hbm, ⟨39, _⟩ => ⟨S_, .i32⟩
  | .hbm, ⟨40, _⟩ => ⟨S_, .i32⟩
  | .hbm, ⟨41, _⟩ => ⟨S16, .i32⟩
  | .hbm, ⟨42, _⟩ => ⟨S16, .i32⟩
  | .hbm, ⟨43, _⟩ => ⟨S16, .i32⟩
  | .hbm, ⟨44, _⟩ => ⟨S_, .i32⟩
  | .hbm, ⟨45, _⟩ => ⟨S16, .i32⟩
  | .hbm, ⟨46, _⟩ => ⟨S16, .i1⟩
  | .hbm, ⟨47, _⟩ => ⟨S16, .i32⟩
  | .hbm, ⟨48, _⟩ => ⟨S16, .i32⟩
  | .hbm, ⟨49, _⟩ => ⟨S_, .i32⟩
  | .hbm, ⟨50, _⟩ => ⟨S16, .i32⟩
  | .hbm, ⟨51, _⟩ => ⟨S16, .i1⟩
  | .hbm, ⟨52, _⟩ => ⟨S16, .i1⟩
  | .hbm, ⟨53, _⟩ => ⟨S_, .i32⟩
  | .hbm, ⟨54, _⟩ => ⟨S16, .i32⟩
  | .hbm, ⟨55, _⟩ => ⟨S16, .i32⟩
  | .hbm, ⟨56, _⟩ => ⟨S16, .i32⟩
  | .hbm, ⟨57, _⟩ => ⟨S16, .i32⟩
  | .hbm, ⟨58, _⟩ => ⟨S_, .f32⟩
  | .hbm, ⟨59, _⟩ => ⟨S1024x128, .f32⟩
  | .hbm, ⟨60, _⟩ => ⟨S_, .i32⟩
  | .hbm, ⟨61, _⟩ => ⟨S16, .i32⟩
  | .hbm, ⟨62, _⟩ => ⟨S16, .i1⟩
  | .hbm, ⟨63, _⟩ => ⟨S_, .i32⟩
  | .hbm, ⟨64, _⟩ => ⟨S16, .i32⟩
  | .hbm, ⟨65, _⟩ => ⟨S16, .i32⟩
  | .hbm, ⟨66, _⟩ => ⟨S16, .i32⟩
  | .hbm, ⟨67, _⟩ => ⟨S16x1, .i32⟩
  | .hbm, ⟨68, _⟩ => ⟨S1024x128, .f32⟩
  | .hbm, ⟨69, _⟩ => ⟨S_, .f32⟩
  | .hbm, ⟨70, _⟩ => ⟨S1x128, .f32⟩
  | .hbm, ⟨71, _⟩ => ⟨S_, .i32⟩
  | .hbm, ⟨72, _⟩ => ⟨S16, .i32⟩
  | .hbm, ⟨73, _⟩ => ⟨S16, .i1⟩
  | .hbm, ⟨74, _⟩ => ⟨S_, .i32⟩
  | .hbm, ⟨75, _⟩ => ⟨S16, .i32⟩
  | .hbm, ⟨76, _⟩ => ⟨S16, .i32⟩
  | .hbm, ⟨77, _⟩ => ⟨S16, .i32⟩
  | .hbm, ⟨78, _⟩ => ⟨S_, .i32⟩
  | .hbm, ⟨79, _⟩ => ⟨S16, .i32⟩
  | .hbm, ⟨80, _⟩ => ⟨S16, .i32⟩
  | .hbm, ⟨81, _⟩ => ⟨S16x1, .i32⟩
  | .hbm, ⟨82, _⟩ => ⟨S16x1, .i32⟩
  | .hbm, ⟨83, _⟩ => ⟨S16x2, .i32⟩
  | .hbm, ⟨84, _⟩ => ⟨S1x128, .f32⟩
  | .hbm, ⟨85, _⟩ => ⟨S1024x128, .bf16⟩
  | .hbm, ⟨86, _⟩ => ⟨S1024x128, .f32⟩
  | .hbm, ⟨87, _⟩ => ⟨S1024x128, .f32⟩
  | .hbm, ⟨88, _⟩ => ⟨S1024x128, .bf16⟩
  | .hbm, ⟨89, _⟩ => ⟨S16384x1024, .f32⟩
  | .local _ .vmem, ⟨0, _⟩ => ⟨S512x256, .bf16⟩
  | .local _ .vmem, ⟨1, _⟩ => ⟨S512x256, .bf16⟩
  | .local _ .vmem, ⟨2, _⟩ => ⟨S512x512, .bf16⟩
  | .local _ .vmem, ⟨3, _⟩ => ⟨S512x512, .bf16⟩
  | .local _ .vmem, ⟨4, _⟩ => ⟨S512x256, .bf16⟩
  | .local _ .vmem, ⟨5, _⟩ => ⟨S512x256, .bf16⟩
  | .local _ .vmem, ⟨6, _⟩ => ⟨S512x1024, .f32⟩
  | .local _ .vmem, ⟨7, _⟩ => ⟨S512x1024, .f32⟩
  | .local _ .vmem, ⟨8, _⟩ => ⟨S1x1x1024, .f32⟩
  | .local _ .vmem, ⟨9, _⟩ => ⟨S1x1x1024, .f32⟩
  | .local _ .vmem, ⟨10, _⟩ => ⟨S1x1x1024, .f32⟩
  | .local _ .vmem, ⟨11, _⟩ => ⟨S1x1x1024, .f32⟩
  | .local _ .vmem, ⟨12, _⟩ => ⟨S1x1x1024, .f32⟩
  | .local _ .vmem, ⟨13, _⟩ => ⟨S1x1x1024, .f32⟩
  | .local _ .vmem, ⟨14, _⟩ => ⟨S1x1x1024, .f32⟩
  | .local _ .vmem, ⟨15, _⟩ => ⟨S1x1x1024, .f32⟩
  | .local _ .vmem, ⟨16, _⟩ => ⟨S1x1024, .f32⟩
  | .local _ .vmem, ⟨17, _⟩ => ⟨S1024x1024, .bf16⟩
  | .local _ .vmem, ⟨18, _⟩ => ⟨S1024x128, .bf16⟩
  | .local _ .vmem, ⟨19, _⟩ => ⟨S1024x128, .bf16⟩
  | .local _ .vmem, ⟨20, _⟩ => ⟨S1x128, .f32⟩
  | .local _ .vmem, ⟨21, _⟩ => ⟨S16x1024x256, .bf16⟩
  | .local _ .vmem, ⟨22, _⟩ => ⟨S16x1024x256, .bf16⟩
  | .local _ .vmem, ⟨23, _⟩ => ⟨S4096x1024, .bf16⟩
  | .local _ .vmem, ⟨24, _⟩ => ⟨S1x1024, .f32⟩
  | .local _ .vmem, ⟨25, _⟩ => ⟨S512x1024, .f32⟩
  | .local _ .vmem, ⟨26, _⟩ => ⟨S512x1024, .f32⟩
  | _, _ => ⟨S16384x256, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | _, _ => false

abbrev semScoped : Fin 0 → Bool
  | ⟨_, h⟩ => absurd h (Nat.not_lt_zero _)

abbrev dmaSemScoped : Fin 27 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | _ => false

abbrev sig : RefSig :=
  ofTc nBuf bufTy 0 27 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_v0 : Ref sig .tc := ⟨.hbm, 13, rfl⟩
abbrev main_c : Ref sig .tc := ⟨.hbm, 14, rfl⟩
abbrev main_call0_v0 : Ref sig .tc := ⟨.hbm, 15, rfl⟩
abbrev main_call0_c : Ref sig .tc := ⟨.hbm, 16, rfl⟩
abbrev main_call0_v1 : Ref sig .tc := ⟨.hbm, 17, rfl⟩
abbrev main_call0_c_0 : Ref sig .tc := ⟨.hbm, 18, rfl⟩
abbrev main_call0_v2 : Ref sig .tc := ⟨.hbm, 19, rfl⟩
abbrev main_call0_v3 : Ref sig .tc := ⟨.hbm, 20, rfl⟩
abbrev main_call0_v4 : Ref sig .tc := ⟨.hbm, 21, rfl⟩
abbrev main_call0_c_1 : Ref sig .tc := ⟨.hbm, 22, rfl⟩
abbrev main_call0_v5 : Ref sig .tc := ⟨.hbm, 23, rfl⟩
abbrev main_call0_v6 : Ref sig .tc := ⟨.hbm, 24, rfl⟩
abbrev main_call0_c_2 : Ref sig .tc := ⟨.hbm, 25, rfl⟩
abbrev main_call0_v7 : Ref sig .tc := ⟨.hbm, 26, rfl⟩
abbrev main_call0_v8 : Ref sig .tc := ⟨.hbm, 27, rfl⟩
abbrev main_call0_c_3 : Ref sig .tc := ⟨.hbm, 28, rfl⟩
abbrev main_call0_v9 : Ref sig .tc := ⟨.hbm, 29, rfl⟩
abbrev main_call0_v10 : Ref sig .tc := ⟨.hbm, 30, rfl⟩
abbrev main_call0_v11 : Ref sig .tc := ⟨.hbm, 31, rfl⟩
abbrev main_call0_v12 : Ref sig .tc := ⟨.hbm, 32, rfl⟩
abbrev main_call0_v13 : Ref sig .tc := ⟨.hbm, 33, rfl⟩
abbrev main_call0_v14 : Ref sig .tc := ⟨.hbm, 34, rfl⟩
abbrev main_v1 : Ref sig .tc := ⟨.hbm, 35, rfl⟩
abbrev main_c_0 : Ref sig .tc := ⟨.hbm, 36, rfl⟩
abbrev main_v2 : Ref sig .tc := ⟨.hbm, 37, rfl⟩
abbrev main_v3 : Ref sig .tc := ⟨.hbm, 38, rfl⟩
abbrev main_c_1 : Ref sig .tc := ⟨.hbm, 39, rfl⟩
abbrev main_call1_v0 : Ref sig .tc := ⟨.hbm, 40, rfl⟩
abbrev main_call1_v1 : Ref sig .tc := ⟨.hbm, 41, rfl⟩
abbrev main_call1_v2 : Ref sig .tc := ⟨.hbm, 42, rfl⟩
abbrev main_call1_v3 : Ref sig .tc := ⟨.hbm, 43, rfl⟩
abbrev main_call1_v4 : Ref sig .tc := ⟨.hbm, 44, rfl⟩
abbrev main_call1_v5 : Ref sig .tc := ⟨.hbm, 45, rfl⟩
abbrev main_call1_v6 : Ref sig .tc := ⟨.hbm, 46, rfl⟩
abbrev main_call1_v7 : Ref sig .tc := ⟨.hbm, 47, rfl⟩
abbrev main_call1_v8 : Ref sig .tc := ⟨.hbm, 48, rfl⟩
abbrev main_call1_c : Ref sig .tc := ⟨.hbm, 49, rfl⟩
abbrev main_call1_v9 : Ref sig .tc := ⟨.hbm, 50, rfl⟩
abbrev main_call1_v10 : Ref sig .tc := ⟨.hbm, 51, rfl⟩
abbrev main_call1_v11 : Ref sig .tc := ⟨.hbm, 52, rfl⟩
abbrev main_call1_c_0 : Ref sig .tc := ⟨.hbm, 53, rfl⟩
abbrev main_call1_v12 : Ref sig .tc := ⟨.hbm, 54, rfl⟩
abbrev main_call1_v13 : Ref sig .tc := ⟨.hbm, 55, rfl⟩
abbrev main_v4 : Ref sig .tc := ⟨.hbm, 56, rfl⟩
abbrev main_v5 : Ref sig .tc := ⟨.hbm, 57, rfl⟩
abbrev main_cst : Ref sig .tc := ⟨.hbm, 58, rfl⟩
abbrev main_v6 : Ref sig .tc := ⟨.hbm, 59, rfl⟩
abbrev main_c_2 : Ref sig .tc := ⟨.hbm, 60, rfl⟩
abbrev main_v7 : Ref sig .tc := ⟨.hbm, 61, rfl⟩
abbrev main_v8 : Ref sig .tc := ⟨.hbm, 62, rfl⟩
abbrev main_c_3 : Ref sig .tc := ⟨.hbm, 63, rfl⟩
abbrev main_v9 : Ref sig .tc := ⟨.hbm, 64, rfl⟩
abbrev main_v10 : Ref sig .tc := ⟨.hbm, 65, rfl⟩
abbrev main_v11 : Ref sig .tc := ⟨.hbm, 66, rfl⟩
abbrev main_v12 : Ref sig .tc := ⟨.hbm, 67, rfl⟩
abbrev main_v13 : Ref sig .tc := ⟨.hbm, 68, rfl⟩
abbrev main_cst_4 : Ref sig .tc := ⟨.hbm, 69, rfl⟩
abbrev main_v14 : Ref sig .tc := ⟨.hbm, 70, rfl⟩
abbrev main_c_5 : Ref sig .tc := ⟨.hbm, 71, rfl⟩
abbrev main_v15 : Ref sig .tc := ⟨.hbm, 72, rfl⟩
abbrev main_v16 : Ref sig .tc := ⟨.hbm, 73, rfl⟩
abbrev main_c_6 : Ref sig .tc := ⟨.hbm, 74, rfl⟩
abbrev main_v17 : Ref sig .tc := ⟨.hbm, 75, rfl⟩
abbrev main_v18 : Ref sig .tc := ⟨.hbm, 76, rfl⟩
abbrev main_v19 : Ref sig .tc := ⟨.hbm, 77, rfl⟩
abbrev main_c_7 : Ref sig .tc := ⟨.hbm, 78, rfl⟩
abbrev main_v20 : Ref sig .tc := ⟨.hbm, 79, rfl⟩
abbrev main_v21 : Ref sig .tc := ⟨.hbm, 80, rfl⟩
abbrev main_v22 : Ref sig .tc := ⟨.hbm, 81, rfl⟩
abbrev main_v23 : Ref sig .tc := ⟨.hbm, 82, rfl⟩
abbrev main_v24 : Ref sig .tc := ⟨.hbm, 83, rfl⟩
abbrev main_v25 : Ref sig .tc := ⟨.hbm, 84, rfl⟩
abbrev main_v26 : Ref sig .tc := ⟨.hbm, 85, rfl⟩
abbrev main_v27 : Ref sig .tc := ⟨.hbm, 86, rfl⟩
abbrev main_v28 : Ref sig .tc := ⟨.hbm, 87, rfl⟩
abbrev main_v29 : Ref sig .tc := ⟨.hbm, 88, rfl⟩
abbrev main_v30 : Ref sig .tc := ⟨.hbm, 89, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_stg7_0 : Ref sig .tc := ⟨.vmem, 14, rfl⟩
abbrev cc0_stg7_1 : Ref sig .tc := ⟨.vmem, 15, rfl⟩
abbrev cc0_stg8_0 : Ref sig .tc := ⟨.vmem, 16, rfl⟩
abbrev cc0_stg9_0 : Ref sig .tc := ⟨.vmem, 17, rfl⟩
abbrev cc0_stg10_0 : Ref sig .tc := ⟨.vmem, 18, rfl⟩
abbrev cc0_stg11_0 : Ref sig .tc := ⟨.vmem, 19, rfl⟩
abbrev cc0_stg12_0 : Ref sig .tc := ⟨.vmem, 20, rfl⟩
abbrev cc0_stg13_0 : Ref sig .tc := ⟨.vmem, 21, rfl⟩
abbrev cc0_stg14_0 : Ref sig .tc := ⟨.vmem, 22, rfl⟩
abbrev cc0_stg15_0 : Ref sig .tc := ⟨.vmem, 23, rfl⟩
abbrev cc0_stg16_0 : Ref sig .tc := ⟨.vmem, 24, rfl⟩
abbrev cc0_stg17_0 : Ref sig .tc := ⟨.vmem, 25, rfl⟩
abbrev cc0_stg17_1 : Ref sig .tc := ⟨.vmem, 26, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc0_sem7_0 : DmaSem sig := 14
abbrev cc0_sem7_1 : DmaSem sig := 15
abbrev cc0_sem8_0 : DmaSem sig := 16
abbrev cc0_sem9_0 : DmaSem sig := 17
abbrev cc0_sem10_0 : DmaSem sig := 18
abbrev cc0_sem11_0 : DmaSem sig := 19
abbrev cc0_sem12_0 : DmaSem sig := 20
abbrev cc0_sem13_0 : DmaSem sig := 21
abbrev cc0_sem14_0 : DmaSem sig := 22
abbrev cc0_sem15_0 : DmaSem sig := 23
abbrev cc0_sem16_0 : DmaSem sig := 24
abbrev cc0_sem17_0 : DmaSem sig := 25
abbrev cc0_sem17_1 : DmaSem sig := 26

abbrev nD : Nat := 1
abbrev τ : Topo := Topo.v7x

variable {F : FTy → Type} [FloatOps F]

abbrev grid0 : Pipeline.Grid := ⟨1, ![32], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 3 → Nat :=
  let arg0 : BitVec 32 := BitVec.ofNat 32 (i 0).val
  let c4_i32 : BitVec 32 := 4#32
  let v0 : BitVec 32 := Scalar.divsi arg0 c4_i32
  let c0_i32 : BitVec 32 := 0#32
  let v1 : BitVec 1 := Scalar.cmpi .sgt arg0 c0_i32
  let v2 : BitVec 32 := Scalar.extui v1
  let c0_i32_0 : BitVec 32 := 0#32
  let v3 : BitVec 1 := Scalar.cmpi .slt arg0 c0_i32_0
  let v4 : BitVec 32 := Scalar.extui v3
  let v5 : BitVec 32 := Scalar.subi v2 v4
  let c0_i32_1 : BitVec 32 := 0#32
  let v6 : BitVec 1 := Scalar.cmpi .sgt c4_i32 c0_i32_1
  let v7 : BitVec 32 := Scalar.extui v6
  let c0_i32_2 : BitVec 32 := 0#32
  let v8 : BitVec 1 := Scalar.cmpi .slt c4_i32 c0_i32_2
  let v9 : BitVec 32 := Scalar.extui v8
  let v10 : BitVec 32 := Scalar.subi v7 v9
  let v11 : BitVec 1 := Scalar.cmpi .ne v5 v10
  let v12 : BitVec 32 := Scalar.remsi arg0 c4_i32
  let c0_i32_3 : BitVec 32 := 0#32
  let v13 : BitVec 1 := Scalar.cmpi .ne v12 c0_i32_3
  let v14 : BitVec 1 := Scalar.andi v11 v13
  let c1_i32 : BitVec 32 := 1#32
  let v15 : BitVec 32 := Scalar.subi v0 c1_i32
  let v16 : BitVec 32 := Scalar.select v14 v15 v0
  let c0_i32_4 : BitVec 32 := 0#32
  let c2_i32 : BitVec 32 := 2#32
  let c0_i32_5 : BitVec 32 := 0#32
  ![v16.toNat, c0_i32_4.toNat, c2_i32.toNat]

def cc0_transform_5 (i : grid0.Coords) : Fin 3 → Nat :=
  let arg0 : BitVec 32 := BitVec.ofNat 32 (i 0).val
  let c4_i32 : BitVec 32 := 4#32
  let v0 : BitVec 32 := Scalar.divsi arg0 c4_i32
  let c0_i32 : BitVec 32 := 0#32
  let v1 : BitVec 1 := Scalar.cmpi .sgt arg0 c0_i32
  let v2 : BitVec 32 := Scalar.extui v1
  let c0_i32_0 : BitVec 32 := 0#32
  let v3 : BitVec 1 := Scalar.cmpi .slt arg0 c0_i32_0
  let v4 : BitVec 32 := Scalar.extui v3
  let v5 : BitVec 32 := Scalar.subi v2 v4
  let c0_i32_1 : BitVec 32 := 0#32
  let v6 : BitVec 1 := Scalar.cmpi .sgt c4_i32 c0_i32_1
  let v7 : BitVec 32 := Scalar.extui v6
  let c0_i32_2 : BitVec 32 := 0#32
  let v8 : BitVec 1 := Scalar.cmpi .slt c4_i32 c0_i32_2
  let v9 : BitVec 32 := Scalar.extui v8
  let v10 : BitVec 32 := Scalar.subi v7 v9
  let v11 : BitVec 1 := Scalar.cmpi .ne v5 v10
  let v12 : BitVec 32 := Scalar.remsi arg0 c4_i32
  let c0_i32_3 : BitVec 32 := 0#32
  let v13 : BitVec 1 := Scalar.cmpi .ne v12 c0_i32_3
  let v14 : BitVec 1 := Scalar.andi v11 v13
  let c1_i32 : BitVec 32 := 1#32
  let v15 : BitVec 32 := Scalar.subi v0 c1_i32
  let v16 : BitVec 32 := Scalar.select v14 v15 v0
  let c0_i32_4 : BitVec 32 := 0#32
  let c4_i32_5 : BitVec 32 := 4#32
  let c0_i32_6 : BitVec 32 := 0#32
  ![v16.toNat, c0_i32_4.toNat, c4_i32_5.toNat]

def cc0_transform_6 (i : grid0.Coords) : Fin 3 → Nat :=
  let arg0 : BitVec 32 := BitVec.ofNat 32 (i 0).val
  let c4_i32 : BitVec 32 := 4#32
  let v0 : BitVec 32 := Scalar.divsi arg0 c4_i32
  let c0_i32 : BitVec 32 := 0#32
  let v1 : BitVec 1 := Scalar.cmpi .sgt arg0 c0_i32
  let v2 : BitVec 32 := Scalar.extui v1
  let c0_i32_0 : BitVec 32 := 0#32
  let v3 : BitVec 1 := Scalar.cmpi .slt arg0 c0_i32_0
  let v4 : BitVec 32 := Scalar.extui v3
  let v5 : BitVec 32 := Scalar.subi v2 v4
  let c0_i32_1 : BitVec 32 := 0#32
  let v6 : BitVec 1 := Scalar.cmpi .sgt c4_i32 c0_i32_1
  let v7 : BitVec 32 := Scalar.extui v6
  let c0_i32_2 : BitVec 32 := 0#32
  let v8 : BitVec 1 := Scalar.cmpi .slt c4_i32 c0_i32_2
  let v9 : BitVec 32 := Scalar.extui v8
  let v10 : BitVec 32 := Scalar.subi v7 v9
  let v11 : BitVec 1 := Scalar.cmpi .ne v5 v10
  let v12 : BitVec 32 := Scalar.remsi arg0 c4_i32
  let c0_i32_3 : BitVec 32 := 0#32
  let v13 : BitVec 1 := Scalar.cmpi .ne v12 c0_i32_3
  let v14 : BitVec 1 := Scalar.andi v11 v13
  let c1_i32 : BitVec 32 := 1#32
  let v15 : BitVec 32 := Scalar.subi v0 c1_i32
  let v16 : BitVec 32 := Scalar.select v14 v15 v0
  let c0_i32_4 : BitVec 32 := 0#32
  let c3_i32 : BitVec 32 := 3#32
  let c0_i32_5 : BitVec 32 := 0#32
  ![v16.toNat, c0_i32_4.toNat, c3_i32.toNat]

def cc0_transform_7 (i : grid0.Coords) : Fin 3 → Nat :=
  let arg0 : BitVec 32 := BitVec.ofNat 32 (i 0).val
  let c4_i32 : BitVec 32 := 4#32
  let v0 : BitVec 32 := Scalar.divsi arg0 c4_i32
  let c0_i32 : BitVec 32 := 0#32
  let v1 : BitVec 1 := Scalar.cmpi .sgt arg0 c0_i32
  let v2 : BitVec 32 := Scalar.extui v1
  let c0_i32_0 : BitVec 32 := 0#32
  let v3 : BitVec 1 := Scalar.cmpi .slt arg0 c0_i32_0
  let v4 : BitVec 32 := Scalar.extui v3
  let v5 : BitVec 32 := Scalar.subi v2 v4
  let c0_i32_1 : BitVec 32 := 0#32
  let v6 : BitVec 1 := Scalar.cmpi .sgt c4_i32 c0_i32_1
  let v7 : BitVec 32 := Scalar.extui v6
  let c0_i32_2 : BitVec 32 := 0#32
  let v8 : BitVec 1 := Scalar.cmpi .slt c4_i32 c0_i32_2
  let v9 : BitVec 32 := Scalar.extui v8
  let v10 : BitVec 32 := Scalar.subi v7 v9
  let v11 : BitVec 1 := Scalar.cmpi .ne v5 v10
  let v12 : BitVec 32 := Scalar.remsi arg0 c4_i32
  let c0_i32_3 : BitVec 32 := 0#32
  let v13 : BitVec 1 := Scalar.cmpi .ne v12 c0_i32_3
  let v14 : BitVec 1 := Scalar.andi v11 v13
  let c1_i32 : BitVec 32 := 1#32
  let v15 : BitVec 32 := Scalar.subi v0 c1_i32
  let v16 : BitVec 32 := Scalar.select v14 v15 v0
  let c0_i32_4 : BitVec 32 := 0#32
  let c5_i32 : BitVec 32 := 5#32
  let c0_i32_5 : BitVec 32 := 0#32
  ![v16.toNat, c0_i32_4.toNat, c5_i32.toNat]

def cc0_transform_8 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_9 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_10 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_11 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_12 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_13 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_14 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_15 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_16 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_17 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S512x256 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S512x512 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S512x256 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S512x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S1x1x1024 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S1x1x1024 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S1x1x1024 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 2 → Memref sig .tc .vmem S1x1x1024 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]

abbrev stage0_8 : Fin 1 → Memref sig .tc .vmem S1x1024 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false]

abbrev stage0_9 : Fin 1 → Memref sig .tc .vmem S1024x1024 .bf16 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))
abbrev reads0_9 : Fin grid0.rank → Bool := ![false]

abbrev stage0_10 : Fin 1 → Memref sig .tc .vmem S1024x128 .bf16 := fun | 0 => Memref.whole cc0_stg10_0 | ⟨_ + 1, h⟩ => absurd h (Nat.not_lt.2 (Nat.le_add_left _ _))
abbrev sem0_10 : Fin 1 → DmaSem sig := fun | 0 => cc0_sem10_0 | ⟨_ + 1, h⟩ => absurd h (Nat.not_lt.2 (Nat.le_add_left _ _))
abbrev reads0_10 : Fin grid0.rank → Bool := ![false]

abbrev stage0_11 : Fin 1 → Memref sig .tc .vmem S1024x128 .bf16 := fun | 0 => Memref.whole cc0_stg11_0 | ⟨_ + 1, h⟩ => absurd h (Nat.not_lt.2 (Nat.le_add_left _ _))
abbrev sem0_11 : Fin 1 → DmaSem sig := fun | 0 => cc0_sem11_0 | ⟨_ + 1, h⟩ => absurd h (Nat.not_lt.2 (Nat.le_add_left _ _))
abbrev reads0_11 : Fin grid0.rank → Bool := ![false]

abbrev stage0_12 : Fin 1 → Memref sig .tc .vmem S1x128 .f32 := fun | 0 => Memref.whole cc0_stg12_0 | ⟨_ + 1, h⟩ => absurd h (Nat.not_lt.2 (Nat.le_add_left _ _))
abbrev sem0_12 : Fin 1 → DmaSem sig := fun | 0 => cc0_sem12_0 | ⟨_ + 1, h⟩ => absurd h (Nat.not_lt.2 (Nat.le_add_left _ _))
abbrev reads0_12 : Fin grid0.rank → Bool := ![false]

abbrev stage0_13 : Fin 1 → Memref sig .tc .vmem S16x1024x256 .bf16 := fun | 0 => Memref.whole cc0_stg13_0 | ⟨_ + 1, h⟩ => absurd h (Nat.not_lt.2 (Nat.le_add_left _ _))
abbrev sem0_13 : Fin 1 → DmaSem sig := fun | 0 => cc0_sem13_0 | ⟨_ + 1, h⟩ => absurd h (Nat.not_lt.2 (Nat.le_add_left _ _))
abbrev reads0_13 : Fin grid0.rank → Bool := ![false]

abbrev stage0_14 : Fin 1 → Memref sig .tc .vmem S16x1024x256 .bf16 := fun | 0 => Memref.whole cc0_stg14_0 | ⟨_ + 1, h⟩ => absurd h (Nat.not_lt.2 (Nat.le_add_left _ _))
abbrev sem0_14 : Fin 1 → DmaSem sig := fun | 0 => cc0_sem14_0 | ⟨_ + 1, h⟩ => absurd h (Nat.not_lt.2 (Nat.le_add_left _ _))
abbrev reads0_14 : Fin grid0.rank → Bool := ![false]

abbrev stage0_15 : Fin 1 → Memref sig .tc .vmem S4096x1024 .bf16 := fun | 0 => Memref.whole cc0_stg15_0 | ⟨_ + 1, h⟩ => absurd h (Nat.not_lt.2 (Nat.le_add_left _ _))
abbrev sem0_15 : Fin 1 → DmaSem sig := fun | 0 => cc0_sem15_0 | ⟨_ + 1, h⟩ => absurd h (Nat.not_lt.2 (Nat.le_add_left _ _))
abbrev reads0_15 : Fin grid0.rank → Bool := ![false]

abbrev stage0_16 : Fin 1 → Memref sig .tc .vmem S1x1024 .f32 := fun | 0 => Memref.whole cc0_stg16_0 | ⟨_ + 1, h⟩ => absurd h (Nat.not_lt.2 (Nat.le_add_left _ _))
abbrev sem0_16 : Fin 1 → DmaSem sig := fun | 0 => cc0_sem16_0 | ⟨_ + 1, h⟩ => absurd h (Nat.not_lt.2 (Nat.le_add_left _ _))
abbrev reads0_16 : Fin grid0.rank → Bool := ![false]

abbrev stage0_17 : Fin 2 → Memref sig .tc .vmem S512x1024 .f32 := fun | 0 => Memref.whole cc0_stg17_0 | 1 => Memref.whole cc0_stg17_1 | ⟨_ + 2, h⟩ => absurd h (Nat.not_lt.2 (Nat.le_add_left _ _))
abbrev sem0_17 : Fin 2 → DmaSem sig := fun | 0 => cc0_sem17_0 | 1 => cc0_sem17_1 | ⟨_ + 2, h⟩ => absurd h (Nat.not_lt.2 (Nat.le_add_left _ _))
abbrev reads0_17 : Fin grid0.rank → Bool := ![true]
-- ==== ReferenceIdeal.lean ====
abbrev S16384x256 : Shape := ⟨2, ![16384, 256]⟩
abbrev S16384x512 : Shape := ⟨2, ![16384, 512]⟩
abbrev S16384x1024 : Shape := ⟨2, ![16384, 1024]⟩
abbrev S8x1x6144 : Shape := ⟨3, ![8, 1, 6144]⟩
abbrev S1x1024 : Shape := ⟨2, ![1, 1024]⟩
abbrev S1024x1024 : Shape := ⟨2, ![1024, 1024]⟩
abbrev S1024x16 : Shape := ⟨2, ![1024, 16]⟩
abbrev S16 : Shape := ⟨1, ![16]⟩
abbrev S16x1024x256 : Shape := ⟨3, ![16, 1024, 256]⟩
abbrev S4096x1024 : Shape := ⟨2, ![4096, 1024]⟩
abbrev S8x6144 : Shape := ⟨2, ![8, 6144]⟩
abbrev S8x2048x6144 : Shape := ⟨3, ![8, 2048, 6144]⟩
abbrev S16384x6144 : Shape := ⟨2, ![16384, 6144]⟩
abbrev S_ : Shape := ⟨0, ![]⟩
abbrev S16384 : Shape := ⟨1, ![16384]⟩
abbrev S16384x1 : Shape := ⟨2, ![16384, 1]⟩
abbrev S16384x16 : Shape := ⟨2, ![16384, 16]⟩
abbrev S1x16 : Shape := ⟨2, ![1, 16]⟩
abbrev S16384x4x4 : Shape := ⟨3, ![16384, 4, 4]⟩
abbrev S16384x4x2 : Shape := ⟨3, ![16384, 4, 2]⟩
abbrev S16384x4 : Shape := ⟨2, ![16384, 4]⟩
abbrev S4 : Shape := ⟨1, ![4]⟩
abbrev S1x4 : Shape := ⟨2, ![1, 4]⟩
abbrev S16384x4x1 : Shape := ⟨3, ![16384, 4, 1]⟩
abbrev S16384x2 : Shape := ⟨2, ![16384, 2]⟩
abbrev S16384x2x1 : Shape := ⟨3, ![16384, 2, 1]⟩
abbrev S1 : Shape := ⟨1, ![1]⟩
abbrev S1x1x1 : Shape := ⟨3, ![1, 1, 1]⟩
abbrev S1x1x16 : Shape := ⟨3, ![1, 1, 16]⟩
abbrev S16384x2x16 : Shape := ⟨3, ![16384, 2, 16]⟩
abbrev S16384x16x256 : Shape := ⟨3, ![16384, 16, 256]⟩
abbrev S16384x16x1 : Shape := ⟨3, ![16384, 16, 1]⟩
abbrev S16x256x1024 : Shape := ⟨3, ![16, 256, 1024]⟩

abbrev nBuf : Space → Nat
  | .hbm => 159
  | .vmem => 0
  | .smem => 0
  | _ => 0

abbrev hbmTy0_0 (i : Nat) : BufTy := match i % 128 with
  | 0 => ⟨S16384x256, .bf16⟩
  | 1 => ⟨S16384x512, .bf16⟩
  | 2 => ⟨S16384x256, .bf16⟩
  | 3 => ⟨S16384x1024, .f32⟩
  | 4 => ⟨S8x1x6144, .f32⟩
  | 5 => ⟨S1x1024, .f32⟩
  | 6 => ⟨S1024x1024, .bf16⟩
  | 7 => ⟨S1024x16, .f32⟩
  | 8 => ⟨S16, .f32⟩
  | 9 => ⟨S16x1024x256, .bf16⟩
  | 10 => ⟨S16x1024x256, .bf16⟩
  | 11 => ⟨S4096x1024, .bf16⟩
  | 12 => ⟨S1x1024, .f32⟩
  | 13 => ⟨S8x6144, .f32⟩
  | 14 => ⟨S8x2048x6144, .f32⟩
  | 15 => ⟨S16384x6144, .f32⟩
  | 16 => ⟨S16384x1024, .f32⟩
  | 17 => ⟨S16384x1024, .f32⟩
  | 18 => ⟨S16384x1024, .f32⟩
  | 19 => ⟨S16384x1024, .f32⟩
  | 20 => ⟨S16384x1024, .f32⟩
  | 21 => ⟨S16384x1024, .f32⟩
  | 22 => ⟨S16384x256, .f32⟩
  | 23 => ⟨S16384x512, .f32⟩
  | 24 => ⟨S16384x256, .f32⟩
  | 25 => ⟨S16384x1024, .f32⟩
  | 26 => ⟨S1024x1024, .f32⟩
  | 27 => ⟨S16384x1024, .f32⟩
  | 28 => ⟨S16384x1024, .f32⟩
  | 29 => ⟨S16384x1024, .f32⟩
  | 30 => ⟨S16384x1024, .f32⟩
  | 31 => ⟨S_, .f32⟩
  | 32 => ⟨S16384, .f32⟩
  | 33 => ⟨S16384x1, .f32⟩
  | 34 => ⟨S_, .f32⟩
  | 35 => ⟨S16384x1, .f32⟩
  | 36 => ⟨S16384x1, .f32⟩
  | 37 => ⟨S_, .f32⟩
  | 38 => ⟨S16384x1, .f32⟩
  | 39 => ⟨S16384x1, .f32⟩
  | 40 => ⟨S16384x1, .f32⟩
  | 41 => ⟨S16384x1024, .f32⟩
  | 42 => ⟨S16384x1024, .f32⟩
  | 43 => ⟨S16384x1024, .f32⟩
  | 44 => ⟨S16384x1024, .f32⟩
  | 45 => ⟨S_, .f32⟩
  | 46 => ⟨S16384x1024, .f32⟩
  | 47 => ⟨S16384x1024, .f32⟩
  | 48 => ⟨S16384x1024, .f32⟩
  | 49 => ⟨S16384x1024, .f32⟩
  | 50 => ⟨S16384x16, .f32⟩
  | 51 => ⟨S16384x16, .f32⟩
  | 52 => ⟨S16384x16, .f32⟩
  | 53 => ⟨S_, .f32⟩
  | 54 => ⟨S16384x16, .f32⟩
  | 55 => ⟨S16384x16, .f32⟩
  | 56 => ⟨S_, .f32⟩
  | 57 => ⟨S16384x16, .f32⟩
  | 58 => ⟨S16384x16, .f32⟩
  | 59 => ⟨S1x16, .f32⟩
  | 60 => ⟨S16384x16, .f32⟩
  | 61 => ⟨S16384x16, .f32⟩
  | 62 => ⟨S16384x4x4, .f32⟩
  | 63 => ⟨S16384x4x2, .f32⟩
  | 64 => ⟨S16384x4x2, .i32⟩
  | 65 => ⟨S_, .f32⟩
  | 66 => ⟨S16384x4, .f32⟩
  | 67 => ⟨S16384x1, .f32⟩
  | 68 => ⟨S16384x1, .i32⟩
  | 69 => ⟨S4, .i32⟩
  | 70 => ⟨S1x4, .i32⟩
  | 71 => ⟨S16384x4, .i32⟩
  | 72 => ⟨S16384x4, .i32⟩
  | 73 => ⟨S16384x4, .i1⟩
  | 74 => ⟨S16384x4x1, .i1⟩
  | 75 => ⟨S_, .f32⟩
  | 76 => ⟨S_, .f32⟩
  | 77 => ⟨S16384x4x4, .i1⟩
  | 78 => ⟨S16384x4x4, .f32⟩
  | 79 => ⟨S16384x4x4, .f32⟩
  | 80 => ⟨S16384x16, .f32⟩
  | 81 => ⟨S16384x2, .f32⟩
  | 82 => ⟨S16384x2, .i32⟩
  | 83 => ⟨S_, .i32⟩
  | 84 => ⟨S16384x2, .i32⟩
  | 85 => ⟨S16384x2, .i1⟩
  | 86 => ⟨S_, .i32⟩
  | 87 => ⟨S16384x2, .i32⟩
  | 88 => ⟨S16384x2, .i32⟩
  | 89 => ⟨S16384x2, .i32⟩
  | 90 => ⟨S16384x2x1, .i32⟩
  | 91 => ⟨S1, .i32⟩
  | 92 => ⟨S_, .i32⟩
  | 93 => ⟨S16384x2x1, .i32⟩
  | 94 => ⟨S16384x2x1, .i1⟩
  | 95 => ⟨S1x1x1, .i32⟩
  | 96 => ⟨S16384x2x1, .i32⟩
  | 97 => ⟨S16384x2x1, .i1⟩
  | 98 => ⟨S16384x2x1, .i1⟩
  | 99 => ⟨S_, .i1⟩
  | 100 => ⟨S16384x2, .i1⟩
  | 101 => ⟨S16384x2, .f32⟩
  | 102 => ⟨S_, .f32⟩
  | 103 => ⟨S16384x2, .f32⟩
  | 104 => ⟨S16384x2, .f32⟩
  | 105 => ⟨S_, .f32⟩
  | 106 => ⟨S16384, .f32⟩
  | 107 => ⟨S16384x1, .f32⟩
  | 108 => ⟨S16384x2, .f32⟩
  | 109 => ⟨S16384x2, .f32⟩
  | 110 => ⟨S16384x2x1, .i32⟩
  | 111 => ⟨S16, .i32⟩
  | 112 => ⟨S1x1x16, .i32⟩
  | 113 => ⟨S16384x2x16, .i32⟩
  | 114 => ⟨S16384x2x16, .i32⟩
  | 115 => ⟨S16384x2x16, .i1⟩
  | 116 => ⟨S16384x2x16, .f32⟩
  | 117 => ⟨S16384x2x1, .f32⟩
  | 118 => ⟨S16384x2x16, .f32⟩
  | 119 => ⟨S16384x2x16, .f32⟩
  | 120 => ⟨S_, .f32⟩
  | 121 => ⟨S16384x16, .f32⟩
  | 122 => ⟨S16x1024x256, .f32⟩
  | 123 => ⟨S16384x16x256, .f32⟩
  | 124 => ⟨S16x1024x256, .f32⟩
  | 125 => ⟨S16384x16x256, .f32⟩
  | 126 => ⟨S16384x16x256, .f32⟩
  | 127 => ⟨S16384x16x256, .f32⟩
  | _ => ⟨S16384x256, .bf16⟩

abbrev hbmTy0_1 (i : Nat) : BufTy := match i % 128 with
  | 0 => ⟨S_, .f32⟩
  | 1 => ⟨S16384x16x256, .f32⟩
  | 2 => ⟨S16384x16x256, .f32⟩
  | 3 => ⟨S_, .f32⟩
  | 4 => ⟨S16384x16x256, .f32⟩
  | 5 => ⟨S16384x16x256, .f32⟩
  | 6 => ⟨S16384x16x256, .f32⟩
  | 7 => ⟨S16384x16x256, .f32⟩
  | 8 => ⟨S16384x16x1, .f32⟩
  | 9 => ⟨S16384x16x256, .f32⟩
  | 10 => ⟨S16384x16x256, .f32⟩
  | 11 => ⟨S4096x1024, .f32⟩
  | 12 => ⟨S16x256x1024, .f32⟩
  | 13 => ⟨S16384x1024, .f32⟩
  | 14 => ⟨S16384x1024, .f32⟩
  | 15 => ⟨S16384x1024, .f32⟩
  | 16 => ⟨S16384x1024, .f32⟩
  | 17 => ⟨S_, .f32⟩
  | 18 => ⟨S16384, .f32⟩
  | 19 => ⟨S16384x1, .f32⟩
  | 20 => ⟨S_, .f32⟩
  | 21 => ⟨S16384x1, .f32⟩
  | 22 => ⟨S16384x1, .f32⟩
  | 23 => ⟨S_, .f32⟩
  | 24 => ⟨S16384x1, .f32⟩
  | 25 => ⟨S16384x1, .f32⟩
  | 26 => ⟨S16384x1, .f32⟩
  | 27 => ⟨S16384x1024, .f32⟩
  | 28 => ⟨S16384x1024, .f32⟩
  | 29 => ⟨S16384x1024, .f32⟩
  | 30 => ⟨S16384x1024, .f32⟩
  | _ => ⟨S16384x256, .bf16⟩

abbrev hbmTy (i : Nat) : BufTy := match i / 128 with
  | 0 => hbmTy0_0 i
  | 1 => hbmTy0_1 i
  | _ => ⟨S16384x256, .bf16⟩

abbrev bufTy : (tb : Table) → Fin (tcTables nBuf tb) → BufTy
  | .hbm, ⟨i, _⟩ => hbmTy i
  | _, _ => ⟨S16384x256, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_v0 : Ref sig .tc := ⟨.hbm, 13, rfl⟩
abbrev main_v1 : Ref sig .tc := ⟨.hbm, 14, rfl⟩
abbrev main_v2 : Ref sig .tc := ⟨.hbm, 15, rfl⟩
abbrev main_v3 : Ref sig .tc := ⟨.hbm, 16, rfl⟩
abbrev main_v4 : Ref sig .tc := ⟨.hbm, 17, rfl⟩
abbrev main_v5 : Ref sig .tc := ⟨.hbm, 18, rfl⟩
abbrev main_v6 : Ref sig .tc := ⟨.hbm, 19, rfl⟩
abbrev main_v7 : Ref sig .tc := ⟨.hbm, 20, rfl⟩
abbrev main_v8 : Ref sig .tc := ⟨.hbm, 21, rfl⟩
abbrev main_v9 : Ref sig .tc := ⟨.hbm, 22, rfl⟩
abbrev main_v10 : Ref sig .tc := ⟨.hbm, 23, rfl⟩
abbrev main_v11 : Ref sig .tc := ⟨.hbm, 24, rfl⟩
abbrev main_v12 : Ref sig .tc := ⟨.hbm, 25, rfl⟩
abbrev main_v13 : Ref sig .tc := ⟨.hbm, 26, rfl⟩
abbrev main_v14 : Ref sig .tc := ⟨.hbm, 27, rfl⟩
abbrev main_v15 : Ref sig .tc := ⟨.hbm, 28, rfl⟩
abbrev main_v16 : Ref sig .tc := ⟨.hbm, 29, rfl⟩
abbrev main_v17 : Ref sig .tc := ⟨.hbm, 30, rfl⟩
abbrev main_cst : Ref sig .tc := ⟨.hbm, 31, rfl⟩
abbrev main_v18 : Ref sig .tc := ⟨.hbm, 32, rfl⟩
abbrev main_v19 : Ref sig .tc := ⟨.hbm, 33, rfl⟩
abbrev main_cst_0 : Ref sig .tc := ⟨.hbm, 34, rfl⟩
abbrev main_v20 : Ref sig .tc := ⟨.hbm, 35, rfl⟩
abbrev main_v21 : Ref sig .tc := ⟨.hbm, 36, rfl⟩
abbrev main_cst_1 : Ref sig .tc := ⟨.hbm, 37, rfl⟩
abbrev main_v22 : Ref sig .tc := ⟨.hbm, 38, rfl⟩
abbrev main_v23 : Ref sig .tc := ⟨.hbm, 39, rfl⟩
abbrev main_v24 : Ref sig .tc := ⟨.hbm, 40, rfl⟩
abbrev main_v25 : Ref sig .tc := ⟨.hbm, 41, rfl⟩
abbrev main_v26 : Ref sig .tc := ⟨.hbm, 42, rfl⟩
abbrev main_v27 : Ref sig .tc := ⟨.hbm, 43, rfl⟩
abbrev main_v28 : Ref sig .tc := ⟨.hbm, 44, rfl⟩
abbrev main_cst_2 : Ref sig .tc := ⟨.hbm, 45, rfl⟩
abbrev main_v29 : Ref sig .tc := ⟨.hbm, 46, rfl⟩
abbrev main_v30 : Ref sig .tc := ⟨.hbm, 47, rfl⟩
abbrev main_v31 : Ref sig .tc := ⟨.hbm, 48, rfl⟩
abbrev main_v32 : Ref sig .tc := ⟨.hbm, 49, rfl⟩
abbrev main_v33 : Ref sig .tc := ⟨.hbm, 50, rfl⟩
abbrev main_v34 : Ref sig .tc := ⟨.hbm, 51, rfl⟩
abbrev main_v35 : Ref sig .tc := ⟨.hbm, 52, rfl⟩
abbrev main_cst_3 : Ref sig .tc := ⟨.hbm, 53, rfl⟩
abbrev main_v36 : Ref sig .tc := ⟨.hbm, 54, rfl⟩
abbrev main_v37 : Ref sig .tc := ⟨.hbm, 55, rfl⟩
abbrev main_cst_4 : Ref sig .tc := ⟨.hbm, 56, rfl⟩
abbrev main_v38 : Ref sig .tc := ⟨.hbm, 57, rfl⟩
abbrev main_v39 : Ref sig .tc := ⟨.hbm, 58, rfl⟩
abbrev main_v40 : Ref sig .tc := ⟨.hbm, 59, rfl⟩
abbrev main_v41 : Ref sig .tc := ⟨.hbm, 60, rfl⟩
abbrev main_v42 : Ref sig .tc := ⟨.hbm, 61, rfl⟩
abbrev main_v43 : Ref sig .tc := ⟨.hbm, 62, rfl⟩
abbrev main_values : Ref sig .tc := ⟨.hbm, 63, rfl⟩
abbrev main_indices : Ref sig .tc := ⟨.hbm, 64, rfl⟩
abbrev main_cst_5 : Ref sig .tc := ⟨.hbm, 65, rfl⟩
abbrev main_v44 : Ref sig .tc := ⟨.hbm, 66, rfl⟩
abbrev main_values_6 : Ref sig .tc := ⟨.hbm, 67, rfl⟩
abbrev main_indices_7 : Ref sig .tc := ⟨.hbm, 68, rfl⟩
abbrev main_v45 : Ref sig .tc := ⟨.hbm, 69, rfl⟩
abbrev main_v46 : Ref sig .tc := ⟨.hbm, 70, rfl⟩
abbrev main_v47 : Ref sig .tc := ⟨.hbm, 71, rfl⟩
abbrev main_v48 : Ref sig .tc := ⟨.hbm, 72, rfl⟩
abbrev main_v49 : Ref sig .tc := ⟨.hbm, 73, rfl⟩
abbrev main_v50 : Ref sig .tc := ⟨.hbm, 74, rfl⟩
abbrev main_cst_8 : Ref sig .tc := ⟨.hbm, 75, rfl⟩
abbrev main_call0_v0 : Ref sig .tc := ⟨.hbm, 76, rfl⟩
abbrev main_call0_v1 : Ref sig .tc := ⟨.hbm, 77, rfl⟩
abbrev main_call0_v2 : Ref sig .tc := ⟨.hbm, 78, rfl⟩
abbrev main_v51 : Ref sig .tc := ⟨.hbm, 79, rfl⟩
abbrev main_v52 : Ref sig .tc := ⟨.hbm, 80, rfl⟩
abbrev main_values_9 : Ref sig .tc := ⟨.hbm, 81, rfl⟩
abbrev main_indices_10 : Ref sig .tc := ⟨.hbm, 82, rfl⟩
abbrev main_call1_c : Ref sig .tc := ⟨.hbm, 83, rfl⟩
abbrev main_call1_v0 : Ref sig .tc := ⟨.hbm, 84, rfl⟩
abbrev main_call1_v1 : Ref sig .tc := ⟨.hbm, 85, rfl⟩
abbrev main_call1_c_0 : Ref sig .tc := ⟨.hbm, 86, rfl⟩
abbrev main_call1_v2 : Ref sig .tc := ⟨.hbm, 87, rfl⟩
abbrev main_call1_v3 : Ref sig .tc := ⟨.hbm, 88, rfl⟩
abbrev main_call1_v4 : Ref sig .tc := ⟨.hbm, 89, rfl⟩
abbrev main_call1_v5 : Ref sig .tc := ⟨.hbm, 90, rfl⟩
abbrev main_call1_c_1 : Ref sig .tc := ⟨.hbm, 91, rfl⟩
abbrev main_call1_c_2 : Ref sig .tc := ⟨.hbm, 92, rfl⟩
abbrev main_call1_v6 : Ref sig .tc := ⟨.hbm, 93, rfl⟩
abbrev main_call1_v7 : Ref sig .tc := ⟨.hbm, 94, rfl⟩
abbrev main_call1_v8 : Ref sig .tc := ⟨.hbm, 95, rfl⟩
abbrev main_call1_v9 : Ref sig .tc := ⟨.hbm, 96, rfl⟩
abbrev main_call1_v10 : Ref sig .tc := ⟨.hbm, 97, rfl⟩
abbrev main_call1_v11 : Ref sig .tc := ⟨.hbm, 98, rfl⟩
abbrev main_call1_c_3 : Ref sig .tc := ⟨.hbm, 99, rfl⟩
abbrev main_call1_v12 : Ref sig .tc := ⟨.hbm, 100, rfl⟩
abbrev main_call1_v13 : Ref sig .tc := ⟨.hbm, 101, rfl⟩
abbrev main_call1_cst : Ref sig .tc := ⟨.hbm, 102, rfl⟩
abbrev main_call1_v14 : Ref sig .tc := ⟨.hbm, 103, rfl⟩
abbrev main_v53 : Ref sig .tc := ⟨.hbm, 104, rfl⟩
abbrev main_cst_11 : Ref sig .tc := ⟨.hbm, 105, rfl⟩
abbrev main_v54 : Ref sig .tc := ⟨.hbm, 106, rfl⟩
abbrev main_v55 : Ref sig .tc := ⟨.hbm, 107, rfl⟩
abbrev main_v56 : Ref sig .tc := ⟨.hbm, 108, rfl⟩
abbrev main_v57 : Ref sig .tc := ⟨.hbm, 109, rfl⟩
abbrev main_v58 : Ref sig .tc := ⟨.hbm, 110, rfl⟩
abbrev main_v59 : Ref sig .tc := ⟨.hbm, 111, rfl⟩
abbrev main_v60 : Ref sig .tc := ⟨.hbm, 112, rfl⟩
abbrev main_v61 : Ref sig .tc := ⟨.hbm, 113, rfl⟩
abbrev main_v62 : Ref sig .tc := ⟨.hbm, 114, rfl⟩
abbrev main_v63 : Ref sig .tc := ⟨.hbm, 115, rfl⟩
abbrev main_v64 : Ref sig .tc := ⟨.hbm, 116, rfl⟩
abbrev main_v65 : Ref sig .tc := ⟨.hbm, 117, rfl⟩
abbrev main_v66 : Ref sig .tc := ⟨.hbm, 118, rfl⟩
abbrev main_v67 : Ref sig .tc := ⟨.hbm, 119, rfl⟩
abbrev main_cst_12 : Ref sig .tc := ⟨.hbm, 120, rfl⟩
abbrev main_v68 : Ref sig .tc := ⟨.hbm, 121, rfl⟩
abbrev main_v69 : Ref sig .tc := ⟨.hbm, 122, rfl⟩
abbrev main_v70 : Ref sig .tc := ⟨.hbm, 123, rfl⟩
abbrev main_v71 : Ref sig .tc := ⟨.hbm, 124, rfl⟩
abbrev main_v72 : Ref sig .tc := ⟨.hbm, 125, rfl⟩
abbrev main_call2_v0 : Ref sig .tc := ⟨.hbm, 126, rfl⟩
abbrev main_call2_v1 : Ref sig .tc := ⟨.hbm, 127, rfl⟩
abbrev main_call2_cst : Ref sig .tc := ⟨.hbm, 128, rfl⟩
abbrev main_call2_v2 : Ref sig .tc := ⟨.hbm, 129, rfl⟩
abbrev main_call2_v3 : Ref sig .tc := ⟨.hbm, 130, rfl⟩
abbrev main_call2_cst_0 : Ref sig .tc := ⟨.hbm, 131, rfl⟩
abbrev main_call2_v4 : Ref sig .tc := ⟨.hbm, 132, rfl⟩
abbrev main_call2_v5 : Ref sig .tc := ⟨.hbm, 133, rfl⟩
abbrev main_v73 : Ref sig .tc := ⟨.hbm, 134, rfl⟩
abbrev main_v74 : Ref sig .tc := ⟨.hbm, 135, rfl⟩
abbrev main_v75 : Ref sig .tc := ⟨.hbm, 136, rfl⟩
abbrev main_v76 : Ref sig .tc := ⟨.hbm, 137, rfl⟩
abbrev main_v77 : Ref sig .tc := ⟨.hbm, 138, rfl⟩
abbrev main_v78 : Ref sig .tc := ⟨.hbm, 139, rfl⟩
abbrev main_v79 : Ref sig .tc := ⟨.hbm, 140, rfl⟩
abbrev main_v80 : Ref sig .tc := ⟨.hbm, 141, rfl⟩
abbrev main_v81 : Ref sig .tc := ⟨.hbm, 142, rfl⟩
abbrev main_v82 : Ref sig .tc := ⟨.hbm, 143, rfl⟩
abbrev main_v83 : Ref sig .tc := ⟨.hbm, 144, rfl⟩
abbrev main_cst_13 : Ref sig .tc := ⟨.hbm, 145, rfl⟩
abbrev main_v84 : Ref sig .tc := ⟨.hbm, 146, rfl⟩
abbrev main_v85 : Ref sig .tc := ⟨.hbm, 147, rfl⟩
abbrev main_cst_14 : Ref sig .tc := ⟨.hbm, 148, rfl⟩
abbrev main_v86 : Ref sig .tc := ⟨.hbm, 149, rfl⟩
abbrev main_v87 : Ref sig .tc := ⟨.hbm, 150, rfl⟩
abbrev main_cst_15 : Ref sig .tc := ⟨.hbm, 151, rfl⟩
abbrev main_v88 : Ref sig .tc := ⟨.hbm, 152, rfl⟩
abbrev main_v89 : Ref sig .tc := ⟨.hbm, 153, rfl⟩
abbrev main_v90 : Ref sig .tc := ⟨.hbm, 154, rfl⟩
abbrev main_v91 : Ref sig .tc := ⟨.hbm, 155, rfl⟩
abbrev main_v92 : Ref sig .tc := ⟨.hbm, 156, rfl⟩
abbrev main_v93 : Ref sig .tc := ⟨.hbm, 157, rfl⟩
abbrev main_v94 : Ref sig .tc := ⟨.hbm, 158, rfl⟩

abbrev nD : Nat := 1
abbrev τ : Topo := Topo.v7x

variable {F : FTy → Type} [FloatOps F]
-- ==== Kernel2.lean ====
abbrev S16384x1024 : Shape := ⟨2, ![16384, 1024]⟩
abbrev S1x1024 : Shape := ⟨2, ![1, 1024]⟩
abbrev S8x1x6144 : Shape := ⟨3, ![8, 1, 6144]⟩
abbrev S1024x3080 : Shape := ⟨2, ![1024, 3080]⟩
abbrev S1024x8 : Shape := ⟨2, ![1024, 8]⟩
abbrev S_ : Shape := ⟨0, ![]⟩
abbrev S1024x128 : Shape := ⟨2, ![1024, 128]⟩
abbrev S1024x256 : Shape := ⟨2, ![1024, 256]⟩
abbrev S1024x64 : Shape := ⟨2, ![1024, 64]⟩
abbrev S1024x512 : Shape := ⟨2, ![1024, 512]⟩
abbrev S2048 : Shape := ⟨1, ![2048]⟩
abbrev S32 : Shape := ⟨1, ![32]⟩
abbrev S2048x1 : Shape := ⟨2, ![2048, 1]⟩
abbrev S1x32 : Shape := ⟨2, ![1, 32]⟩
abbrev S2048x32 : Shape := ⟨2, ![2048, 32]⟩
abbrev S2048x64 : Shape := ⟨2, ![2048, 64]⟩
abbrev S1x2048x1x64 : Shape := ⟨4, ![1, 2048, 1, 64]⟩
abbrev S1x2048x4x64 : Shape := ⟨4, ![1, 2048, 4, 64]⟩
abbrev S2048x256 : Shape := ⟨2, ![2048, 256]⟩
abbrev S1x2048x1x256 : Shape := ⟨4, ![1, 2048, 1, 256]⟩
abbrev S4x512x256 : Shape := ⟨3, ![4, 512, 256]⟩
abbrev S1024x2560 : Shape := ⟨2, ![1024, 2560]⟩
abbrev S16384x512 : Shape := ⟨2, ![16384, 512]⟩
abbrev S16384x128 : Shape := ⟨2, ![16384, 128]⟩
abbrev S16384x256 : Shape := ⟨2, ![16384, 256]⟩
abbrev S512x1024 : Shape := ⟨2, ![512, 1024]⟩
abbrev S1x1x1024 : Shape := ⟨3, ![1, 1, 1024]⟩
abbrev S1x512x256 : Shape := ⟨3, ![1, 512, 256]⟩
abbrev S512x512 : Shape := ⟨2, ![512, 512]⟩
abbrev S512x128 : Shape := ⟨2, ![512, 128]⟩
abbrev S512x256 : Shape := ⟨2, ![512, 256]⟩
abbrev S512 : Shape := ⟨1, ![512]⟩
abbrev S512x1 : Shape := ⟨2, ![512, 1]⟩
abbrev S1024x1024 : Shape := ⟨2, ![1024, 1024]⟩

abbrev nBuf : Space → Nat
  | .hbm => 61
  | .vmem => 28
  | .smem => 0
  | _ => 0

abbrev bufTy : (tb : Table) → Fin (tcTables nBuf tb) → BufTy
  | .hbm, ⟨0, _⟩ => ⟨S16384x1024, .f32⟩
  | .hbm, ⟨1, _⟩ => ⟨S1x1024, .f32⟩
  | .hbm, ⟨2, _⟩ => ⟨S8x1x6144, .f32⟩
  | .hbm, ⟨3, _⟩ => ⟨S1024x3080, .f32⟩
  | .hbm, ⟨4, _⟩ => ⟨S1024x8, .f32⟩
  | .hbm, ⟨5, _⟩ => ⟨S_, .i32⟩
  | .hbm, ⟨6, _⟩ => ⟨S_, .f32⟩
  | .hbm, ⟨7, _⟩ => ⟨S1024x128, .f32⟩
  | .hbm, ⟨8, _⟩ => ⟨S1024x128, .bf16⟩
  | .hbm, ⟨9, _⟩ => ⟨S1024x256, .f32⟩
  | .hbm, ⟨10, _⟩ => ⟨S1024x64, .f32⟩
  | .hbm, ⟨11, _⟩ => ⟨S1024x64, .f32⟩
  | .hbm, ⟨12, _⟩ => ⟨S1024x64, .f32⟩
  | .hbm, ⟨13, _⟩ => ⟨S1024x64, .f32⟩
  | .hbm, ⟨14, _⟩ => ⟨S1024x256, .f32⟩
  | .hbm, ⟨15, _⟩ => ⟨S1024x256, .f32⟩
  | .hbm, ⟨16, _⟩ => ⟨S1024x512, .f32⟩
  | .hbm, ⟨17, _⟩ => ⟨S2048, .i32⟩
  | .hbm, ⟨18, _⟩ => ⟨S32, .f32⟩
  | .hbm, ⟨19, _⟩ => ⟨S32, .f32⟩
  | .hbm, ⟨20, _⟩ => ⟨S_, .f32⟩
  | .hbm, ⟨21, _⟩ => ⟨S32, .f32⟩
  | .hbm, ⟨22, _⟩ => ⟨S32, .f32⟩
  | .hbm, ⟨23, _⟩ => ⟨S_, .f32⟩
  | .hbm, ⟨24, _⟩ => ⟨S32, .f32⟩
  | .hbm, ⟨25, _⟩ => ⟨S32, .f32⟩
  | .hbm, ⟨26, _⟩ => ⟨S2048, .f32⟩
  | .hbm, ⟨27, _⟩ => ⟨S2048x1, .f32⟩
  | .hbm, ⟨28, _⟩ => ⟨S1x32, .f32⟩
  | .hbm, ⟨29, _⟩ => ⟨S2048x32, .f32⟩
  | .hbm, ⟨30, _⟩ => ⟨S2048x32, .f32⟩
  | .hbm, ⟨31, _⟩ => ⟨S2048x32, .f32⟩
  | .hbm, ⟨32, _⟩ => ⟨S2048x32, .f32⟩
  | .hbm, ⟨33, _⟩ => ⟨S2048x32, .f32⟩
  | .hbm, ⟨34, _⟩ => ⟨S2048x64, .f32⟩
  | .hbm, ⟨35, _⟩ => ⟨S1x2048x1x64, .f32⟩
  | .hbm, ⟨36, _⟩ => ⟨S1x2048x4x64, .f32⟩
  | .hbm, ⟨37, _⟩ => ⟨S2048x256, .f32⟩
  | .hbm, ⟨38, _⟩ => ⟨S2048x32, .f32⟩
  | .hbm, ⟨39, _⟩ => ⟨S2048x64, .f32⟩
  | .hbm, ⟨40, _⟩ => ⟨S1x2048x1x64, .f32⟩
  | .hbm, ⟨41, _⟩ => ⟨S1x2048x4x64, .f32⟩
  | .hbm, ⟨42, _⟩ => ⟨S2048x256, .f32⟩
  | .hbm, ⟨43, _⟩ => ⟨S1x2048x1x256, .f32⟩
  | .hbm, ⟨44, _⟩ => ⟨S1x2048x1x256, .f32⟩
  | .hbm, ⟨45, _⟩ => ⟨S2048x256, .f32⟩
  | .hbm, ⟨46, _⟩ => ⟨S4x512x256, .f32⟩
  | .hbm, ⟨47, _⟩ => ⟨S1x2048x1x256, .f32⟩
  | .hbm, ⟨48, _⟩ => ⟨S1x2048x1x256, .f32⟩
  | .hbm, ⟨49, _⟩ => ⟨S2048x256, .f32⟩
  | .hbm, ⟨50, _⟩ => ⟨S4x512x256, .f32⟩
  | .hbm, ⟨51, _⟩ => ⟨S1024x2560, .f32⟩
  | .hbm, ⟨52, _⟩ => ⟨S1024x2560, .bf16⟩
  | .hbm, ⟨53, _⟩ => ⟨S1024x512, .bf16⟩
  | .hbm, ⟨54, _⟩ => ⟨S16384x1024, .bf16⟩
  | .hbm, ⟨55, _⟩ => ⟨S16384x512, .bf16⟩
  | .hbm, ⟨56, _⟩ => ⟨S16384x1024, .f32⟩
  | .hbm, ⟨57, _⟩ => ⟨S16384x128, .f32⟩
  | .hbm, ⟨58, _⟩ => ⟨S16384x256, .bf16⟩
  | .hbm, ⟨59, _⟩ => ⟨S16384x128, .f32⟩
  | .hbm, ⟨60, _⟩ => ⟨S16384x128, .f32⟩
  | .local _ .vmem, ⟨0, _⟩ => ⟨S512x1024, .f32⟩
  | .local _ .vmem, ⟨1, _⟩ => ⟨S512x1024, .f32⟩
  | .local _ .vmem, ⟨2, _⟩ => ⟨S1x1024, .f32⟩
  | .local _ .vmem, ⟨3, _⟩ => ⟨S1x1x1024, .f32⟩
  | .local _ .vmem, ⟨4, _⟩ => ⟨S1x1x1024, .f32⟩
  | .local _ .vmem, ⟨5, _⟩ => ⟨S1x1x1024, .f32⟩
  | .local _ .vmem, ⟨6, _⟩ => ⟨S1x1x1024, .f32⟩
  | .local _ .vmem, ⟨7, _⟩ => ⟨S1x512x256, .f32⟩
  | .local _ .vmem, ⟨8, _⟩ => ⟨S1x512x256, .f32⟩
  | .local _ .vmem, ⟨9, _⟩ => ⟨S1x512x256, .f32⟩
  | .local _ .vmem, ⟨10, _⟩ => ⟨S1x512x256, .f32⟩
  | .local _ .vmem, ⟨11, _⟩ => ⟨S1024x2560, .bf16⟩
  | .local _ .vmem, ⟨12, _⟩ => ⟨S1024x512, .bf16⟩
  | .local _ .vmem, ⟨13, _⟩ => ⟨S1024x128, .bf16⟩
  | .local _ .vmem, ⟨14, _⟩ => ⟨S512x1024, .bf16⟩
  | .local _ .vmem, ⟨15, _⟩ => ⟨S512x1024, .bf16⟩
  | .local _ .vmem, ⟨16, _⟩ => ⟨S512x512, .bf16⟩
  | .local _ .vmem, ⟨17, _⟩ => ⟨S512x512, .bf16⟩
  | .local _ .vmem, ⟨18, _⟩ => ⟨S512x1024, .f32⟩
  | .local _ .vmem, ⟨19, _⟩ => ⟨S512x1024, .f32⟩
  | .local _ .vmem, ⟨20, _⟩ => ⟨S512x128, .f32⟩
  | .local _ .vmem, ⟨21, _⟩ => ⟨S512x128, .f32⟩
  | .local _ .vmem, ⟨22, _⟩ => ⟨S512x256, .bf16⟩
  | .local _ .vmem, ⟨23, _⟩ => ⟨S512x256, .bf16⟩
  | .local _ .vmem, ⟨24, _⟩ => ⟨S512x128, .f32⟩
  | .local _ .vmem, ⟨25, _⟩ => ⟨S512x128, .f32⟩
  | .local _ .vmem, ⟨26, _⟩ => ⟨S512x128, .f32⟩
  | .local _ .vmem, ⟨27, _⟩ => ⟨S512x128, .f32⟩
  | _, _ => ⟨S16384x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | _, _ => false

abbrev semScoped : Fin 0 → Bool
  | ⟨_, h⟩ => absurd h (Nat.not_lt_zero _)

abbrev dmaSemScoped : Fin 28 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | _ => false

abbrev sig : RefSig :=
  ofTc nBuf bufTy 0 28 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_c : Ref sig .tc := ⟨.hbm, 5, rfl⟩
abbrev main_call0_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev main_v8 : Ref sig .tc := ⟨.hbm, 14, rfl⟩
abbrev main_v9 : Ref sig .tc := ⟨.hbm, 15, rfl⟩
abbrev main_v10 : Ref sig .tc := ⟨.hbm, 16, rfl⟩
abbrev main_v11 : Ref sig .tc := ⟨.hbm, 17, rfl⟩
abbrev main_v12 : Ref sig .tc := ⟨.hbm, 18, rfl⟩
abbrev main_v13 : Ref sig .tc := ⟨.hbm, 19, rfl⟩
abbrev main_cst : Ref sig .tc := ⟨.hbm, 20, rfl⟩
abbrev main_v14 : Ref sig .tc := ⟨.hbm, 21, rfl⟩
abbrev main_v15 : Ref sig .tc := ⟨.hbm, 22, rfl⟩
abbrev main_cst_0 : Ref sig .tc := ⟨.hbm, 23, rfl⟩
abbrev main_v16 : Ref sig .tc := ⟨.hbm, 24, rfl⟩
abbrev main_v17 : Ref sig .tc := ⟨.hbm, 25, rfl⟩
abbrev main_v18 : Ref sig .tc := ⟨.hbm, 26, rfl⟩
abbrev main_v19 : Ref sig .tc := ⟨.hbm, 27, rfl⟩
abbrev main_v20 : Ref sig .tc := ⟨.hbm, 28, rfl⟩
abbrev main_v21 : Ref sig .tc := ⟨.hbm, 29, rfl⟩
abbrev main_v22 : Ref sig .tc := ⟨.hbm, 30, rfl⟩
abbrev main_v23 : Ref sig .tc := ⟨.hbm, 31, rfl⟩
abbrev main_v24 : Ref sig .tc := ⟨.hbm, 32, rfl⟩
abbrev main_v25 : Ref sig .tc := ⟨.hbm, 33, rfl⟩
abbrev main_v26 : Ref sig .tc := ⟨.hbm, 34, rfl⟩
abbrev main_v27 : Ref sig .tc := ⟨.hbm, 35, rfl⟩
abbrev main_v28 : Ref sig .tc := ⟨.hbm, 36, rfl⟩
abbrev main_v29 : Ref sig .tc := ⟨.hbm, 37, rfl⟩
abbrev main_v30 : Ref sig .tc := ⟨.hbm, 38, rfl⟩
abbrev main_v31 : Ref sig .tc := ⟨.hbm, 39, rfl⟩
abbrev main_v32 : Ref sig .tc := ⟨.hbm, 40, rfl⟩
abbrev main_v33 : Ref sig .tc := ⟨.hbm, 41, rfl⟩
abbrev main_v34 : Ref sig .tc := ⟨.hbm, 42, rfl⟩
abbrev main_v35 : Ref sig .tc := ⟨.hbm, 43, rfl⟩
abbrev main_v36 : Ref sig .tc := ⟨.hbm, 44, rfl⟩
abbrev main_v37 : Ref sig .tc := ⟨.hbm, 45, rfl⟩
abbrev main_v38 : Ref sig .tc := ⟨.hbm, 46, rfl⟩
abbrev main_v39 : Ref sig .tc := ⟨.hbm, 47, rfl⟩
abbrev main_v40 : Ref sig .tc := ⟨.hbm, 48, rfl⟩
abbrev main_v41 : Ref sig .tc := ⟨.hbm, 49, rfl⟩
abbrev main_v42 : Ref sig .tc := ⟨.hbm, 50, rfl⟩
abbrev main_v43 : Ref sig .tc := ⟨.hbm, 51, rfl⟩
abbrev main_v44 : Ref sig .tc := ⟨.hbm, 52, rfl⟩
abbrev main_v45 : Ref sig .tc := ⟨.hbm, 53, rfl⟩
abbrev main_v46_0 : Ref sig .tc := ⟨.hbm, 54, rfl⟩
abbrev main_v46_1 : Ref sig .tc := ⟨.hbm, 55, rfl⟩
abbrev main_v46_2 : Ref sig .tc := ⟨.hbm, 56, rfl⟩
abbrev main_v46_3 : Ref sig .tc := ⟨.hbm, 57, rfl⟩
abbrev main_v46_4 : Ref sig .tc := ⟨.hbm, 58, rfl⟩
abbrev main_v46_5 : Ref sig .tc := ⟨.hbm, 59, rfl⟩
abbrev main_v46_6 : Ref sig .tc := ⟨.hbm, 60, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg3_1 : Ref sig .tc := ⟨.vmem, 6, rfl⟩
abbrev cc0_stg4_0 : Ref sig .tc := ⟨.vmem, 7, rfl⟩
abbrev cc0_stg4_1 : Ref sig .tc := ⟨.vmem, 8, rfl⟩
abbrev cc0_stg5_0 : Ref sig .tc := ⟨.vmem, 9, rfl⟩
abbrev cc0_stg5_1 : Ref sig .tc := ⟨.vmem, 10, rfl⟩
abbrev cc0_stg6_0 : Ref sig .tc := ⟨.vmem, 11, rfl⟩
abbrev cc0_stg7_0 : Ref sig .tc := ⟨.vmem, 12, rfl⟩
abbrev cc0_stg8_0 : Ref sig .tc := ⟨.vmem, 13, rfl⟩
abbrev cc0_stg9_0 : Ref sig .tc := ⟨.vmem, 14, rfl⟩
abbrev cc0_stg9_1 : Ref sig .tc := ⟨.vmem, 15, rfl⟩
abbrev cc0_stg10_0 : Ref sig .tc := ⟨.vmem, 16, rfl⟩
abbrev cc0_stg10_1 : Ref sig .tc := ⟨.vmem, 17, rfl⟩
abbrev cc0_stg11_0 : Ref sig .tc := ⟨.vmem, 18, rfl⟩
abbrev cc0_stg11_1 : Ref sig .tc := ⟨.vmem, 19, rfl⟩
abbrev cc0_stg12_0 : Ref sig .tc := ⟨.vmem, 20, rfl⟩
abbrev cc0_stg12_1 : Ref sig .tc := ⟨.vmem, 21, rfl⟩
abbrev cc0_stg13_0 : Ref sig .tc := ⟨.vmem, 22, rfl⟩
abbrev cc0_stg13_1 : Ref sig .tc := ⟨.vmem, 23, rfl⟩
abbrev cc0_stg14_0 : Ref sig .tc := ⟨.vmem, 24, rfl⟩
abbrev cc0_stg14_1 : Ref sig .tc := ⟨.vmem, 25, rfl⟩
abbrev cc0_stg15_0 : Ref sig .tc := ⟨.vmem, 26, rfl⟩
abbrev cc0_stg15_1 : Ref sig .tc := ⟨.vmem, 27, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc0_sem3_0 : DmaSem sig := 5
abbrev cc0_sem3_1 : DmaSem sig := 6
abbrev cc0_sem4_0 : DmaSem sig := 7
abbrev cc0_sem4_1 : DmaSem sig := 8
abbrev cc0_sem5_0 : DmaSem sig := 9
abbrev cc0_sem5_1 : DmaSem sig := 10
abbrev cc0_sem6_0 : DmaSem sig := 11
abbrev cc0_sem7_0 : DmaSem sig := 12
abbrev cc0_sem8_0 : DmaSem sig := 13
abbrev cc0_sem9_0 : DmaSem sig := 14
abbrev cc0_sem9_1 : DmaSem sig := 15
abbrev cc0_sem10_0 : DmaSem sig := 16
abbrev cc0_sem10_1 : DmaSem sig := 17
abbrev cc0_sem11_0 : DmaSem sig := 18
abbrev cc0_sem11_1 : DmaSem sig := 19
abbrev cc0_sem12_0 : DmaSem sig := 20
abbrev cc0_sem12_1 : DmaSem sig := 21
abbrev cc0_sem13_0 : DmaSem sig := 22
abbrev cc0_sem13_1 : DmaSem sig := 23
abbrev cc0_sem14_0 : DmaSem sig := 24
abbrev cc0_sem14_1 : DmaSem sig := 25
abbrev cc0_sem15_0 : DmaSem sig := 26
abbrev cc0_sem15_1 : DmaSem sig := 27

abbrev nD : Nat := 1
abbrev τ : Topo := Topo.v7x

variable {F : FTy → Type} [FloatOps F]

abbrev grid0 : Pipeline.Grid := ⟨1, ![32], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 3 → Nat :=
  let arg0 : BitVec 32 := BitVec.ofNat 32 (i 0).val
  let c4_i32 : BitVec 32 := 4#32
  let v0 : BitVec 32 := Scalar.divsi arg0 c4_i32
  let c0_i32 : BitVec 32 := 0#32
  let v1 : BitVec 1 := Scalar.cmpi .sgt arg0 c0_i32
  let v2 : BitVec 32 := Scalar.extui v1
  let c0_i32_0 : BitVec 32 := 0#32
  let v3 : BitVec 1 := Scalar.cmpi .slt arg0 c0_i32_0
  let v4 : BitVec 32 := Scalar.extui v3
  let v5 : BitVec 32 := Scalar.subi v2 v4
  let c0_i32_1 : BitVec 32 := 0#32
  let v6 : BitVec 1 := Scalar.cmpi .sgt c4_i32 c0_i32_1
  let v7 : BitVec 32 := Scalar.extui v6
  let c0_i32_2 : BitVec 32 := 0#32
  let v8 : BitVec 1 := Scalar.cmpi .slt c4_i32 c0_i32_2
  let v9 : BitVec 32 := Scalar.extui v8
  let v10 : BitVec 32 := Scalar.subi v7 v9
  let v11 : BitVec 1 := Scalar.cmpi .ne v5 v10
  let v12 : BitVec 32 := Scalar.remsi arg0 c4_i32
  let c0_i32_3 : BitVec 32 := 0#32
  let v13 : BitVec 1 := Scalar.cmpi .ne v12 c0_i32_3
  let v14 : BitVec 1 := Scalar.andi v11 v13
  let c1_i32 : BitVec 32 := 1#32
  let v15 : BitVec 32 := Scalar.subi v0 c1_i32
  let v16 : BitVec 32 := Scalar.select v14 v15 v0
  let c0_i32_4 : BitVec 32 := 0#32
  let c1_i32_5 : BitVec 32 := 1#32
  let c0_i32_6 : BitVec 32 := 0#32
  ![v16.toNat, c0_i32_4.toNat, c1_i32_5.toNat]

def cc0_transform_3 (i : grid0.Coords) : Fin 3 → Nat :=
  let arg0 : BitVec 32 := BitVec.ofNat 32 (i 0).val
  let c4_i32 : BitVec 32 := 4#32
  let v0 : BitVec 32 := Scalar.divsi arg0 c4_i32
  let c0_i32 : BitVec 32 := 0#32
  let v1 : BitVec 1 := Scalar.cmpi .sgt arg0 c0_i32
  let v2 : BitVec 32 := Scalar.extui v1
  let c0_i32_0 : BitVec 32 := 0#32
  let v3 : BitVec 1 := Scalar.cmpi .slt arg0 c0_i32_0
  let v4 : BitVec 32 := Scalar.extui v3
  let v5 : BitVec 32 := Scalar.subi v2 v4
  let c0_i32_1 : BitVec 32 := 0#32
  let v6 : BitVec 1 := Scalar.cmpi .sgt c4_i32 c0_i32_1
  let v7 : BitVec 32 := Scalar.extui v6
  let c0_i32_2 : BitVec 32 := 0#32
  let v8 : BitVec 1 := Scalar.cmpi .slt c4_i32 c0_i32_2
  let v9 : BitVec 32 := Scalar.extui v8
  let v10 : BitVec 32 := Scalar.subi v7 v9
  let v11 : BitVec 1 := Scalar.cmpi .ne v5 v10
  let v12 : BitVec 32 := Scalar.remsi arg0 c4_i32
  let c0_i32_3 : BitVec 32 := 0#32
  let v13 : BitVec 1 := Scalar.cmpi .ne v12 c0_i32_3
  let v14 : BitVec 1 := Scalar.andi v11 v13
  let c1_i32 : BitVec 32 := 1#32
  let v15 : BitVec 32 := Scalar.subi v0 c1_i32
  let v16 : BitVec 32 := Scalar.select v14 v15 v0
  let c0_i32_4 : BitVec 32 := 0#32
  let c0_i32_5 : BitVec 32 := 0#32
  let c0_i32_6 : BitVec 32 := 0#32
  ![v16.toNat, c0_i32_4.toNat, c0_i32_5.toNat]

def cc0_transform_4 (i : grid0.Coords) : Fin 3 → Nat :=
  let arg0 : BitVec 32 := BitVec.ofNat 32 (i 0).val
  let c4_i32 : BitVec 32 := 4#32
  let c0_i32 : BitVec 32 := 0#32
  let v0 : BitVec 1 := Scalar.cmpi .eq c4_i32 c0_i32
  let c1_i32 : BitVec 32 := 1#32
  let v1 : BitVec 32 := Scalar.select v0 c1_i32 c4_i32
  let v2 : BitVec 32 := Scalar.remsi arg0 v1
  let c0_i32_0 : BitVec 32 := 0#32
  let v3 : BitVec 1 := Scalar.cmpi .ne v2 c0_i32_0
  let c0_i32_1 : BitVec 32 := 0#32
  let v4 : BitVec 1 := Scalar.cmpi .slt v2 c0_i32_1
  let c0_i32_2 : BitVec 32 := 0#32
  let v5 : BitVec 1 := Scalar.cmpi .slt v1 c0_i32_2
  let v6 : BitVec 1 := Scalar.xori v4 v5
  let v7 : BitVec 1 := Scalar.andi v6 v3
  let v8 : BitVec 32 := Scalar.addi v2 v1
  let v9 : BitVec 32 := Scalar.select v7 v8 v2
  let c0_i32_3 : BitVec 32 := 0#32
  let c0_i32_4 : BitVec 32 := 0#32
  let c0_i32_5 : BitVec 32 := 0#32
  ![v9.toNat, c0_i32_3.toNat, c0_i32_4.toNat]

def cc0_transform_5 (i : grid0.Coords) : Fin 3 → Nat :=
  let arg0 : BitVec 32 := BitVec.ofNat 32 (i 0).val
  let c4_i32 : BitVec 32 := 4#32
  let c0_i32 : BitVec 32 := 0#32
  let v0 : BitVec 1 := Scalar.cmpi .eq c4_i32 c0_i32
  let c1_i32 : BitVec 32 := 1#32
  let v1 : BitVec 32 := Scalar.select v0 c1_i32 c4_i32
  let v2 : BitVec 32 := Scalar.remsi arg0 v1
  let c0_i32_0 : BitVec 32 := 0#32
  let v3 : BitVec 1 := Scalar.cmpi .ne v2 c0_i32_0
  let c0_i32_1 : BitVec 32 := 0#32
  let v4 : BitVec 1 := Scalar.cmpi .slt v2 c0_i32_1
  let c0_i32_2 : BitVec 32 := 0#32
  let v5 : BitVec 1 := Scalar.cmpi .slt v1 c0_i32_2
  let v6 : BitVec 1 := Scalar.xori v4 v5
  let v7 : BitVec 1 := Scalar.andi v6 v3
  let v8 : BitVec 32 := Scalar.addi v2 v1
  let v9 : BitVec 32 := Scalar.select v7 v8 v2
  let c0_i32_3 : BitVec 32 := 0#32
  let c0_i32_4 : BitVec 32 := 0#32
  let c0_i32_5 : BitVec 32 := 0#32
  ![v9.toNat, c0_i32_3.toNat, c0_i32_4.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_9 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_10 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_11 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_12 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_13 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_14 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_15 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S512x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S1x1024 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S1x1x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S1x1x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S1x512x256 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S1x512x256 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 1 → Memref sig .tc .vmem S1024x2560 .bf16 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 1 → Memref sig .tc .vmem S1024x512 .bf16 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]

abbrev stage0_8 : Fin 1 → Memref sig .tc .vmem S1024x128 .bf16 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false]

abbrev stage0_9 : Fin 2 → Memref sig .tc .vmem S512x1024 .bf16 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true]

abbrev stage0_10 : Fin 2 → Memref sig .tc .vmem S512x512 .bf16 := fun | 0 => Memref.whole cc0_stg10_0 | 1 => Memref.whole cc0_stg10_1 | ⟨_ + 2, h⟩ => absurd h (Nat.not_lt.2 (Nat.le_add_left _ _))
abbrev sem0_10 : Fin 2 → DmaSem sig := fun | 0 => cc0_sem10_0 | 1 => cc0_sem10_1 | ⟨_ + 2, h⟩ => absurd h (Nat.not_lt.2 (Nat.le_add_left _ _))
abbrev reads0_10 : Fin grid0.rank → Bool := ![true]

abbrev stage0_11 : Fin 2 → Memref sig .tc .vmem S512x1024 .f32 := fun | 0 => Memref.whole cc0_stg11_0 | 1 => Memref.whole cc0_stg11_1 | ⟨_ + 2, h⟩ => absurd h (Nat.not_lt.2 (Nat.le_add_left _ _))
abbrev sem0_11 : Fin 2 → DmaSem sig := fun | 0 => cc0_sem11_0 | 1 => cc0_sem11_1 | ⟨_ + 2, h⟩ => absurd h (Nat.not_lt.2 (Nat.le_add_left _ _))
abbrev reads0_11 : Fin grid0.rank → Bool := ![true]

abbrev stage0_12 : Fin 2 → Memref sig .tc .vmem S512x128 .f32 := fun | 0 => Memref.whole cc0_stg12_0 | 1 => Memref.whole cc0_stg12_1 | ⟨_ + 2, h⟩ => absurd h (Nat.not_lt.2 (Nat.le_add_left _ _))
abbrev sem0_12 : Fin 2 → DmaSem sig := fun | 0 => cc0_sem12_0 | 1 => cc0_sem12_1 | ⟨_ + 2, h⟩ => absurd h (Nat.not_lt.2 (Nat.le_add_left _ _))
abbrev reads0_12 : Fin grid0.rank → Bool := ![true]

abbrev stage0_13 : Fin 2 → Memref sig .tc .vmem S512x256 .bf16 := fun | 0 => Memref.whole cc0_stg13_0 | 1 => Memref.whole cc0_stg13_1 | ⟨_ + 2, h⟩ => absurd h (Nat.not_lt.2 (Nat.le_add_left _ _))
abbrev sem0_13 : Fin 2 → DmaSem sig := fun | 0 => cc0_sem13_0 | 1 => cc0_sem13_1 | ⟨_ + 2, h⟩ => absurd h (Nat.not_lt.2 (Nat.le_add_left _ _))
abbrev reads0_13 : Fin grid0.rank → Bool := ![true]

abbrev stage0_14 : Fin 2 → Memref sig .tc .vmem S512x128 .f32 := fun | 0 => Memref.whole cc0_stg14_0 | 1 => Memref.whole cc0_stg14_1 | ⟨_ + 2, h⟩ => absurd h (Nat.not_lt.2 (Nat.le_add_left _ _))
abbrev sem0_14 : Fin 2 → DmaSem sig := fun | 0 => cc0_sem14_0 | 1 => cc0_sem14_1 | ⟨_ + 2, h⟩ => absurd h (Nat.not_lt.2 (Nat.le_add_left _ _))
abbrev reads0_14 : Fin grid0.rank → Bool := ![true]

abbrev stage0_15 : Fin 2 → Memref sig .tc .vmem S512x128 .f32 := fun | 0 => Memref.whole cc0_stg15_0 | 1 => Memref.whole cc0_stg15_1 | ⟨_ + 2, h⟩ => absurd h (Nat.not_lt.2 (Nat.le_add_left _ _))
abbrev sem0_15 : Fin 2 → DmaSem sig := fun | 0 => cc0_sem15_0 | 1 => cc0_sem15_1 | ⟨_ + 2, h⟩ => absurd h (Nat.not_lt.2 (Nat.le_add_left _ _))
abbrev reads0_15 : Fin grid0.rank → Bool := ![true]
-- ==== Reference2Ideal.lean ====
abbrev S16384x1024 : Shape := ⟨2, ![16384, 1024]⟩
abbrev S1x1024 : Shape := ⟨2, ![1, 1024]⟩
abbrev S8x1x6144 : Shape := ⟨3, ![8, 1, 6144]⟩
abbrev S1024x3080 : Shape := ⟨2, ![1024, 3080]⟩
abbrev S8x6144 : Shape := ⟨2, ![8, 6144]⟩
abbrev S8x2048x6144 : Shape := ⟨3, ![8, 2048, 6144]⟩
abbrev S16384x6144 : Shape := ⟨2, ![16384, 6144]⟩
abbrev S_ : Shape := ⟨0, ![]⟩
abbrev S16384 : Shape := ⟨1, ![16384]⟩
abbrev S16384x1 : Shape := ⟨2, ![16384, 1]⟩
abbrev S16384x3080 : Shape := ⟨2, ![16384, 3080]⟩
abbrev S16384x256 : Shape := ⟨2, ![16384, 256]⟩
abbrev S16384x512 : Shape := ⟨2, ![16384, 512]⟩
abbrev S16384x8 : Shape := ⟨2, ![16384, 8]⟩
abbrev S16384x128 : Shape := ⟨2, ![16384, 128]⟩
abbrev S2048 : Shape := ⟨1, ![2048]⟩
abbrev S1x2048 : Shape := ⟨2, ![1, 2048]⟩
abbrev S8x2048 : Shape := ⟨2, ![8, 2048]⟩
abbrev S32 : Shape := ⟨1, ![32]⟩
abbrev S1x32 : Shape := ⟨2, ![1, 32]⟩
abbrev S16384x32 : Shape := ⟨2, ![16384, 32]⟩
abbrev S16384x1x32 : Shape := ⟨3, ![16384, 1, 32]⟩
abbrev S16384x4x64 : Shape := ⟨3, ![16384, 4, 64]⟩
abbrev S16384x4x32 : Shape := ⟨3, ![16384, 4, 32]⟩
abbrev S16384x1x64 : Shape := ⟨3, ![16384, 1, 64]⟩
abbrev S16384x2x64 : Shape := ⟨3, ![16384, 2, 64]⟩
abbrev S16384x2x32 : Shape := ⟨3, ![16384, 2, 32]⟩

abbrev nBuf : Space → Nat
  | .hbm => 144
  | .vmem => 0
  | .smem => 0
  | _ => 0

abbrev hbmTy0_0 (i : Nat) : BufTy := match i % 128 with
  | 0 => ⟨S16384x1024, .f32⟩
  | 1 => ⟨S1x1024, .f32⟩
  | 2 => ⟨S8x1x6144, .f32⟩
  | 3 => ⟨S1024x3080, .f32⟩
  | 4 => ⟨S8x6144, .f32⟩
  | 5 => ⟨S8x2048x6144, .f32⟩
  | 6 => ⟨S16384x6144, .f32⟩
  | 7 => ⟨S16384x1024, .f32⟩
  | 8 => ⟨S16384x1024, .f32⟩
  | 9 => ⟨S16384x1024, .f32⟩
  | 10 => ⟨S16384x1024, .f32⟩
  | 11 => ⟨S16384x1024, .f32⟩
  | 12 => ⟨S16384x1024, .f32⟩
  | 13 => ⟨S16384x1024, .f32⟩
  | 14 => ⟨S_, .f32⟩
  | 15 => ⟨S16384, .f32⟩
  | 16 => ⟨S16384x1, .f32⟩
  | 17 => ⟨S_, .f32⟩
  | 18 => ⟨S16384x1, .f32⟩
  | 19 => ⟨S16384x1, .f32⟩
  | 20 => ⟨S_, .f32⟩
  | 21 => ⟨S16384x1, .f32⟩
  | 22 => ⟨S16384x1, .f32⟩
  | 23 => ⟨S16384x1, .f32⟩
  | 24 => ⟨S16384x1024, .f32⟩
  | 25 => ⟨S16384x1024, .f32⟩
  | 26 => ⟨S16384x1024, .f32⟩
  | 27 => ⟨S16384x1024, .f32⟩
  | 28 => ⟨S_, .f32⟩
  | 29 => ⟨S16384x1024, .f32⟩
  | 30 => ⟨S16384x1024, .f32⟩
  | 31 => ⟨S16384x1024, .f32⟩
  | 32 => ⟨S16384x1024, .f32⟩
  | 33 => ⟨S16384x3080, .f32⟩
  | 34 => ⟨S16384x256, .f32⟩
  | 35 => ⟨S16384x256, .f32⟩
  | 36 => ⟨S16384x256, .f32⟩
  | 37 => ⟨S16384x256, .f32⟩
  | 38 => ⟨S16384x512, .f32⟩
  | 39 => ⟨S16384x1024, .f32⟩
  | 40 => ⟨S16384x8, .f32⟩
  | 41 => ⟨S16384x256, .f32⟩
  | 42 => ⟨S16384x128, .f32⟩
  | 43 => ⟨S16384x128, .f32⟩
  | 44 => ⟨S2048, .i32⟩
  | 45 => ⟨S1x2048, .i32⟩
  | 46 => ⟨S8x2048, .i32⟩
  | 47 => ⟨S16384, .i32⟩
  | 48 => ⟨S16384, .f32⟩
  | 49 => ⟨S16384x1, .f32⟩
  | 50 => ⟨S32, .f32⟩
  | 51 => ⟨S32, .f32⟩
  | 52 => ⟨S_, .f32⟩
  | 53 => ⟨S32, .f32⟩
  | 54 => ⟨S32, .f32⟩
  | 55 => ⟨S_, .f32⟩
  | 56 => ⟨S32, .f32⟩
  | 57 => ⟨S32, .f32⟩
  | 58 => ⟨S1x32, .f32⟩
  | 59 => ⟨S16384x32, .f32⟩
  | 60 => ⟨S16384x32, .f32⟩
  | 61 => ⟨S16384x32, .f32⟩
  | 62 => ⟨S16384x32, .f32⟩
  | 63 => ⟨S16384x1x32, .f32⟩
  | 64 => ⟨S16384x32, .f32⟩
  | 65 => ⟨S16384x1x32, .f32⟩
  | 66 => ⟨S16384x4x64, .f32⟩
  | 67 => ⟨S16384x4x32, .f32⟩
  | 68 => ⟨S16384x4x32, .f32⟩
  | 69 => ⟨S16384x4x32, .f32⟩
  | 70 => ⟨S16384x4x32, .f32⟩
  | 71 => ⟨S16384x4x32, .f32⟩
  | 72 => ⟨S16384x4x32, .f32⟩
  | 73 => ⟨S16384x4x32, .f32⟩
  | 74 => ⟨S16384x4x32, .f32⟩
  | 75 => ⟨S16384x4x32, .f32⟩
  | 76 => ⟨S16384x4x32, .f32⟩
  | 77 => ⟨S16384x4x32, .f32⟩
  | 78 => ⟨S16384x4x32, .f32⟩
  | 79 => ⟨S16384x4x64, .f32⟩
  | 80 => ⟨S16384x256, .f32⟩
  | 81 => ⟨S16384x4x64, .f32⟩
  | 82 => ⟨S16384x4x32, .f32⟩
  | 83 => ⟨S16384x4x32, .f32⟩
  | 84 => ⟨S16384x4x32, .f32⟩
  | 85 => ⟨S16384x4x32, .f32⟩
  | 86 => ⟨S16384x4x32, .f32⟩
  | 87 => ⟨S16384x4x32, .f32⟩
  | 88 => ⟨S16384x4x32, .f32⟩
  | 89 => ⟨S16384x4x32, .f32⟩
  | 90 => ⟨S16384x4x32, .f32⟩
  | 91 => ⟨S16384x4x32, .f32⟩
  | 92 => ⟨S16384x4x32, .f32⟩
  | 93 => ⟨S16384x4x32, .f32⟩
  | 94 => ⟨S16384x4x64, .f32⟩
  | 95 => ⟨S16384x256, .f32⟩
  | 96 => ⟨S_, .f32⟩
  | 97 => ⟨S16384x256, .f32⟩
  | 98 => ⟨S16384x256, .f32⟩
  | 99 => ⟨S16384x1024, .f32⟩
  | 100 => ⟨S16384x4x64, .f32⟩
  | 101 => ⟨S16384x4x32, .f32⟩
  | 102 => ⟨S16384x4x32, .f32⟩
  | 103 => ⟨S16384x4x32, .f32⟩
  | 104 => ⟨S16384x4x32, .f32⟩
  | 105 => ⟨S16384x4x32, .f32⟩
  | 106 => ⟨S16384x4x32, .f32⟩
  | 107 => ⟨S16384x4x32, .f32⟩
  | 108 => ⟨S16384x4x32, .f32⟩
  | 109 => ⟨S16384x4x32, .f32⟩
  | 110 => ⟨S16384x4x32, .f32⟩
  | 111 => ⟨S16384x4x32, .f32⟩
  | 112 => ⟨S16384x4x32, .f32⟩
  | 113 => ⟨S16384x4x64, .f32⟩
  | 114 => ⟨S_, .f32⟩
  | 115 => ⟨S16384x4x64, .f32⟩
  | 116 => ⟨S16384x4x64, .f32⟩
  | 117 => ⟨S16384x1x64, .f32⟩
  | 118 => ⟨S16384x1x64, .f32⟩
  | 119 => ⟨S16384x1x64, .f32⟩
  | 120 => ⟨S16384x1x64, .f32⟩
  | 121 => ⟨S16384x4x64, .f32⟩
  | 122 => ⟨S16384x256, .f32⟩
  | 123 => ⟨S16384x1024, .bf16⟩
  | 124 => ⟨S16384x512, .bf16⟩
  | 125 => ⟨S_, .i32⟩
  | 126 => ⟨S_, .f32⟩
  | 127 => ⟨S16384x128, .f32⟩
  | _ => ⟨S16384x1024, .f32⟩

abbrev hbmTy0_1 (i : Nat) : BufTy := match i % 128 with
  | 0 => ⟨S16384x256, .bf16⟩
  | 1 => ⟨S16384x2x64, .f32⟩
  | 2 => ⟨S16384x2x32, .f32⟩
  | 3 => ⟨S16384x2x32, .f32⟩
  | 4 => ⟨S16384x2x32, .f32⟩
  | 5 => ⟨S16384x2x32, .f32⟩
  | 6 => ⟨S16384x2x32, .f32⟩
  | 7 => ⟨S16384x2x32, .f32⟩
  | 8 => ⟨S16384x2x32, .f32⟩
  | 9 => ⟨S16384x2x32, .f32⟩
  | 10 => ⟨S16384x2x32, .f32⟩
  | 11 => ⟨S16384x2x32, .f32⟩
  | 12 => ⟨S16384x2x32, .f32⟩
  | 13 => ⟨S16384x2x32, .f32⟩
  | 14 => ⟨S16384x2x64, .f32⟩
  | 15 => ⟨S16384x128, .f32⟩
  | _ => ⟨S16384x1024, .f32⟩

abbrev hbmTy (i : Nat) : BufTy := match i / 128 with
  | 0 => hbmTy0_0 i
  | 1 => hbmTy0_1 i
  | _ => ⟨S16384x1024, .f32⟩

abbrev bufTy : (tb : Table) → Fin (tcTables nBuf tb) → BufTy
  | .hbm, ⟨i, _⟩ => hbmTy i
  | _, _ => ⟨S16384x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_v6 : Ref sig .tc := ⟨.hbm, 10, rfl⟩
abbrev main_v7 : Ref sig .tc := ⟨.hbm, 11, rfl⟩
abbrev main_v8 : Ref sig .tc := ⟨.hbm, 12, rfl⟩
abbrev main_v9 : Ref sig .tc := ⟨.hbm, 13, rfl⟩
abbrev main_cst : Ref sig .tc := ⟨.hbm, 14, rfl⟩
abbrev main_v10 : Ref sig .tc := ⟨.hbm, 15, rfl⟩
abbrev main_v11 : Ref sig .tc := ⟨.hbm, 16, rfl⟩
abbrev main_cst_0 : Ref sig .tc := ⟨.hbm, 17, rfl⟩
abbrev main_v12 : Ref sig .tc := ⟨.hbm, 18, rfl⟩
abbrev main_v13 : Ref sig .tc := ⟨.hbm, 19, rfl⟩
abbrev main_cst_1 : Ref sig .tc := ⟨.hbm, 20, rfl⟩
abbrev main_v14 : Ref sig .tc := ⟨.hbm, 21, rfl⟩
abbrev main_v15 : Ref sig .tc := ⟨.hbm, 22, rfl⟩
abbrev main_v16 : Ref sig .tc := ⟨.hbm, 23, rfl⟩
abbrev main_v17 : Ref sig .tc := ⟨.hbm, 24, rfl⟩
abbrev main_v18 : Ref sig .tc := ⟨.hbm, 25, rfl⟩
abbrev main_v19 : Ref sig .tc := ⟨.hbm, 26, rfl⟩
abbrev main_v20 : Ref sig .tc := ⟨.hbm, 27, rfl⟩
abbrev main_cst_2 : Ref sig .tc := ⟨.hbm, 28, rfl⟩
abbrev main_v21 : Ref sig .tc := ⟨.hbm, 29, rfl⟩
abbrev main_v22 : Ref sig .tc := ⟨.hbm, 30, rfl⟩
abbrev main_v23 : Ref sig .tc := ⟨.hbm, 31, rfl⟩
abbrev main_v24 : Ref sig .tc := ⟨.hbm, 32, rfl⟩
abbrev main_v25 : Ref sig .tc := ⟨.hbm, 33, rfl⟩
abbrev main_v26 : Ref sig .tc := ⟨.hbm, 34, rfl⟩
abbrev main_v27 : Ref sig .tc := ⟨.hbm, 35, rfl⟩
abbrev main_v28 : Ref sig .tc := ⟨.hbm, 36, rfl⟩
abbrev main_v29 : Ref sig .tc := ⟨.hbm, 37, rfl⟩
abbrev main_v30 : Ref sig .tc := ⟨.hbm, 38, rfl⟩
abbrev main_v31 : Ref sig .tc := ⟨.hbm, 39, rfl⟩
abbrev main_v32 : Ref sig .tc := ⟨.hbm, 40, rfl⟩
abbrev main_v33 : Ref sig .tc := ⟨.hbm, 41, rfl⟩
abbrev main_v34 : Ref sig .tc := ⟨.hbm, 42, rfl⟩
abbrev main_v35 : Ref sig .tc := ⟨.hbm, 43, rfl⟩
abbrev main_v36 : Ref sig .tc := ⟨.hbm, 44, rfl⟩
abbrev main_v37 : Ref sig .tc := ⟨.hbm, 45, rfl⟩
abbrev main_v38 : Ref sig .tc := ⟨.hbm, 46, rfl⟩
abbrev main_v39 : Ref sig .tc := ⟨.hbm, 47, rfl⟩
abbrev main_v40 : Ref sig .tc := ⟨.hbm, 48, rfl⟩
abbrev main_v41 : Ref sig .tc := ⟨.hbm, 49, rfl⟩
abbrev main_v42 : Ref sig .tc := ⟨.hbm, 50, rfl⟩
abbrev main_v43 : Ref sig .tc := ⟨.hbm, 51, rfl⟩
abbrev main_cst_3 : Ref sig .tc := ⟨.hbm, 52, rfl⟩
abbrev main_v44 : Ref sig .tc := ⟨.hbm, 53, rfl⟩
abbrev main_v45 : Ref sig .tc := ⟨.hbm, 54, rfl⟩
abbrev main_cst_4 : Ref sig .tc := ⟨.hbm, 55, rfl⟩
abbrev main_v46 : Ref sig .tc := ⟨.hbm, 56, rfl⟩
abbrev main_v47 : Ref sig .tc := ⟨.hbm, 57, rfl⟩
abbrev main_v48 : Ref sig .tc := ⟨.hbm, 58, rfl⟩
abbrev main_v49 : Ref sig .tc := ⟨.hbm, 59, rfl⟩
abbrev main_v50 : Ref sig .tc := ⟨.hbm, 60, rfl⟩
abbrev main_v51 : Ref sig .tc := ⟨.hbm, 61, rfl⟩
abbrev main_v52 : Ref sig .tc := ⟨.hbm, 62, rfl⟩
abbrev main_v53 : Ref sig .tc := ⟨.hbm, 63, rfl⟩
abbrev main_v54 : Ref sig .tc := ⟨.hbm, 64, rfl⟩
abbrev main_v55 : Ref sig .tc := ⟨.hbm, 65, rfl⟩
abbrev main_v56 : Ref sig .tc := ⟨.hbm, 66, rfl⟩
abbrev main_v57 : Ref sig .tc := ⟨.hbm, 67, rfl⟩
abbrev main_v58 : Ref sig .tc := ⟨.hbm, 68, rfl⟩
abbrev main_v59 : Ref sig .tc := ⟨.hbm, 69, rfl⟩
abbrev main_v60 : Ref sig .tc := ⟨.hbm, 70, rfl⟩
abbrev main_v61 : Ref sig .tc := ⟨.hbm, 71, rfl⟩
abbrev main_v62 : Ref sig .tc := ⟨.hbm, 72, rfl⟩
abbrev main_v63 : Ref sig .tc := ⟨.hbm, 73, rfl⟩
abbrev main_v64 : Ref sig .tc := ⟨.hbm, 74, rfl⟩
abbrev main_v65 : Ref sig .tc := ⟨.hbm, 75, rfl⟩
abbrev main_v66 : Ref sig .tc := ⟨.hbm, 76, rfl⟩
abbrev main_v67 : Ref sig .tc := ⟨.hbm, 77, rfl⟩
abbrev main_v68 : Ref sig .tc := ⟨.hbm, 78, rfl⟩
abbrev main_v69 : Ref sig .tc := ⟨.hbm, 79, rfl⟩
abbrev main_v70 : Ref sig .tc := ⟨.hbm, 80, rfl⟩
abbrev main_v71 : Ref sig .tc := ⟨.hbm, 81, rfl⟩
abbrev main_v72 : Ref sig .tc := ⟨.hbm, 82, rfl⟩
abbrev main_v73 : Ref sig .tc := ⟨.hbm, 83, rfl⟩
abbrev main_v74 : Ref sig .tc := ⟨.hbm, 84, rfl⟩
abbrev main_v75 : Ref sig .tc := ⟨.hbm, 85, rfl⟩
abbrev main_v76 : Ref sig .tc := ⟨.hbm, 86, rfl⟩
abbrev main_v77 : Ref sig .tc := ⟨.hbm, 87, rfl⟩
abbrev main_v78 : Ref sig .tc := ⟨.hbm, 88, rfl⟩
abbrev main_v79 : Ref sig .tc := ⟨.hbm, 89, rfl⟩
abbrev main_v80 : Ref sig .tc := ⟨.hbm, 90, rfl⟩
abbrev main_v81 : Ref sig .tc := ⟨.hbm, 91, rfl⟩
abbrev main_v82 : Ref sig .tc := ⟨.hbm, 92, rfl⟩
abbrev main_v83 : Ref sig .tc := ⟨.hbm, 93, rfl⟩
abbrev main_v84 : Ref sig .tc := ⟨.hbm, 94, rfl⟩
abbrev main_v85 : Ref sig .tc := ⟨.hbm, 95, rfl⟩
abbrev main_cst_5 : Ref sig .tc := ⟨.hbm, 96, rfl⟩
abbrev main_v86 : Ref sig .tc := ⟨.hbm, 97, rfl⟩
abbrev main_v87 : Ref sig .tc := ⟨.hbm, 98, rfl⟩
abbrev main_v88 : Ref sig .tc := ⟨.hbm, 99, rfl⟩
abbrev main_v89 : Ref sig .tc := ⟨.hbm, 100, rfl⟩
abbrev main_v90 : Ref sig .tc := ⟨.hbm, 101, rfl⟩
abbrev main_v91 : Ref sig .tc := ⟨.hbm, 102, rfl⟩
abbrev main_v92 : Ref sig .tc := ⟨.hbm, 103, rfl⟩
abbrev main_v93 : Ref sig .tc := ⟨.hbm, 104, rfl⟩
abbrev main_v94 : Ref sig .tc := ⟨.hbm, 105, rfl⟩
abbrev main_v95 : Ref sig .tc := ⟨.hbm, 106, rfl⟩
abbrev main_v96 : Ref sig .tc := ⟨.hbm, 107, rfl⟩
abbrev main_v97 : Ref sig .tc := ⟨.hbm, 108, rfl⟩
abbrev main_v98 : Ref sig .tc := ⟨.hbm, 109, rfl⟩
abbrev main_v99 : Ref sig .tc := ⟨.hbm, 110, rfl⟩
abbrev main_v100 : Ref sig .tc := ⟨.hbm, 111, rfl⟩
abbrev main_v101 : Ref sig .tc := ⟨.hbm, 112, rfl⟩
abbrev main_v102 : Ref sig .tc := ⟨.hbm, 113, rfl⟩
abbrev main_cst_6 : Ref sig .tc := ⟨.hbm, 114, rfl⟩
abbrev main_v103 : Ref sig .tc := ⟨.hbm, 115, rfl⟩
abbrev main_v104 : Ref sig .tc := ⟨.hbm, 116, rfl⟩
abbrev main_v105 : Ref sig .tc := ⟨.hbm, 117, rfl⟩
abbrev main_v106 : Ref sig .tc := ⟨.hbm, 118, rfl⟩
abbrev main_v107 : Ref sig .tc := ⟨.hbm, 119, rfl⟩
abbrev main_v108 : Ref sig .tc := ⟨.hbm, 120, rfl⟩
abbrev main_v109 : Ref sig .tc := ⟨.hbm, 121, rfl⟩
abbrev main_v110 : Ref sig .tc := ⟨.hbm, 122, rfl⟩
abbrev main_v111 : Ref sig .tc := ⟨.hbm, 123, rfl⟩
abbrev main_v112 : Ref sig .tc := ⟨.hbm, 124, rfl⟩
abbrev main_c : Ref sig .tc := ⟨.hbm, 125, rfl⟩
abbrev main_call0_v0 : Ref sig .tc := ⟨.hbm, 126, rfl⟩
abbrev main_v113 : Ref sig .tc := ⟨.hbm, 127, rfl⟩
abbrev main_v114 : Ref sig .tc := ⟨.hbm, 128, rfl⟩
abbrev main_v115 : Ref sig .tc := ⟨.hbm, 129, rfl⟩
abbrev main_v116 : Ref sig .tc := ⟨.hbm, 130, rfl⟩
abbrev main_v117 : Ref sig .tc := ⟨.hbm, 131, rfl⟩
abbrev main_v118 : Ref sig .tc := ⟨.hbm, 132, rfl⟩
abbrev main_v119 : Ref sig .tc := ⟨.hbm, 133, rfl⟩
abbrev main_v120 : Ref sig .tc := ⟨.hbm, 134, rfl⟩
abbrev main_v121 : Ref sig .tc := ⟨.hbm, 135, rfl⟩
abbrev main_v122 : Ref sig .tc := ⟨.hbm, 136, rfl⟩
abbrev main_v123 : Ref sig .tc := ⟨.hbm, 137, rfl⟩
abbrev main_v124 : Ref sig .tc := ⟨.hbm, 138, rfl⟩
abbrev main_v125 : Ref sig .tc := ⟨.hbm, 139, rfl⟩
abbrev main_v126 : Ref sig .tc := ⟨.hbm, 140, rfl⟩
abbrev main_v127 : Ref sig .tc := ⟨.hbm, 141, rfl⟩
abbrev main_v128 : Ref sig .tc := ⟨.hbm, 142, rfl⟩
abbrev main_v129 : Ref sig .tc := ⟨.hbm, 143, rfl⟩

abbrev nD : Nat := 1
abbrev τ : Topo := Topo.v7x

variable {F : FTy → Type} [FloatOps F]
-- ==== Kernel3.lean ====
abbrev S8x1024 : Shape := ⟨2, ![8, 1024]⟩
abbrev S128x1024 : Shape := ⟨2, ![128, 1024]⟩
abbrev S2x1024x6144 : Shape := ⟨3, ![2, 1024, 6144]⟩
abbrev S2x6144 : Shape := ⟨2, ![2, 6144]⟩
abbrev S136x1024 : Shape := ⟨2, ![136, 1024]⟩
abbrev S2x1x6144 : Shape := ⟨3, ![2, 1, 6144]⟩
abbrev S2x136x6144 : Shape := ⟨3, ![2, 136, 6144]⟩
abbrev S1x1024x512 : Shape := ⟨3, ![1, 1024, 512]⟩
abbrev S1x1x512 : Shape := ⟨3, ![1, 1, 512]⟩
abbrev S1x136x512 : Shape := ⟨3, ![1, 136, 512]⟩
abbrev S1024x512 : Shape := ⟨2, ![1024, 512]⟩
abbrev S136x512 : Shape := ⟨2, ![136, 512]⟩
abbrev S1x512 : Shape := ⟨2, ![1, 512]⟩

abbrev nBuf : Space → Nat
  | .hbm => 7
  | .vmem => 7
  | .smem => 0
  | _ => 0

abbrev bufTy : (tb : Table) → Fin (tcTables nBuf tb) → BufTy
  | .hbm, ⟨0, _⟩ => ⟨S8x1024, .f32⟩
  | .hbm, ⟨1, _⟩ => ⟨S128x1024, .f32⟩
  | .hbm, ⟨2, _⟩ => ⟨S2x1024x6144, .f32⟩
  | .hbm, ⟨3, _⟩ => ⟨S2x6144, .f32⟩
  | .hbm, ⟨4, _⟩ => ⟨S136x1024, .f32⟩
  | .hbm, ⟨5, _⟩ => ⟨S2x1x6144, .f32⟩
  | .hbm, ⟨6, _⟩ => ⟨S2x136x6144, .f32⟩
  | .local _ .vmem, ⟨0, _⟩ => ⟨S136x1024, .f32⟩
  | .local _ .vmem, ⟨1, _⟩ => ⟨S1x1024x512, .f32⟩
  | .local _ .vmem, ⟨2, _⟩ => ⟨S1x1024x512, .f32⟩
  | .local _ .vmem, ⟨3, _⟩ => ⟨S1x1x512, .f32⟩
  | .local _ .vmem, ⟨4, _⟩ => ⟨S1x1x512, .f32⟩
  | .local _ .vmem, ⟨5, _⟩ => ⟨S1x136x512, .f32⟩
  | .local _ .vmem, ⟨6, _⟩ => ⟨S1x136x512, .f32⟩
  | _, _ => ⟨S8x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 7 → Bool
  | ⟨0, _⟩ => true
  | ⟨1, _⟩ => true
  | ⟨2, _⟩ => true
  | ⟨3, _⟩ => true
  | ⟨4, _⟩ => true
  | ⟨5, _⟩ => true
  | ⟨6, _⟩ => true
  | _ => false

abbrev sig : RefSig :=
  ofTc nBuf bufTy 0 7 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev cc0_stg0_0 : Ref sig .tc := ⟨.vmem, 0, rfl⟩
abbrev cc0_stg1_0 : Ref sig .tc := ⟨.vmem, 1, rfl⟩
abbrev cc0_stg1_1 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg3_1 : Ref sig .tc := ⟨.vmem, 6, rfl⟩
abbrev cc0_sem0_0 : DmaSem sig := 0
abbrev cc0_sem1_0 : DmaSem sig := 1
abbrev cc0_sem1_1 : DmaSem sig := 2
abbrev cc0_sem2_0 : DmaSem sig := 3
abbrev cc0_sem2_1 : DmaSem sig := 4
abbrev cc0_sem3_0 : DmaSem sig := 5
abbrev cc0_sem3_1 : DmaSem sig := 6

abbrev nD : Nat := 1
abbrev τ : Topo := Topo.v7x

variable {F : FTy → Type} [FloatOps F]

abbrev grid0 : Pipeline.Grid := ⟨2, ![2, 12], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_1 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat, arg1.toNat]

def cc0_transform_2 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat, arg1.toNat]

def cc0_transform_3 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat, arg1.toNat]

abbrev stage0_0 : Fin 1 → Memref sig .tc .vmem S136x1024 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![false, false]

abbrev stage0_1 : Fin 2 → Memref sig .tc .vmem S1x1024x512 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S1x1x512 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 2 → Memref sig .tc .vmem S1x136x512 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]
-- ==== Reference3Ideal.lean ====
abbrev S8x1024 : Shape := ⟨2, ![8, 1024]⟩
abbrev S128x1024 : Shape := ⟨2, ![128, 1024]⟩
abbrev S2x1024x6144 : Shape := ⟨3, ![2, 1024, 6144]⟩
abbrev S2x6144 : Shape := ⟨2, ![2, 6144]⟩
abbrev S_ : Shape := ⟨0, ![]⟩
abbrev S1x1024x6144 : Shape := ⟨3, ![1, 1024, 6144]⟩
abbrev S1024x6144 : Shape := ⟨2, ![1024, 6144]⟩
abbrev S8x6144 : Shape := ⟨2, ![8, 6144]⟩
abbrev S1x6144 : Shape := ⟨2, ![1, 6144]⟩
abbrev S6144 : Shape := ⟨1, ![6144]⟩
abbrev S128x6144 : Shape := ⟨2, ![128, 6144]⟩
abbrev S136x6144 : Shape := ⟨2, ![136, 6144]⟩
abbrev S1x136x6144 : Shape := ⟨3, ![1, 136, 6144]⟩
abbrev S2x136x6144 : Shape := ⟨3, ![2, 136, 6144]⟩

abbrev nBuf : Space → Nat
  | .hbm => 77
  | .vmem => 0
  | .smem => 0
  | _ => 0

abbrev bufTy : (tb : Table) → Fin (tcTables nBuf tb) → BufTy
  | .hbm, ⟨0, _⟩ => ⟨S8x1024, .f32⟩
  | .hbm, ⟨1, _⟩ => ⟨S128x1024, .f32⟩
  | .hbm, ⟨2, _⟩ => ⟨S2x1024x6144, .f32⟩
  | .hbm, ⟨3, _⟩ => ⟨S2x6144, .f32⟩
  | .hbm, ⟨4, _⟩ => ⟨S8x1024, .f32⟩
  | .hbm, ⟨5, _⟩ => ⟨S8x1024, .f32⟩
  | .hbm, ⟨6, _⟩ => ⟨S_, .f32⟩
  | .hbm, ⟨7, _⟩ => ⟨S8x1024, .f32⟩
  | .hbm, ⟨8, _⟩ => ⟨S8x1024, .f32⟩
  | .hbm, ⟨9, _⟩ => ⟨S_, .f32⟩
  | .hbm, ⟨10, _⟩ => ⟨S8x1024, .f32⟩
  | .hbm, ⟨11, _⟩ => ⟨S8x1024, .f32⟩
  | .hbm, ⟨12, _⟩ => ⟨S8x1024, .f32⟩
  | .hbm, ⟨13, _⟩ => ⟨S1x1024x6144, .f32⟩
  | .hbm, ⟨14, _⟩ => ⟨S1024x6144, .f32⟩
  | .hbm, ⟨15, _⟩ => ⟨S8x6144, .f32⟩
  | .hbm, ⟨16, _⟩ => ⟨S1x6144, .f32⟩
  | .hbm, ⟨17, _⟩ => ⟨S6144, .f32⟩
  | .hbm, ⟨18, _⟩ => ⟨S1x6144, .f32⟩
  | .hbm, ⟨19, _⟩ => ⟨S8x6144, .f32⟩
  | .hbm, ⟨20, _⟩ => ⟨S8x6144, .f32⟩
  | .hbm, ⟨21, _⟩ => ⟨S128x1024, .f32⟩
  | .hbm, ⟨22, _⟩ => ⟨S128x1024, .f32⟩
  | .hbm, ⟨23, _⟩ => ⟨S_, .f32⟩
  | .hbm, ⟨24, _⟩ => ⟨S128x1024, .f32⟩
  | .hbm, ⟨25, _⟩ => ⟨S128x1024, .f32⟩
  | .hbm, ⟨26, _⟩ => ⟨S_, .f32⟩
  | .hbm, ⟨27, _⟩ => ⟨S128x1024, .f32⟩
  | .hbm, ⟨28, _⟩ => ⟨S128x1024, .f32⟩
  | .hbm, ⟨29, _⟩ => ⟨S128x1024, .f32⟩
  | .hbm, ⟨30, _⟩ => ⟨S1x1024x6144, .f32⟩
  | .hbm, ⟨31, _⟩ => ⟨S1024x6144, .f32⟩
  | .hbm, ⟨32, _⟩ => ⟨S128x6144, .f32⟩
  | .hbm, ⟨33, _⟩ => ⟨S1x6144, .f32⟩
  | .hbm, ⟨34, _⟩ => ⟨S6144, .f32⟩
  | .hbm, ⟨35, _⟩ => ⟨S1x6144, .f32⟩
  | .hbm, ⟨36, _⟩ => ⟨S128x6144, .f32⟩
  | .hbm, ⟨37, _⟩ => ⟨S128x6144, .f32⟩
  | .hbm, ⟨38, _⟩ => ⟨S136x6144, .f32⟩
  | .hbm, ⟨39, _⟩ => ⟨S8x1024, .f32⟩
  | .hbm, ⟨40, _⟩ => ⟨S8x1024, .f32⟩
  | .hbm, ⟨41, _⟩ => ⟨S_, .f32⟩
  | .hbm, ⟨42, _⟩ => ⟨S8x1024, .f32⟩
  | .hbm, ⟨43, _⟩ => ⟨S8x1024, .f32⟩
  | .hbm, ⟨44, _⟩ => ⟨S_, .f32⟩
  | .hbm, ⟨45, _⟩ => ⟨S8x1024, .f32⟩
  | .hbm, ⟨46, _⟩ => ⟨S8x1024, .f32⟩
  | .hbm, ⟨47, _⟩ => ⟨S8x1024, .f32⟩
  | .hbm, ⟨48, _⟩ => ⟨S1x1024x6144, .f32⟩
  | .hbm, ⟨49, _⟩ => ⟨S1024x6144, .f32⟩
  | .hbm, ⟨50, _⟩ => ⟨S8x6144, .f32⟩
  | .hbm, ⟨51, _⟩ => ⟨S1x6144, .f32⟩
  | .hbm, ⟨52, _⟩ => ⟨S6144, .f32⟩
  | .hbm, ⟨53, _⟩ => ⟨S1x6144, .f32⟩
  | .hbm, ⟨54, _⟩ => ⟨S8x6144, .f32⟩
  | .hbm, ⟨55, _⟩ => ⟨S8x6144, .f32⟩
  | .hbm, ⟨56, _⟩ => ⟨S128x1024, .f32⟩
  | .hbm, ⟨57, _⟩ => ⟨S128x1024, .f32⟩
  | .hbm, ⟨58, _⟩ => ⟨S_, .f32⟩
  | .hbm, ⟨59, _⟩ => ⟨S128x1024, .f32⟩
  | .hbm, ⟨60, _⟩ => ⟨S128x1024, .f32⟩
  | .hbm, ⟨61, _⟩ => ⟨S_, .f32⟩
  | .hbm, ⟨62, _⟩ => ⟨S128x1024, .f32⟩
  | .hbm, ⟨63, _⟩ => ⟨S128x1024, .f32⟩
  | .hbm, ⟨64, _⟩ => ⟨S128x1024, .f32⟩
  | .hbm, ⟨65, _⟩ => ⟨S1x1024x6144, .f32⟩
  | .hbm, ⟨66, _⟩ => ⟨S1024x6144, .f32⟩
  | .hbm, ⟨67, _⟩ => ⟨S128x6144, .f32⟩
  | .hbm, ⟨68, _⟩ => ⟨S1x6144, .f32⟩
  | .hbm, ⟨69, _⟩ => ⟨S6144, .f32⟩
  | .hbm, ⟨70, _⟩ => ⟨S1x6144, .f32⟩
  | .hbm, ⟨71, _⟩ => ⟨S128x6144, .f32⟩
  | .hbm, ⟨72, _⟩ => ⟨S128x6144, .f32⟩
  | .hbm, ⟨73, _⟩ => ⟨S136x6144, .f32⟩
  | .hbm, ⟨74, _⟩ => ⟨S1x136x6144, .f32⟩
  | .hbm, ⟨75, _⟩ => ⟨S1x136x6144, .f32⟩
  | .hbm, ⟨76, _⟩ => ⟨S2x136x6144, .f32⟩
  | _, _ => ⟨S8x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_call0_v0 : Ref sig .tc := ⟨.hbm, 4, rfl⟩
abbrev main_call0_v1 : Ref sig .tc := ⟨.hbm, 5, rfl⟩
abbrev main_call0_cst : Ref sig .tc := ⟨.hbm, 6, rfl⟩
abbrev main_call0_v2 : Ref sig .tc := ⟨.hbm, 7, rfl⟩
abbrev main_call0_v3 : Ref sig .tc := ⟨.hbm, 8, rfl⟩
abbrev main_call0_cst_0 : Ref sig .tc := ⟨.hbm, 9, rfl⟩
abbrev main_call0_v4 : Ref sig .tc := ⟨.hbm, 10, rfl⟩
abbrev main_call0_v5 : Ref sig .tc := ⟨.hbm, 11, rfl⟩
abbrev main_v0 : Ref sig .tc := ⟨.hbm, 12, rfl⟩
abbrev main_v1 : Ref sig .tc := ⟨.hbm, 13, rfl⟩
abbrev main_v2 : Ref sig .tc := ⟨.hbm, 14, rfl⟩
abbrev main_v3 : Ref sig .tc := ⟨.hbm, 15, rfl⟩
abbrev main_v4 : Ref sig .tc := ⟨.hbm, 16, rfl⟩
abbrev main_v5 : Ref sig .tc := ⟨.hbm, 17, rfl⟩
abbrev main_v6 : Ref sig .tc := ⟨.hbm, 18, rfl⟩
abbrev main_v7 : Ref sig .tc := ⟨.hbm, 19, rfl⟩
abbrev main_v8 : Ref sig .tc := ⟨.hbm, 20, rfl⟩
abbrev main_call1_v0 : Ref sig .tc := ⟨.hbm, 21, rfl⟩
abbrev main_call1_v1 : Ref sig .tc := ⟨.hbm, 22, rfl⟩
abbrev main_call1_cst : Ref sig .tc := ⟨.hbm, 23, rfl⟩
abbrev main_call1_v2 : Ref sig .tc := ⟨.hbm, 24, rfl⟩
abbrev main_call1_v3 : Ref sig .tc := ⟨.hbm, 25, rfl⟩
abbrev main_call1_cst_0 : Ref sig .tc := ⟨.hbm, 26, rfl⟩
abbrev main_call1_v4 : Ref sig .tc := ⟨.hbm, 27, rfl⟩
abbrev main_call1_v5 : Ref sig .tc := ⟨.hbm, 28, rfl⟩
abbrev main_v9 : Ref sig .tc := ⟨.hbm, 29, rfl⟩
abbrev main_v10 : Ref sig .tc := ⟨.hbm, 30, rfl⟩
abbrev main_v11 : Ref sig .tc := ⟨.hbm, 31, rfl⟩
abbrev main_v12 : Ref sig .tc := ⟨.hbm, 32, rfl⟩
abbrev main_v13 : Ref sig .tc := ⟨.hbm, 33, rfl⟩
abbrev main_v14 : Ref sig .tc := ⟨.hbm, 34, rfl⟩
abbrev main_v15 : Ref sig .tc := ⟨.hbm, 35, rfl⟩
abbrev main_v16 : Ref sig .tc := ⟨.hbm, 36, rfl⟩
abbrev main_v17 : Ref sig .tc := ⟨.hbm, 37, rfl⟩
abbrev main_v18 : Ref sig .tc := ⟨.hbm, 38, rfl⟩
abbrev main_call2_v0 : Ref sig .tc := ⟨.hbm, 39, rfl⟩
abbrev main_call2_v1 : Ref sig .tc := ⟨.hbm, 40, rfl⟩
abbrev main_call2_cst : Ref sig .tc := ⟨.hbm, 41, rfl⟩
abbrev main_call2_v2 : Ref sig .tc := ⟨.hbm, 42, rfl⟩
abbrev main_call2_v3 : Ref sig .tc := ⟨.hbm, 43, rfl⟩
abbrev main_call2_cst_0 : Ref sig .tc := ⟨.hbm, 44, rfl⟩
abbrev main_call2_v4 : Ref sig .tc := ⟨.hbm, 45, rfl⟩
abbrev main_call2_v5 : Ref sig .tc := ⟨.hbm, 46, rfl⟩
abbrev main_v19 : Ref sig .tc := ⟨.hbm, 47, rfl⟩
abbrev main_v20 : Ref sig .tc := ⟨.hbm, 48, rfl⟩
abbrev main_v21 : Ref sig .tc := ⟨.hbm, 49, rfl⟩
abbrev main_v22 : Ref sig .tc := ⟨.hbm, 50, rfl⟩
abbrev main_v23 : Ref sig .tc := ⟨.hbm, 51, rfl⟩
abbrev main_v24 : Ref sig .tc := ⟨.hbm, 52, rfl⟩
abbrev main_v25 : Ref sig .tc := ⟨.hbm, 53, rfl⟩
abbrev main_v26 : Ref sig .tc := ⟨.hbm, 54, rfl⟩
abbrev main_v27 : Ref sig .tc := ⟨.hbm, 55, rfl⟩
abbrev main_call3_v0 : Ref sig .tc := ⟨.hbm, 56, rfl⟩
abbrev main_call3_v1 : Ref sig .tc := ⟨.hbm, 57, rfl⟩
abbrev main_call3_cst : Ref sig .tc := ⟨.hbm, 58, rfl⟩
abbrev main_call3_v2 : Ref sig .tc := ⟨.hbm, 59, rfl⟩
abbrev main_call3_v3 : Ref sig .tc := ⟨.hbm, 60, rfl⟩
abbrev main_call3_cst_0 : Ref sig .tc := ⟨.hbm, 61, rfl⟩
abbrev main_call3_v4 : Ref sig .tc := ⟨.hbm, 62, rfl⟩
abbrev main_call3_v5 : Ref sig .tc := ⟨.hbm, 63, rfl⟩
abbrev main_v28 : Ref sig .tc := ⟨.hbm, 64, rfl⟩
abbrev main_v29 : Ref sig .tc := ⟨.hbm, 65, rfl⟩
abbrev main_v30 : Ref sig .tc := ⟨.hbm, 66, rfl⟩
abbrev main_v31 : Ref sig .tc := ⟨.hbm, 67, rfl⟩
abbrev main_v32 : Ref sig .tc := ⟨.hbm, 68, rfl⟩
abbrev main_v33 : Ref sig .tc := ⟨.hbm, 69, rfl⟩
abbrev main_v34 : Ref sig .tc := ⟨.hbm, 70, rfl⟩
abbrev main_v35 : Ref sig .tc := ⟨.hbm, 71, rfl⟩
abbrev main_v36 : Ref sig .tc := ⟨.hbm, 72, rfl⟩
abbrev main_v37 : Ref sig .tc := ⟨.hbm, 73, rfl⟩
abbrev main_v38 : Ref sig .tc := ⟨.hbm, 74, rfl⟩
abbrev main_v39 : Ref sig .tc := ⟨.hbm, 75, rfl⟩
abbrev main_v40 : Ref sig .tc := ⟨.hbm, 76, rfl⟩

abbrev nD : Nat := 1
abbrev τ : Topo := Topo.v7x

variable {F : FTy → Type} [FloatOps F]
-- ==== Kernel4.lean ====
abbrev S512x1024 : Shape := ⟨2, ![512, 1024]⟩
abbrev S1x1024 : Shape := ⟨2, ![1, 1024]⟩
abbrev S128x6144 : Shape := ⟨2, ![128, 6144]⟩
abbrev S1024x3080 : Shape := ⟨2, ![1024, 3080]⟩
abbrev S1024x8 : Shape := ⟨2, ![1024, 8]⟩
abbrev S_ : Shape := ⟨0, ![]⟩
abbrev S1024x128 : Shape := ⟨2, ![1024, 128]⟩
abbrev S1024x256 : Shape := ⟨2, ![1024, 256]⟩
abbrev S1024x64 : Shape := ⟨2, ![1024, 64]⟩
abbrev S1024x512 : Shape := ⟨2, ![1024, 512]⟩
abbrev S4 : Shape := ⟨1, ![4]⟩
abbrev S32 : Shape := ⟨1, ![32]⟩
abbrev S4x1 : Shape := ⟨2, ![4, 1]⟩
abbrev S1x32 : Shape := ⟨2, ![1, 32]⟩
abbrev S4x32 : Shape := ⟨2, ![4, 32]⟩
abbrev S4x64 : Shape := ⟨2, ![4, 64]⟩
abbrev S1x4x1x64 : Shape := ⟨4, ![1, 4, 1, 64]⟩
abbrev S1x4x4x64 : Shape := ⟨4, ![1, 4, 4, 64]⟩
abbrev S4x256 : Shape := ⟨2, ![4, 256]⟩
abbrev S1x4x1x256 : Shape := ⟨4, ![1, 4, 1, 256]⟩
abbrev S128x4x1x256 : Shape := ⟨4, ![128, 4, 1, 256]⟩
abbrev S512x256 : Shape := ⟨2, ![512, 256]⟩
abbrev S1x512x256 : Shape := ⟨3, ![1, 512, 256]⟩
abbrev S128x4x6144 : Shape := ⟨3, ![128, 4, 6144]⟩
abbrev S512x6144 : Shape := ⟨2, ![512, 6144]⟩
abbrev S1x512x6144 : Shape := ⟨3, ![1, 512, 6144]⟩
abbrev S1024x2560 : Shape := ⟨2, ![1024, 2560]⟩
abbrev S512x512 : Shape := ⟨2, ![512, 512]⟩
abbrev S512x128 : Shape := ⟨2, ![512, 128]⟩
abbrev S1x512x1024 : Shape := ⟨3, ![1, 512, 1024]⟩
abbrev S512 : Shape := ⟨1, ![512]⟩
abbrev S512x1 : Shape := ⟨2, ![512, 1]⟩
abbrev S1024x1024 : Shape := ⟨2, ![1024, 1024]⟩

abbrev nBuf : Space → Nat
  | .hbm => 67
  | .vmem => 16
  | .smem => 0
  | _ => 0

abbrev bufTy : (tb : Table) → Fin (tcTables nBuf tb) → BufTy
  | .hbm, ⟨0, _⟩ => ⟨S512x1024, .f32⟩
  | .hbm, ⟨1, _⟩ => ⟨S1x1024, .f32⟩
  | .hbm, ⟨2, _⟩ => ⟨S128x6144, .f32⟩
  | .hbm, ⟨3, _⟩ => ⟨S1024x3080, .f32⟩
  | .hbm, ⟨4, _⟩ => ⟨S1024x8, .f32⟩
  | .hbm, ⟨5, _⟩ => ⟨S_, .i32⟩
  | .hbm, ⟨6, _⟩ => ⟨S_, .f32⟩
  | .hbm, ⟨7, _⟩ => ⟨S1024x128, .f32⟩
  | .hbm, ⟨8, _⟩ => ⟨S1024x128, .bf16⟩
  | .hbm, ⟨9, _⟩ => ⟨S1024x256, .f32⟩
  | .hbm, ⟨10, _⟩ => ⟨S1024x64, .f32⟩
  | .hbm, ⟨11, _⟩ => ⟨S1024x64, .f32⟩
  | .hbm, ⟨12, _⟩ => ⟨S1024x64, .f32⟩
  | .hbm, ⟨13, _⟩ => ⟨S1024x64, .f32⟩
  | .hbm, ⟨14, _⟩ => ⟨S1024x256, .f32⟩
  | .hbm, ⟨15, _⟩ => ⟨S1024x256, .f32⟩
  | .hbm, ⟨16, _⟩ => ⟨S1024x512, .f32⟩
  | .hbm, ⟨17, _⟩ => ⟨S4, .i32⟩
  | .hbm, ⟨18, _⟩ => ⟨S_, .i32⟩
  | .hbm, ⟨19, _⟩ => ⟨S4, .i32⟩
  | .hbm, ⟨20, _⟩ => ⟨S4, .i32⟩
  | .hbm, ⟨21, _⟩ => ⟨S32, .f32⟩
  | .hbm, ⟨22, _⟩ => ⟨S32, .f32⟩
  | .hbm, ⟨23, _⟩ => ⟨S_, .f32⟩
  | .hbm, ⟨24, _⟩ => ⟨S32, .f32⟩
  | .hbm, ⟨25, _⟩ => ⟨S32, .f32⟩
  | .hbm, ⟨26, _⟩ => ⟨S_, .f32⟩
  | .hbm, ⟨27, _⟩ => ⟨S32, .f32⟩
  | .hbm, ⟨28, _⟩ => ⟨S32, .f32⟩
  | .hbm, ⟨29, _⟩ => ⟨S4, .f32⟩
  | .hbm, ⟨30, _⟩ => ⟨S4x1, .f32⟩
  | .hbm, ⟨31, _⟩ => ⟨S1x32, .f32⟩
  | .hbm, ⟨32, _⟩ => ⟨S4x32, .f32⟩
  | .hbm, ⟨33, _⟩ => ⟨S4x32, .f32⟩
  | .hbm, ⟨34, _⟩ => ⟨S4x32, .f32⟩
  | .hbm, ⟨35, _⟩ => ⟨S4x32, .f32⟩
  | .hbm, ⟨36, _⟩ => ⟨S4x32, .f32⟩
  | .hbm, ⟨37, _⟩ => ⟨S4x64, .f32⟩
  | .hbm, ⟨38, _⟩ => ⟨S1x4x1x64, .f32⟩
  | .hbm, ⟨39, _⟩ => ⟨S1x4x4x64, .f32⟩
  | .hbm, ⟨40, _⟩ => ⟨S4x256, .f32⟩
  | .hbm, ⟨41, _⟩ => ⟨S4x32, .f32⟩
  | .hbm, ⟨42, _⟩ => ⟨S4x64, .f32⟩
  | .hbm, ⟨43, _⟩ => ⟨S1x4x1x64, .f32⟩
  | .hbm, ⟨44, _⟩ => ⟨S1x4x4x64, .f32⟩
  | .hbm, ⟨45, _⟩ => ⟨S4x256, .f32⟩
  | .hbm, ⟨46, _⟩ => ⟨S1x4x1x256, .f32⟩
  | .hbm, ⟨47, _⟩ => ⟨S128x4x1x256, .f32⟩
  | .hbm, ⟨48, _⟩ => ⟨S512x256, .f32⟩
  | .hbm, ⟨49, _⟩ => ⟨S1x512x256, .f32⟩
  | .hbm, ⟨50, _⟩ => ⟨S1x4x1x256, .f32⟩
  | .hbm, ⟨51, _⟩ => ⟨S128x4x1x256, .f32⟩
  | .hbm, ⟨52, _⟩ => ⟨S512x256, .f32⟩
  | .hbm, ⟨53, _⟩ => ⟨S1x512x256, .f32⟩
  | .hbm, ⟨54, _⟩ => ⟨S128x4x6144, .f32⟩
  | .hbm, ⟨55, _⟩ => ⟨S512x6144, .f32⟩
  | .hbm, ⟨56, _⟩ => ⟨S1x512x6144, .f32⟩
  | .hbm, ⟨57, _⟩ => ⟨S1024x2560, .f32⟩
  | .hbm, ⟨58, _⟩ => ⟨S1024x2560, .bf16⟩
  | .hbm, ⟨59, _⟩ => ⟨S1024x512, .bf16⟩
  | .hbm, ⟨60, _⟩ => ⟨S512x1024, .f32⟩
  | .hbm, ⟨61, _⟩ => ⟨S512x512, .f32⟩
  | .hbm, ⟨62, _⟩ => ⟨S512x1024, .f32⟩
  | .hbm, ⟨63, _⟩ => ⟨S512x128, .f32⟩
  | .hbm, ⟨64, _⟩ => ⟨S512x256, .f32⟩
  | .hbm, ⟨65, _⟩ => ⟨S512x128, .f32⟩
  | .hbm, ⟨66, _⟩ => ⟨S512x128, .f32⟩
  | .local _ .vmem, ⟨0, _⟩ => ⟨S512x1024, .f32⟩
  | .local _ .vmem, ⟨1, _⟩ => ⟨S1x1024, .f32⟩
  | .local _ .vmem, ⟨2, _⟩ => ⟨S1x512x1024, .f32⟩
  | .local _ .vmem, ⟨3, _⟩ => ⟨S1x512x1024, .f32⟩
  | .local _ .vmem, ⟨4, _⟩ => ⟨S1x512x256, .f32⟩
  | .local _ .vmem, ⟨5, _⟩ => ⟨S1x512x256, .f32⟩
  | .local _ .vmem, ⟨6, _⟩ => ⟨S1024x2560, .bf16⟩
  | .local _ .vmem, ⟨7, _⟩ => ⟨S1024x512, .bf16⟩
  | .local _ .vmem, ⟨8, _⟩ => ⟨S1024x128, .bf16⟩
  | .local _ .vmem, ⟨9, _⟩ => ⟨S512x1024, .f32⟩
  | .local _ .vmem, ⟨10, _⟩ => ⟨S512x512, .f32⟩
  | .local _ .vmem, ⟨11, _⟩ => ⟨S512x1024, .f32⟩
  | .local _ .vmem, ⟨12, _⟩ => ⟨S512x128, .f32⟩
  | .local _ .vmem, ⟨13, _⟩ => ⟨S512x256, .f32⟩
  | .local _ .vmem, ⟨14, _⟩ => ⟨S512x128, .f32⟩
  | .local _ .vmem, ⟨15, _⟩ => ⟨S512x128, .f32⟩
  | _, _ => ⟨S512x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | _, _ => false

abbrev semScoped : Fin 0 → Bool
  | ⟨_, h⟩ => absurd h (Nat.not_lt_zero _)

abbrev dmaSemScoped : Fin 16 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | _ => false

abbrev sig : RefSig :=
  ofTc nBuf bufTy 0 16 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_c : Ref sig .tc := ⟨.hbm, 5, rfl⟩
abbrev main_call0_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev main_v8 : Ref sig .tc := ⟨.hbm, 14, rfl⟩
abbrev main_v9 : Ref sig .tc := ⟨.hbm, 15, rfl⟩
abbrev main_v10 : Ref sig .tc := ⟨.hbm, 16, rfl⟩
abbrev main_v11 : Ref sig .tc := ⟨.hbm, 17, rfl⟩
abbrev main_c_0 : Ref sig .tc := ⟨.hbm, 18, rfl⟩
abbrev main_v12 : Ref sig .tc := ⟨.hbm, 19, rfl⟩
abbrev main_v13 : Ref sig .tc := ⟨.hbm, 20, rfl⟩
abbrev main_v14 : Ref sig .tc := ⟨.hbm, 21, rfl⟩
abbrev main_v15 : Ref sig .tc := ⟨.hbm, 22, rfl⟩
abbrev main_cst : Ref sig .tc := ⟨.hbm, 23, rfl⟩
abbrev main_v16 : Ref sig .tc := ⟨.hbm, 24, rfl⟩
abbrev main_v17 : Ref sig .tc := ⟨.hbm, 25, rfl⟩
abbrev main_cst_1 : Ref sig .tc := ⟨.hbm, 26, rfl⟩
abbrev main_v18 : Ref sig .tc := ⟨.hbm, 27, rfl⟩
abbrev main_v19 : Ref sig .tc := ⟨.hbm, 28, rfl⟩
abbrev main_v20 : Ref sig .tc := ⟨.hbm, 29, rfl⟩
abbrev main_v21 : Ref sig .tc := ⟨.hbm, 30, rfl⟩
abbrev main_v22 : Ref sig .tc := ⟨.hbm, 31, rfl⟩
abbrev main_v23 : Ref sig .tc := ⟨.hbm, 32, rfl⟩
abbrev main_v24 : Ref sig .tc := ⟨.hbm, 33, rfl⟩
abbrev main_v25 : Ref sig .tc := ⟨.hbm, 34, rfl⟩
abbrev main_v26 : Ref sig .tc := ⟨.hbm, 35, rfl⟩
abbrev main_v27 : Ref sig .tc := ⟨.hbm, 36, rfl⟩
abbrev main_v28 : Ref sig .tc := ⟨.hbm, 37, rfl⟩
abbrev main_v29 : Ref sig .tc := ⟨.hbm, 38, rfl⟩
abbrev main_v30 : Ref sig .tc := ⟨.hbm, 39, rfl⟩
abbrev main_v31 : Ref sig .tc := ⟨.hbm, 40, rfl⟩
abbrev main_v32 : Ref sig .tc := ⟨.hbm, 41, rfl⟩
abbrev main_v33 : Ref sig .tc := ⟨.hbm, 42, rfl⟩
abbrev main_v34 : Ref sig .tc := ⟨.hbm, 43, rfl⟩
abbrev main_v35 : Ref sig .tc := ⟨.hbm, 44, rfl⟩
abbrev main_v36 : Ref sig .tc := ⟨.hbm, 45, rfl⟩
abbrev main_v37 : Ref sig .tc := ⟨.hbm, 46, rfl⟩
abbrev main_v38 : Ref sig .tc := ⟨.hbm, 47, rfl⟩
abbrev main_v39 : Ref sig .tc := ⟨.hbm, 48, rfl⟩
abbrev main_v40 : Ref sig .tc := ⟨.hbm, 49, rfl⟩
abbrev main_v41 : Ref sig .tc := ⟨.hbm, 50, rfl⟩
abbrev main_v42 : Ref sig .tc := ⟨.hbm, 51, rfl⟩
abbrev main_v43 : Ref sig .tc := ⟨.hbm, 52, rfl⟩
abbrev main_v44 : Ref sig .tc := ⟨.hbm, 53, rfl⟩
abbrev main_v45 : Ref sig .tc := ⟨.hbm, 54, rfl⟩
abbrev main_v46 : Ref sig .tc := ⟨.hbm, 55, rfl⟩
abbrev main_v47 : Ref sig .tc := ⟨.hbm, 56, rfl⟩
abbrev main_v48 : Ref sig .tc := ⟨.hbm, 57, rfl⟩
abbrev main_v49 : Ref sig .tc := ⟨.hbm, 58, rfl⟩
abbrev main_v50 : Ref sig .tc := ⟨.hbm, 59, rfl⟩
abbrev main_v51_0 : Ref sig .tc := ⟨.hbm, 60, rfl⟩
abbrev main_v51_1 : Ref sig .tc := ⟨.hbm, 61, rfl⟩
abbrev main_v51_2 : Ref sig .tc := ⟨.hbm, 62, rfl⟩
abbrev main_v51_3 : Ref sig .tc := ⟨.hbm, 63, rfl⟩
abbrev main_v51_4 : Ref sig .tc := ⟨.hbm, 64, rfl⟩
abbrev main_v51_5 : Ref sig .tc := ⟨.hbm, 65, rfl⟩
abbrev main_v51_6 : Ref sig .tc := ⟨.hbm, 66, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg4_0 : Ref sig .tc := ⟨.vmem, 4, rfl⟩
abbrev cc0_stg5_0 : Ref sig .tc := ⟨.vmem, 5, rfl⟩
abbrev cc0_stg6_0 : Ref sig .tc := ⟨.vmem, 6, rfl⟩
abbrev cc0_stg7_0 : Ref sig .tc := ⟨.vmem, 7, rfl⟩
abbrev cc0_stg8_0 : Ref sig .tc := ⟨.vmem, 8, rfl⟩
abbrev cc0_stg9_0 : Ref sig .tc := ⟨.vmem, 9, rfl⟩
abbrev cc0_stg10_0 : Ref sig .tc := ⟨.vmem, 10, rfl⟩
abbrev cc0_stg11_0 : Ref sig .tc := ⟨.vmem, 11, rfl⟩
abbrev cc0_stg12_0 : Ref sig .tc := ⟨.vmem, 12, rfl⟩
abbrev cc0_stg13_0 : Ref sig .tc := ⟨.vmem, 13, rfl⟩
abbrev cc0_stg14_0 : Ref sig .tc := ⟨.vmem, 14, rfl⟩
abbrev cc0_stg15_0 : Ref sig .tc := ⟨.vmem, 15, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4
abbrev cc0_sem5_0 : DmaSem sig := 5
abbrev cc0_sem6_0 : DmaSem sig := 6
abbrev cc0_sem7_0 : DmaSem sig := 7
abbrev cc0_sem8_0 : DmaSem sig := 8
abbrev cc0_sem9_0 : DmaSem sig := 9
abbrev cc0_sem10_0 : DmaSem sig := 10
abbrev cc0_sem11_0 : DmaSem sig := 11
abbrev cc0_sem12_0 : DmaSem sig := 12
abbrev cc0_sem13_0 : DmaSem sig := 13
abbrev cc0_sem14_0 : DmaSem sig := 14
abbrev cc0_sem15_0 : DmaSem sig := 15

abbrev nD : Nat := 1
abbrev τ : Topo := Topo.v7x

variable {F : FTy → Type} [FloatOps F]

abbrev grid0 : Pipeline.Grid := ⟨1, ![1], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 3 → Nat :=
  let arg0 : BitVec 32 := BitVec.ofNat 32 (i 0).val
  let c1_i32 : BitVec 32 := 1#32
  let v0 : BitVec 32 := Scalar.divsi arg0 c1_i32
  let c0_i32 : BitVec 32 := 0#32
  let v1 : BitVec 1 := Scalar.cmpi .sgt arg0 c0_i32
  let v2 : BitVec 32 := Scalar.extui v1
  let c0_i32_0 : BitVec 32 := 0#32
  let v3 : BitVec 1 := Scalar.cmpi .slt arg0 c0_i32_0
  let v4 : BitVec 32 := Scalar.extui v3
  let v5 : BitVec 32 := Scalar.subi v2 v4
  let c0_i32_1 : BitVec 32 := 0#32
  let v6 : BitVec 1 := Scalar.cmpi .sgt c1_i32 c0_i32_1
  let v7 : BitVec 32 := Scalar.extui v6
  let c0_i32_2 : BitVec 32 := 0#32
  let v8 : BitVec 1 := Scalar.cmpi .slt c1_i32 c0_i32_2
  let v9 : BitVec 32 := Scalar.extui v8
  let v10 : BitVec 32 := Scalar.subi v7 v9
  let v11 : BitVec 1 := Scalar.cmpi .ne v5 v10
  let v12 : BitVec 32 := Scalar.remsi arg0 c1_i32
  let c0_i32_3 : BitVec 32 := 0#32
  let v13 : BitVec 1 := Scalar.cmpi .ne v12 c0_i32_3
  let v14 : BitVec 1 := Scalar.andi v11 v13
  let c1_i32_4 : BitVec 32 := 1#32
  let v15 : BitVec 32 := Scalar.subi v0 c1_i32_4
  let v16 : BitVec 32 := Scalar.select v14 v15 v0
  let c0_i32_5 : BitVec 32 := 0#32
  let c1_i32_6 : BitVec 32 := 1#32
  let c0_i32_7 : BitVec 32 := 0#32
  ![v16.toNat, c0_i32_5.toNat, c1_i32_6.toNat]

def cc0_transform_3 (i : grid0.Coords) : Fin 3 → Nat :=
  let arg0 : BitVec 32 := BitVec.ofNat 32 (i 0).val
  let c1_i32 : BitVec 32 := 1#32
  let v0 : BitVec 32 := Scalar.divsi arg0 c1_i32
  let c0_i32 : BitVec 32 := 0#32
  let v1 : BitVec 1 := Scalar.cmpi .sgt arg0 c0_i32
  let v2 : BitVec 32 := Scalar.extui v1
  let c0_i32_0 : BitVec 32 := 0#32
  let v3 : BitVec 1 := Scalar.cmpi .slt arg0 c0_i32_0
  let v4 : BitVec 32 := Scalar.extui v3
  let v5 : BitVec 32 := Scalar.subi v2 v4
  let c0_i32_1 : BitVec 32 := 0#32
  let v6 : BitVec 1 := Scalar.cmpi .sgt c1_i32 c0_i32_1
  let v7 : BitVec 32 := Scalar.extui v6
  let c0_i32_2 : BitVec 32 := 0#32
  let v8 : BitVec 1 := Scalar.cmpi .slt c1_i32 c0_i32_2
  let v9 : BitVec 32 := Scalar.extui v8
  let v10 : BitVec 32 := Scalar.subi v7 v9
  let v11 : BitVec 1 := Scalar.cmpi .ne v5 v10
  let v12 : BitVec 32 := Scalar.remsi arg0 c1_i32
  let c0_i32_3 : BitVec 32 := 0#32
  let v13 : BitVec 1 := Scalar.cmpi .ne v12 c0_i32_3
  let v14 : BitVec 1 := Scalar.andi v11 v13
  let c1_i32_4 : BitVec 32 := 1#32
  let v15 : BitVec 32 := Scalar.subi v0 c1_i32_4
  let v16 : BitVec 32 := Scalar.select v14 v15 v0
  let c0_i32_5 : BitVec 32 := 0#32
  let c0_i32_6 : BitVec 32 := 0#32
  let c0_i32_7 : BitVec 32 := 0#32
  ![v16.toNat, c0_i32_5.toNat, c0_i32_6.toNat]

def cc0_transform_4 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_5 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_9 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_10 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_11 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_12 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_13 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_14 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_15 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 1 → Memref sig .tc .vmem S512x1024 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![true]

abbrev stage0_1 : Fin 1 → Memref sig .tc .vmem S1x1024 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S1x512x1024 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![true]

abbrev stage0_3 : Fin 1 → Memref sig .tc .vmem S1x512x1024 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![true]

abbrev stage0_4 : Fin 1 → Memref sig .tc .vmem S1x512x256 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S1x512x256 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S1024x2560 .bf16 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 1 → Memref sig .tc .vmem S1024x512 .bf16 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]

abbrev stage0_8 : Fin 1 → Memref sig .tc .vmem S1024x128 .bf16 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false]

abbrev stage0_9 : Fin 1 → Memref sig .tc .vmem S512x1024 .f32 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))
abbrev reads0_9 : Fin grid0.rank → Bool := ![true]

abbrev stage0_10 : Fin 1 → Memref sig .tc .vmem S512x512 .f32 := fun | 0 => Memref.whole cc0_stg10_0 | ⟨_ + 1, h⟩ => absurd h (Nat.not_lt.2 (Nat.le_add_left _ _))
abbrev sem0_10 : Fin 1 → DmaSem sig := fun | 0 => cc0_sem10_0 | ⟨_ + 1, h⟩ => absurd h (Nat.not_lt.2 (Nat.le_add_left _ _))
abbrev reads0_10 : Fin grid0.rank → Bool := ![true]

abbrev stage0_11 : Fin 1 → Memref sig .tc .vmem S512x1024 .f32 := fun | 0 => Memref.whole cc0_stg11_0 | ⟨_ + 1, h⟩ => absurd h (Nat.not_lt.2 (Nat.le_add_left _ _))
abbrev sem0_11 : Fin 1 → DmaSem sig := fun | 0 => cc0_sem11_0 | ⟨_ + 1, h⟩ => absurd h (Nat.not_lt.2 (Nat.le_add_left _ _))
abbrev reads0_11 : Fin grid0.rank → Bool := ![true]

abbrev stage0_12 : Fin 1 → Memref sig .tc .vmem S512x128 .f32 := fun | 0 => Memref.whole cc0_stg12_0 | ⟨_ + 1, h⟩ => absurd h (Nat.not_lt.2 (Nat.le_add_left _ _))
abbrev sem0_12 : Fin 1 → DmaSem sig := fun | 0 => cc0_sem12_0 | ⟨_ + 1, h⟩ => absurd h (Nat.not_lt.2 (Nat.le_add_left _ _))
abbrev reads0_12 : Fin grid0.rank → Bool := ![true]

abbrev stage0_13 : Fin 1 → Memref sig .tc .vmem S512x256 .f32 := fun | 0 => Memref.whole cc0_stg13_0 | ⟨_ + 1, h⟩ => absurd h (Nat.not_lt.2 (Nat.le_add_left _ _))
abbrev sem0_13 : Fin 1 → DmaSem sig := fun | 0 => cc0_sem13_0 | ⟨_ + 1, h⟩ => absurd h (Nat.not_lt.2 (Nat.le_add_left _ _))
abbrev reads0_13 : Fin grid0.rank → Bool := ![true]

abbrev stage0_14 : Fin 1 → Memref sig .tc .vmem S512x128 .f32 := fun | 0 => Memref.whole cc0_stg14_0 | ⟨_ + 1, h⟩ => absurd h (Nat.not_lt.2 (Nat.le_add_left _ _))
abbrev sem0_14 : Fin 1 → DmaSem sig := fun | 0 => cc0_sem14_0 | ⟨_ + 1, h⟩ => absurd h (Nat.not_lt.2 (Nat.le_add_left _ _))
abbrev reads0_14 : Fin grid0.rank → Bool := ![true]

abbrev stage0_15 : Fin 1 → Memref sig .tc .vmem S512x128 .f32 := fun | 0 => Memref.whole cc0_stg15_0 | ⟨_ + 1, h⟩ => absurd h (Nat.not_lt.2 (Nat.le_add_left _ _))
abbrev sem0_15 : Fin 1 → DmaSem sig := fun | 0 => cc0_sem15_0 | ⟨_ + 1, h⟩ => absurd h (Nat.not_lt.2 (Nat.le_add_left _ _))
abbrev reads0_15 : Fin grid0.rank → Bool := ![true]
-- ==== Reference4Ideal.lean ====
abbrev S512x1024 : Shape := ⟨2, ![512, 1024]⟩
abbrev S1x1024 : Shape := ⟨2, ![1, 1024]⟩
abbrev S128x6144 : Shape := ⟨2, ![128, 6144]⟩
abbrev S1024x3080 : Shape := ⟨2, ![1024, 3080]⟩
abbrev S128x4x6144 : Shape := ⟨3, ![128, 4, 6144]⟩
abbrev S512x6144 : Shape := ⟨2, ![512, 6144]⟩
abbrev S_ : Shape := ⟨0, ![]⟩
abbrev S512 : Shape := ⟨1, ![512]⟩
abbrev S512x1 : Shape := ⟨2, ![512, 1]⟩
abbrev S512x3080 : Shape := ⟨2, ![512, 3080]⟩
abbrev S512x256 : Shape := ⟨2, ![512, 256]⟩
abbrev S512x512 : Shape := ⟨2, ![512, 512]⟩
abbrev S512x8 : Shape := ⟨2, ![512, 8]⟩
abbrev S512x128 : Shape := ⟨2, ![512, 128]⟩
abbrev S4 : Shape := ⟨1, ![4]⟩
abbrev S1x4 : Shape := ⟨2, ![1, 4]⟩
abbrev S128x4 : Shape := ⟨2, ![128, 4]⟩
abbrev S32 : Shape := ⟨1, ![32]⟩
abbrev S1x32 : Shape := ⟨2, ![1, 32]⟩
abbrev S512x32 : Shape := ⟨2, ![512, 32]⟩
abbrev S512x1x32 : Shape := ⟨3, ![512, 1, 32]⟩
abbrev S512x4x64 : Shape := ⟨3, ![512, 4, 64]⟩
abbrev S512x4x32 : Shape := ⟨3, ![512, 4, 32]⟩
abbrev S512x1x64 : Shape := ⟨3, ![512, 1, 64]⟩
abbrev S512x2x64 : Shape := ⟨3, ![512, 2, 64]⟩
abbrev S512x2x32 : Shape := ⟨3, ![512, 2, 32]⟩

abbrev nBuf : Space → Nat
  | .hbm => 143
  | .vmem => 0
  | .smem => 0
  | _ => 0

abbrev hbmTy0_0 (i : Nat) : BufTy := match i % 128 with
  | 0 => ⟨S512x1024, .f32⟩
  | 1 => ⟨S1x1024, .f32⟩
  | 2 => ⟨S128x6144, .f32⟩
  | 3 => ⟨S1024x3080, .f32⟩
  | 4 => ⟨S128x4x6144, .f32⟩
  | 5 => ⟨S512x6144, .f32⟩
  | 6 => ⟨S512x1024, .f32⟩
  | 7 => ⟨S512x1024, .f32⟩
  | 8 => ⟨S512x1024, .f32⟩
  | 9 => ⟨S512x1024, .f32⟩
  | 10 => ⟨S512x1024, .f32⟩
  | 11 => ⟨S512x1024, .f32⟩
  | 12 => ⟨S512x1024, .f32⟩
  | 13 => ⟨S_, .f32⟩
  | 14 => ⟨S512, .f32⟩
  | 15 => ⟨S512x1, .f32⟩
  | 16 => ⟨S_, .f32⟩
  | 17 => ⟨S512x1, .f32⟩
  | 18 => ⟨S512x1, .f32⟩
  | 19 => ⟨S_, .f32⟩
  | 20 => ⟨S512x1, .f32⟩
  | 21 => ⟨S512x1, .f32⟩
  | 22 => ⟨S512x1, .f32⟩
  | 23 => ⟨S512x1024, .f32⟩
  | 24 => ⟨S512x1024, .f32⟩
  | 25 => ⟨S512x1024, .f32⟩
  | 26 => ⟨S512x1024, .f32⟩
  | 27 => ⟨S_, .f32⟩
  | 28 => ⟨S512x1024, .f32⟩
  | 29 => ⟨S512x1024, .f32⟩
  | 30 => ⟨S512x1024, .f32⟩
  | 31 => ⟨S512x1024, .f32⟩
  | 32 => ⟨S512x3080, .f32⟩
  | 33 => ⟨S512x256, .f32⟩
  | 34 => ⟨S512x256, .f32⟩
  | 35 => ⟨S512x256, .f32⟩
  | 36 => ⟨S512x256, .f32⟩
  | 37 => ⟨S512x512, .f32⟩
  | 38 => ⟨S512x1024, .f32⟩
  | 39 => ⟨S512x8, .f32⟩
  | 40 => ⟨S512x256, .f32⟩
  | 41 => ⟨S512x128, .f32⟩
  | 42 => ⟨S512x128, .f32⟩
  | 43 => ⟨S4, .i32⟩
  | 44 => ⟨S_, .i32⟩
  | 45 => ⟨S4, .i32⟩
  | 46 => ⟨S4, .i32⟩
  | 47 => ⟨S1x4, .i32⟩
  | 48 => ⟨S128x4, .i32⟩
  | 49 => ⟨S512, .i32⟩
  | 50 => ⟨S512, .f32⟩
  | 51 => ⟨S512x1, .f32⟩
  | 52 => ⟨S32, .f32⟩
  | 53 => ⟨S32, .f32⟩
  | 54 => ⟨S_, .f32⟩
  | 55 => ⟨S32, .f32⟩
  | 56 => ⟨S32, .f32⟩
  | 57 => ⟨S_, .f32⟩
  | 58 => ⟨S32, .f32⟩
  | 59 => ⟨S32, .f32⟩
  | 60 => ⟨S1x32, .f32⟩
  | 61 => ⟨S512x32, .f32⟩
  | 62 => ⟨S512x32, .f32⟩
  | 63 => ⟨S512x32, .f32⟩
  | 64 => ⟨S512x32, .f32⟩
  | 65 => ⟨S512x1x32, .f32⟩
  | 66 => ⟨S512x32, .f32⟩
  | 67 => ⟨S512x1x32, .f32⟩
  | 68 => ⟨S512x4x64, .f32⟩
  | 69 => ⟨S512x4x32, .f32⟩
  | 70 => ⟨S512x4x32, .f32⟩
  | 71 => ⟨S512x4x32, .f32⟩
  | 72 => ⟨S512x4x32, .f32⟩
  | 73 => ⟨S512x4x32, .f32⟩
  | 74 => ⟨S512x4x32, .f32⟩
  | 75 => ⟨S512x4x32, .f32⟩
  | 76 => ⟨S512x4x32, .f32⟩
  | 77 => ⟨S512x4x32, .f32⟩
  | 78 => ⟨S512x4x32, .f32⟩
  | 79 => ⟨S512x4x32, .f32⟩
  | 80 => ⟨S512x4x32, .f32⟩
  | 81 => ⟨S512x4x64, .f32⟩
  | 82 => ⟨S512x256, .f32⟩
  | 83 => ⟨S512x4x64, .f32⟩
  | 84 => ⟨S512x4x32, .f32⟩
  | 85 => ⟨S512x4x32, .f32⟩
  | 86 => ⟨S512x4x32, .f32⟩
  | 87 => ⟨S512x4x32, .f32⟩
  | 88 => ⟨S512x4x32, .f32⟩
  | 89 => ⟨S512x4x32, .f32⟩
  | 90 => ⟨S512x4x32, .f32⟩
  | 91 => ⟨S512x4x32, .f32⟩
  | 92 => ⟨S512x4x32, .f32⟩
  | 93 => ⟨S512x4x32, .f32⟩
  | 94 => ⟨S512x4x32, .f32⟩
  | 95 => ⟨S512x4x32, .f32⟩
  | 96 => ⟨S512x4x64, .f32⟩
  | 97 => ⟨S512x256, .f32⟩
  | 98 => ⟨S_, .f32⟩
  | 99 => ⟨S512x256, .f32⟩
  | 100 => ⟨S512x256, .f32⟩
  | 101 => ⟨S512x1024, .f32⟩
  | 102 => ⟨S512x4x64, .f32⟩
  | 103 => ⟨S512x4x32, .f32⟩
  | 104 => ⟨S512x4x32, .f32⟩
  | 105 => ⟨S512x4x32, .f32⟩
  | 106 => ⟨S512x4x32, .f32⟩
  | 107 => ⟨S512x4x32, .f32⟩
  | 108 => ⟨S512x4x32, .f32⟩
  | 109 => ⟨S512x4x32, .f32⟩
  | 110 => ⟨S512x4x32, .f32⟩
  | 111 => ⟨S512x4x32, .f32⟩
  | 112 => ⟨S512x4x32, .f32⟩
  | 113 => ⟨S512x4x32, .f32⟩
  | 114 => ⟨S512x4x32, .f32⟩
  | 115 => ⟨S512x4x64, .f32⟩
  | 116 => ⟨S_, .f32⟩
  | 117 => ⟨S512x4x64, .f32⟩
  | 118 => ⟨S512x4x64, .f32⟩
  | 119 => ⟨S512x1x64, .f32⟩
  | 120 => ⟨S512x1x64, .f32⟩
  | 121 => ⟨S512x1x64, .f32⟩
  | 122 => ⟨S512x1x64, .f32⟩
  | 123 => ⟨S512x4x64, .f32⟩
  | 124 => ⟨S512x256, .f32⟩
  | 125 => ⟨S_, .i32⟩
  | 126 => ⟨S_, .f32⟩
  | 127 => ⟨S512x128, .f32⟩
  | _ => ⟨S512x1024, .f32⟩

abbrev hbmTy0_1 (i : Nat) : BufTy := match i % 128 with
  | 0 => ⟨S512x2x64, .f32⟩
  | 1 => ⟨S512x2x32, .f32⟩
  | 2 => ⟨S512x2x32, .f32⟩
  | 3 => ⟨S512x2x32, .f32⟩
  | 4 => ⟨S512x2x32, .f32⟩
  | 5 => ⟨S512x2x32, .f32⟩
  | 6 => ⟨S512x2x32, .f32⟩
  | 7 => ⟨S512x2x32, .f32⟩
  | 8 => ⟨S512x2x32, .f32⟩
  | 9 => ⟨S512x2x32, .f32⟩
  | 10 => ⟨S512x2x32, .f32⟩
  | 11 => ⟨S512x2x32, .f32⟩
  | 12 => ⟨S512x2x32, .f32⟩
  | 13 => ⟨S512x2x64, .f32⟩
  | 14 => ⟨S512x128, .f32⟩
  | _ => ⟨S512x1024, .f32⟩

abbrev hbmTy (i : Nat) : BufTy := match i / 128 with
  | 0 => hbmTy0_0 i
  | 1 => hbmTy0_1 i
  | _ => ⟨S512x1024, .f32⟩

abbrev bufTy : (tb : Table) → Fin (tcTables nBuf tb) → BufTy
  | .hbm, ⟨i, _⟩ => hbmTy i
  | _, _ => ⟨S512x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_v6 : Ref sig .tc := ⟨.hbm, 10, rfl⟩
abbrev main_v7 : Ref sig .tc := ⟨.hbm, 11, rfl⟩
abbrev main_v8 : Ref sig .tc := ⟨.hbm, 12, rfl⟩
abbrev main_cst : Ref sig .tc := ⟨.hbm, 13, rfl⟩
abbrev main_v9 : Ref sig .tc := ⟨.hbm, 14, rfl⟩
abbrev main_v10 : Ref sig .tc := ⟨.hbm, 15, rfl⟩
abbrev main_cst_0 : Ref sig .tc := ⟨.hbm, 16, rfl⟩
abbrev main_v11 : Ref sig .tc := ⟨.hbm, 17, rfl⟩
abbrev main_v12 : Ref sig .tc := ⟨.hbm, 18, rfl⟩
abbrev main_cst_1 : Ref sig .tc := ⟨.hbm, 19, rfl⟩
abbrev main_v13 : Ref sig .tc := ⟨.hbm, 20, rfl⟩
abbrev main_v14 : Ref sig .tc := ⟨.hbm, 21, rfl⟩
abbrev main_v15 : Ref sig .tc := ⟨.hbm, 22, rfl⟩
abbrev main_v16 : Ref sig .tc := ⟨.hbm, 23, rfl⟩
abbrev main_v17 : Ref sig .tc := ⟨.hbm, 24, rfl⟩
abbrev main_v18 : Ref sig .tc := ⟨.hbm, 25, rfl⟩
abbrev main_v19 : Ref sig .tc := ⟨.hbm, 26, rfl⟩
abbrev main_cst_2 : Ref sig .tc := ⟨.hbm, 27, rfl⟩
abbrev main_v20 : Ref sig .tc := ⟨.hbm, 28, rfl⟩
abbrev main_v21 : Ref sig .tc := ⟨.hbm, 29, rfl⟩
abbrev main_v22 : Ref sig .tc := ⟨.hbm, 30, rfl⟩
abbrev main_v23 : Ref sig .tc := ⟨.hbm, 31, rfl⟩
abbrev main_v24 : Ref sig .tc := ⟨.hbm, 32, rfl⟩
abbrev main_v25 : Ref sig .tc := ⟨.hbm, 33, rfl⟩
abbrev main_v26 : Ref sig .tc := ⟨.hbm, 34, rfl⟩
abbrev main_v27 : Ref sig .tc := ⟨.hbm, 35, rfl⟩
abbrev main_v28 : Ref sig .tc := ⟨.hbm, 36, rfl⟩
abbrev main_v29 : Ref sig .tc := ⟨.hbm, 37, rfl⟩
abbrev main_v30 : Ref sig .tc := ⟨.hbm, 38, rfl⟩
abbrev main_v31 : Ref sig .tc := ⟨.hbm, 39, rfl⟩
abbrev main_v32 : Ref sig .tc := ⟨.hbm, 40, rfl⟩
abbrev main_v33 : Ref sig .tc := ⟨.hbm, 41, rfl⟩
abbrev main_v34 : Ref sig .tc := ⟨.hbm, 42, rfl⟩
abbrev main_v35 : Ref sig .tc := ⟨.hbm, 43, rfl⟩
abbrev main_c : Ref sig .tc := ⟨.hbm, 44, rfl⟩
abbrev main_v36 : Ref sig .tc := ⟨.hbm, 45, rfl⟩
abbrev main_v37 : Ref sig .tc := ⟨.hbm, 46, rfl⟩
abbrev main_v38 : Ref sig .tc := ⟨.hbm, 47, rfl⟩
abbrev main_v39 : Ref sig .tc := ⟨.hbm, 48, rfl⟩
abbrev main_v40 : Ref sig .tc := ⟨.hbm, 49, rfl⟩
abbrev main_v41 : Ref sig .tc := ⟨.hbm, 50, rfl⟩
abbrev main_v42 : Ref sig .tc := ⟨.hbm, 51, rfl⟩
abbrev main_v43 : Ref sig .tc := ⟨.hbm, 52, rfl⟩
abbrev main_v44 : Ref sig .tc := ⟨.hbm, 53, rfl⟩
abbrev main_cst_3 : Ref sig .tc := ⟨.hbm, 54, rfl⟩
abbrev main_v45 : Ref sig .tc := ⟨.hbm, 55, rfl⟩
abbrev main_v46 : Ref sig .tc := ⟨.hbm, 56, rfl⟩
abbrev main_cst_4 : Ref sig .tc := ⟨.hbm, 57, rfl⟩
abbrev main_v47 : Ref sig .tc := ⟨.hbm, 58, rfl⟩
abbrev main_v48 : Ref sig .tc := ⟨.hbm, 59, rfl⟩
abbrev main_v49 : Ref sig .tc := ⟨.hbm, 60, rfl⟩
abbrev main_v50 : Ref sig .tc := ⟨.hbm, 61, rfl⟩
abbrev main_v51 : Ref sig .tc := ⟨.hbm, 62, rfl⟩
abbrev main_v52 : Ref sig .tc := ⟨.hbm, 63, rfl⟩
abbrev main_v53 : Ref sig .tc := ⟨.hbm, 64, rfl⟩
abbrev main_v54 : Ref sig .tc := ⟨.hbm, 65, rfl⟩
abbrev main_v55 : Ref sig .tc := ⟨.hbm, 66, rfl⟩
abbrev main_v56 : Ref sig .tc := ⟨.hbm, 67, rfl⟩
abbrev main_v57 : Ref sig .tc := ⟨.hbm, 68, rfl⟩
abbrev main_v58 : Ref sig .tc := ⟨.hbm, 69, rfl⟩
abbrev main_v59 : Ref sig .tc := ⟨.hbm, 70, rfl⟩
abbrev main_v60 : Ref sig .tc := ⟨.hbm, 71, rfl⟩
abbrev main_v61 : Ref sig .tc := ⟨.hbm, 72, rfl⟩
abbrev main_v62 : Ref sig .tc := ⟨.hbm, 73, rfl⟩
abbrev main_v63 : Ref sig .tc := ⟨.hbm, 74, rfl⟩
abbrev main_v64 : Ref sig .tc := ⟨.hbm, 75, rfl⟩
abbrev main_v65 : Ref sig .tc := ⟨.hbm, 76, rfl⟩
abbrev main_v66 : Ref sig .tc := ⟨.hbm, 77, rfl⟩
abbrev main_v67 : Ref sig .tc := ⟨.hbm, 78, rfl⟩
abbrev main_v68 : Ref sig .tc := ⟨.hbm, 79, rfl⟩
abbrev main_v69 : Ref sig .tc := ⟨.hbm, 80, rfl⟩
abbrev main_v70 : Ref sig .tc := ⟨.hbm, 81, rfl⟩
abbrev main_v71 : Ref sig .tc := ⟨.hbm, 82, rfl⟩
abbrev main_v72 : Ref sig .tc := ⟨.hbm, 83, rfl⟩
abbrev main_v73 : Ref sig .tc := ⟨.hbm, 84, rfl⟩
abbrev main_v74 : Ref sig .tc := ⟨.hbm, 85, rfl⟩
abbrev main_v75 : Ref sig .tc := ⟨.hbm, 86, rfl⟩
abbrev main_v76 : Ref sig .tc := ⟨.hbm, 87, rfl⟩
abbrev main_v77 : Ref sig .tc := ⟨.hbm, 88, rfl⟩
abbrev main_v78 : Ref sig .tc := ⟨.hbm, 89, rfl⟩
abbrev main_v79 : Ref sig .tc := ⟨.hbm, 90, rfl⟩
abbrev main_v80 : Ref sig .tc := ⟨.hbm, 91, rfl⟩
abbrev main_v81 : Ref sig .tc := ⟨.hbm, 92, rfl⟩
abbrev main_v82 : Ref sig .tc := ⟨.hbm, 93, rfl⟩
abbrev main_v83 : Ref sig .tc := ⟨.hbm, 94, rfl⟩
abbrev main_v84 : Ref sig .tc := ⟨.hbm, 95, rfl⟩
abbrev main_v85 : Ref sig .tc := ⟨.hbm, 96, rfl⟩
abbrev main_v86 : Ref sig .tc := ⟨.hbm, 97, rfl⟩
abbrev main_cst_5 : Ref sig .tc := ⟨.hbm, 98, rfl⟩
abbrev main_v87 : Ref sig .tc := ⟨.hbm, 99, rfl⟩
abbrev main_v88 : Ref sig .tc := ⟨.hbm, 100, rfl⟩
abbrev main_v89 : Ref sig .tc := ⟨.hbm, 101, rfl⟩
abbrev main_v90 : Ref sig .tc := ⟨.hbm, 102, rfl⟩
abbrev main_v91 : Ref sig .tc := ⟨.hbm, 103, rfl⟩
abbrev main_v92 : Ref sig .tc := ⟨.hbm, 104, rfl⟩
abbrev main_v93 : Ref sig .tc := ⟨.hbm, 105, rfl⟩
abbrev main_v94 : Ref sig .tc := ⟨.hbm, 106, rfl⟩
abbrev main_v95 : Ref sig .tc := ⟨.hbm, 107, rfl⟩
abbrev main_v96 : Ref sig .tc := ⟨.hbm, 108, rfl⟩
abbrev main_v97 : Ref sig .tc := ⟨.hbm, 109, rfl⟩
abbrev main_v98 : Ref sig .tc := ⟨.hbm, 110, rfl⟩
abbrev main_v99 : Ref sig .tc := ⟨.hbm, 111, rfl⟩
abbrev main_v100 : Ref sig .tc := ⟨.hbm, 112, rfl⟩
abbrev main_v101 : Ref sig .tc := ⟨.hbm, 113, rfl⟩
abbrev main_v102 : Ref sig .tc := ⟨.hbm, 114, rfl⟩
abbrev main_v103 : Ref sig .tc := ⟨.hbm, 115, rfl⟩
abbrev main_cst_6 : Ref sig .tc := ⟨.hbm, 116, rfl⟩
abbrev main_v104 : Ref sig .tc := ⟨.hbm, 117, rfl⟩
abbrev main_v105 : Ref sig .tc := ⟨.hbm, 118, rfl⟩
abbrev main_v106 : Ref sig .tc := ⟨.hbm, 119, rfl⟩
abbrev main_v107 : Ref sig .tc := ⟨.hbm, 120, rfl⟩
abbrev main_v108 : Ref sig .tc := ⟨.hbm, 121, rfl⟩
abbrev main_v109 : Ref sig .tc := ⟨.hbm, 122, rfl⟩
abbrev main_v110 : Ref sig .tc := ⟨.hbm, 123, rfl⟩
abbrev main_v111 : Ref sig .tc := ⟨.hbm, 124, rfl⟩
abbrev main_c_7 : Ref sig .tc := ⟨.hbm, 125, rfl⟩
abbrev main_call0_v0 : Ref sig .tc := ⟨.hbm, 126, rfl⟩
abbrev main_v112 : Ref sig .tc := ⟨.hbm, 127, rfl⟩
abbrev main_v113 : Ref sig .tc := ⟨.hbm, 128, rfl⟩
abbrev main_v114 : Ref sig .tc := ⟨.hbm, 129, rfl⟩
abbrev main_v115 : Ref sig .tc := ⟨.hbm, 130, rfl⟩
abbrev main_v116 : Ref sig .tc := ⟨.hbm, 131, rfl⟩
abbrev main_v117 : Ref sig .tc := ⟨.hbm, 132, rfl⟩
abbrev main_v118 : Ref sig .tc := ⟨.hbm, 133, rfl⟩
abbrev main_v119 : Ref sig .tc := ⟨.hbm, 134, rfl⟩
abbrev main_v120 : Ref sig .tc := ⟨.hbm, 135, rfl⟩
abbrev main_v121 : Ref sig .tc := ⟨.hbm, 136, rfl⟩
abbrev main_v122 : Ref sig .tc := ⟨.hbm, 137, rfl⟩
abbrev main_v123 : Ref sig .tc := ⟨.hbm, 138, rfl⟩
abbrev main_v124 : Ref sig .tc := ⟨.hbm, 139, rfl⟩
abbrev main_v125 : Ref sig .tc := ⟨.hbm, 140, rfl⟩
abbrev main_v126 : Ref sig .tc := ⟨.hbm, 141, rfl⟩
abbrev main_v127 : Ref sig .tc := ⟨.hbm, 142, rfl⟩

abbrev nD : Nat := 1
abbrev τ : Topo := Topo.v7x

variable {F : FTy → Type} [FloatOps F]
-- ==== Proof.Routing.lean ====
module

public import Idealize.ShloMosaic.Lib.SortPrefix
public import Idealize.ShloMosaic.Lib.Pointwise

@[expose] public section

noncomputable section

namespace Cert.OutMoe

open Idealize.ShloMosaic

/-! # Choosing the greatest entries of a row, ties to the smaller position -/

variable {n : Nat}

/-- Position `k` comes before position `k'` in the descending order of `v`: it holds a greater value, or the same
    value and it is the smaller position. -/
def ahead (v : Fin n → EReal) (k k' : Fin n) : Bool :=
  decide (v k' < v k) || (decide (v k = v k') && decide (k < k'))

/-- The descending order with ties to the smaller position is a strict total order. -/
theorem ahead_total (v : Fin n → EReal) : StrictTotalBefore (ahead v) :=
  StrictTotalBefore.of_key_then_position (fun a b : EReal => decide (b < a)) v (by simp)
    (fun a b c h h' => by
      simp only [decide_eq_true_eq] at h h' ⊢
      exact h'.trans h)
    (fun a b => by
      simp only [decide_eq_true_eq]
      rcases lt_trichotomy a b with h | h | h
      · exact Or.inr (Or.inr h)
      · exact Or.inr (Or.inl h)
      · exact Or.inl h)

/-- A stable sort by "greater" alone of an increasing list of positions is the sort by the order with ties settled. -/
theorem stableSort_gt (v : Fin n → EReal) (l : List (Fin n)) (hl : l.Pairwise (· < ·)) :
    stableSort (fun k k' => decide (v k' < v k)) l = stableSort (ahead v) l := by
  induction l with
  | nil => rfl
  | cons a l ih =>
    rw [List.pairwise_cons] at hl
    unfold stableSort
    rw [ih hl.2]
    refine insertBefore_congr _ _ a _ fun b hb => ?_
    have hb' : b ∈ l := (perm_stableSort (ahead v) l).mem_iff.mp hb
    have hab : a < b := hl.1 b hb'
    simp [ahead, not_lt.mpr hab.le]

/-- The position that a stable sort by "greater" alone puts at place `k`, in the order with ties settled. -/
theorem sortedFrom_gt (v : Fin n → EReal) :
    sortedFrom (fun k k' => decide (v k' < v k)) = sortedFrom (ahead v) := by
  have h : sortPositions n (fun k k' => decide (v k' < v k)) = sortPositions n (ahead v) :=
    stableSort_gt v _ (List.pairwise_lt_finRange n)
  funext k
  unfold sortedFrom
  rw [List.get_of_eq h]
  rfl

/-- `i` holds the greatest value and `j` the second greatest, ties to the smaller position. -/
structure TopTwo (v : Fin n → EReal) (i j : Fin n) : Prop where
  first : ahead v i j = true
  rest : ∀ p, p ≠ i → p ≠ j → ahead v j p = true

/-- `i` holds the greatest value, ties to the smaller position. -/
def TopOne (v : Fin n → EReal) (i : Fin n) : Prop := ∀ p, p ≠ i → ahead v i p = true

theorem TopTwo.ne {v : Fin n → EReal} {i j : Fin n} (h : TopTwo v i j) : i ≠ j := fun e => by
  have := h.first
  rw [e, (ahead_total v).irrefl j] at this
  exact absurd this (by decide)

/-- The first of the two comes before every other position. -/
theorem TopTwo.one {v : Fin n → EReal} {i j : Fin n} (h : TopTwo v i j) : TopOne v i := fun p hp => by
  by_cases e : p = j
  · exact e ▸ h.first
  · exact (ahead_total v).trans i j p h.first (h.rest p hp e)

/-- The first two positions of the sort are the two greatest. -/
theorem TopTwo.sorted {v : Fin n → EReal} {i j : Fin n} (h : TopTwo v i j) (hn : 2 ≤ n) :
    sortedFrom (fun k k' => decide (v k' < v k)) ⟨0, by omega⟩ = i ∧
      sortedFrom (fun k k' => decide (v k' < v k)) ⟨1, by omega⟩ = j := by
  rw [sortedFrom_gt]
  have hB := ahead_total v
  have key := hB.sortedFrom_eq_of_prefix hn ![i, j]
    (by
      intro a b hab
      fin_cases a <;> fin_cases b <;> first | rfl | exact absurd hab h.ne | exact absurd hab.symm h.ne)
    (by
      intro a b hab
      fin_cases a <;> fin_cases b <;> first | exact absurd hab (by decide) | exact hB.asymm _ _ h.first)
    (by
      intro a p hp
      have h0 : p ≠ i := fun e => hp 0 e.symm
      have h1 : p ≠ j := fun e => hp 1 e.symm
      fin_cases a
      · exact hB.asymm _ _ (h.one p h0)
      · exact hB.asymm _ _ (h.rest p h0 h1))
  exact ⟨key 0, key 1⟩

/-- The first position of the sort is the greatest. -/
theorem TopOne.sorted {v : Fin n → EReal} {i : Fin n} (h : TopOne v i) (hn : 1 ≤ n) :
    sortedFrom (fun k k' => decide (v k' < v k)) ⟨0, by omega⟩ = i := by
  rw [sortedFrom_gt]
  have hB := ahead_total v
  exact hB.sortedFrom_eq_of_prefix hn ![i]
    (fun a b _ => Subsingleton.elim a b)
    (fun a b hab => absurd hab (by have := a.isLt; have := b.isLt; omega))
    (by
      intro a p hp
      fin_cases a
      exact hB.asymm _ _ (h p fun e => hp 0 e.symm)) 0

/-- What a stable sort leaves is ordered: an earlier place holds a position that comes before the later place's. -/
theorem ahead_sortedFrom (v : Fin n → EReal) {a b : Fin n} (h : a < b) :
    ahead v (sortedFrom (ahead v) a) (sortedFrom (ahead v) b) = true := by
  have hB := ahead_total v
  have hs := hB.sorted_stableSort (List.finRange n)
  have h1 : ahead v (sortedFrom (ahead v) b) (sortedFrom (ahead v) a) = false := by
    refine List.pairwise_iff_get.mp hs _ _ ?_
    exact h
  rcases hB.total (sortedFrom (ahead v) a) (sortedFrom (ahead v) b)
    (fun e => h.ne (sortedFrom_injective _ e)) with h' | h'
  · exact h'
  · rw [h1] at h'; exact absurd h' (by decide)

/-- A row of at least two entries has its two greatest. -/
theorem exists_topTwo (v : Fin n → EReal) (hn : 2 ≤ n) : ∃ i j, TopTwo v i j := by
  refine ⟨sortedFrom (ahead v) ⟨0, by omega⟩, sortedFrom (ahead v) ⟨1, by omega⟩, ahead_sortedFrom v (by simp), ?_⟩
  intro p h0 h1
  obtain ⟨q, rfl⟩ := sortedFrom_surjective (ahead v) p
  refine ahead_sortedFrom v ?_
  have a0 : q.val ≠ 0 := fun e => h0 (congrArg _ (Fin.ext e))
  have a1 : q.val ≠ 1 := fun e => h1 (congrArg _ (Fin.ext e))
  rw [Fin.lt_def]
  show 1 < q.val
  omega

/-- A row of at least one entry has its greatest. -/
theorem exists_topOne (v : Fin n → EReal) (hn : 1 ≤ n) : ∃ i, TopOne v i := by
  refine ⟨sortedFrom (ahead v) ⟨0, by omega⟩, ?_⟩
  intro p h0
  obtain ⟨q, rfl⟩ := sortedFrom_surjective (ahead v) p
  refine ahead_sortedFrom v ?_
  have a0 : q.val ≠ 0 := fun e => h0 (congrArg _ (Fin.ext e))
  rw [Fin.lt_def]
  show 0 < q.val
  omega

theorem le_of_ahead {v : Fin n → EReal} {i j : Fin n} (h : ahead v i j = true) : v j ≤ v i := by
  simp only [ahead, Bool.or_eq_true, Bool.and_eq_true, decide_eq_true_eq] at h
  rcases h with h | h
  · exact h.le
  · exact h.1.ge

/-- For an earlier position, coming before means a value at least as great. -/
theorem ahead_of_lt (v : Fin n → EReal) {j k : Fin n} (h : j < k) : ahead v j k = decide (v k ≤ v j) := by
  rw [ahead, Bool.eq_iff_iff]
  simp only [Bool.or_eq_true, Bool.and_eq_true, decide_eq_true_eq, h, and_true]
  rw [le_iff_lt_or_eq]
  exact or_congr Iff.rfl eq_comm

/-- For a later position, coming before means a greater value. -/
theorem ahead_of_gt (v : Fin n → EReal) {j k : Fin n} (h : k < j) : ahead v j k = decide (v k < v j) := by
  rw [ahead, Bool.eq_iff_iff]
  simp [not_lt.mpr h.le]

/-! ## Four members of a group -/

/-- The sum of the two greatest of four, by a network of maxima and minima. -/
theorem topTwo_sum (v : Fin 4 → EReal) {i j : Fin 4} (h : TopTwo v i j) :
    max (max (v 0) (v 1)) (max (v 2) (v 3))
        + max (min (max (v 0) (v 1)) (max (v 2) (v 3))) (max (min (v 0) (v 1)) (min (v 2) (v 3)))
      = v i + v j := by
  have hij := le_of_ahead h.first
  have hr : ∀ p, p ≠ i → p ≠ j → v p ≤ v j := fun p h1 h2 => le_of_ahead (h.rest p h1 h2)
  have hi : ∀ p, v p ≤ v i := fun p => by
    by_cases e : p = i
    · exact e ▸ le_rfl
    · exact le_of_ahead (h.one p e)
  have hne := h.ne
  have i0 := hi 0
  have i1 := hi 1
  have i2 := hi 2
  have i3 := hi 3
  have j0 := hr 0
  have j1 := hr 1
  have j2 := hr 2
  have j3 := hr 3
  clear hi hr h
  refine congrArg₂ (· + ·) (le_antisymm ?_ ?_) (le_antisymm ?_ ?_)
  all_goals
    fin_cases i <;> fin_cases j <;>
      first
      | exact absurd rfl hne
      | simp_all [max_le_iff, le_max_iff, min_le_iff, le_min_iff]

/-- A member's rank, counted as a word, is below two just where at most one of the three bits is set. -/
theorem rank_word (a b c : Bool) :
    IntOp.cmpi .slt (IntOp.addi (IntOp.addi (IntOp.addi (0#32) (BitVec.setWidth 32 (BitVec.ofBool a)))
        (BitVec.setWidth 32 (BitVec.ofBool b))) (BitVec.setWidth 32 (BitVec.ofBool c))) 2#32
      = BitVec.ofBool (!(a && b || a && c || b && c)) := by
  revert a b c
  decide

/-- The bit that fewer than two of the other three members come before member `k`: `k` is one of the two greatest. -/
theorem rank_bit (v : Fin 4 → EReal) {i j : Fin 4} (h : TopTwo v i j) (k p q r : Fin 4)
    (hp : p ≠ k) (hq : q ≠ k) (hr : r ≠ k) (hpq : p ≠ q) (hpr : p ≠ r) (hqr : q ≠ r) :
    (!(ahead v p k && ahead v q k || ahead v p k && ahead v r k || ahead v q k && ahead v r k))
      = decide (k = i ∨ k = j) := by
  have hB := ahead_total v
  have hne := h.ne
  have t1 : ∀ p, p ≠ i → ahead v i p = true := h.one
  have f1 : ∀ p, p ≠ i → ahead v p i = false := fun p hp => hB.asymm _ _ (h.one p hp)
  have t2 : ∀ p, p ≠ i → p ≠ j → ahead v j p = true := h.rest
  have f2 : ∀ p, p ≠ i → p ≠ j → ahead v p j = false := fun p h1 h2 => hB.asymm _ _ (h.rest p h1 h2)
  by_cases hki : k = i
  · subst hki
    rw [f1 p hp, f1 q hq, f1 r hr]
    simp
  by_cases hkj : k = j
  · subst hkj
    by_cases e : p = i
    · subst e
      rw [f2 q (Ne.symm hpq) hq, f2 r (Ne.symm hpr) hr]
      simp
    by_cases e' : q = i
    · subst e'
      rw [f2 p hpq hp, f2 r (Ne.symm hqr) hr]
      simp
    · rw [f2 p e hp, f2 q e' hq]
      simp
  · have hi := t1 k hki
    have hj := t2 k hki hkj
    have hd : decide (k = i ∨ k = j) = false := by simp [hki, hkj]
    rw [hd]
    have cover : ∀ x y z w a : Fin 4, x ≠ w → y ≠ w → z ≠ w → x ≠ y → x ≠ z → y ≠ z → w ≠ a → a = x ∨ a = y ∨ a = z := by
      decide
    rcases cover p q r k i hp hq hr hpq hpr hqr hki with e | e | e <;>
      rcases cover p q r k j hp hq hr hpq hpr hqr hkj with e' | e' | e' <;>
        first
        | exact absurd (e.trans e'.symm) hne
        | (rw [← e, ← e', hi, hj]; simp)

/-! ## The smallest lane that attains the greatest value -/

/-- The signed minimum of words keeps a lower bound. -/
theorem le_minsi {m a b : BitVec 32} (ha : m.toInt ≤ a.toInt) (hb : m.toInt ≤ b.toInt) :
    m.toInt ≤ (IntOp.minsi a b).toInt := by
  unfold IntOp.minsi
  split_ifs <;> assumption

theorem minsi_le_left (a b : BitVec 32) : (IntOp.minsi a b).toInt ≤ a.toInt := by
  unfold IntOp.minsi
  split_ifs with h
  · exact le_rfl
  · simp only [BitVec.slt, decide_eq_true_eq, not_lt] at h
    exact h

theorem minsi_le_right (a b : BitVec 32) : (IntOp.minsi a b).toInt ≤ b.toInt := by
  unfold IntOp.minsi
  split_ifs with h
  · simp only [BitVec.slt, decide_eq_true_eq] at h
    exact h.le
  · exact le_rfl

/-- The signed minimum over a finite set is the entry that is attained and bounds every other. -/
theorem fold_minsi_eq {ι : Type} (s : Finset ι) (f : ι → BitVec 32) (m : BitVec 32) (hm : m.toInt ≤ 2147483647)
    (hle : ∀ x ∈ s, m.toInt ≤ (f x).toInt) {y : ι} (hy : y ∈ s) (hfy : f y = m) :
    Finset.fold IntOp.minsi (2147483647#32) f s = m := by
  classical
  have h1 : ∀ t : Finset ι, t ⊆ s → m.toInt ≤ (Finset.fold IntOp.minsi (2147483647#32) f t).toInt := by
    intro t
    induction t using Finset.induction with
    | empty => intro _; rw [Finset.fold_empty]; exact hm
    | insert a t ha ih =>
      intro hs
      rw [Finset.fold_insert ha]
      exact le_minsi (hle a (hs (Finset.mem_insert_self a t))) (ih fun x hx => hs (Finset.mem_insert_of_mem hx))
  have h2 : ∀ t : Finset ι, y ∈ t → (Finset.fold IntOp.minsi (2147483647#32) f t).toInt ≤ (f y).toInt := by
    intro t
    induction t using Finset.induction with
    | empty => intro h; exact absurd h (Finset.notMem_empty y)
    | insert a t ha ih =>
      intro hs
      rw [Finset.fold_insert ha]
      rcases Finset.mem_insert.mp hs with e | e
      · subst e; exact minsi_le_left _ _
      · exact (minsi_le_right _ _).trans (ih e)
  have h3 := h2 s hy
  rw [hfy] at h3
  exact BitVec.toInt_inj.mp (le_antisymm h3 (h1 s (Finset.Subset.refl s)))

/-- The greatest of a finite family, started from minus infinity, is the entry that bounds every other. -/
theorem fold_max_eq {ι : Type} (s : Finset ι) (f : ι → EReal) {y : ι} (hy : y ∈ s) (hle : ∀ x ∈ s, f x ≤ f y) :
    Finset.fold max ⊥ f s = f y :=
  le_antisymm (Finset.fold_max_le _ |>.mpr ⟨bot_le, hle⟩) (Finset.le_fold_max _ |>.mpr (Or.inr ⟨y, hy, le_rfl⟩))

/-- Of 128 lanes of which the first four hold `w` and the others minus infinity, the smallest lane that attains the
    greatest value is the best of the four. -/
theorem best_lane (w : Fin 4 → EReal) {g : Fin 4} (h : TopOne w g) (f : Fin 128 → EReal)
    (hlo : ∀ (x : Fin 128) (hx : x.val < 4), f x = w ⟨x.val, hx⟩) (hhi : ∀ x : Fin 128, 4 ≤ x.val → f x = ⊥) :
    Finset.fold IntOp.minsi (2147483647#32)
        (fun x : Fin 128 => if f x = Finset.fold max ⊥ f Finset.univ then BitVec.ofNat 32 x.val else 128#32)
        Finset.univ = BitVec.ofNat 32 g.val := by
  have hg : f ⟨g.val, by omega⟩ = w g := hlo ⟨g.val, by omega⟩ g.isLt
  have hmax : Finset.fold max ⊥ f Finset.univ = w g := by
    rw [← hg]
    refine fold_max_eq _ f (Finset.mem_univ _) fun x _ => ?_
    rw [hg]
    by_cases hx : x.val < 4
    · rw [hlo x hx]
      by_cases e : (⟨x.val, hx⟩ : Fin 4) = g
      · rw [e]
      · exact le_of_ahead (h _ e)
    · rw [hhi x (by omega)]
      exact bot_le
  rw [hmax]
  have hw : ∀ a : Nat, a ≤ 128 → (BitVec.ofNat 32 a).toInt = a := fun a ha => by
    rw [BitVec.toInt_eq_toNat_cond, BitVec.toNat_ofNat, Nat.mod_eq_of_lt (by omega : a < 2 ^ 32), if_pos (by omega)]
  refine fold_minsi_eq _ _ _ (by rw [hw g.val (by omega)]; omega) (fun x _ => ?_)
    (Finset.mem_univ (⟨g.val, by omega⟩ : Fin 128)) (by rw [hg, if_pos rfl])
  split_ifs with hx
  · rw [hw g.val (by omega), hw x.val (by omega)]
    by_contra hlt
    have hxg : x.val < g.val := by omega
    have hx4 : x.val < 4 := by omega
    rw [hlo x hx4] at hx
    have ha := h ⟨x.val, hx4⟩ (by intro e; rw [← e] at hxg; exact lt_irrefl _ hxg)
    rw [ahead_of_gt w (show (⟨x.val, hx4⟩ : Fin 4) < g from hxg), decide_eq_true_eq, hx] at ha
    exact lt_irrefl _ ha
  · rw [hw g.val (by omega)]
    have := hw 128 le_rfl
    have hgl := g.isLt
    rw [show (128#32 : BitVec 32) = BitVec.ofNat 32 128 from rfl, this]
    omega

end Cert.OutMoe
-- ==== Proof.Gates.lean ====
module

public import proofs.«01_k».proof.Proof.Routing
public import proofs.«01_k».proof.Proof.Gen.KernelIdeal.Skeleton
public import Idealize.ShloMosaic.Lib.Pointwise

@[expose] public section

set_option maxRecDepth 16384

noncomputable section

namespace Cert.OutMoe

open Idealize.ShloMosaic
open Cert.KernelIdeal Cert.KernelIdeal.Gen

/-! # The kernel's gates of one token -/

/-- The lane that holds member `k` of group `g`. -/
def lane (g k : Fin 4) : Fin 128 := ⟨32 * k.val + g.val, by omega⟩

/-- A routing: each group's two greatest members, and the best group by the sum of those two. -/
structure Routed (b : Fin 4 → Fin 4 → EReal) (I J : Fin 4 → Fin 4) (g : Fin 4) : Prop where
  two : ∀ h, TopTwo (b h) (I h) (J h)
  one : TopOne (fun h => b h (I h) + b h (J h)) g

/-- Every table of values has a routing. -/
theorem exists_routed (b : Fin 4 → Fin 4 → EReal) : ∃ I J g, Routed b I J g := by
  choose I J h using fun g => exists_topTwo (b g) (by decide)
  obtain ⟨g, hg⟩ := exists_topOne (fun h => b h (I h) + b h (J h)) (by decide)
  exact ⟨I, J, g, h, hg⟩

/-- The gate of member `k` of group `h` under a routing: its score over the sum of the two chosen scores, or zero. -/
def gateOf (s : Fin 4 → Fin 4 → EReal) (I J : Fin 4 → Fin 4) (g h k : Fin 4) : EReal :=
  if h = g ∧ (k = I g ∨ k = J g) then Ideal.div (s g k) (s g (I g) + s g (J g)) else 0

/-- A row rotated along its lanes. -/
def rot (n : BitVec 32) (v : FVec Ideal S256x128 .f32) : FVec Ideal S256x128 .f32 :=
  dynamicRotate 1 n none v rotates_S256x128_d1

/-- The lanes' numbers. -/
def lanes : IVec S256x128 32 := iota .tc S256x128 32 [1] iota_S256x128_d1_w32

/-- The bit that a lane is the best group's. -/
def bestBit (B : FVec Ideal S256x128 .f32) : IVec S256x128 1 :=
  k0_pay18 (F := Ideal) lanes k0_pay9 (rot 64#32 B) (rot 32#32 B) (maximumf B (rot 96#32 B)) (minimumf B (rot 96#32 B))

/-- The gates in the kernel's operations, from the scores and the biased scores. -/
def gatesV (S B : FVec Ideal S256x128 .f32) : FVec Ideal S256x128 .f32 :=
  k0_pay21 B (rot 64#32 S) (rot 32#32 S) (rot 96#32 B) (rot 64#32 B) (rot 32#32 B) (bestBit B)
    (k0_pay19 S B lanes k0_pay9 (rot 96#32 B) (rot 64#32 B) (rot 32#32 B) (maximumf B (rot 96#32 B))
      (minimumf B (rot 96#32 B)))
    (k0_pay20 B lanes k0_pay9 (rot 96#32 S) (rot 96#32 B) (rot 64#32 B) (rot 32#32 B) (maximumf B (rot 96#32 B))
      (minimumf B (rot 96#32 B))) 0#32

/-- The rotation by `128 - 32 k` brings member `k`'s lane of a group to the group's first lane. -/
theorem rot96_lane (v : FVec Ideal S256x128 .f32) (r : Fin 256) (h : Fin 4) :
    rot 96#32 v (ix2 r (lane h 0)) = v (ix2 r (lane h 1)) := by
  pointwise [rot]
  congr 2
  apply Fin.ext
  simp only [lane]
  omega

theorem rot64_lane (v : FVec Ideal S256x128 .f32) (r : Fin 256) (h : Fin 4) :
    rot 64#32 v (ix2 r (lane h 0)) = v (ix2 r (lane h 2)) := by
  pointwise [rot]
  congr 2
  apply Fin.ext
  simp only [lane]
  omega

theorem rot32_lane (v : FVec Ideal S256x128 .f32) (r : Fin 256) (h : Fin 4) :
    rot 32#32 v (ix2 r (lane h 0)) = v (ix2 r (lane h 3)) := by
  pointwise [rot]
  congr 2
  apply Fin.ext
  simp only [lane]
  omega

theorem eq_lane {x : Fin 128} {g : Fin 4} (h : x.val = g.val) : x = lane g 0 := by
  apply Fin.ext
  simp only [lane]
  omega

/-- A lane's number compared with a group's number, as words. -/
theorem eq_word (a : Fin 128) (c : Fin 4) :
    IntOp.cmpi CmpIPredicate.eq (BitVec.ofNat 32 a.val) (BitVec.ofNat 32 c.val) = BitVec.ofBool (decide (a.val = c.val)) := by
  revert a c
  decide +kernel

/-- The lane's bit says whether it is the best group's. -/
theorem bestBit_at (B : FVec Ideal S256x128 .f32) (r : Fin 256) {I J : Fin 4 → Fin 4} {g : Fin 4}
    (hR : Routed (fun h k => B (ix2 r (lane h k))) I J g) (l : Fin 128) :
    bestBit B (ix2 r l) = BitVec.ofBool (decide (l.val = g.val)) := by
  pointwise [bestBit, k0_pay18, k0_pay9, lanes]
  have hninf : Ideal.ofBits FTy.f32 4286578688#32 = ⊥ := by simp [Ideal.ofBits, Ideal.ieee]
  rw [hninf]
  have key := best_lane _ hR.one (fun x : Fin 128 => Scalar.select (IntOp.cmpi CmpIPredicate.slt (BitVec.ofNat 32 x.val) 4#32)
      (max (max (B (ix2 r x)) (rot 96#32 B (ix2 r x))) (max (rot 64#32 B (ix2 r x)) (rot 32#32 B (ix2 r x))) +
        max (min (max (B (ix2 r x)) (rot 96#32 B (ix2 r x))) (max (rot 64#32 B (ix2 r x)) (rot 32#32 B (ix2 r x))))
          (max (min (B (ix2 r x)) (rot 96#32 B (ix2 r x))) (min (rot 64#32 B (ix2 r x)) (rot 32#32 B (ix2 r x))))) ⊥)
    (by
      intro x hx
      have hl : x = lane ⟨x.val, hx⟩ 0 := eq_lane rfl
      have hs : IntOp.cmpi CmpIPredicate.slt (BitVec.ofNat 32 x.val) 4#32 = 1#1 := by
        have : ∀ a : Fin 4, IntOp.cmpi CmpIPredicate.slt (BitVec.ofNat 32 a.val) 4#32 = 1#1 := by decide
        exact this ⟨x.val, hx⟩
      simp only [hs]
      generalize (⟨x.val, hx⟩ : Fin 4) = h at hl
      rw [hl, rot96_lane, rot64_lane, rot32_lane]
      exact topTwo_sum _ (hR.two h))
    (by
      intro x hx
      have hs : IntOp.cmpi CmpIPredicate.slt (BitVec.ofNat 32 x.val) 4#32 = 0#1 := by
        have : ∀ a : Fin 128, 4 ≤ a.val → IntOp.cmpi CmpIPredicate.slt (BitVec.ofNat 32 a.val) 4#32 = 0#1 := by
          decide +kernel
        exact this x hx
      simp only [hs]
      rfl)
  exact (congrArg (IntOp.cmpi CmpIPredicate.eq (BitVec.ofNat 32 l.val)) key).trans (eq_word l g)

/-- A member's score is picked just where its lane is the best group's and it is one of the two greatest. -/
theorem pick_of (a b c : Bool) (P Q : Prop) [Decidable P] [Decidable Q]
    (h : P → (!(a && b || a && c || b && c)) = decide Q) (s : EReal) :
    Scalar.select (IntOp.andi (IntOp.cmpi .slt (IntOp.addi (IntOp.addi (IntOp.addi (0#32)
        (BitVec.setWidth 32 (BitVec.ofBool a))) (BitVec.setWidth 32 (BitVec.ofBool b)))
        (BitVec.setWidth 32 (BitVec.ofBool c))) 2#32) (BitVec.ofBool (decide P))) s 0
      = if P ∧ Q then s else 0 := by
  rw [rank_word]
  by_cases hP : P
  · rw [h hP]
    by_cases hQ : Q <;> simp [hP, hQ, Scalar.select, IntOp.andi]
  · simp [hP, Scalar.select, IntOp.andi]

section Picks

variable (S B : FVec Ideal S256x128 .f32) (r : Fin 256) {I J : Fin 4 → Fin 4} {g : Fin 4}
  (hR : Routed (fun h k => B (ix2 r (lane h k))) I J g)
include hR

theorem pick0_at (l : Fin 128) :
    k0_pay19 S B lanes k0_pay9 (rot 96#32 B) (rot 64#32 B) (rot 32#32 B) (maximumf B (rot 96#32 B))
      (minimumf B (rot 96#32 B)) (ix2 r l)
      = if l.val = g.val ∧ (0 = I g ∨ 0 = J g) then S (ix2 r l) else 0 := by
  have e : k0_pay18 (F := Ideal) lanes k0_pay9 (rot 64#32 B) (rot 32#32 B) (maximumf B (rot 96#32 B))
    (minimumf B (rot 96#32 B)) = bestBit B := rfl
  unfold k0_pay19
  rw [e]
  pointwise []
  rw [bestBit_at B r hR]
  refine pick_of _ _ _ _ _ (fun hl => ?_) _
  rw [eq_lane hl, rot96_lane, rot64_lane, rot32_lane]
  have k := rank_bit _ (hR.two g) 0 1 2 3 (by decide) (by decide) (by decide) (by decide) (by decide) (by decide)
  rw [ahead_of_gt _ (show (0 : Fin 4) < 1 by decide), ahead_of_gt _ (show (0 : Fin 4) < 2 by decide),
    ahead_of_gt _ (show (0 : Fin 4) < 3 by decide)] at k
  exact k

theorem pick1_at (l : Fin 128) :
    k0_pay20 B lanes k0_pay9 (rot 96#32 S) (rot 96#32 B) (rot 64#32 B) (rot 32#32 B) (maximumf B (rot 96#32 B))
      (minimumf B (rot 96#32 B)) (ix2 r l)
      = if l.val = g.val ∧ (1 = I g ∨ 1 = J g) then rot 96#32 S (ix2 r l) else 0 := by
  have e : k0_pay18 (F := Ideal) lanes k0_pay9 (rot 64#32 B) (rot 32#32 B) (maximumf B (rot 96#32 B))
    (minimumf B (rot 96#32 B)) = bestBit B := rfl
  unfold k0_pay20
  rw [e]
  pointwise []
  rw [bestBit_at B r hR]
  refine pick_of _ _ _ _ _ (fun hl => ?_) _
  rw [eq_lane hl, rot96_lane, rot64_lane, rot32_lane]
  have k := rank_bit _ (hR.two g) 1 0 2 3 (by decide) (by decide) (by decide) (by decide) (by decide) (by decide)
  rw [ahead_of_lt _ (show (0 : Fin 4) < 1 by decide), ahead_of_gt _ (show (1 : Fin 4) < 2 by decide),
    ahead_of_gt _ (show (1 : Fin 4) < 3 by decide)] at k
  exact k

theorem pick2_at (l : Fin 128) :
    Scalar.select (IntOp.andi (IntOp.cmpi .slt (IntOp.addi (IntOp.addi (IntOp.addi (0#32)
        (BitVec.setWidth 32 (BitVec.ofBool (decide (rot 64#32 B (ix2 r l) ≤ B (ix2 r l))))))
        (BitVec.setWidth 32 (BitVec.ofBool (decide (rot 64#32 B (ix2 r l) ≤ rot 96#32 B (ix2 r l))))))
        (BitVec.setWidth 32 (BitVec.ofBool (decide (rot 64#32 B (ix2 r l) < rot 32#32 B (ix2 r l)))))) 2#32)
        (bestBit B (ix2 r l))) (rot 64#32 S (ix2 r l)) 0
      = if l.val = g.val ∧ (2 = I g ∨ 2 = J g) then rot 64#32 S (ix2 r l) else 0 := by
  rw [bestBit_at B r hR]
  refine pick_of _ _ _ _ _ (fun hl => ?_) _
  rw [eq_lane hl, rot96_lane, rot64_lane, rot32_lane]
  have k := rank_bit _ (hR.two g) 2 0 1 3 (by decide) (by decide) (by decide) (by decide) (by decide) (by decide)
  rw [ahead_of_lt _ (show (0 : Fin 4) < 2 by decide), ahead_of_lt _ (show (1 : Fin 4) < 2 by decide),
    ahead_of_gt _ (show (2 : Fin 4) < 3 by decide)] at k
  exact k

theorem pick3_at (l : Fin 128) :
    Scalar.select (IntOp.andi (IntOp.cmpi .slt (IntOp.addi (IntOp.addi (IntOp.addi (0#32)
        (BitVec.setWidth 32 (BitVec.ofBool (decide (rot 32#32 B (ix2 r l) ≤ B (ix2 r l))))))
        (BitVec.setWidth 32 (BitVec.ofBool (decide (rot 32#32 B (ix2 r l) ≤ rot 96#32 B (ix2 r l))))))
        (BitVec.setWidth 32 (BitVec.ofBool (decide (rot 32#32 B (ix2 r l) ≤ rot 64#32 B (ix2 r l)))))) 2#32)
        (bestBit B (ix2 r l))) (rot 32#32 S (ix2 r l)) 0
      = if l.val = g.val ∧ (3 = I g ∨ 3 = J g) then rot 32#32 S (ix2 r l) else 0 := by
  rw [bestBit_at B r hR]
  refine pick_of _ _ _ _ _ (fun hl => ?_) _
  rw [eq_lane hl, rot96_lane, rot64_lane, rot32_lane]
  have k := rank_bit _ (hR.two g) 3 0 1 2 (by decide) (by decide) (by decide) (by decide) (by decide) (by decide)
  rw [ahead_of_lt _ (show (0 : Fin 4) < 3 by decide), ahead_of_lt _ (show (1 : Fin 4) < 3 by decide),
    ahead_of_lt _ (show (2 : Fin 4) < 3 by decide)] at k
  exact k

end Picks

theorem div_zero_left {T : EReal} (hT : T ≠ 0) : Ideal.div 0 T = 0 := by
  rw [Ideal.div, if_neg hT, zero_mul]

/-- The picked scores over all lanes add up to the two chosen scores. -/
theorem picks_sum (S B : FVec Ideal S256x128 .f32) (r : Fin 256) {I J : Fin 4 → Fin 4} {g : Fin 4}
    (hR : Routed (fun h k => B (ix2 r (lane h k))) I J g) :
    (∑ x : Fin 128, ((((if x.val = g.val ∧ (0 = I g ∨ 0 = J g) then S (ix2 r x) else 0) +
        if x.val = g.val ∧ (1 = I g ∨ 1 = J g) then rot 96#32 S (ix2 r x) else 0) +
        if x.val = g.val ∧ (2 = I g ∨ 2 = J g) then rot 64#32 S (ix2 r x) else 0) +
        if x.val = g.val ∧ (3 = I g ∨ 3 = J g) then rot 32#32 S (ix2 r x) else 0))
      = S (ix2 r (lane g (I g))) + S (ix2 r (lane g (J g))) := by
  rw [Finset.sum_eq_single (lane g 0)]
  · have hl : (lane g 0).val = g.val := by simp [lane]
    rw [hl, rot96_lane, rot64_lane, rot32_lane]
    have hne := (hR.two g).ne
    generalize I g = i at hne
    generalize J g = j at hne
    fin_cases i <;> fin_cases j <;>
      first
      | exact absurd rfl hne
      | (simp; done)
      | (simp; exact add_comm _ _)
  · intro x _ hx
    have hxg : ¬ x.val = g.val := fun e => hx (eq_lane e)
    simp [hxg]
  · intro h
    exact absurd (Finset.mem_univ _) h

/-- The kernel's gate at a member's lane is its gate under the routing of the biased scores. -/
theorem gatesV_at (S B : FVec Ideal S256x128 .f32) (r : Fin 256) {I J : Fin 4 → Fin 4} {g : Fin 4}
    (hR : Routed (fun h k => B (ix2 r (lane h k))) I J g)
    (hT : S (ix2 r (lane g (I g))) + S (ix2 r (lane g (J g))) ≠ 0) (h k : Fin 4) :
    gatesV S B (ix2 r (lane h k)) = gateOf (fun h k => S (ix2 r (lane h k))) I J g h k := by
  unfold gatesV k0_pay21
  pointwise []
  simp only [pick0_at S B r hR, pick1_at S B r hR, pick2_at S B r hR, pick3_at S B r hR]
  rw [picks_sum S B r hR]
  have hz := div_zero_left hT
  generalize hS : S (ix2 r (lane g (I g))) + S (ix2 r (lane g (J g))) = T at hT hz
  unfold gateOf
  have e0 : (lane h k).val = g.val ↔ h = g ∧ k = 0 := by
    simp only [lane, Fin.ext_iff]
    omega
  have e1 : ((lane h k).val + 128 - 32) % 128 = g.val ↔ h = g ∧ k = 1 := by
    simp only [lane, Fin.ext_iff]
    omega
  have e2 : ((lane h k).val + 128 - 64) % 128 = g.val ↔ h = g ∧ k = 2 := by
    simp only [lane, Fin.ext_iff]
    omega
  have e3 : ((lane h k).val + 128 - 96) % 128 = g.val ↔ h = g ∧ k = 3 := by
    simp only [lane, Fin.ext_iff]
    omega
  simp only [e0, e1, e2, e3]
  by_cases hg : h = g
  · subst hg
    have r1 : ∀ x : Fin 128, x.val = h.val → rot 96#32 S (ix2 r x) = S (ix2 r (lane h 1)) := fun x hx => by
      rw [eq_lane hx, rot96_lane]
    have r2 : ∀ x : Fin 128, x.val = h.val → rot 64#32 S (ix2 r x) = S (ix2 r (lane h 2)) := fun x hx => by
      rw [eq_lane hx, rot64_lane]
    have r3 : ∀ x : Fin 128, x.val = h.val → rot 32#32 S (ix2 r x) = S (ix2 r (lane h 3)) := fun x hx => by
      rw [eq_lane hx, rot32_lane]
    fin_cases k
    · by_cases hc : 0 = I h ∨ 0 = J h <;> simp [hc, hz, hS]
    · rw [r1 _ (e1.mpr ⟨rfl, rfl⟩)]
      by_cases hc : 1 = I h ∨ 1 = J h <;> simp [hc, hz, hS]
    · rw [r2 _ (e2.mpr ⟨rfl, rfl⟩)]
      by_cases hc : 2 = I h ∨ 2 = J h <;> simp [hc, hz, hS]
    · rw [r3 _ (e3.mpr ⟨rfl, rfl⟩)]
      by_cases hc : 3 = I h ∨ 3 = J h <;> simp [hc, hz, hS]
  · simp [hg, hz]

end Cert.OutMoe
-- ==== Proof.Spec.lean ====
module

public import proofs.«01_k».proof.Proof.Gates

@[expose] public section

noncomputable section

namespace Cert.OutMoe

open Idealize.ShloMosaic

/-! # One token's row, in the extended reals -/

/-- The small number added under the root. -/
def eps : EReal := Ideal.ofBits .f32 897988541#32

/-- The row's width, 1024. -/
def width : EReal := Ideal.ofBits .f32 1149239296#32

/-- The three mixer results side by side. -/
def mix (a : Fin 256 → EReal) (b : Fin 512 → EReal) (c : Fin 256 → EReal) (k : Fin 1024) : EReal :=
  if h : k.val < 256 then a ⟨k.val, h⟩
  else if h' : k.val - 256 < 512 then b ⟨k.val - 256, h'⟩ else c ⟨k.val - 256 - 512, by omega⟩

/-- A gated residual: `x` plus the gate times a row of a product. -/
def resid {K : Nat} (x g : Fin 1024 → EReal) (p : Fin K → EReal) (w : Fin K → Fin 1024 → EReal) (d : Fin 1024) : EReal :=
  x d + g d * ∑ k, p k * w k d

/-- A row over its root mean square. -/
def rms (v : Fin 1024 → EReal) (d : Fin 1024) : EReal :=
  v d * Ideal.rsqrt (Ideal.div (∑ e, v e * v e) width + eps)

/-- The normalized and modulated row. -/
def modul (v n sc sh : Fin 1024 → EReal) (d : Fin 1024) : EReal := rms v d * n d * (1 + sc d) + sh d

/-- The logistic function, written out. -/
def lgst (z : EReal) : EReal := Ideal.div 1 (1 + Ideal.exp (0 - z))

/-- A gated unit of an expert: the gate projection through `z · lgst z`, times the up projection, times the token's gate. -/
def unit (h wg wu : Fin 1024 → EReal) (gate : EReal) : EReal :=
  ((∑ x, h x * wg x) * lgst (∑ x, h x * wg x) * ∑ x, h x * wu x) * gate

/-- An expert's lane among 128: four lanes of groups for each member. -/
def lane16 (e : Fin 16) : Fin 128 := ⟨32 * (e.val % 4) + e.val / 4, by omega⟩

/-- The expert of one of the 4096 hidden units. -/
def expertOf (j : Fin 4096) : Fin 16 := ⟨j.val / 256, by omega⟩

/-- A hidden unit's place in its expert. -/
def unitOf (j : Fin 4096) : Fin 256 := ⟨j.val % 256, by omega⟩

/-- The row that leaves, from the row after the first residual, the modulated row and the gates. -/
def rowOut (x1 h g2 fg : Fin 1024 → EReal) (wg wu : Fin 16 → Fin 1024 → Fin 256 → EReal) (wd : Fin 4096 → Fin 1024 → EReal)
    (gate : Fin 16 → EReal) (d : Fin 1024) : EReal :=
  rms (resid x1 g2 (fun j => unit h (fun x => wg (expertOf j) x (unitOf j)) (fun x => wu (expertOf j) x (unitOf j))
    (gate (expertOf j))) wd) d * fg d

end Cert.OutMoe
-- ==== Proof.Top.lean ====
module

public import proofs.«01_k».proof.Proof.Routing
public import proofs.«01_k».proof.Proof.Gen.ReferenceIdeal.Run
public import Idealize.ShloMosaic.Lib.Pointwise

@[expose] public section

set_option maxRecDepth 16384

noncomputable section

namespace Cert.OutMoe

open Idealize.ShloMosaic Idealize.ShloMosaic.StableHlo Idealize.ShloMosaic.TcCoe

/-! # Reading the greatest entries of an axis -/

/-- The total comparison at exact values is the comparison. -/
theorem gt_word (a b : EReal) : (((FloatOps.cmpfTotal (F := Ideal) (φ := .f32) .gt a b : BitVec 1) == 1#1) : Bool) = decide (b < a) := by
  change (BitVec.ofBool (decide (b < a)) == 1#1) = decide (b < a)
  cases decide (b < a) <;> rfl

/-- The comparison word of every two entries of a line, as the order of the line's values. -/
theorem before_gt {n : ℕ} (v : Fin n → EReal) :
    (fun k k' : Fin n => ((FloatOps.cmpfTotal (F := Ideal) (φ := .f32) .gt (v k) (v k') : BitVec 1) == 1#1 : Bool))
      = fun k k' => decide (v k' < v k) :=
  funext fun k => funext fun k' => gt_word (v k) (v k')

/-- The position read at place `i` of the greatest entries of a row of a rectangle. -/
theorem top_place2 {A N K : ℕ} (x : Vec Ideal ⟨2, ![A, N]⟩ .f32) (hs : (⟨2, ![A, N]⟩ : Shape).Slices (fun _ => 0) ⟨2, ![A, K]⟩) (t : Fin A) (i : Fin K)
    (hi : i.val < N) :
    (Host.topK (s := ⟨2, ![A, N]⟩) ⟨2, ![A, K]⟩ 1 (FloatOps.cmpfTotal (F := Ideal) (φ := .f32) .gt) x hs).2 (ix2 t i)
      = BitVec.ofNat 32 (sortedFrom (fun k k' : Fin N => decide (x (ix2 t k') < x (ix2 t k))) ⟨i.val, hi⟩).val := by
  rw [← before_gt (fun k => x (ix2 t k))]
  let z : (⟨2, ![A, N]⟩ : Shape).Idx := fun a => ⟨0 + ((ix2 t i : (⟨2, ![A, K]⟩ : Shape).Idx) (a.cast hs.1.symm)).val, Nat.lt_of_lt_of_le (Nat.add_lt_add_left (Fin.isLt _) _) (hs.2 a)⟩
  have hz : ∀ k : Fin N, (z.along 1 k : (⟨2, ![A, N]⟩ : Shape).Idx) = ix2 t k := fun k => by
    funext a
    fin_cases a
    · exact Fin.ext (Nat.zero_add _)
    · rfl
  have h1 : z 1 = (⟨i.val, hi⟩ : Fin N) := Fin.ext (Nat.zero_add _)
  change BitVec.ofNat 32 (sortedFrom (fun k k' : Fin N => ((FloatOps.cmpfTotal (F := Ideal) (φ := .f32) .gt (x (z.along 1 k)) (x (z.along 1 k')) : BitVec 1) == 1#1 : Bool)) (z 1)).val = _
  rw [h1]
  simp only [hz]

/-- The value read at place `i` of the greatest entries of a line of a box. -/
theorem top_value3 {A B N K : ℕ} (x : Vec Ideal ⟨3, ![A, B, N]⟩ .f32) (hs : (⟨3, ![A, B, N]⟩ : Shape).Slices (fun _ => 0) ⟨3, ![A, B, K]⟩) (t : Fin A) (h : Fin B)
    (i : Fin K) (hi : i.val < N) :
    (Host.topK (s := ⟨3, ![A, B, N]⟩) ⟨3, ![A, B, K]⟩ 2 (FloatOps.cmpfTotal (F := Ideal) (φ := .f32) .gt) x hs).1 (ix3 t h i)
      = x (ix3 t h (sortedFrom (fun k k' : Fin N => decide (x (ix3 t h k') < x (ix3 t h k))) ⟨i.val, hi⟩)) := by
  rw [← before_gt (fun k => x (ix3 t h k))]
  let z : (⟨3, ![A, B, N]⟩ : Shape).Idx := fun a => ⟨0 + ((ix3 t h i : (⟨3, ![A, B, K]⟩ : Shape).Idx) (a.cast hs.1.symm)).val, Nat.lt_of_lt_of_le (Nat.add_lt_add_left (Fin.isLt _) _) (hs.2 a)⟩
  have hz : ∀ k : Fin N, (z.along 2 k : (⟨3, ![A, B, N]⟩ : Shape).Idx) = ix3 t h k := fun k => by
    funext a
    fin_cases a
    · exact Fin.ext (Nat.zero_add _)
    · exact Fin.ext (Nat.zero_add _)
    · rfl
  have h1 : z 2 = (⟨i.val, hi⟩ : Fin N) := Fin.ext (Nat.zero_add _)
  change x (z.along 2 (sortedFrom (fun k k' : Fin N => ((FloatOps.cmpfTotal (F := Ideal) (φ := .f32) .gt (x (z.along 2 k)) (x (z.along 2 k')) : BitVec 1) == 1#1 : Bool)) (z 2))) = _
  rw [h1]
  simp only [hz]
  exact congrArg x (hz _)

end Cert.OutMoe
-- ==== Proof.Ref.lean ====
module

public import proofs.«01_k».proof.Proof.Spec
public import proofs.«01_k».proof.Proof.Top
public import proofs.«01_k».proof.Proof.Gates
public import proofs.«01_k».proof.Proof.Gen.ReferenceIdeal.Run
public import Idealize.ShloMosaic.Lib.Pointwise

@[expose] public section

set_option maxRecDepth 16384

noncomputable section

namespace Cert.OutMoe

open Idealize.ShloMosaic Idealize.ShloMosaic.StableHlo Idealize.ShloMosaic.TcCoe
open Cert.ReferenceIdeal Cert.ReferenceIdeal.Value

variable (W : Valuation τ Cert.ReferenceIdeal.sig (Elt Ideal))

/-! # The reference's values at an index -/

abbrev a0 : Vec Ideal S16384x256 .bf16 := W (Proc.devRef .tc main_arg0)
abbrev a1 : Vec Ideal S16384x512 .bf16 := W (Proc.devRef .tc main_arg1)
abbrev a2 : Vec Ideal S16384x256 .bf16 := W (Proc.devRef .tc main_arg2)
abbrev a3 : Vec Ideal S16384x1024 .f32 := W (Proc.devRef .tc main_arg3)
abbrev a4 : Vec Ideal S8x1x6144 .f32 := W (Proc.devRef .tc main_arg4)
abbrev a5 : Vec Ideal S1x1024 .f32 := W (Proc.devRef .tc main_arg5)
abbrev a6 : Vec Ideal S1024x1024 .bf16 := W (Proc.devRef .tc main_arg6)
abbrev a7 : Vec Ideal S1024x16 .f32 := W (Proc.devRef .tc main_arg7)
abbrev a8 : Vec Ideal S16 .f32 := W (Proc.devRef .tc main_arg8)
abbrev a9 : Vec Ideal S16x1024x256 .bf16 := W (Proc.devRef .tc main_arg9)
abbrev a10 : Vec Ideal S16x1024x256 .bf16 := W (Proc.devRef .tc main_arg10)
abbrev a11 : Vec Ideal S4096x1024 .bf16 := W (Proc.devRef .tc main_arg11)
abbrev a12 : Vec Ideal S1x1024 .f32 := W (Proc.devRef .tc main_arg12)

/-- Six rows of 1024 for each sequence: entry `d` of row `j` of the token's sequence. -/
def modRow (a : Vec Ideal S8x1x6144 .f32) (t : Fin 16384) (j : Fin 6) (d : Fin 1024) : EReal :=
  a (ix3 ⟨t.val / 2048, by omega⟩ 0 ⟨1024 * j.val + d.val, by omega⟩)

/-- The row after the first residual, the modulated row and the scores, as the reference has them. -/
def x1R (t : Fin 16384) (d : Fin 1024) : EReal := (res_main_v16 W : Vec Ideal S16384x1024 .f32) (ix2 t d)
def hR (t : Fin 16384) (d : Fin 1024) : EReal := (res_main_v32 W : Vec Ideal S16384x1024 .f32) (ix2 t d)
def sR (t : Fin 16384) (e : Fin 16) : EReal := (res_main_v39 W : Vec Ideal S16384x16 .f32) (ix2 t e)
def bR (t : Fin 16384) (h k : Fin 4) : EReal := (res_main_v43 W : Vec Ideal S16384x4x4 .f32) (ix3 t h k)

theorem v2_at (t : Fin 16384) (k : Fin 6144) : (res_main_v2 W : Vec Ideal S16384x6144 .f32) (ix2 t k) = a4 W (ix3 ⟨t.val / 2048, by omega⟩ 0 k) := by
  unfold res_main_v2
  pointwise

theorem x1R_at (t : Fin 16384) (d : Fin 1024) : x1R W t d =
    resid (fun d => a3 W (ix2 t d)) (modRow (a4 W) t 2)
      (mix (fun k => a0 W (ix2 t k)) (fun k => a1 W (ix2 t k)) (fun k => a2 W (ix2 t k))) (fun k d => a6 W (ix2 k d)) d := by
  unfold x1R res_main_v16
  pointwise
  rw [v2_at]
  rfl

theorem hR_at (t : Fin 16384) (d : Fin 1024) : hR W t d =
    modul (x1R W t) (fun d => a5 W (ix2 0 d)) (modRow (a4 W) t 4) (modRow (a4 W) t 3) d := by
  unfold hR res_main_v32
  pointwise
  rw [v2_at, v2_at]
  rfl

theorem sR_at (t : Fin 16384) (e : Fin 16) : sR W t e = lgst (∑ x, hR W t x * a7 W (ix2 x e)) := by
  unfold sR res_main_v39
  pointwise
  rw [← zero_sub]
  rfl

/-- Expert `k` of group `h`. -/
def ex (h k : Fin 4) : Fin 16 := ⟨4 * h.val + k.val, by omega⟩

theorem bR_at (t : Fin 16384) (h k : Fin 4) : bR W t h k =
    sR W t (ex h k) + a8 W (ix1 (ex h k)) := by
  unfold bR res_main_v43
  pointwise
  have e : (⟨h.val * 4 + k.val, by omega⟩ : Fin 16) = ex h k := Fin.ext (by simp only [ex]; omega)
  rw [e]
  rfl

/-- The positions of the two greatest of a group's biased scores. -/
def place4 (t : Fin 16384) (h : Fin 4) (i : Fin 2) : Fin 4 :=
  sortedFrom (fun k k' => decide (bR W t h k' < bR W t h k)) ⟨i.val, by omega⟩

/-- A group's score: the sum of its two greatest biased scores. -/
def grpR (t : Fin 16384) (h : Fin 4) : EReal := (res_main_v44 W : Vec Ideal S16384x4 .f32) (ix2 t h)

theorem grpR_at (t : Fin 16384) (h : Fin 4) : grpR W t h = bR W t h (place4 W t h 0) + bR W t h (place4 W t h 1) := by
  have e : ∀ (hs : S16384x4x4.Slices (fun _ => 0) S16384x4x2) (i : Fin 2), (Host.topK S16384x4x2 2 (FloatOps.cmpfTotal (F := Ideal) (φ := .f32) .gt)
      (res_main_v43 W : Vec Ideal S16384x4x4 .f32) hs).1 (ix3 t h i) = bR W t h (place4 W t h i) := fun hs i => top_value3 _ hs t h i _
  unfold grpR res_main_v44
  pointwise
  rw [Fin.sum_univ_two]
  exact congrArg₂ (· + ·) (e _ 0) (e _ 1)

/-- The position of the greatest group score. -/
def grp (t : Fin 16384) : Fin 4 := sortedFrom (fun k k' => decide (grpR W t k' < grpR W t k)) ⟨0, by omega⟩

theorem best_at (hs : S16384x4.Slices (fun _ => 0) S16384x1) (t : Fin 16384) : (Host.topK S16384x1 1 (FloatOps.cmpfTotal (F := Ideal) (φ := .f32) .gt) (res_main_v44 W : Vec Ideal S16384x4 .f32) hs).2 (ix2 t 0)
      = BitVec.ofNat 32 (grp W t).val := top_place2 _ hs t 0 _

/-- The biased scores, those outside the chosen group at negative infinity. -/
def candR (t : Fin 16384) (e : Fin 16) : EReal := (res_main_v52 W : Vec Ideal S16384x16 .f32) (ix2 t e)

theorem word_eq4 : ∀ g h : Fin 4, IntOp.cmpi .eq (BitVec.ofNat 32 g.val) (BitVec.ofNat 32 h.val) = if h = g then 1#1 else 0#1 := by decide

theorem candR_at (t : Fin 16384) (h k : Fin 4) : candR W t (ex h k) = if h = grp W t then bR W t h k else ⊥ := by
  have e : candR W t (ex h k) = Scalar.select (IntOp.cmpi .eq ((Host.topK S16384x1 1 (FloatOps.cmpfTotal (F := Ideal) (φ := .f32) .gt) (res_main_v44 W : Vec Ideal S16384x4 .f32) Gen.sliceFits_S16384x4_S16384x1).2 (ix2 t 0)) (BitVec.ofNat 32 (⟨(ex h k).val / 4, by have := (ex h k).isLt; omega⟩ : Fin 4).val))
      (bR W t ⟨(ex h k).val / 4, by have := (ex h k).isLt; omega⟩ ⟨(ex h k).val % 4, by omega⟩) (Ideal.ofBits FTy.f32 4286578688#32) := by
    unfold candR res_main_v52
    pointwise
    rfl
  have eh : (⟨(ex h k).val / 4, by have := (ex h k).isLt; omega⟩ : Fin 4) = h := Fin.ext (by simp only [ex]; omega)
  have ek : (⟨(ex h k).val % 4, by omega⟩ : Fin 4) = k := Fin.ext (by simp only [ex]; omega)
  rw [e, best_at, eh, ek, word_eq4]
  by_cases hg : h = grp W t
  · rw [if_pos hg, if_pos hg]; rfl
  · rw [if_neg hg, if_neg hg]
    change Ideal.ofBits FTy.f32 4286578688#32 = ⊥
    simp [Ideal.ofBits, Ideal.ieee]

/-- The positions of the two greatest candidates. -/
def pick (t : Fin 16384) (i : Fin 2) : Fin 16 :=
  sortedFrom (fun k k' => decide (candR W t k' < candR W t k)) ⟨i.val, by omega⟩

theorem pick_word (t : Fin 16384) (i : Fin 2) : (res_main_indices_10 W : IVec S16384x2 32) (ix2 t i) = BitVec.ofNat 32 (pick W t i).val :=
  top_place2 (res_main_v52 W : Vec Ideal S16384x16 .f32) _ t i _

theorem word_wrap : ∀ p : Fin 16, Scalar.select (IntOp.cmpi .slt (BitVec.ofNat 32 p.val) 0#32) (IntOp.addi (BitVec.ofNat 32 p.val) 16#32) (BitVec.ofNat 32 p.val)
    = BitVec.ofNat 32 p.val := by decide

theorem word_bounds : ∀ p : Fin 16, IntOp.andi (IntOp.cmpi .sge (BitVec.ofNat 32 p.val) 0#32) (IntOp.cmpi .sle (BitVec.ofNat 32 p.val) 15#32) = 1#1 := by decide

theorem word_clamp : ∀ p : Fin 16, min (BitVec.ofNat 32 p.val).toInt.toNat 15 = p.val := by decide

theorem taken_word (t : Fin 16384) (i : Fin 2) : (res_main_call1_v5 W : IVec S16384x2x1 32) (ix3 t i 0) = BitVec.ofNat 32 (pick W t i).val := by
  unfold res_main_call1_v5
  pointwise
  rw [pick_word]
  exact word_wrap _

/-- A conjunction of bits that all are one is one. -/
theorem fold_one {ι : Type} (s : Finset ι) (f : ι → BitVec 1) (h : ∀ x, f x = 1#1) : Finset.fold IntOp.andi 1#1 f s = 1#1 := by
  classical
  induction s using Finset.induction_on with
  | empty => rfl
  | insert a s ha ih => rw [Finset.fold_insert ha, ih, h a]; rfl

theorem gather_at (x : Vec Ideal S16384x16 .f32) (idx : IVec S16384x2x1 32) (t : Fin 16384) (i : Fin 2) (p : Fin 16)
    (hp : idx (ix3 t i 0) = BitVec.ofNat 32 p.val) :
    Host.gather gather_S16384x16_S16384x2x1_S16384x2_n_1_0_0_1_2_11 x idx (ix2 t i) = x (ix2 t p) := by
  unfold Host.gather
  refine congrArg x (funext fun a => ?_)
  let d := gather_S16384x16_S16384x2x1_S16384x2_n_1_0_0_1_2_11
  fin_cases a
  · refine Fin.ext ?_
    change d.start (ix2 t i) idx 0 + d.batchCoord (ix2 t i) 0 + d.offCoord (ix2 t i) 0 = t.val
    rw [d.start_batching _ _ 0 (List.mem_singleton.2 rfl), d.offCoord_eq_zero _ 0 (fun h => ((d.mem_sKept 0).1 h).2 (List.mem_singleton.2 rfl)),
      Nat.zero_add, Nat.add_zero]
    rfl
  · refine Fin.ext ?_
    change d.start (ix2 t i) idx 1 + d.batchCoord (ix2 t i) 1 + d.offCoord (ix2 t i) 1 = p.val
    rw [d.batchCoord_eq_zero _ 1 (fun h => absurd (List.mem_singleton.1 h) (by decide)), d.offCoord_eq_zero _ 1 (fun h => ((d.mem_sKept 1).1 h).1 (List.mem_singleton.2 rfl)),
      Nat.add_zero]
    have e : d.start (ix2 t i) idx 1 = min (idx (ix3 t i 0)).toInt.toNat 15 := by
      unfold GatherDims.start
      rw [dif_pos (show (1 : Fin 2) ∈ d.startIndexMap from List.mem_singleton.2 rfl)]
      refine congrArg (fun z => min (idx z).toInt.toNat 15) (funext fun a => ?_)
      fin_cases a <;> rfl
    rw [e, hp]
    exact word_clamp p

theorem select_one (b : BitVec 1) (x y : EReal) (h : b = 1#1) : Scalar.select b x y = x := by
  rw [h]
  rfl

theorem taken_at (t : Fin 16384) (i : Fin 2) : (res_main_v53 W : Vec Ideal S16384x2 .f32) (ix2 t i) = sR W t (pick W t i) := by
  have hx : ∀ x : S16384x2x1.Idx, IntOp.andi (IntOp.cmpi .sge ((res_main_call1_v5 W : IVec S16384x2x1 32) x) 0#32) (IntOp.cmpi .sle ((res_main_call1_v5 W : IVec S16384x2x1 32) x) 15#32) = 1#1 := fun x => by
    have e : x = ix3 (x 0) (x 1) 0 := by
      funext a
      fin_cases a
      · rfl
      · rfl
      · exact Subsingleton.elim (α := Fin 1) _ _
    have e2 : (res_main_call1_v5 W : IVec S16384x2x1 32) x = BitVec.ofNat 32 (pick W (x 0) (x 1)).val :=
      (congrArg (res_main_call1_v5 W : IVec S16384x2x1 32) e).trans (taken_word W (x 0) (x 1))
    exact (congrArg (fun w => IntOp.andi (IntOp.cmpi .sge w 0#32) (IntOp.cmpi .sle w 15#32)) e2).trans (word_bounds _)
  unfold res_main_v53
  pointwise
  refine (select_one _ _ _ ?_).trans (gather_at _ _ t i _ (taken_word W t i))
  exact fold_one _ _ hx

def gR (t : Fin 16384) (e : Fin 16) (f : Fin 256) : EReal := (res_main_v70 W : Vec Ideal S16384x16x256 .f32) (ix3 t e f)

theorem gR_at (t : Fin 16384) (e : Fin 16) (f : Fin 256) : gR W t e f = ∑ x, hR W t x * a9 W (ix3 e x f) := by
  unfold gR res_main_v70
  pointwise
  rfl

/-- The gate the reference gives expert `e`: the chosen scores over their sum, at the positions chosen. -/
def gateR (t : Fin 16384) (e : Fin 16) : EReal :=
  ∑ i : Fin 2, (if pick W t i = e then 1 else 0) * Ideal.div (sR W t (pick W t i)) (∑ x : Fin 2, sR W t (pick W t x))

def outR (t : Fin 16384) (d : Fin 1024) : EReal := (res_main_v82 W : Vec Ideal S16384x1024 .f32) (ix2 t d)

theorem word_one : ∀ p e : Fin 16, FloatOps.uitofp (F := Ideal) .f32 (IntOp.cmpi .eq (BitVec.ofNat 32 p.val) (BitVec.ofNat 32 e.val))
    = (if p = e then 1 else 0 : EReal) := by
  have h : ∀ p e : Fin 16, IntOp.cmpi .eq (BitVec.ofNat 32 p.val) (BitVec.ofNat 32 e.val) = if p = e then 1#1 else 0#1 := by decide +kernel
  intro p e
  rw [h]
  by_cases hp : p = e
  · rw [if_pos hp, if_pos hp]; simp [FloatOps.uitofp]
  · rw [if_neg hp, if_neg hp]; simp [FloatOps.uitofp]

theorem outR_at (t : Fin 16384) (d : Fin 1024) : outR W t d =
    x1R W t d + modRow (a4 W) t 5 d * ∑ e : Fin 16, ∑ f : Fin 256,
      unit (hR W t) (fun x => a9 W (ix3 e x f)) (fun x => a10 W (ix3 e x f)) (gateR W t e) * a11 W (ix2 ⟨e.val * 256 + f.val, by omega⟩ d) := by
  unfold outR res_main_v82
  pointwise
  rw [v2_at]
  refine congrArg (x1R W t d + modRow (a4 W) t 5 d * ·) (Finset.sum_congr rfl fun e _ => Finset.sum_congr rfl fun f _ => ?_)
  simp only [pick_word, taken_at, word_one]
  change gR W t e f * Ideal.div 1 (1 + Ideal.exp (-gR W t e f)) * _ * _ * _ = _
  rw [gR_at, ← zero_sub]
  rfl

end Cert.OutMoe
-- ==== Proof.RefRow.lean ====
module

public import proofs.«01_k».proof.Proof.Ref

@[expose] public section

set_option maxRecDepth 16384

noncomputable section

namespace Cert.OutMoe

open Idealize.ShloMosaic Idealize.ShloMosaic.StableHlo Idealize.ShloMosaic.TcCoe
open Cert.ReferenceIdeal Cert.ReferenceIdeal.Value

variable (W : Valuation τ Cert.ReferenceIdeal.sig (Elt Ideal))

/-! # The reference's row under a routing -/

theorem ex_inj {h h' k k' : Fin 4} : ex h k = ex h' k' ↔ h = h' ∧ k = k' := by
  simp only [ex, Fin.ext_iff]
  omega

/-- Order along a group's four entries is order along the sixteen. -/
theorem ahead_group {v : Fin 16 → EReal} {b : Fin 4 → EReal} {g : Fin 4} (hv : ∀ k, v (ex g k) = b k) {i j : Fin 4}
    (h : ahead b i j = true) : ahead v (ex g i) (ex g j) = true := by
  unfold ahead at h ⊢
  rw [hv, hv]
  have e : (ex g i < ex g j) ↔ i < j := by simp only [ex, Fin.lt_def]; omega
  rw [show decide (ex g i < ex g j) = decide (i < j) from decide_eq_decide.2 e]
  exact h

/-- With one group's entries kept and the others at negative infinity, the two greatest of sixteen are the group's. -/
theorem topTwo_group {v : Fin 16 → EReal} {b : Fin 4 → EReal} {g i j : Fin 4} (hv : ∀ k, v (ex g k) = b k) (hb : ∀ k, b k ≠ ⊥)
    (ho : ∀ h k, h ≠ g → v (ex h k) = ⊥) (h : TopTwo b i j) : TopTwo v (ex g i) (ex g j) where
  first := ahead_group hv h.first
  rest p hi hj := by
    have hp : p = ex ⟨p.val / 4, by omega⟩ ⟨p.val % 4, by omega⟩ := Fin.ext (by simp only [ex]; omega)
    by_cases hg : (⟨p.val / 4, by omega⟩ : Fin 4) = g
    · rw [hg] at hp
      rw [hp] at hi hj ⊢
      exact ahead_group hv (h.rest _ (fun e => hi (by rw [e])) (fun e => hj (by rw [e])))
    · rw [hp]
      unfold ahead
      rw [ho _ _ hg, hv, decide_eq_true (bot_lt_iff_ne_bot.2 (hb j))]
      rfl

variable {t : Fin 16384} {I J : Fin 4 → Fin 4} {g : Fin 4}

theorem grp_eq (R : Routed (bR W t) I J g) : grp W t = g := by
  have e : grpR W t = fun h => bR W t h (I h) + bR W t h (J h) := funext fun h => by
    rw [grpR_at]
    have := (R.two h).sorted (by decide)
    unfold place4
    rw [show (⟨(0 : Fin 2).val, by omega⟩ : Fin 4) = ⟨0, by omega⟩ from rfl, show (⟨(1 : Fin 2).val, by omega⟩ : Fin 4) = ⟨1, by omega⟩ from rfl,
      this.1, this.2]
  have := R.one
  rw [← e] at this
  exact this.sorted (by decide)

theorem pick_eq (R : Routed (bR W t) I J g) (hb : ∀ h k, bR W t h k ≠ ⊥) :
    pick W t 0 = ex g (I g) ∧ pick W t 1 = ex g (J g) :=
  (topTwo_group (v := candR W t) (b := bR W t g) (fun k => by rw [candR_at, grp_eq W R, if_pos rfl]) (hb g)
    (fun h k hg => by rw [candR_at, grp_eq W R, if_neg hg]) (R.two g)).sorted (by decide)

/-- The reference's gates are the routing's. -/
theorem gateR_eq (R : Routed (bR W t) I J g) (hb : ∀ h k, bR W t h k ≠ ⊥) (h k : Fin 4) :
    gateR W t (ex h k) = gateOf (fun h k => sR W t (ex h k)) I J g h k := by
  obtain ⟨h0, h1⟩ := pick_eq W R hb
  unfold gateR gateOf
  rw [Fin.sum_univ_two, Fin.sum_univ_two, h0, h1]
  have ne := (R.two g).ne
  by_cases hg : h = g
  · subst hg
    by_cases hi : k = I h
    · rw [if_pos (by rw [hi]), if_neg (fun e => ne (((ex_inj).1 e).2.trans hi).symm), if_pos ⟨rfl, Or.inl hi⟩, hi]
      simp
    · by_cases hj : k = J h
      · rw [if_neg (fun e => hi ((ex_inj).1 e).2.symm), if_pos (by rw [hj]), if_pos ⟨rfl, Or.inr hj⟩, hj]
        simp
      · rw [if_neg (fun e => hi ((ex_inj).1 e).2.symm), if_neg (fun e => hj ((ex_inj).1 e).2.symm),
          if_neg (fun e => e.2.elim hi hj)]
        simp
  · rw [if_neg (fun e => hg ((ex_inj).1 e).1.symm), if_neg (fun e => hg ((ex_inj).1 e).1.symm), if_neg (fun e => hg e.1)]
    simp

/-- A sum over the 4096 hidden units, expert by expert. -/
theorem sum_units (f : Fin 4096 → EReal) :
    ∑ j, f j = ∑ e : Fin 16, ∑ u : Fin 256, f ⟨e.val * 256 + u.val, by omega⟩ := by
  rw [← Fintype.sum_prod_type']
  refine (Fintype.sum_equiv (finProdFinEquiv : Fin 16 × Fin 256 ≃ Fin (16 * 256)) _ _ fun x => ?_).symm
  refine congrArg f (Fin.ext ?_)
  simp only [finProdFinEquiv_apply_val]
  omega

/-- The reference's row after the second residual. -/
theorem outR_eq (d : Fin 1024) : outR W t d =
    resid (x1R W t) (modRow (a4 W) t 5) (fun j => unit (hR W t) (fun x => a9 W (ix3 (expertOf j) x (unitOf j)))
      (fun x => a10 W (ix3 (expertOf j) x (unitOf j))) (gateR W t (expertOf j))) (fun j d => a11 W (ix2 j d)) d := by
  rw [outR_at]
  unfold resid
  rw [sum_units]
  refine congrArg (x1R W t d + modRow (a4 W) t 5 d * ·) (Finset.sum_congr rfl fun e _ => Finset.sum_congr rfl fun f _ => ?_)
  have he : expertOf ⟨e.val * 256 + f.val, by omega⟩ = e := Fin.ext (by simp only [expertOf]; omega)
  have hf : unitOf ⟨e.val * 256 + f.val, by omega⟩ = f := Fin.ext (by simp only [unitOf]; omega)
  beta_reduce
  rw [he, hf]

/-- The reference's result. -/
def refOut : Vec Ideal S16384x1024 .f32 :=
  mulf (mulf (res_main_v82 W) (broadcastInDim S16384x1024 ![0, 1] Facts₀.bcast_S16384x1_S16384x1024_0_1 (Host.rsqrt (addf (Host.divf (broadcastInDim S16384x1 ![0] Facts₀.bcast_S16384_S16384x1_0 (Host.reduceAdd (mulf (res_main_v82 W) (res_main_v82 W)) (constant S_ .f32 0x00000000#32) Facts₀.reducesTo_S16384x1024_S16384_d1 Facts₀.h_S_)) (broadcastInDim S16384x1 ![] Facts₀.bcast_S_S16384x1 (constant S_ .f32 0x44800000#32))) (broadcastInDim S16384x1 ![] Facts₀.bcast_S_S16384x1 (constant S_ .f32 0x358637BD#32)))))) (broadcastInDim S16384x1024 ![0, 1] Facts₀.bcast_S1x1024_S16384x1024_0_1 (W (Proc.devRef .tc main_arg12)))

theorem refOut_at (d : Fin 1024) : refOut W (ix2 t d) =
    rowOut (x1R W t) (hR W t) (modRow (a4 W) t 5) (fun d => a12 W (ix2 0 d)) (fun e x f => a9 W (ix3 e x f)) (fun e x f => a10 W (ix3 e x f))
      (fun j d => a11 W (ix2 j d)) (gateR W t) d := by
  have e : refOut W (ix2 t d) = rms (outR W t) d * a12 W (ix2 0 d) := by
    unfold refOut
    pointwise
    rfl
  rw [e]
  unfold rowOut
  rw [show outR W t = _ from funext fun d => outR_eq W d]

end Cert.OutMoe
-- ==== Proof.Half.lean ====
module

public import proofs.«01_k».proof.Proof.Spec
public import Idealize.ShloMosaic.Lib.Pipeline.Value

@[expose] public section

set_option maxRecDepth 16384

noncomputable section

namespace Cert.OutMoe

open Idealize.ShloMosaic
open Cert.KernelIdeal Cert.KernelIdeal.Gen

/-! # Half a block of tokens through the kernel's operations -/

theorem slices16 (e : Fin 16) : S256x128.Slices ![0, 32 * (e.val % 4) + e.val / 4] S256x1 := by
  revert e
  decide

/-- An expert's gated units of 256 tokens, the gate read from the expert's lane. -/
def actV (e : Fin 16) (H : FVec Ideal S256x1024 .bf16) (G : FVec Ideal S256x128 .f32) (wg wu : Vec Ideal S1x1024x256 .bf16) :
    FVec Ideal S256x256 .bf16 :=
  let z : FVec Ideal S256x256 .f32 := matmul dot_S256x1024_S1024x256_S256x256_1_0_0_1_n_n none H
    (shapeCast S1024x256 wg shapeCasts_S1x1024x256_S1024x256 : FVec Ideal S1024x256 .bf16) (constant S256x256 .f32 0x00000000#32)
  let u : FVec Ideal S256x256 .f32 := matmul dot_S256x1024_S1024x256_S256x256_1_0_0_1_n_n none H
    (shapeCast S1024x256 wu shapeCasts_S1x1024x256_S1024x256 : FVec Ideal S1024x256 .bf16) (constant S256x256 .f32 0x00000000#32)
  truncf .bf16 (mulf (mulf (mulf z (divf (broadcast S256x256 (Scalar.ofBits .f32 0x3F800000#32))
      (addf (broadcast S256x256 (Scalar.ofBits .f32 0x3F800000#32))
        (exp (subf (broadcast S256x256 (Scalar.ofBits .f32 0x00000000#32)) z))))) u)
    (broadcastTo S256x256 (extractStridedSlice S256x1 ![0, 32 * (e.val % 4) + e.val / 4] G (slices16 e))
      broadcasts_S256x1_S256x256)) bitsLt_bf16_f32

theorem concat16 : Shape.Concatenates ((List.ofFn fun _ : Fin 16 =>
    (⟨S256x256, fun _ => 0⟩ : (s : Shape) × (s.Idx → EReal))).map (·.1)) S256x4096 1 :=
  concatenates_S256x256_S256x256_S256x256_S256x256_S256x256_S256x256_S256x256_S256x256_S256x256_S256x256_S256x256_S256x256_S256x256_S256x256_S256x256_S256x256_S256x4096_d1

/-- The sixteen experts' units side by side. -/
def actsV (H : FVec Ideal S256x1024 .bf16) (G : FVec Ideal S256x128 .f32) (wg wu : Fin 16 → Vec Ideal S1x1024x256 .bf16) :
    FVec Ideal S256x4096 .bf16 :=
  concatenate S256x4096 1 (List.ofFn fun e : Fin 16 => ⟨S256x256, actV e H G (wg e) (wu e)⟩) concat16

section Half

variable (v0 : Vec Ideal S256x256 .bf16) (v1 : Vec Ideal S256x512 .bf16) (v2 : Vec Ideal S256x256 .bf16)
  (v4 : Vec Ideal S256x1024 .f32) (g1 sc sh g2 : Vec Ideal S1x1x1024 .f32) (n2 : Vec Ideal S1x1024 .f32)
  (wo : Vec Ideal S1024x1024 .bf16) (whi wlo : Vec Ideal S1024x128 .bf16) (rb : Vec Ideal S1x128 .f32)
  (wg wu : Fin 16 → Vec Ideal S1x1024x256 .bf16) (wd : Vec Ideal S4096x1024 .bf16) (fg : Vec Ideal S1x1024 .f32)

/-- The rows after the output projection and the first residual. -/
def halfX : FVec Ideal S256x1024 .f32 := k0_pay2 v0 v1 v2 v4 g1 wo

/-- The normalized and modulated rows. -/
def halfH : FVec Ideal S256x1024 .bf16 := k0_pay6 (k0_pay3 v0 v1 v2 v4 g1 wo n2 sc) (k0_pay4 sh)

/-- The router's scores. -/
def halfS : FVec Ideal S256x128 .f32 := k0_pay7 (k0_pay3 v0 v1 v2 v4 g1 wo n2 sc) (k0_pay4 sh) whi whi wlo

/-- The biased scores. -/
def halfB : FVec Ideal S256x128 .f32 := k0_pay8 (k0_pay3 v0 v1 v2 v4 g1 wo n2 sc) (k0_pay4 sh) whi whi wlo rb

/-- The gates. -/
def halfG : FVec Ideal S256x128 .f32 :=
  gatesV (halfS v0 v1 v2 v4 g1 sc sh n2 wo whi wlo) (halfB v0 v1 v2 v4 g1 sc sh n2 wo whi wlo rb)

/-- The rows that leave. -/
def half : FVec Ideal S256x1024 .f32 :=
  k0_pay37 (halfX v0 v1 v2 v4 g1 wo)
    (actsV (halfH v0 v1 v2 v4 g1 sc sh n2 wo) (halfG v0 v1 v2 v4 g1 sc sh n2 wo whi wlo rb) wg wu) wd g2 fg

theorem actV_at (e : Fin 16) (H : FVec Ideal S256x1024 .bf16) (G : FVec Ideal S256x128 .f32)
    (wg wu : Vec Ideal S1x1024x256 .bf16) (r f : Fin 256) :
    actV e H G wg wu (ix2 r f) = unit (fun x => H (ix2 r x)) (fun x => wg (ix3 0 x f)) (fun x => wu (ix3 0 x f))
      (G (ix2 r (lane16 e))) := by
  pointwise [actV]
  simp only [unit, lgst, lane16]

theorem actsV_at (H : FVec Ideal S256x1024 .bf16) (G : FVec Ideal S256x128 .f32)
    (wg wu : Fin 16 → Vec Ideal S1x1024x256 .bf16) (r : Fin 256) (j : Fin 4096) :
    actsV H G wg wu (ix2 r j) = actV (expertOf j) H G (wg (expertOf j)) (wu (expertOf j)) (ix2 r (unitOf j)) := by
  unfold actsV
  refine concatenate_ofFn_apply (t := S256x4096) (s₁ := S256x256) 1 (fun e : Fin 16 => actV e H G (wg e) (wu e)) concat16
    rfl 256 rfl (ix2 r j) (expertOf j) rfl (ix2 r (unitOf j)) rfl ?_
  intro b hb
  fin_cases b
  · rfl
  · exact absurd rfl hb

/-- The rows after the first residual, at an index. -/
theorem halfX_at (r : Fin 256) (d : Fin 1024) :
    halfX v0 v1 v2 v4 g1 wo (ix2 r d) = resid (fun d => v4 (ix2 r d)) (fun d => g1 (ix3 0 0 d))
      (mix (fun k => v0 (ix2 r k)) (fun k => v1 (ix2 r k)) (fun k => v2 (ix2 r k))) (fun k d => wo (ix2 k d)) d := by
  pointwise [halfX, k0_pay2]
  rfl

/-- The modulated rows, at an index. -/
theorem halfH_at (r : Fin 256) (d : Fin 1024) :
    halfH v0 v1 v2 v4 g1 sc sh n2 wo (ix2 r d) = modul (fun d => halfX v0 v1 v2 v4 g1 wo (ix2 r d)) (fun d => n2 (ix2 0 d))
      (fun d => sc (ix3 0 0 d)) (fun d => sh (ix3 0 0 d)) d := by
  have e : k0_pay2 v0 v1 v2 v4 g1 wo = halfX v0 v1 v2 v4 g1 wo := rfl
  pointwise [halfH, k0_pay6, k0_pay5, k0_pay4, k0_pay3, e]
  rfl

/-- The scores, at an index. -/
theorem halfS_at (r : Fin 256) (l : Fin 128) :
    halfS v0 v1 v2 v4 g1 sc sh n2 wo whi wlo (ix2 r l) =
      lgst (∑ x, halfH v0 v1 v2 v4 g1 sc sh n2 wo (ix2 r x) * whi (ix2 x l)
        + ∑ x, (halfH v0 v1 v2 v4 g1 sc sh n2 wo (ix2 r x) - halfH v0 v1 v2 v4 g1 sc sh n2 wo (ix2 r x)) * whi (ix2 x l)
        + ∑ x, halfH v0 v1 v2 v4 g1 sc sh n2 wo (ix2 r x) * wlo (ix2 x l)) := by
  pointwise [halfS, k0_pay7, halfH, k0_pay6]
  rfl

/-- The biased scores, at an index. -/
theorem halfB_at (r : Fin 256) (l : Fin 128) :
    halfB v0 v1 v2 v4 g1 sc sh n2 wo whi wlo rb (ix2 r l) =
      halfS v0 v1 v2 v4 g1 sc sh n2 wo whi wlo (ix2 r l) + rb (ix2 0 l) := by
  pointwise [halfB, k0_pay8, halfS]

/-- The rows that leave, at an index, from the gates. -/
theorem half_at (r : Fin 256) (d : Fin 1024) :
    half v0 v1 v2 v4 g1 sc sh g2 n2 wo whi wlo rb wg wu wd fg (ix2 r d) =
      rowOut (fun d => halfX v0 v1 v2 v4 g1 wo (ix2 r d)) (fun d => halfH v0 v1 v2 v4 g1 sc sh n2 wo (ix2 r d))
        (fun d => g2 (ix3 0 0 d)) (fun d => fg (ix2 0 d)) (fun e x f => wg e (ix3 0 x f)) (fun e x f => wu e (ix3 0 x f))
        (fun j d => wd (ix2 j d)) (fun e => halfG v0 v1 v2 v4 g1 sc sh n2 wo whi wlo rb (ix2 r (lane16 e))) d := by
  unfold half
  pointwise [k0_pay37]
  simp only [actsV_at, actV_at]
  rfl

end Half

end Cert.OutMoe
-- ==== Proof.Halves.lean ====
module

public import proofs.«01_k».proof.Proof.Half
public import proofs.«01_k».proof.Proof.Gen.KernelIdeal.Frame
public import Idealize.ShloMosaic.Lib.Pipeline.ValueKit

@[expose] public section

set_option maxRecDepth 16384

noncomputable section

namespace Cert.OutMoe

open Idealize.ShloMosaic
open Cert.KernelIdeal Cert.KernelIdeal.Gen

/-! # The two halves of the body's output block -/

theorem inb16 (e : Fin 16) (a : Fin 3) : (![e.val, 0, 0] : Fin 3 → Nat) a + S1x1024x256.size a ≤ S16x1024x256.size a := by
  revert e a
  decide

/-- An expert's slab of a stack of sixteen. -/
def expert (w : Vec Ideal S16x1024x256 .bf16) (e : Fin 16) : Vec Ideal S1x1024x256 .bf16 :=
  View.ld w (Rect.unit (s := S16x1024x256) ![e.val, 0, 0] S1x1024x256.size (inb16 e))

theorem expert_at (w : Vec Ideal S16x1024x256 .bf16) (e : Fin 16) (x : Fin 1024) (f : Fin 256) :
    expert w e (ix3 0 x f) = w (ix3 e x f) :=
  View.ld_unit_apply_of _ _ _ _ _ _ fun a => by
    fin_cases a
    · rfl
    · exact (Nat.zero_add _).symm
    · exact (Nat.zero_add _).symm

/-- Row `r` of the first half is the block's row `r`. -/
def up (r : Fin 256) : Fin 512 := ⟨r.val, by omega⟩

/-- Row `r` of the second half is the block's row `256 + r`. -/
def dn (r : Fin 256) : Fin 512 := ⟨256 + r.val, by omega⟩

theorem emb_up (r : Fin 256) (d : Fin 1024) : r0_2.emb (ix2 r d) = ix2 (up r) d := by
  funext a
  apply Fin.ext
  refine (ValueKit.rect_emb_unit_val _ _ _ _ a).trans ?_
  fin_cases a
  · exact Nat.zero_add _
  · exact Nat.zero_add _

theorem emb_dn (r : Fin 256) (d : Fin 1024) : r0_27.emb (ix2 r d) = ix2 (dn r) d := by
  funext a
  apply Fin.ext
  refine (ValueKit.rect_emb_unit_val _ _ _ _ a).trans ?_
  fin_cases a
  · rfl
  · exact Nat.zero_add _

theorem up_outside (r : Fin 256) (d : Fin 1024) : (ix2 (up r) d : S512x1024.Idx) ∉ r0_27.set := by
  intro h
  have h0 := (Rect.mem_set_unit.mp h ⟨0, by decide⟩).1
  have : (256 : Nat) ≤ r.val := h0
  omega

theorem ld_a_up (X : Vec Ideal S512x256 .bf16) (r : Fin 256) (d : Fin 256) : View.ld X r0_0 (ix2 r d) = X (ix2 (up r) d) :=
  View.ld_unit_apply_of _ _ _ _ _ _ fun a => by
    fin_cases a
    · exact (Nat.zero_add _).symm
    · exact (Nat.zero_add _).symm

theorem ld_b_up (X : Vec Ideal S512x512 .bf16) (r : Fin 256) (d : Fin 512) : View.ld X r0_1 (ix2 r d) = X (ix2 (up r) d) :=
  View.ld_unit_apply_of _ _ _ _ _ _ fun a => by
    fin_cases a
    · exact (Nat.zero_add _).symm
    · exact (Nat.zero_add _).symm

theorem ld_x_up (X : Vec Ideal S512x1024 .f32) (r : Fin 256) (d : Fin 1024) : View.ld X r0_2 (ix2 r d) = X (ix2 (up r) d) :=
  View.ld_unit_apply_of _ _ _ _ _ _ fun a => by
    fin_cases a
    · exact (Nat.zero_add _).symm
    · exact (Nat.zero_add _).symm

theorem ld_a_dn (X : Vec Ideal S512x256 .bf16) (r : Fin 256) (d : Fin 256) : View.ld X r0_25 (ix2 r d) = X (ix2 (dn r) d) :=
  View.ld_unit_apply_of _ _ _ _ _ _ fun a => by
    fin_cases a
    · rfl
    · exact (Nat.zero_add _).symm

theorem ld_b_dn (X : Vec Ideal S512x512 .bf16) (r : Fin 256) (d : Fin 512) : View.ld X r0_26 (ix2 r d) = X (ix2 (dn r) d) :=
  View.ld_unit_apply_of _ _ _ _ _ _ fun a => by
    fin_cases a
    · rfl
    · exact (Nat.zero_add _).symm

theorem ld_x_dn (X : Vec Ideal S512x1024 .f32) (r : Fin 256) (d : Fin 1024) : View.ld X r0_27 (ix2 r d) = X (ix2 (dn r) d) :=
  View.ld_unit_apply_of _ _ _ _ _ _ fun a => by
    fin_cases a
    · rfl
    · exact (Nat.zero_add _).symm

theorem ld_mod (X : Vec Ideal S1x1x1024 .f32) : View.ld X r0_3 = X :=
  View.ld_unit_lit _ _ (by decide)

theorem ld_wo (X : Vec Ideal S1024x1024 .bf16) : View.ld X r0_4 = X :=
  View.ld_unit_lit _ _ (by decide)

theorem ld_row (X : Vec Ideal S1x1024 .f32) : View.ld X r0_5 = X :=
  View.ld_unit_lit _ _ (by decide)

theorem ld_router (X : Vec Ideal S1024x128 .bf16) : View.ld X r0_6 = X :=
  View.ld_unit_lit _ _ (by decide)

theorem ld_bias (X : Vec Ideal S1x128 .f32) : View.ld X r0_7 = X :=
  View.ld_unit_lit _ _ (by decide)

theorem ld_down (X : Vec Ideal S4096x1024 .bf16) : View.ld X r0_24 = X :=
  View.ld_unit_lit _ _ (by decide)

section Body

variable (x0 : Vec Ideal S512x256 .bf16) (x1 : Vec Ideal S512x512 .bf16) (x2 : Vec Ideal S512x256 .bf16) (x3 : Vec Ideal S512x1024 .f32) (x4 : Vec Ideal S1x1x1024 .f32) (x5 : Vec Ideal S1x1x1024 .f32) (x6 : Vec Ideal S1x1x1024 .f32) (x7 : Vec Ideal S1x1x1024 .f32) (x8 : Vec Ideal S1x1024 .f32) (x9 : Vec Ideal S1024x1024 .bf16) (x10 : Vec Ideal S1024x128 .bf16) (x11 : Vec Ideal S1024x128 .bf16) (x12 : Vec Ideal S1x128 .f32) (x13 : Vec Ideal S16x1024x256 .bf16) (x14 : Vec Ideal S16x1024x256 .bf16) (x15 : Vec Ideal S4096x1024 .bf16) (x16 : Vec Ideal S1x1024 .f32)

theorem first_x : k0_pay2 (View.ld x0 r0_0) (View.ld x1 r0_1) (View.ld x2 r0_0) (View.ld x3 r0_2) (View.ld x4 r0_3) (View.ld x9 r0_4) = halfX (View.ld x0 r0_0) (View.ld x1 r0_1) (View.ld x2 r0_0) (View.ld x3 r0_2) (View.ld x4 r0_3) (View.ld x9 r0_4) := rfl

theorem first_h : k0_pay85 x0 x1 x2 x3 x4 x5 x6 x7 x8 x9 x10 x11 x12 x13 x14 x15 x16 = halfH (View.ld x0 r0_0) (View.ld x1 r0_1) (View.ld x2 r0_0) (View.ld x3 r0_2) (View.ld x4 r0_3) (View.ld x5 r0_3) (View.ld x6 r0_3) (View.ld x8 r0_5) (View.ld x9 r0_4) := rfl

theorem first_g : k0_pay93 x0 x1 x2 x3 x4 x5 x6 x7 x8 x9 x10 x11 x12 x13 x14 x15 x16 = halfG (View.ld x0 r0_0) (View.ld x1 r0_1) (View.ld x2 r0_0) (View.ld x3 r0_2) (View.ld x4 r0_3) (View.ld x5 r0_3) (View.ld x6 r0_3) (View.ld x8 r0_5) (View.ld x9 r0_4) (View.ld x10 r0_6) (View.ld x11 r0_6) (View.ld x12 r0_7) := rfl

theorem second_x : k0_pay94 x0 x1 x2 x3 x4 x5 x6 x7 x8 x9 x10 x11 x12 x13 x14 x15 x16 = halfX (View.ld x0 r0_25) (View.ld x1 r0_26) (View.ld x2 r0_25) (View.ld x3 r0_27) (View.ld x4 r0_3) (View.ld x9 r0_4) := rfl

theorem second_h : k0_pay95 x0 x1 x2 x3 x4 x5 x6 x7 x8 x9 x10 x11 x12 x13 x14 x15 x16 = halfH (View.ld x0 r0_25) (View.ld x1 r0_26) (View.ld x2 r0_25) (View.ld x3 r0_27) (View.ld x4 r0_3) (View.ld x5 r0_3) (View.ld x6 r0_3) (View.ld x8 r0_5) (View.ld x9 r0_4) := rfl

theorem second_g : k0_pay108 x0 x1 x2 x3 x4 x5 x6 x7 x8 x9 x10 x11 x12 x13 x14 x15 x16 = halfG (View.ld x0 r0_25) (View.ld x1 r0_26) (View.ld x2 r0_25) (View.ld x3 r0_27) (View.ld x4 r0_3) (View.ld x5 r0_3) (View.ld x6 r0_3) (View.ld x8 r0_5) (View.ld x9 r0_4) (View.ld x10 r0_6) (View.ld x11 r0_6) (View.ld x12 r0_7) := rfl

/-- A row of the block after the first residual. -/
def xRow (ρ : Fin 512) : Fin 1024 → EReal :=
  resid (fun d => x3 (ix2 ρ d)) (fun d => x4 (ix3 0 0 d)) (mix (fun k => x0 (ix2 ρ k)) (fun k => x1 (ix2 ρ k)) (fun k => x2 (ix2 ρ k)))
    (fun k d => x9 (ix2 k d))

/-- A row of the block normalized and modulated. -/
def hRow (ρ : Fin 512) : Fin 1024 → EReal :=
  modul (xRow x0 x1 x2 x3 x4 x9 ρ) (fun d => x8 (ix2 0 d)) (fun d => x5 (ix3 0 0 d)) (fun d => x6 (ix3 0 0 d))

/-- A score from a row: the router's product in three terms, through the logistic function. -/
def score3 (h : Fin 1024 → EReal) (whi wlo : Vec Ideal S1024x128 .bf16) (l : Fin 128) : EReal :=
  lgst (∑ x, h x * whi (ix2 x l) + ∑ x, (h x - h x) * whi (ix2 x l) + ∑ x, h x * wlo (ix2 x l))

theorem first_x_at (r : Fin 256) : (fun d => halfX (View.ld x0 r0_0) (View.ld x1 r0_1) (View.ld x2 r0_0) (View.ld x3 r0_2) (View.ld x4 r0_3) (View.ld x9 r0_4) (ix2 r d)) = xRow x0 x1 x2 x3 x4 x9 (up r) := by
  funext d
  rw [halfX_at]
  rw [ld_mod, ld_wo]
  have e0 : (fun k => View.ld x0 r0_0 (ix2 r k)) = fun k => x0 (ix2 (up r) k) := funext (ld_a_up x0 r)
  have e1 : (fun k => View.ld x1 r0_1 (ix2 r k)) = fun k => x1 (ix2 (up r) k) := funext (ld_b_up x1 r)
  have e2 : (fun k => View.ld x2 r0_0 (ix2 r k)) = fun k => x2 (ix2 (up r) k) := funext (ld_a_up x2 r)
  have e3 : (fun d => View.ld x3 r0_2 (ix2 r d)) = fun d => x3 (ix2 (up r) d) := funext (ld_x_up x3 r)
  rw [e0, e1, e2, e3]
  rfl

theorem first_h_at (r : Fin 256) : (fun d => halfH (View.ld x0 r0_0) (View.ld x1 r0_1) (View.ld x2 r0_0) (View.ld x3 r0_2) (View.ld x4 r0_3) (View.ld x5 r0_3) (View.ld x6 r0_3) (View.ld x8 r0_5) (View.ld x9 r0_4) (ix2 r d)) = hRow x0 x1 x2 x3 x4 x5 x6 x8 x9 (up r) := by
  funext d
  rw [halfH_at, first_x_at]
  rw [ld_mod, ld_mod, ld_row]
  rfl

theorem first_s_at (r : Fin 256) (l : Fin 128) : halfS (View.ld x0 r0_0) (View.ld x1 r0_1) (View.ld x2 r0_0) (View.ld x3 r0_2) (View.ld x4 r0_3) (View.ld x5 r0_3) (View.ld x6 r0_3) (View.ld x8 r0_5) (View.ld x9 r0_4) (View.ld x10 r0_6) (View.ld x11 r0_6) (ix2 r l) = score3 (hRow x0 x1 x2 x3 x4 x5 x6 x8 x9 (up r)) x10 x11 l := by
  rw [halfS_at]
  have e := first_h_at x0 x1 x2 x3 x4 x5 x6 x8 x9 r
  have e' : ∀ d, halfH (View.ld x0 r0_0) (View.ld x1 r0_1) (View.ld x2 r0_0) (View.ld x3 r0_2) (View.ld x4 r0_3) (View.ld x5 r0_3) (View.ld x6 r0_3) (View.ld x8 r0_5) (View.ld x9 r0_4) (ix2 r d) = (hRow x0 x1 x2 x3 x4 x5 x6 x8 x9 (up r)) d := fun d => congrFun e d
  simp only [e']
  rw [ld_router, ld_router]
  rfl

/-- The first half's rows, from the routing of their scores. -/
theorem out_first (r : Fin 256) (d : Fin 1024) {I J : Fin 4 → Fin 4} {g : Fin 4}
    (hR : Routed (fun h k => score3 (hRow x0 x1 x2 x3 x4 x5 x6 x8 x9 (up r)) x10 x11 (lane h k) + x12 (ix2 0 (lane h k))) I J g)
    (hT : score3 (hRow x0 x1 x2 x3 x4 x5 x6 x8 x9 (up r)) x10 x11 (lane g (I g)) + score3 (hRow x0 x1 x2 x3 x4 x5 x6 x8 x9 (up r)) x10 x11 (lane g (J g)) ≠ 0) :
    out0_17 x0 x1 x2 x3 x4 x5 x6 x7 x8 x9 x10 x11 x12 x13 x14 x15 x16 (ix2 (up r) d) =
      rowOut (xRow x0 x1 x2 x3 x4 x9 (up r)) (hRow x0 x1 x2 x3 x4 x5 x6 x8 x9 (up r)) (fun d => x7 (ix3 0 0 d)) (fun d => x16 (ix2 0 d)) (fun e x f => x13 (ix3 e x f)) (fun e x f => x14 (ix3 e x f))
        (fun j d => x15 (ix2 j d)) (fun e => gateOf (fun h k => score3 (hRow x0 x1 x2 x3 x4 x5 x6 x8 x9 (up r)) x10 x11 (lane h k)) I J g ⟨e.val / 4, by omega⟩ ⟨e.val % 4, by omega⟩) d := by
  have e : out0_17 x0 x1 x2 x3 x4 x5 x6 x7 x8 x9 x10 x11 x12 x13 x14 x15 x16 (ix2 (up r) d) = half (View.ld x0 r0_0) (View.ld x1 r0_1) (View.ld x2 r0_0) (View.ld x3 r0_2) (View.ld x4 r0_3) (View.ld x5 r0_3) (View.ld x6 r0_3) (View.ld x7 r0_3) (View.ld x8 r0_5) (View.ld x9 r0_4) (View.ld x10 r0_6) (View.ld x11 r0_6) (View.ld x12 r0_7) (expert x13) (expert x14) (View.ld x15 r0_24) (View.ld x16 r0_5) (ix2 r d) := by
    unfold out0_17
    rw [View.canon_cons_of_not_mem]
    · rw [← emb_up r d]
      refine (View.canon_cons_emb r0_2 _ _ (ix2 r d)).trans ?_
      rw [first_x, first_h, first_g]
      rfl
    · exact up_outside r d
  have eS : ∀ l, halfS (View.ld x0 r0_0) (View.ld x1 r0_1) (View.ld x2 r0_0) (View.ld x3 r0_2) (View.ld x4 r0_3) (View.ld x5 r0_3) (View.ld x6 r0_3) (View.ld x8 r0_5) (View.ld x9 r0_4) (View.ld x10 r0_6) (View.ld x11 r0_6) (ix2 r l) = score3 (hRow x0 x1 x2 x3 x4 x5 x6 x8 x9 (up r)) x10 x11 l := first_s_at x0 x1 x2 x3 x4 x5 x6 x8 x9 x10 x11 r
  have eB : ∀ l, halfB (View.ld x0 r0_0) (View.ld x1 r0_1) (View.ld x2 r0_0) (View.ld x3 r0_2) (View.ld x4 r0_3) (View.ld x5 r0_3) (View.ld x6 r0_3) (View.ld x8 r0_5) (View.ld x9 r0_4) (View.ld x10 r0_6) (View.ld x11 r0_6) (View.ld x12 r0_7) (ix2 r l) = score3 (hRow x0 x1 x2 x3 x4 x5 x6 x8 x9 (up r)) x10 x11 l + x12 (ix2 0 l) := fun l => by
    rw [halfB_at, eS, ld_bias]
  have eG : ∀ h k, halfG (View.ld x0 r0_0) (View.ld x1 r0_1) (View.ld x2 r0_0) (View.ld x3 r0_2) (View.ld x4 r0_3) (View.ld x5 r0_3) (View.ld x6 r0_3) (View.ld x8 r0_5) (View.ld x9 r0_4) (View.ld x10 r0_6) (View.ld x11 r0_6) (View.ld x12 r0_7) (ix2 r (lane h k)) = gateOf (fun h k => score3 (hRow x0 x1 x2 x3 x4 x5 x6 x8 x9 (up r)) x10 x11 (lane h k)) I J g h k := fun h k => by
    have q := gatesV_at (halfS (View.ld x0 r0_0) (View.ld x1 r0_1) (View.ld x2 r0_0) (View.ld x3 r0_2) (View.ld x4 r0_3) (View.ld x5 r0_3) (View.ld x6 r0_3) (View.ld x8 r0_5) (View.ld x9 r0_4) (View.ld x10 r0_6) (View.ld x11 r0_6)) (halfB (View.ld x0 r0_0) (View.ld x1 r0_1) (View.ld x2 r0_0) (View.ld x3 r0_2) (View.ld x4 r0_3) (View.ld x5 r0_3) (View.ld x6 r0_3) (View.ld x8 r0_5) (View.ld x9 r0_4) (View.ld x10 r0_6) (View.ld x11 r0_6) (View.ld x12 r0_7)) r (I := I) (J := J) (g := g) (by simp only [eB]; exact hR) (by simp only [eS]; exact hT) h k
    simp only [eS] at q
    exact q
  rw [e, half_at, first_x_at, first_h_at]
  rw [ld_mod, ld_row, ld_down]
  simp only [expert_at]
  congr 1
  funext e
  exact eG ⟨e.val / 4, by omega⟩ ⟨e.val % 4, by omega⟩

theorem second_x_at (r : Fin 256) : (fun d => halfX (View.ld x0 r0_25) (View.ld x1 r0_26) (View.ld x2 r0_25) (View.ld x3 r0_27) (View.ld x4 r0_3) (View.ld x9 r0_4) (ix2 r d)) = xRow x0 x1 x2 x3 x4 x9 (dn r) := by
  funext d
  rw [halfX_at]
  rw [ld_mod, ld_wo]
  have e0 : (fun k => View.ld x0 r0_25 (ix2 r k)) = fun k => x0 (ix2 (dn r) k) := funext (ld_a_dn x0 r)
  have e1 : (fun k => View.ld x1 r0_26 (ix2 r k)) = fun k => x1 (ix2 (dn r) k) := funext (ld_b_dn x1 r)
  have e2 : (fun k => View.ld x2 r0_25 (ix2 r k)) = fun k => x2 (ix2 (dn r) k) := funext (ld_a_dn x2 r)
  have e3 : (fun d => View.ld x3 r0_27 (ix2 r d)) = fun d => x3 (ix2 (dn r) d) := funext (ld_x_dn x3 r)
  rw [e0, e1, e2, e3]
  rfl

theorem second_h_at (r : Fin 256) : (fun d => halfH (View.ld x0 r0_25) (View.ld x1 r0_26) (View.ld x2 r0_25) (View.ld x3 r0_27) (View.ld x4 r0_3) (View.ld x5 r0_3) (View.ld x6 r0_3) (View.ld x8 r0_5) (View.ld x9 r0_4) (ix2 r d)) = hRow x0 x1 x2 x3 x4 x5 x6 x8 x9 (dn r) := by
  funext d
  rw [halfH_at, second_x_at]
  rw [ld_mod, ld_mod, ld_row]
  rfl

theorem second_s_at (r : Fin 256) (l : Fin 128) : halfS (View.ld x0 r0_25) (View.ld x1 r0_26) (View.ld x2 r0_25) (View.ld x3 r0_27) (View.ld x4 r0_3) (View.ld x5 r0_3) (View.ld x6 r0_3) (View.ld x8 r0_5) (View.ld x9 r0_4) (View.ld x10 r0_6) (View.ld x11 r0_6) (ix2 r l) = score3 (hRow x0 x1 x2 x3 x4 x5 x6 x8 x9 (dn r)) x10 x11 l := by
  rw [halfS_at]
  have e := second_h_at x0 x1 x2 x3 x4 x5 x6 x8 x9 r
  have e' : ∀ d, halfH (View.ld x0 r0_25) (View.ld x1 r0_26) (View.ld x2 r0_25) (View.ld x3 r0_27) (View.ld x4 r0_3) (View.ld x5 r0_3) (View.ld x6 r0_3) (View.ld x8 r0_5) (View.ld x9 r0_4) (ix2 r d) = (hRow x0 x1 x2 x3 x4 x5 x6 x8 x9 (dn r)) d := fun d => congrFun e d
  simp only [e']
  rw [ld_router, ld_router]
  rfl

/-- The second half's rows, from the routing of their scores. -/
theorem out_second (r : Fin 256) (d : Fin 1024) {I J : Fin 4 → Fin 4} {g : Fin 4}
    (hR : Routed (fun h k => score3 (hRow x0 x1 x2 x3 x4 x5 x6 x8 x9 (dn r)) x10 x11 (lane h k) + x12 (ix2 0 (lane h k))) I J g)
    (hT : score3 (hRow x0 x1 x2 x3 x4 x5 x6 x8 x9 (dn r)) x10 x11 (lane g (I g)) + score3 (hRow x0 x1 x2 x3 x4 x5 x6 x8 x9 (dn r)) x10 x11 (lane g (J g)) ≠ 0) :
    out0_17 x0 x1 x2 x3 x4 x5 x6 x7 x8 x9 x10 x11 x12 x13 x14 x15 x16 (ix2 (dn r) d) =
      rowOut (xRow x0 x1 x2 x3 x4 x9 (dn r)) (hRow x0 x1 x2 x3 x4 x5 x6 x8 x9 (dn r)) (fun d => x7 (ix3 0 0 d)) (fun d => x16 (ix2 0 d)) (fun e x f => x13 (ix3 e x f)) (fun e x f => x14 (ix3 e x f))
        (fun j d => x15 (ix2 j d)) (fun e => gateOf (fun h k => score3 (hRow x0 x1 x2 x3 x4 x5 x6 x8 x9 (dn r)) x10 x11 (lane h k)) I J g ⟨e.val / 4, by omega⟩ ⟨e.val % 4, by omega⟩) d := by
  have e : out0_17 x0 x1 x2 x3 x4 x5 x6 x7 x8 x9 x10 x11 x12 x13 x14 x15 x16 (ix2 (dn r) d) = half (View.ld x0 r0_25) (View.ld x1 r0_26) (View.ld x2 r0_25) (View.ld x3 r0_27) (View.ld x4 r0_3) (View.ld x5 r0_3) (View.ld x6 r0_3) (View.ld x7 r0_3) (View.ld x8 r0_5) (View.ld x9 r0_4) (View.ld x10 r0_6) (View.ld x11 r0_6) (View.ld x12 r0_7) (expert x13) (expert x14) (View.ld x15 r0_24) (View.ld x16 r0_5) (ix2 r d) := by
    unfold out0_17
    skip
    · rw [← emb_dn r d]
      refine (View.canon_cons_emb r0_27 _ _ (ix2 r d)).trans ?_
      rw [second_x, second_h, second_g]
      rfl

  have eS : ∀ l, halfS (View.ld x0 r0_25) (View.ld x1 r0_26) (View.ld x2 r0_25) (View.ld x3 r0_27) (View.ld x4 r0_3) (View.ld x5 r0_3) (View.ld x6 r0_3) (View.ld x8 r0_5) (View.ld x9 r0_4) (View.ld x10 r0_6) (View.ld x11 r0_6) (ix2 r l) = score3 (hRow x0 x1 x2 x3 x4 x5 x6 x8 x9 (dn r)) x10 x11 l := second_s_at x0 x1 x2 x3 x4 x5 x6 x8 x9 x10 x11 r
  have eB : ∀ l, halfB (View.ld x0 r0_25) (View.ld x1 r0_26) (View.ld x2 r0_25) (View.ld x3 r0_27) (View.ld x4 r0_3) (View.ld x5 r0_3) (View.ld x6 r0_3) (View.ld x8 r0_5) (View.ld x9 r0_4) (View.ld x10 r0_6) (View.ld x11 r0_6) (View.ld x12 r0_7) (ix2 r l) = score3 (hRow x0 x1 x2 x3 x4 x5 x6 x8 x9 (dn r)) x10 x11 l + x12 (ix2 0 l) := fun l => by
    rw [halfB_at, eS, ld_bias]
  have eG : ∀ h k, halfG (View.ld x0 r0_25) (View.ld x1 r0_26) (View.ld x2 r0_25) (View.ld x3 r0_27) (View.ld x4 r0_3) (View.ld x5 r0_3) (View.ld x6 r0_3) (View.ld x8 r0_5) (View.ld x9 r0_4) (View.ld x10 r0_6) (View.ld x11 r0_6) (View.ld x12 r0_7) (ix2 r (lane h k)) = gateOf (fun h k => score3 (hRow x0 x1 x2 x3 x4 x5 x6 x8 x9 (dn r)) x10 x11 (lane h k)) I J g h k := fun h k => by
    have q := gatesV_at (halfS (View.ld x0 r0_25) (View.ld x1 r0_26) (View.ld x2 r0_25) (View.ld x3 r0_27) (View.ld x4 r0_3) (View.ld x5 r0_3) (View.ld x6 r0_3) (View.ld x8 r0_5) (View.ld x9 r0_4) (View.ld x10 r0_6) (View.ld x11 r0_6)) (halfB (View.ld x0 r0_25) (View.ld x1 r0_26) (View.ld x2 r0_25) (View.ld x3 r0_27) (View.ld x4 r0_3) (View.ld x5 r0_3) (View.ld x6 r0_3) (View.ld x8 r0_5) (View.ld x9 r0_4) (View.ld x10 r0_6) (View.ld x11 r0_6) (View.ld x12 r0_7)) r (I := I) (J := J) (g := g) (by simp only [eB]; exact hR) (by simp only [eS]; exact hT) h k
    simp only [eS] at q
    exact q
  rw [e, half_at, second_x_at, second_h_at]
  rw [ld_mod, ld_row, ld_down]
  simp only [expert_at]
  congr 1
  funext e
  exact eG ⟨e.val / 4, by omega⟩ ⟨e.val % 4, by omega⟩

/-- A row of the block, from the routing of its scores. -/
theorem out_at (ρ : Fin 512) (d : Fin 1024) {I J : Fin 4 → Fin 4} {g : Fin 4}
    (hR : Routed (fun h k => score3 (hRow x0 x1 x2 x3 x4 x5 x6 x8 x9 ρ) x10 x11 (lane h k) + x12 (ix2 0 (lane h k))) I J g)
    (hT : score3 (hRow x0 x1 x2 x3 x4 x5 x6 x8 x9 ρ) x10 x11 (lane g (I g)) + score3 (hRow x0 x1 x2 x3 x4 x5 x6 x8 x9 ρ) x10 x11 (lane g (J g)) ≠ 0) :
    out0_17 x0 x1 x2 x3 x4 x5 x6 x7 x8 x9 x10 x11 x12 x13 x14 x15 x16 (ix2 ρ d) =
      rowOut (xRow x0 x1 x2 x3 x4 x9 ρ) (hRow x0 x1 x2 x3 x4 x5 x6 x8 x9 ρ) (fun d => x7 (ix3 0 0 d)) (fun d => x16 (ix2 0 d)) (fun e x f => x13 (ix3 e x f)) (fun e x f => x14 (ix3 e x f))
        (fun j d => x15 (ix2 j d)) (fun e => gateOf (fun h k => score3 (hRow x0 x1 x2 x3 x4 x5 x6 x8 x9 ρ) x10 x11 (lane h k)) I J g ⟨e.val / 4, by omega⟩ ⟨e.val % 4, by omega⟩) d := by
  rcases Nat.lt_or_ge ρ.val 256 with h | h
  · exact out_first x0 x1 x2 x3 x4 x5 x6 x7 x8 x9 x10 x11 x12 x13 x14 x15 x16 ⟨ρ.val, h⟩ d hR hT
  · obtain ⟨r, rfl⟩ : ∃ r : Fin 256, ρ = dn r := ⟨⟨ρ.val - 256, by omega⟩, Fin.ext (by simp only [dn]; omega)⟩
    exact out_second x0 x1 x2 x3 x4 x5 x6 x7 x8 x9 x10 x11 x12 x13 x14 x15 x16 r d hR hT

end Body

end Cert.OutMoe
-- ==== Proof.Blocks.lean ====
module

public import proofs.«01_k».proof.Proof.Halves
public import proofs.«01_k».proof.Proof.Gen.KernelIdeal.Value
public import Idealize.ShloMosaic.Lib.Claim

@[expose] public section

set_option maxRecDepth 16384

noncomputable section

namespace Cert.OutMoe

open Idealize.ShloMosaic Idealize.ShloMosaic.TcCoe
open Cert.KernelIdeal Cert.KernelIdeal.Gen

/-! # The windows' blocks, read off the arrays -/

/-- The grid point's first coordinate is the point. -/
theorem coord (t : Fin cfg0.N) : (grid0.coords t 0).val = t.val := by
  revert t
  decide +kernel

theorem pt_lt (t : Fin cfg0.N) : t.val < 32 := t.isLt.trans_eq N_0

/-- Where each window's block stands at a grid point. -/
theorem places : ∀ t : Fin cfg0.N,
    win0_0.index t = ![t.val, 0] ∧ win0_1.index t = ![t.val, 0] ∧ win0_2.index t = ![t.val, 0] ∧ win0_3.index t = ![t.val, 0]
    ∧ win0_4.index t = ![t.val / 4, 0, 2] ∧ win0_5.index t = ![t.val / 4, 0, 4] ∧ win0_6.index t = ![t.val / 4, 0, 3]
    ∧ win0_7.index t = ![t.val / 4, 0, 5] ∧ win0_17.index t = ![t.val, 0] :=
  (by decide +kernel : ∀ t : Fin grid0.N,
    win0_0.index t = ![t.val, 0] ∧ win0_1.index t = ![t.val, 0] ∧ win0_2.index t = ![t.val, 0] ∧ win0_3.index t = ![t.val, 0]
    ∧ win0_4.index t = ![t.val / 4, 0, 2] ∧ win0_5.index t = ![t.val / 4, 0, 4] ∧ win0_6.index t = ![t.val / 4, 0, 3]
    ∧ win0_7.index t = ![t.val / 4, 0, 5] ∧ win0_17.index t = ![t.val, 0])

/-- The windows that hold one block throughout. -/
theorem stays : ∀ t : Fin cfg0.N,
    win0_8.index t = ![0, 0] ∧ win0_9.index t = ![0, 0] ∧ win0_10.index t = ![0, 0] ∧ win0_11.index t = ![0, 0]
    ∧ win0_12.index t = ![0, 0] ∧ win0_13.index t = ![0, 0, 0] ∧ win0_14.index t = ![0, 0, 0] ∧ win0_15.index t = ![0, 0]
    ∧ win0_16.index t = ![0, 0] :=
  (by decide +kernel : ∀ t : Fin grid0.N,
    win0_8.index t = ![0, 0] ∧ win0_9.index t = ![0, 0] ∧ win0_10.index t = ![0, 0] ∧ win0_11.index t = ![0, 0]
    ∧ win0_12.index t = ![0, 0] ∧ win0_13.index t = ![0, 0, 0] ∧ win0_14.index t = ![0, 0, 0] ∧ win0_15.index t = ![0, 0]
    ∧ win0_16.index t = ![0, 0])

/-- A point's row as one of the 16384 tokens. -/
def token (t : Fin cfg0.N) (ρ : Fin 512) : Fin 16384 := ⟨512 * t.val + ρ.val, by have := pt_lt t; omega⟩

/-- The sequence of a point's tokens. -/
def seqOf (t : Fin cfg0.N) : Fin 8 := ⟨t.val / 4, by have := pt_lt t; omega⟩

variable (m : (ℓ : Loc nD τ sig) → Buf (Elt Ideal) ℓ) (c : Dev nD)

theorem blk0 (t : Fin cfg0.N) (ρ : Fin 512) (k : Fin 256) : iblk (F := Ideal) m c 0 t (ix2 ρ k) = V (F := Ideal) m c main_arg0 (ix2 (token t ρ) k) := by
  have e := places t
  blk_ext [iblk, token, e]

theorem blk1 (t : Fin cfg0.N) (ρ : Fin 512) (k : Fin 512) : iblk (F := Ideal) m c 1 t (ix2 ρ k) = V (F := Ideal) m c main_arg1 (ix2 (token t ρ) k) := by
  have e := places t
  blk_ext [iblk, token, e]

theorem blk2 (t : Fin cfg0.N) (ρ : Fin 512) (k : Fin 256) : iblk (F := Ideal) m c 2 t (ix2 ρ k) = V (F := Ideal) m c main_arg2 (ix2 (token t ρ) k) := by
  have e := places t
  blk_ext [iblk, token, e]

theorem blk3 (t : Fin cfg0.N) (ρ : Fin 512) (k : Fin 1024) : iblk (F := Ideal) m c 3 t (ix2 ρ k) = V (F := Ideal) m c main_arg3 (ix2 (token t ρ) k) := by
  have e := places t
  blk_ext [iblk, token, e]

theorem blk4 (t : Fin cfg0.N) (k : Fin 1024) :
    iblk (F := Ideal) m c 4 t (ix3 0 0 k) = V (F := Ideal) m c main_arg4 (ix3 (seqOf t) 0 ⟨2048 + k.val, by omega⟩) := by
  have e := places t
  blk_ext [iblk, seqOf, e]

theorem blk5 (t : Fin cfg0.N) (k : Fin 1024) :
    iblk (F := Ideal) m c 5 t (ix3 0 0 k) = V (F := Ideal) m c main_arg4 (ix3 (seqOf t) 0 ⟨4096 + k.val, by omega⟩) := by
  have e := places t
  blk_ext [iblk, seqOf, e]

theorem blk6 (t : Fin cfg0.N) (k : Fin 1024) :
    iblk (F := Ideal) m c 6 t (ix3 0 0 k) = V (F := Ideal) m c main_arg4 (ix3 (seqOf t) 0 ⟨3072 + k.val, by omega⟩) := by
  have e := places t
  blk_ext [iblk, seqOf, e]

theorem blk7 (t : Fin cfg0.N) (k : Fin 1024) :
    iblk (F := Ideal) m c 7 t (ix3 0 0 k) = V (F := Ideal) m c main_arg4 (ix3 (seqOf t) 0 ⟨5120 + k.val, by omega⟩) := by
  have e := places t
  blk_ext [iblk, seqOf, e]

theorem blk8 (t : Fin cfg0.N) (a : Fin 1) (b : Fin 1024) : iblk (F := Ideal) m c 8 t (ix2 a b) = V (F := Ideal) m c main_arg5 (ix2 a b) := by
  have e := stays t
  blk_ext [iblk, e]

theorem blk9 (t : Fin cfg0.N) (a : Fin 1024) (b : Fin 1024) : iblk (F := Ideal) m c 9 t (ix2 a b) = V (F := Ideal) m c main_arg6 (ix2 a b) := by
  have e := stays t
  blk_ext [iblk, e]

theorem blk10_of (X : Vec Ideal S1024x128 .bf16) (t : Fin cfg0.N) (a : Fin 1024) (b : Fin 128) : ((cfg0.win 10).blk t).view.read (Elt Ideal) X (ix2 a b) = X (ix2 a b) := by
  have e := stays t
  blk_ext [e]

theorem blk10 (t : Fin cfg0.N) (a : Fin 1024) (b : Fin 128) : iblk (F := Ideal) m c 10 t (ix2 a b) = V (F := Ideal) m c main_v26 (ix2 a b) :=
  blk10_of _ t a b

theorem blk11_of (X : Vec Ideal S1024x128 .bf16) (t : Fin cfg0.N) (a : Fin 1024) (b : Fin 128) : ((cfg0.win 11).blk t).view.read (Elt Ideal) X (ix2 a b) = X (ix2 a b) := by
  have e := stays t
  blk_ext [e]

theorem blk11 (t : Fin cfg0.N) (a : Fin 1024) (b : Fin 128) : iblk (F := Ideal) m c 11 t (ix2 a b) = V (F := Ideal) m c main_v29 (ix2 a b) :=
  blk11_of _ t a b

theorem blk12_of (X : Vec Ideal S1x128 .f32) (t : Fin cfg0.N) (a : Fin 1) (b : Fin 128) : ((cfg0.win 12).blk t).view.read (Elt Ideal) X (ix2 a b) = X (ix2 a b) := by
  have e := stays t
  blk_ext [e]

theorem blk12 (t : Fin cfg0.N) (a : Fin 1) (b : Fin 128) : iblk (F := Ideal) m c 12 t (ix2 a b) = V (F := Ideal) m c main_v25 (ix2 a b) :=
  blk12_of _ t a b

theorem blk13 (t : Fin cfg0.N) (a : Fin 16) (b : Fin 1024) (k : Fin 256) : iblk (F := Ideal) m c 13 t (ix3 a b k) = V (F := Ideal) m c main_arg9 (ix3 a b k) := by
  have e := stays t
  blk_ext [iblk, e]

theorem blk14 (t : Fin cfg0.N) (a : Fin 16) (b : Fin 1024) (k : Fin 256) : iblk (F := Ideal) m c 14 t (ix3 a b k) = V (F := Ideal) m c main_arg10 (ix3 a b k) := by
  have e := stays t
  blk_ext [iblk, e]

theorem blk15 (t : Fin cfg0.N) (a : Fin 4096) (b : Fin 1024) : iblk (F := Ideal) m c 15 t (ix2 a b) = V (F := Ideal) m c main_arg11 (ix2 a b) := by
  have e := stays t
  blk_ext [iblk, e]

theorem blk16 (t : Fin cfg0.N) (a : Fin 1) (b : Fin 1024) : iblk (F := Ideal) m c 16 t (ix2 a b) = V (F := Ideal) m c main_arg12 (ix2 a b) := by
  have e := stays t
  blk_ext [iblk, e]

theorem read17 (X : Vec Ideal S16384x1024 .f32) (t : Fin cfg0.N) (ρ : Fin 512) (d : Fin 1024) :
    ((cfg0.win 17).blk t).view.read (Elt Ideal) X (ix2 ρ d) = X (ix2 (token t ρ) d) := by
  have e := places t
  blk_ext [token, e]

/-- Every entry of the result, from the rows of the blocks. -/
theorem arr_at (t : Fin cfg0.N) (ρ : Fin 512) (d : Fin 1024) :
    (dats (F := Ideal) m 0 c).arrAt 17 cfg0.N (ix2 (token t ρ) d) = out0_17 (iblk (F := Ideal) m c 0 t) (iblk (F := Ideal) m c 1 t) (iblk (F := Ideal) m c 2 t) (iblk (F := Ideal) m c 3 t) (iblk (F := Ideal) m c 4 t) (iblk (F := Ideal) m c 5 t) (iblk (F := Ideal) m c 6 t) (iblk (F := Ideal) m c 7 t) (iblk (F := Ideal) m c 8 t) (iblk (F := Ideal) m c 9 t) (iblk (F := Ideal) m c 10 t) (iblk (F := Ideal) m c 11 t) (iblk (F := Ideal) m c 12 t) (iblk (F := Ideal) m c 13 t) (iblk (F := Ideal) m c 14 t) (iblk (F := Ideal) m c 15 t) (iblk (F := Ideal) m c 16 t) (ix2 ρ d) := by
  have h := congrFun (Value.blocks17 m c t ((by decide +kernel : ∀ t : Fin cfg0.N, (cfg0.win 17).flush t = true) t)) (ix2 ρ d)
  rw [Value.flushed17] at h
  refine (read17 _ t ρ d).symm.trans (h.trans ?_)
  rfl

end Cert.OutMoe
-- ==== Proof.Layout.lean ====
module

public import proofs.«01_k».proof.Proof.Blocks
public import Idealize.ShloMosaic.Lib.StableHlo.ReadAt
public import Idealize.ShloMosaic.Lib.Routing.OpsSet
public import Idealize.ShloMosaic.Lib.Routing.OpsPair

@[expose] public section

set_option maxRecDepth 16384

noncomputable section

namespace Cert.OutMoe

open Idealize.ShloMosaic Idealize.ShloMosaic.TcCoe
open Cert.KernelIdeal Cert.KernelIdeal.Gen

variable (m : (ℓ : Loc nD τ sig) → Buf (Elt Ideal) ℓ) (c : Dev nD)

/-- The words the columns of the router's weights are stored at. -/
theorem column_word (e : Fin 16) : (V (F := Ideal) m c main_v12 : IVec S16x1 32) (ix2 e 0) = BitVec.ofNat 32 (lane16 e).val := by
  unfold V
  after_reads_at
  change @Eq (BitVec 32) _ _
  revert e
  decide +kernel

set_option maxHeartbeats 1600000 in
/-- The words the bias's entries are stored at: row 0, and the column. -/
theorem entry_word (e : Fin 16) : (V (F := Ideal) m c main_v24 : IVec S16x2 32) (ix2 e 0) = 0#32
    ∧ (V (F := Ideal) m c main_v24 : IVec S16x2 32) (ix2 e 1) = BitVec.ofNat 32 (lane16 e).val := by
  constructor
  · unfold V
    after_reads_at
    rfl
  · unfold V
    after_reads_at
    change @Eq (BitVec 32) _ _
    revert e
    decide +kernel

/-- The laid-out weights, as one table. -/
abbrev laid : FVec Ideal S1024x128 .f32 := V (F := Ideal) m c main_v13

theorem layout_hi : V (F := Ideal) m c main_v26 = (truncf .bf16 (laid m c) bitsLt_bf16_f32 : FVec Ideal S1024x128 .bf16) := by
  unfold laid V
  after_reads_simp

theorem layout_lo : V (F := Ideal) m c main_v29 =
    (truncf .bf16 (subf (laid m c) (extf .f32 (truncf .bf16 (laid m c) bitsLt_bf16_f32) bitsLt_bf16_f32)) bitsLt_bf16_f32
      : FVec Ideal S1024x128 .bf16) := by
  unfold laid V
  after_reads_simp

theorem hi_at (x : Fin 1024) (l : Fin 128) : (V (F := Ideal) m c main_v26 : Vec Ideal S1024x128 .bf16) (ix2 x l) = laid m c (ix2 x l) := by
  rw [layout_hi]
  generalize laid m c = W
  pointwise

theorem lo_at (x : Fin 1024) (l : Fin 128) : (V (F := Ideal) m c main_v29 : Vec Ideal S1024x128 .bf16) (ix2 x l) =
    laid m c (ix2 x l) - laid m c (ix2 x l) := by
  rw [layout_lo]
  generalize laid m c = W
  pointwise

theorem layout_w : (V (F := Ideal) m c main_v13 : Vec Ideal S1024x128 .f32) = Host.scatter scatter_S1024x128_S16x1_S1024x16_0_1_1_1 (fun _ b => b) (V (F := Ideal) m c main_v6 : Vec Ideal S1024x128 .f32) (V (F := Ideal) m c main_v12 : IVec S16x1 32) (m ((c : Thread nD τ).loc main_arg7)) := by
  unfold V
  after_reads_simp
  rfl

theorem layout_b : (V (F := Ideal) m c main_v25 : Vec Ideal S1x128 .f32) = Host.scatter scatter_S1x128_S16x2_S16_n_01_01_1 (fun _ b => b) (V (F := Ideal) m c main_v14 : Vec Ideal S1x128 .f32) (V (F := Ideal) m c main_v24 : IVec S16x2 32) (m ((c : Thread nD τ).loc main_arg8)) := by
  unfold V
  after_reads_simp
  rfl

theorem lane16_int (e : Fin 16) : (BitVec.ofNat 32 (lane16 e).val).toInt = ((lane16 e).val : Int) := by
  revert e
  decide

theorem lane16_inj {e f : Fin 16} (h : (lane16 e).val = (lane16 f).val) : e = f := by
  simp only [lane16] at h
  apply Fin.ext
  omega

abbrev dW := scatter_S1024x128_S16x1_S1024x16_0_1_1_1
abbrev dB := scatter_S1x128_S16x2_S16_n_01_01_1

/-- A column of the router's weights is stored at its expert's lane. -/
theorem column_lands (L : IVec S16x1 32) (hL : ∀ e, L (ix2 e 0) = BitVec.ofNat 32 (lane16 e).val) (x x' : Fin 1024) (e f : Fin 16) :
    dW.resultIdx? (ix2 x e) L = some (ix2 x' (lane16 f)) ↔ x = x' ∧ e = f := by
  have s0 : dW.start (ix2 x e) L 0 = 0 := rfl
  have s1 : dW.start (ix2 x e) L 1 = ((lane16 e).val : Int) := by
    rw [← lane16_int, ← hL]
    unfold ScatterDims.start
    rw [dif_pos (by decide)]
    congr 2
    funext a
    fin_cases a
    · rfl
    · rfl
  have w0 : dW.window (ix2 x e) 0 = x.val := rfl
  have w1 : dW.window (ix2 x e) 1 = 0 := rfl
  rw [Routing.resultIdx?_eq_some]
  constructor
  · intro h
    have h0 : dW.start (ix2 x e) L 0 + (dW.window (ix2 x e) 0 : Int) = (x'.val : Int) := h 0
    have h1 : dW.start (ix2 x e) L 1 + (dW.window (ix2 x e) 1 : Int) = ((lane16 f).val : Int) := h 1
    rw [s0, w0] at h0
    rw [s1, w1] at h1
    exact ⟨Fin.ext (by omega), lane16_inj (by omega)⟩
  · rintro ⟨rfl, rfl⟩ a
    have h0 : dW.start (ix2 x e) L 0 + (dW.window (ix2 x e) 0 : Int) = (x.val : Int) := by
      rw [s0, w0]
      omega
    have h1 : dW.start (ix2 x e) L 1 + (dW.window (ix2 x e) 1 : Int) = ((lane16 e).val : Int) := by
      rw [s1, w1]
      omega
    match a with
    | ⟨0, _⟩ => exact h0
    | ⟨1, _⟩ => exact h1

/-- An entry of the bias is stored at its expert's lane. -/
theorem entry_lands (L : IVec S16x2 32) (hL : ∀ e, L (ix2 e 0) = 0#32 ∧ L (ix2 e 1) = BitVec.ofNat 32 (lane16 e).val) (e f : Fin 16) :
    dB.resultIdx? (ix1 e) L = some (ix2 0 (lane16 f)) ↔ e = f := by
  have s0 : dB.start (ix1 e) L 0 = 0 := by
    have q : (0#32 : BitVec 32).toInt = 0 := rfl
    rw [← q, ← (hL e).1]
    unfold ScatterDims.start
    rw [dif_pos (by decide)]
    congr 2
    funext a
    fin_cases a
    · rfl
    · rfl
  have s1 : dB.start (ix1 e) L 1 = ((lane16 e).val : Int) := by
    rw [← lane16_int, ← (hL e).2]
    unfold ScatterDims.start
    rw [dif_pos (by decide)]
    congr 2
    funext a
    fin_cases a
    · rfl
    · rfl
  have w0 : dB.window (ix1 e) 0 = 0 := rfl
  have w1 : dB.window (ix1 e) 1 = 0 := rfl
  rw [Routing.resultIdx?_eq_some]
  constructor
  · intro h
    have h1 : dB.start (ix1 e) L 1 + (dB.window (ix1 e) 1 : Int) = ((lane16 f).val : Int) := h 1
    rw [s1, w1] at h1
    exact lane16_inj (by omega)
  · rintro rfl a
    have h0 : dB.start (ix1 e) L 0 + (dB.window (ix1 e) 0 : Int) = ((0 : Fin 1).val : Int) := by
      rw [s0, w0]
      rfl
    have h1 : dB.start (ix1 e) L 1 + (dB.window (ix1 e) 1 : Int) = ((lane16 e).val : Int) := by
      rw [s1, w1]
      omega
    match a with
    | ⟨0, _⟩ => exact h0
    | ⟨1, _⟩ => exact h1

/-- The laid-out weights at an expert's lane. -/
theorem weight_at (x : Fin 1024) (e : Fin 16) : (V (F := Ideal) m c main_v13 : Vec Ideal S1024x128 .f32) (ix2 x (lane16 e)) =
    (m ((c : Thread nD τ).loc main_arg7) : Vec Ideal S1024x16 .f32) (ix2 x e) := by
  rw [layout_w]
  refine Routing.scatter_set_hit dW _ _ _ _ _ (fun k hk => ?_) (ix2 x e) ((column_lands _ (column_word m c) x x e e).mpr ⟨rfl, rfl⟩)
  obtain ⟨a, b, rfl⟩ : ∃ a b, k = ix2 a b := ⟨k 0, k 1, (ix2_eta k).symm⟩
  obtain ⟨rfl, rfl⟩ := (column_lands _ (column_word m c) a x b e).mp hk
  rfl

/-- The laid-out bias at an expert's lane. -/
theorem bias_at (e : Fin 16) : (V (F := Ideal) m c main_v25 : Vec Ideal S1x128 .f32) (ix2 0 (lane16 e)) =
    (m ((c : Thread nD τ).loc main_arg8) : Vec Ideal S16 .f32) (ix1 e) := by
  rw [layout_b]
  refine Routing.scatter_set_hit dB _ _ _ _ _ (fun k hk => ?_) (ix1 e) ((entry_lands _ (entry_word m c) e e).mpr rfl)
  obtain ⟨b, rfl⟩ : ∃ b, k = ix1 b := ⟨k 0, (ix1_eta k).symm⟩
  obtain rfl := (entry_lands _ (entry_word m c) b e).mp hk
  rfl

end Cert.OutMoe
-- ==== Proof.Chain.lean ====
module

public import proofs.«01_k».proof.Proof.Spec
public import Idealize.ShloMosaic.Lib.Pointwise

@[expose] public section

set_option maxRecDepth 16384

noncomputable section

namespace Cert.OutMoe

open Idealize.ShloMosaic

/-! # The router's rows and scores are real -/

/-- A value that is a real number. -/
def Fine (x : EReal) : Prop := ∃ r : ℝ, x = (r : EReal)

theorem fine_of_ne {x : EReal} (hb : x ≠ ⊥) (ht : x ≠ ⊤) : Fine x := ⟨x.toReal, (EReal.coe_toReal ht hb).symm⟩

theorem Fine.ne_bot {x : EReal} (h : Fine x) : x ≠ ⊥ := by
  obtain ⟨r, rfl⟩ := h
  exact EReal.coe_ne_bot r

theorem Fine.add {x y : EReal} (hx : Fine x) (hy : Fine y) : Fine (x + y) := by
  obtain ⟨a, rfl⟩ := hx
  obtain ⟨b, rfl⟩ := hy
  exact ⟨a + b, (EReal.coe_add a b).symm⟩

theorem Fine.mul {x y : EReal} (hx : Fine x) (hy : Fine y) : Fine (x * y) := by
  obtain ⟨a, rfl⟩ := hx
  obtain ⟨b, rfl⟩ := hy
  exact ⟨a * b, (EReal.coe_mul a b).symm⟩

theorem Fine.sub_self {x : EReal} (hx : Fine x) : x - x = 0 := by
  obtain ⟨a, rfl⟩ := hx
  rw [← EReal.coe_sub, _root_.sub_self]
  rfl

theorem fine_one : Fine 1 := ⟨1, rfl⟩

theorem fine_sum {ι : Type} [Fintype ι] {f : ι → EReal} (h : ∀ i, Fine (f i)) : Fine (∑ i, f i) := by
  choose r hr using h
  refine ⟨∑ i, r i, ?_⟩
  simp only [hr]
  exact (map_sum (⟨⟨fun x : ℝ => (x : EReal), rfl⟩, EReal.coe_add⟩ : ℝ →+ EReal) r Finset.univ).symm

theorem width_real : ∃ r : ℝ, 0 < r ∧ width = (r : EReal) := ⟨1024, by norm_num, by
  unfold width
  simp [Ideal.ofBits, Ideal.ieee]
  rw [← EReal.coe_mul]
  norm_num⟩

theorem eps_real : ∃ r : ℝ, 0 < r ∧ eps = (r : EReal) := by
  unfold eps
  simp [Ideal.ofBits, Ideal.ieee]
  rw [← EReal.coe_mul]
  exact ⟨_, by positivity, rfl⟩

theorem square_nonneg (x : EReal) : 0 ≤ x * x := by
  induction x with
  | bot => simp
  | top => simp
  | coe r => exact_mod_cast mul_self_nonneg r

/-- Of any row the inverse root of the mean of squares, plus the small number, times an entry is real: the mean is a positive
real, or infinite, and then its inverse root is zero. -/
theorem fine_rms (v : Fin 1024 → EReal) (d : Fin 1024) : Fine (rms v d) := by
  obtain ⟨w, hw, ew⟩ := width_real
  obtain ⟨e, he, ee⟩ := eps_real
  by_cases ht : (∑ e, v e * v e) = ⊤
  · unfold rms
    have hi : (0 : ℝ) < 1 / w := by positivity
    rw [ht, ew, ee, Ideal.div_coe hw.ne', EReal.top_mul_coe_of_pos hi, EReal.top_add_coe, Ideal.rsqrt_top, mul_zero]
    exact ⟨0, rfl⟩
  · have hv : ∀ d, Fine (v d) := fun d => fine_of_ne
      (fun h => ht (top_le_iff.1 (by
        have := Finset.single_le_sum (f := fun e => v e * v e) (fun e _ => square_nonneg (v e)) (Finset.mem_univ d)
        simpa [h] using this)))
      (fun h => ht (top_le_iff.1 (by
        have := Finset.single_le_sum (f := fun e => v e * v e) (fun e _ => square_nonneg (v e)) (Finset.mem_univ d)
        simpa [h] using this)))
    choose r hr using hv
    have hs : ∑ e, v e * v e = ((∑ e, r e * r e : ℝ) : EReal) := by
      simp only [hr]
      exact (map_sum (⟨⟨fun x : ℝ => (x : EReal), rfl⟩, EReal.coe_add⟩ : ℝ →+ EReal) (fun e => r e * r e) Finset.univ).symm
    have h0 : 0 ≤ ∑ e, r e * r e := Finset.sum_nonneg fun e _ => mul_self_nonneg (r e)
    have hp : 0 < (∑ e, r e * r e) * (1 / w) + e := by positivity
    unfold rms
    rw [hs, ew, ee, Ideal.div_coe hw.ne', ← EReal.coe_mul, ← EReal.coe_add, Ideal.rsqrt_coe, if_neg hp.le.not_gt, if_neg hp.ne', hr d]
    exact ⟨_, (EReal.coe_mul _ _).symm⟩

/-- So the rows that the router reads are real if gain, scale and shift are. -/
theorem fine_modul (v : Fin 1024 → EReal) {n sc sh : Fin 1024 → EReal} (hn : ∀ d, Fine (n d)) (hc : ∀ d, Fine (sc d)) (hs : ∀ d, Fine (sh d))
    (d : Fin 1024) : Fine (modul v n sc sh d) := (((fine_rms v d).mul (hn d)).mul (fine_one.add (hc d))).add (hs d)

/-- The logistic function of a real is a positive real. -/
theorem lgst_pos {z : EReal} (hz : Fine z) : ∃ r : ℝ, 0 < r ∧ lgst z = (r : EReal) := by
  obtain ⟨a, rfl⟩ := hz
  have h : 0 < 1 + Real.exp (0 - a) := by positivity
  refine ⟨1 / (1 + Real.exp (0 - a)), by positivity, ?_⟩
  unfold lgst
  rw [show (0 : EReal) - (a : EReal) = ((0 - a : ℝ) : EReal) from (EReal.coe_sub 0 a).symm, Ideal.exp_coe,
    show (1 : EReal) + ((Real.exp (0 - a) : ℝ) : EReal) = ((1 + Real.exp (0 - a) : ℝ) : EReal) from (EReal.coe_add 1 _).symm,
    Ideal.div_coe h.ne', one_mul]

end Cert.OutMoe
-- ==== Proof.Finite.lean ====
module

public import proofs.«01_k».proof.Pre_finite
public import proofs.«01_k».proof.Proof.Chain
public import Idealize.ShloMosaic.Lib.Pointwise

@[expose] public section

set_option maxRecDepth 16384

noncomputable section

namespace Cert.OutMoe

open Idealize.ShloMosaic Idealize.ShloMosaic.StableHlo Idealize.ShloMosaic.TcCoe
open Cert.Pre_finite

/-! # What the precondition says -/

/-- The shape relations the precondition's operations take. -/
theorem preFacts : Cert.Pre_finite.Facts where
  shapeCasts_S8x1x6144_S8x6144 := by decide
  bcast_S8x6144_S8x2048x6144_0_2 := by decide
  shapeCasts_S8x2048x6144_S16384x6144 := by decide
  slices_S16384x6144_S16384x1024_0_0 := by decide
  slices_S16384x6144_S16384x1024_0_1024 := by decide
  slices_S16384x6144_S16384x1024_0_2048 := by decide
  slices_S16384x6144_S16384x1024_0_3072 := by decide
  slices_S16384x6144_S16384x1024_0_4096 := by decide
  slices_S16384x6144_S16384x1024_0_5120 := by decide
  bcast_S_S16384x1024 := by decide
  bcast_S_S1x1024 := by decide
  bcast_S1x1024_S16384x1024_0_1 := by decide
  bcast_S_S1024x16 := by decide
  transposes_S1024x16_S16x1024_1_0 := by decide
  shapeCasts_S16x1024_S1x16x1x1024 := by decide
  bcast_S1x16x1x1024_S1024x16x1x1024_0_1_2_3 := by decide
  shapeCasts_S1024x16x1x1024_S16384x1024 := by decide
  bcast_S_S16 := by decide
  shapeCasts_S16_S1x16 := by decide
  bcast_S1x16_S64x16_0_1 := by decide
  shapeCasts_S64x16_S1024 := by decide
  bcast_S1024_S1x1024_1 := by decide

instance : Cert.Pre_finite.Facts := preFacts

variable (b0 : FVec Ideal S16384x256 .bf16) (b1 : FVec Ideal S16384x512 .bf16) (b2 : FVec Ideal S16384x256 .bf16) (b3 : FVec Ideal S16384x1024 .f32)
  (b4 : FVec Ideal S8x1x6144 .f32) (b5 : FVec Ideal S1x1024 .f32) (b6 : FVec Ideal S1024x1024 .bf16) (b7 : FVec Ideal S1024x16 .f32) (b8 : FVec Ideal S16 .f32)
  (b9 b10 : FVec Ideal S16x1024x256 .bf16) (b11 : FVec Ideal S4096x1024 .bf16) (b12 : FVec Ideal S1x1024 .f32)

theorem and_bits (a b : BitVec 1) : IntOp.andi a b = 1#1 ↔ a = 1#1 ∧ b = 1#1 := by
  revert a b
  decide

theorem bit_decide (p : Prop) [Decidable p] : BitVec.ofBool (decide p) = 1#1 ↔ p := by
  by_cases h : p <;> simp [h]

theorem inf_f32 : Ideal.ofBits FTy.f32 2139095040#32 = ⊤ := by simp [Ideal.ofBits, Ideal.ieee]

theorem abs_lt_top {φ : FTy} {x : Ideal φ} (h : FloatOps.absf x < (⊤ : EReal)) : Fine x := by
  change max (x : EReal) (-x) < ⊤ at h
  refine fine_of_ne (fun e => ?_) (fun e => ?_)
  · rw [e] at h; simp at h
  · rw [e] at h; simp at h

/-- What the precondition says of one token and one column. -/
structure Ok (b4 : FVec Ideal S8x1x6144 .f32) (b5 : FVec Ideal S1x1024 .f32) (b7 : FVec Ideal S1024x16 .f32) (b8 : FVec Ideal S16 .f32) (t : Fin 16384) (d : Fin 1024) : Prop where
  sh : Fine (b4 (ix3 ⟨t.val / 2048, by omega⟩ 0 ⟨3072 + d.val, by omega⟩))
  sc : Fine (b4 (ix3 ⟨t.val / 2048, by omega⟩ 0 ⟨4096 + d.val, by omega⟩))
  n : Fine (b5 (ix2 0 d))
  r : Fine (b7 (ix2 d ⟨t.val % 16, by omega⟩))
  b : Fine (b8 (ix1 ⟨d.val % 16, by omega⟩))

theorem ok_of_pre (t : Fin 16384) (d : Fin 1024) (h : fn (F := Ideal) b0 b1 b2 b3 b4 b5 b6 b7 b8 b9 b10 b11 b12 (ix2 t d) = 1#1) :
    Ok b4 b5 b7 b8 t d := by
  unfold fn fn_part1 at h
  pointwise at h
  simp only [and_bits, bit_decide, inf_f32] at h
  obtain ⟨⟨⟨⟨hsh, hsc⟩, hn⟩, hr⟩, hb⟩ := h
  exact ⟨abs_lt_top hsh, abs_lt_top hsc, abs_lt_top hn, abs_lt_top hr, abs_lt_top hb⟩

end Cert.OutMoe
-- ==== Proof.Final.lean ====
module

public import proofs.«01_k».proof.Proof.RefRow
public import proofs.«01_k».proof.Proof.Layout
public import proofs.«01_k».proof.Proof.Blocks
public import proofs.«01_k».proof.Proof.Finite

@[expose] public section

set_option maxRecDepth 16384

noncomputable section

namespace Cert.OutMoe

open Idealize.ShloMosaic Idealize.ShloMosaic.TcCoe
open Cert.KernelIdeal.Gen

/-! # The kernel's result is the reference's -/

variable (m : (ℓ : Loc Cert.KernelIdeal.nD Cert.KernelIdeal.τ Cert.KernelIdeal.sig) → Buf (Elt Ideal) ℓ) (c : Dev Cert.KernelIdeal.nD)
variable (W : Valuation Cert.ReferenceIdeal.τ Cert.ReferenceIdeal.sig (Elt Ideal))

/-- The reference is given the kernel's arguments. -/
structure Same : Prop where
  e0 : a0 W = m ((c.tc : Thread Cert.KernelIdeal.nD Cert.KernelIdeal.τ).loc Cert.KernelIdeal.main_arg0)
  e1 : a1 W = m ((c.tc : Thread Cert.KernelIdeal.nD Cert.KernelIdeal.τ).loc Cert.KernelIdeal.main_arg1)
  e2 : a2 W = m ((c.tc : Thread Cert.KernelIdeal.nD Cert.KernelIdeal.τ).loc Cert.KernelIdeal.main_arg2)
  e3 : a3 W = m ((c.tc : Thread Cert.KernelIdeal.nD Cert.KernelIdeal.τ).loc Cert.KernelIdeal.main_arg3)
  e4 : a4 W = m ((c.tc : Thread Cert.KernelIdeal.nD Cert.KernelIdeal.τ).loc Cert.KernelIdeal.main_arg4)
  e5 : a5 W = m ((c.tc : Thread Cert.KernelIdeal.nD Cert.KernelIdeal.τ).loc Cert.KernelIdeal.main_arg5)
  e6 : a6 W = m ((c.tc : Thread Cert.KernelIdeal.nD Cert.KernelIdeal.τ).loc Cert.KernelIdeal.main_arg6)
  e7 : a7 W = m ((c.tc : Thread Cert.KernelIdeal.nD Cert.KernelIdeal.τ).loc Cert.KernelIdeal.main_arg7)
  e8 : a8 W = m ((c.tc : Thread Cert.KernelIdeal.nD Cert.KernelIdeal.τ).loc Cert.KernelIdeal.main_arg8)
  e9 : a9 W = m ((c.tc : Thread Cert.KernelIdeal.nD Cert.KernelIdeal.τ).loc Cert.KernelIdeal.main_arg9)
  e10 : a10 W = m ((c.tc : Thread Cert.KernelIdeal.nD Cert.KernelIdeal.τ).loc Cert.KernelIdeal.main_arg10)
  e11 : a11 W = m ((c.tc : Thread Cert.KernelIdeal.nD Cert.KernelIdeal.τ).loc Cert.KernelIdeal.main_arg11)
  e12 : a12 W = m ((c.tc : Thread Cert.KernelIdeal.nD Cert.KernelIdeal.τ).loc Cert.KernelIdeal.main_arg12)

/-- The arguments the router reads are real numbers. -/
def AllOk : Prop := ∀ t d, Ok (a4 W) (a5 W) (a7 W) (a8 W) t d

section Reals
variable {W} (H : AllOk W)
include H

theorem fine_h (t : Fin 16384) (d : Fin 1024) : Fine (hR W t d) := by
  rw [hR_at]
  exact fine_modul (x1R W t) (fun d => (H t d).n) (fun d => (H t d).sc) (fun d => (H t d).sh) d

theorem fine_router (x : Fin 1024) (e : Fin 16) : Fine (a7 W (ix2 x e)) := by
  have h := (H ⟨e.val, by omega⟩ x).r
  have he : (⟨e.val % 16, by omega⟩ : Fin 16) = e := Fin.ext (by simp only; omega)
  rw [he] at h
  exact h

theorem fine_bias (e : Fin 16) : Fine (a8 W (ix1 e)) := by
  have h := (H 0 ⟨e.val, by omega⟩).b
  have he : (⟨e.val % 16, by omega⟩ : Fin 16) = e := Fin.ext (by simp only; omega)
  rw [he] at h
  exact h

theorem score_pos (t : Fin 16384) (e : Fin 16) : ∃ r : ℝ, 0 < r ∧ sR W t e = (r : EReal) := by
  rw [sR_at]
  exact lgst_pos (fine_sum fun x => (fine_h H t x).mul (fine_router H x e))

theorem biased_ne (t : Fin 16384) (h k : Fin 4) : bR W t h k ≠ ⊥ := by
  rw [bR_at]
  obtain ⟨r, _, e⟩ := score_pos H t (ex h k)
  exact (Fine.add ⟨r, e⟩ (fine_bias H _)).ne_bot

theorem scores_ne (t : Fin 16384) (e e' : Fin 16) : sR W t e + sR W t e' ≠ 0 := by
  obtain ⟨r, hr, h⟩ := score_pos H t e
  obtain ⟨r', hr', h'⟩ := score_pos H t e'
  rw [h, h', ← EReal.coe_add]
  exact_mod_cast (add_pos hr hr').ne'

end Reals

/-- With real rows and real weights the router's product in three terms is the product itself. -/
theorem score3_eq {h : Fin 1024 → EReal} {hi lo : Vec Ideal Cert.KernelIdeal.S1024x128 .bf16} {l : Fin 128} {w : Fin 1024 → EReal}
    (hh : ∀ x, Fine (h x)) (hw : ∀ x, Fine (w x)) (e1 : ∀ x, hi (ix2 x l) = w x) (e2 : ∀ x, lo (ix2 x l) = w x - w x) :
    score3 h hi lo l = lgst (∑ x, h x * w x) := by
  unfold score3
  simp only [e1, e2, (hw _).sub_self, (hh _).sub_self, zero_mul, mul_zero, Finset.sum_const_zero, add_zero]

theorem lane16_ex (h k : Fin 4) : lane16 (ex h k) = lane h k := Fin.ext (by simp only [lane16, ex, lane]; omega)

variable {m c W}

/-- An entry of the kernel's result is the reference's at the same token and column. -/
theorem entry_eq (S : Same m c W) (H : AllOk W) (T : Fin Cert.KernelIdeal.cfg0.N) (ρ : Fin 512) (d : Fin 1024) :
    (Cert.KernelIdeal.Gen.dats (F := Ideal) m 0 c).arrAt 17 Cert.KernelIdeal.cfg0.N (ix2 (token T ρ) d) = refOut W (ix2 (token T ρ) d) := by
  have hT := pt_lt T
  have h0 : ∀ k, iblk (F := Ideal) m c 0 T (ix2 ρ k) = a0 W (ix2 (token T ρ) k) := fun k => by rw [blk0, V_main_arg0, S.e0]
  have h1 : ∀ k, iblk (F := Ideal) m c 1 T (ix2 ρ k) = a1 W (ix2 (token T ρ) k) := fun k => by rw [blk1, V_main_arg1, S.e1]
  have h2 : ∀ k, iblk (F := Ideal) m c 2 T (ix2 ρ k) = a2 W (ix2 (token T ρ) k) := fun k => by rw [blk2, V_main_arg2, S.e2]
  have h3 : ∀ k, iblk (F := Ideal) m c 3 T (ix2 ρ k) = a3 W (ix2 (token T ρ) k) := fun k => by rw [blk3, V_main_arg3, S.e3]
  have hs : seqOf T = ⟨(token T ρ).val / 2048, by omega⟩ := Fin.ext (by simp only [seqOf, token]; omega)
  have h4 : ∀ k, iblk (F := Ideal) m c 4 T (ix3 0 0 k) = modRow (a4 W) (token T ρ) 2 k := fun k => by rw [blk4, V_main_arg4, ← S.e4, hs]; rfl
  have h5 : ∀ k, iblk (F := Ideal) m c 5 T (ix3 0 0 k) = modRow (a4 W) (token T ρ) 4 k := fun k => by rw [blk5, V_main_arg4, ← S.e4, hs]; rfl
  have h6 : ∀ k, iblk (F := Ideal) m c 6 T (ix3 0 0 k) = modRow (a4 W) (token T ρ) 3 k := fun k => by rw [blk6, V_main_arg4, ← S.e4, hs]; rfl
  have h7 : ∀ k, iblk (F := Ideal) m c 7 T (ix3 0 0 k) = modRow (a4 W) (token T ρ) 5 k := fun k => by rw [blk7, V_main_arg4, ← S.e4, hs]; rfl
  have h8 : ∀ x k, iblk (F := Ideal) m c 8 T (ix2 x k) = a5 W (ix2 x k) := fun x k => by rw [blk8, V_main_arg5, S.e5]
  have h9 : ∀ x k, iblk (F := Ideal) m c 9 T (ix2 x k) = a6 W (ix2 x k) := fun x k => by rw [blk9, V_main_arg6, S.e6]
  have h15 : ∀ x k, iblk (F := Ideal) m c 15 T (ix2 x k) = a11 W (ix2 x k) := fun x k => by rw [blk15, V_main_arg11, S.e11]
  have h16 : ∀ x k, iblk (F := Ideal) m c 16 T (ix2 x k) = a12 W (ix2 x k) := fun x k => by rw [blk16, V_main_arg12, S.e12]
  have h13 : ∀ e x k, iblk (F := Ideal) m c 13 T (ix3 e x k) = a9 W (ix3 e x k) := fun e x k => by rw [blk13, V_main_arg9, S.e9]
  have h14 : ∀ e x k, iblk (F := Ideal) m c 14 T (ix3 e x k) = a10 W (ix3 e x k) := fun e x k => by rw [blk14, V_main_arg10, S.e10]
  have hx : xRow (iblk (F := Ideal) m c 0 T) (iblk (F := Ideal) m c 1 T) (iblk (F := Ideal) m c 2 T) (iblk (F := Ideal) m c 3 T) (iblk (F := Ideal) m c 4 T) (iblk (F := Ideal) m c 9 T) ρ = x1R W (token T ρ) := by
    funext d
    rw [x1R_at]
    unfold xRow
    simp only [h0, h1, h2, h3, h4, h9]
  have hh : hRow (iblk (F := Ideal) m c 0 T) (iblk (F := Ideal) m c 1 T) (iblk (F := Ideal) m c 2 T) (iblk (F := Ideal) m c 3 T) (iblk (F := Ideal) m c 4 T) (iblk (F := Ideal) m c 5 T) (iblk (F := Ideal) m c 6 T) (iblk (F := Ideal) m c 8 T) (iblk (F := Ideal) m c 9 T) ρ = hR W (token T ρ) := by
    funext d
    rw [hR_at]
    unfold hRow
    simp only [hx, h5, h6, h8]
  have hw : ∀ x e, laid m c (ix2 x (lane16 e)) = a7 W (ix2 x e) := fun x e => (weight_at m c x e).trans (congrFun S.e7.symm _)
  have hsc : ∀ h k, score3 (hR W (token T ρ)) (iblk (F := Ideal) m c 10 T) (iblk (F := Ideal) m c 11 T) (lane h k) = sR W (token T ρ) (ex h k) := fun h k => by
    rw [sR_at, ← lane16_ex]
    refine score3_eq (fine_h H _) (fun x => fine_router H x _) (fun x => ?_) (fun x => ?_)
    · rw [blk10, ← hw]
      exact hi_at m c x _
    · rw [blk11, ← hw]
      exact lo_at m c x _
  have hb : ∀ h k, iblk (F := Ideal) m c 12 T (ix2 0 (lane h k)) = a8 W (ix1 (ex h k)) := fun h k => by
    rw [blk12, ← lane16_ex]
    exact (bias_at m c _).trans (congrFun S.e8.symm _)
  have hbR : bR W (token T ρ) = fun h k => score3 (hRow (iblk (F := Ideal) m c 0 T) (iblk (F := Ideal) m c 1 T) (iblk (F := Ideal) m c 2 T) (iblk (F := Ideal) m c 3 T) (iblk (F := Ideal) m c 4 T) (iblk (F := Ideal) m c 5 T) (iblk (F := Ideal) m c 6 T) (iblk (F := Ideal) m c 8 T) (iblk (F := Ideal) m c 9 T) ρ) (iblk (F := Ideal) m c 10 T) (iblk (F := Ideal) m c 11 T) (lane h k) + iblk (F := Ideal) m c 12 T (ix2 0 (lane h k)) := by
    funext h k
    rw [bR_at, hh, hsc, hb]
  obtain ⟨I, J, g, R⟩ := exists_routed (bR W (token T ρ))
  have hg : gateR W (token T ρ) = fun e => gateOf (fun h k => sR W (token T ρ) (ex h k)) I J g ⟨e.val / 4, by omega⟩ ⟨e.val % 4, by omega⟩ := by
    funext e
    rw [← gateR_eq W R (biased_ne H _)]
    exact congrArg _ (Fin.ext (by simp only [ex]; omega))
  rw [arr_at, out_at (iblk (F := Ideal) m c 0 T) (iblk (F := Ideal) m c 1 T) (iblk (F := Ideal) m c 2 T) (iblk (F := Ideal) m c 3 T) (iblk (F := Ideal) m c 4 T) (iblk (F := Ideal) m c 5 T) (iblk (F := Ideal) m c 6 T) (iblk (F := Ideal) m c 7 T) (iblk (F := Ideal) m c 8 T) (iblk (F := Ideal) m c 9 T) (iblk (F := Ideal) m c 10 T) (iblk (F := Ideal) m c 11 T) (iblk (F := Ideal) m c 12 T) (iblk (F := Ideal) m c 13 T) (iblk (F := Ideal) m c 14 T) (iblk (F := Ideal) m c 15 T) (iblk (F := Ideal) m c 16 T) ρ d (hbR ▸ R) (by rw [hh, hsc, hsc]; exact scores_ne H _ _ _), refOut_at, hx, hh, hg]
  simp only [hsc, h7, h13, h14, h15, h16]

end Cert.OutMoe
-- ==== Proof.InBody.lean ====
module

public import proofs.«01_k».proof.Proof.Spec
public import proofs.«01_k».proof.Proof.Gen.Kernel2Ideal.Frame
public import Idealize.ShloMosaic.Lib.Pipeline.ValueKit
public import Idealize.ShloMosaic.Lib.Pipeline.Value
public import Idealize.ShloMosaic.Lib.Pointwise

@[expose] public section

set_option maxRecDepth 16384

noncomputable section

namespace Cert.InProj

open Idealize.ShloMosaic Idealize.ShloMosaic.TcCoe
open Cert.Kernel2Ideal Cert.Kernel2Ideal.Gen

/-! # The pieces the projection's body stores -/

/-- Columns of the main weights, from column `o`. -/
abbrev main256 (x6 : Vec Ideal S1024x2560 .bf16) : Vec Ideal S1024x256 .bf16 :=
  View.ld x6 (Rect.unit (s := S1024x2560) ![0, 0] S1024x256.size inb_S1024x2560_S1024x256_0_0)
abbrev main256' (x6 : Vec Ideal S1024x2560 .bf16) : Vec Ideal S1024x256 .bf16 :=
  View.ld x6 (Rect.unit (s := S1024x2560) ![0, 256] S1024x256.size inb_S1024x2560_S1024x256_0_256)
abbrev main512 (x6 : Vec Ideal S1024x2560 .bf16) : Vec Ideal S1024x512 .bf16 :=
  View.ld x6 (Rect.unit (s := S1024x2560) ![0, 512] S1024x512.size inb_S1024x2560_S1024x512_0_512)
abbrev main512' (x6 : Vec Ideal S1024x2560 .bf16) : Vec Ideal S1024x512 .bf16 :=
  View.ld x6 (Rect.unit (s := S1024x2560) ![0, 1024] S1024x512.size inb_S1024x2560_S1024x512_0_1024)
abbrev main1024 (x6 : Vec Ideal S1024x2560 .bf16) : Vec Ideal S1024x1024 .bf16 :=
  View.ld x6 (Rect.unit (s := S1024x2560) ![0, 1536] S1024x1024.size inb_S1024x2560_S1024x1024_0_1536)

/-- Columns of the attention weights. -/
abbrev swa256 (x7 : Vec Ideal S1024x512 .bf16) : Vec Ideal S1024x256 .bf16 :=
  View.ld x7 (Rect.unit (s := S1024x512) ![0, 0] S1024x256.size inb_S1024x512_S1024x256_0_0)
abbrev swa128 (x7 : Vec Ideal S1024x512 .bf16) : Vec Ideal S1024x128 .bf16 :=
  View.ld x7 (Rect.unit (s := S1024x512) ![0, 256] S1024x128.size inb_S1024x512_S1024x128_0_256)
abbrev swa128' (x7 : Vec Ideal S1024x512 .bf16) : Vec Ideal S1024x128 .bf16 :=
  View.ld x7 (Rect.unit (s := S1024x512) ![0, 384] S1024x128.size inb_S1024x512_S1024x128_0_384)

theorem hz2 : (![0, 0] : Fin 2 → Nat) = fun _ => 0 := by
  funext a
  fin_cases a <;> rfl

theorem hz3 : (![0, 0, 0] : Fin 3 → Nat) = fun _ => 0 := by
  funext a
  fin_cases a <;> rfl

section Body

variable (c : Dev nD) (i : grid0.Coords) (a1 : Memref sig .tc .vmem S512x1024 .f32) (h1 : a1.IsWhole) (a2 : Memref sig .tc .vmem S1x1024 .f32) (h2 : a2.IsWhole) (a3 : Memref sig .tc .vmem S1x1x1024 .f32) (h3 : a3.IsWhole) (a4 : Memref sig .tc .vmem S1x1x1024 .f32) (h4 : a4.IsWhole) (a5 : Memref sig .tc .vmem S1x512x256 .f32) (h5 : a5.IsWhole) (a6 : Memref sig .tc .vmem S1x512x256 .f32) (h6 : a6.IsWhole) (a7 : Memref sig .tc .vmem S1024x2560 .bf16) (h7 : a7.IsWhole) (a8 : Memref sig .tc .vmem S1024x512 .bf16) (h8 : a8.IsWhole) (a9 : Memref sig .tc .vmem S1024x128 .bf16) (h9 : a9.IsWhole) (a10 : Memref sig .tc .vmem S512x1024 .bf16) (h10 : a10.IsWhole) (a11 : Memref sig .tc .vmem S512x512 .bf16) (h11 : a11.IsWhole) (a12 : Memref sig .tc .vmem S512x1024 .f32) (h12 : a12.IsWhole) (a13 : Memref sig .tc .vmem S512x128 .f32) (h13 : a13.IsWhole) (a14 : Memref sig .tc .vmem S512x256 .bf16) (h14 : a14.IsWhole) (a15 : Memref sig .tc .vmem S512x128 .f32) (h15 : a15.IsWhole) (a16 : Memref sig .tc .vmem S512x128 .f32) (h16 : a16.IsWhole)
variable (x0 : Vec Ideal S512x1024 .f32) (x1 : Vec Ideal S1x1024 .f32) (x2 : Vec Ideal S1x1x1024 .f32) (x3 : Vec Ideal S1x1x1024 .f32) (x4 : Vec Ideal S1x512x256 .f32) (x5 : Vec Ideal S1x512x256 .f32) (x6 : Vec Ideal S1024x2560 .bf16) (x7 : Vec Ideal S1024x512 .bf16) (x8 : Vec Ideal S1024x128 .bf16)

theorem piece10 : out0_A_10 (F := Ideal) c i a1 h1 a2 h2 a3 h3 a4 h4 a5 h5 a6 h6 a7 h7 a8 h8 a9 h9 a10 h10 a11 h11 a12 h12 a13 h13 a14 h14 a15 h15 a16 h16 x0 x1 x2 x3 x4 x5 x6 x7 x8 = k0_pay14 (k0_pay3 x0 x1 x2 x3) (main512' x6) := by
  unfold out0_A_10
  rw [View.read_writes_junk_eq_canon]
  unfold kernelRun0_A
  dsimp only
  sl_unfold_words
  rw [View.canon_unit_zero hz2]
  simp only [View.readAt_eq_ld, h1.read_unread, h2.read_unread, h3.read_unread, h4.read_unread, h5.read_unread, h6.read_unread, h7.read_unread, h8.read_unread, h9.read_unread, View.ld_unit_zero (S := S512x1024) hz2, View.ld_unit_zero (S := S1x1024) hz2, View.ld_unit_zero (S := S1x1x1024) hz3, View.ld_unit_zero (S := S1x512x256) hz3, View.ld_unit_zero (S := S1024x128) hz2]

theorem piece11 : out0_A_11 (F := Ideal) c i a1 h1 a2 h2 a3 h3 a4 h4 a5 h5 a6 h6 a7 h7 a8 h8 a9 h9 a10 h10 a11 h11 a12 h12 a13 h13 a14 h14 a15 h15 a16 h16 x0 x1 x2 x3 x4 x5 x6 x7 x8 = k0_pay15 (k0_pay3 x0 x1 x2 x3) (main1024 x6) := by
  unfold out0_A_11
  rw [View.read_writes_junk_eq_canon]
  unfold kernelRun0_A
  dsimp only
  sl_unfold_words
  rw [View.canon_unit_zero hz2]
  simp only [View.readAt_eq_ld, h1.read_unread, h2.read_unread, h3.read_unread, h4.read_unread, h5.read_unread, h6.read_unread, h7.read_unread, h8.read_unread, h9.read_unread, View.ld_unit_zero (S := S512x1024) hz2, View.ld_unit_zero (S := S1x1024) hz2, View.ld_unit_zero (S := S1x1x1024) hz3, View.ld_unit_zero (S := S1x512x256) hz3, View.ld_unit_zero (S := S1024x128) hz2]

theorem piece12 : out0_A_12 (F := Ideal) c i a1 h1 a2 h2 a3 h3 a4 h4 a5 h5 a6 h6 a7 h7 a8 h8 a9 h9 a10 h10 a11 h11 a12 h12 a13 h13 a14 h14 a15 h15 a16 h16 x0 x1 x2 x3 x4 x5 x6 x7 x8 = k0_pay17 (k0_pay3 x0 x1 x2 x3) (k0_pay16 x8) (constant S512x128 .f32 0x00000000#32) := by
  unfold out0_A_12
  rw [View.read_writes_junk_eq_canon]
  unfold kernelRun0_A
  dsimp only
  sl_unfold_words
  rw [View.canon_unit_zero hz2]
  simp only [View.readAt_eq_ld, h1.read_unread, h2.read_unread, h3.read_unread, h4.read_unread, h5.read_unread, h6.read_unread, h7.read_unread, h8.read_unread, h9.read_unread, View.ld_unit_zero (S := S512x1024) hz2, View.ld_unit_zero (S := S1x1024) hz2, View.ld_unit_zero (S := S1x1x1024) hz3, View.ld_unit_zero (S := S1x512x256) hz3, View.ld_unit_zero (S := S1024x128) hz2]

theorem piece13 : out0_A_13 (F := Ideal) c i a1 h1 a2 h2 a3 h3 a4 h4 a5 h5 a6 h6 a7 h7 a8 h8 a9 h9 a10 h10 a11 h11 a12 h12 a13 h13 a14 h14 a15 h15 a16 h16 x0 x1 x2 x3 x4 x5 x6 x7 x8 = k0_pay18 (k0_pay3 x0 x1 x2 x3) (k0_pay4 x4) (k0_pay5 x5) (swa256 x7) := by
  unfold out0_A_13
  rw [View.read_writes_junk_eq_canon]
  unfold kernelRun0_A
  dsimp only
  sl_unfold_words
  rw [View.canon_unit_zero hz2]
  simp only [View.readAt_eq_ld, h1.read_unread, h2.read_unread, h3.read_unread, h4.read_unread, h5.read_unread, h6.read_unread, h7.read_unread, h8.read_unread, h9.read_unread, View.ld_unit_zero (S := S512x1024) hz2, View.ld_unit_zero (S := S1x1024) hz2, View.ld_unit_zero (S := S1x1x1024) hz3, View.ld_unit_zero (S := S1x512x256) hz3, View.ld_unit_zero (S := S1024x128) hz2]

theorem piece14 : out0_A_14 (F := Ideal) c i a1 h1 a2 h2 a3 h3 a4 h4 a5 h5 a6 h6 a7 h7 a8 h8 a9 h9 a10 h10 a11 h11 a12 h12 a13 h13 a14 h14 a15 h15 a16 h16 x0 x1 x2 x3 x4 x5 x6 x7 x8 = k0_pay1 (k0_pay5 x5) (k0_pay19 (k0_pay3 x0 x1 x2 x3) (swa128 x7)) (k0_pay20 (k0_pay4 x4)) := by
  unfold out0_A_14
  rw [View.read_writes_junk_eq_canon]
  unfold kernelRun0_A
  dsimp only
  sl_unfold_words
  rw [View.canon_unit_zero hz2]
  simp only [View.readAt_eq_ld, h1.read_unread, h2.read_unread, h3.read_unread, h4.read_unread, h5.read_unread, h6.read_unread, h7.read_unread, h8.read_unread, h9.read_unread, View.ld_unit_zero (S := S512x1024) hz2, View.ld_unit_zero (S := S1x1024) hz2, View.ld_unit_zero (S := S1x1x1024) hz3, View.ld_unit_zero (S := S1x512x256) hz3, View.ld_unit_zero (S := S1024x128) hz2]

theorem piece15 : out0_A_15 (F := Ideal) c i a1 h1 a2 h2 a3 h3 a4 h4 a5 h5 a6 h6 a7 h7 a8 h8 a9 h9 a10 h10 a11 h11 a12 h12 a13 h13 a14 h14 a15 h15 a16 h16 x0 x1 x2 x3 x4 x5 x6 x7 x8 = k0_pay2 (k0_pay3 x0 x1 x2 x3) (swa128' x7) := by
  unfold out0_A_15
  rw [View.read_writes_junk_eq_canon]
  unfold kernelRun0_A
  dsimp only
  sl_unfold_words
  rw [View.canon_unit_zero hz2]
  simp only [View.readAt_eq_ld, h1.read_unread, h2.read_unread, h3.read_unread, h4.read_unread, h5.read_unread, h6.read_unread, h7.read_unread, h8.read_unread, h9.read_unread, View.ld_unit_zero (S := S512x1024) hz2, View.ld_unit_zero (S := S1x1024) hz2, View.ld_unit_zero (S := S1x1x1024) hz3, View.ld_unit_zero (S := S1x512x256) hz3, View.ld_unit_zero (S := S1024x128) hz2]

theorem piece9 : out0_A_9 (F := Ideal) c i a1 h1 a2 h2 a3 h3 a4 h4 a5 h5 a6 h6 a7 h7 a8 h8 a9 h9 a10 h10 a11 h11 a12 h12 a13 h13 a14 h14 a15 h15 a16 h16 x0 x1 x2 x3 x4 x5 x6 x7 x8 = View.canon ([
    ⟨Rect.unit (s := S512x1024) ![0, 512] S512x512.size inb_S512x1024_S512x512_0_512, k0_pay13 (k0_pay3 x0 x1 x2 x3) (main512 x6)⟩,
    ⟨Rect.unit (s := S512x1024) ![0, 256] S512x256.size inb_S512x1024_S512x256_0_256, k0_pay12 (k0_pay4 x4) (k0_pay5 x5) (k0_pay8 (k0_pay3 x0 x1 x2 x3) (main256' x6)) (Scalar.select (Scalar.cmpi .eq 64#32 0#32) 1#32 64#32) k0_pay9 k0_pay10 k0_pay11⟩,
    ⟨Rect.unit (s := S512x1024) ![0, 0] S512x256.size inb_S512x1024_S512x256_0_0, k0_pay7 (k0_pay4 x4) (k0_pay5 x5) (k0_pay6 x0 x1 x2 x3 (main256 x6)) (iota .tc S512x256 32 [1] iota_S512x256_d1_w32) 64#32 (Scalar.cmpi .eq 64#32 0#32)⟩] : List (View.Piece (Elt Ideal) S512x1024 .bf16)) := by
  unfold out0_A_9
  rw [View.read_writes_junk_eq_canon]
  unfold kernelRun0_A
  dsimp only
  sl_unfold_words
  simp only [View.readAt_eq_ld, h1.read_unread, h2.read_unread, h3.read_unread, h4.read_unread, h5.read_unread, h6.read_unread, h7.read_unread, h8.read_unread, h9.read_unread, View.ld_unit_zero (S := S512x1024) hz2, View.ld_unit_zero (S := S1x1024) hz2, View.ld_unit_zero (S := S1x1x1024) hz3, View.ld_unit_zero (S := S1x512x256) hz3, View.ld_unit_zero (S := S1024x128) hz2]
  rfl

end Body

section At
variable (v0 : Vec Ideal S512x1024 .f32) (v11 : Vec Ideal S1x1024 .f32) (v14 v20 : Vec Ideal S1x1x1024 .f32) (H : FVec Ideal S512x1024 .bf16) (C S : FVec Ideal S512x256 .f32)

open Cert.OutMoe in
theorem h_at (r : Fin 512) (d : Fin 1024) : k0_pay3 v0 v11 v14 v20 (ix2 r d) =
    modul (fun d => v0 (ix2 r d)) (fun d => v11 (ix2 0 d)) (fun d => v14 (ix3 0 0 d)) (fun d => v20 (ix3 0 0 d)) d := by
  pointwise [k0_pay3]
  rfl

theorem cos_at (X : Vec Ideal S1x512x256 .f32) (r : Fin 512) (d : Fin 256) : k0_pay4 X (ix2 r d) = X (ix3 0 r d) := by
  pointwise [k0_pay4]

theorem sin_at (X : Vec Ideal S1x512x256 .f32) (r : Fin 512) (d : Fin 256) : k0_pay5 X (ix2 r d) = X (ix3 0 r d) := by
  pointwise [k0_pay5]

theorem z_at (w : Vec Ideal S1024x512 .bf16) (r d : Fin 512) : k0_pay14 H w (ix2 r d) = ∑ x, H (ix2 r x) * w (ix2 x d) := by
  pointwise [k0_pay14]

theorem vg_at (w : Vec Ideal S1024x512 .bf16) (r d : Fin 512) : k0_pay13 H w (ix2 r d) = ∑ x, H (ix2 r x) * w (ix2 x d) := by
  pointwise [k0_pay13]

theorem xbc_at (w : Vec Ideal S1024x1024 .bf16) (r : Fin 512) (d : Fin 1024) : k0_pay15 H w (ix2 r d) = ∑ x, H (ix2 r x) * w (ix2 x d) := by
  pointwise [k0_pay15]

theorem dt_at (w : Vec Ideal S1024x128 .bf16) (r : Fin 512) (d : Fin 128) :
    k0_pay17 H (k0_pay16 w) (constant S512x128 .f32 0x00000000#32) (ix2 r d) = ∑ x, H (ix2 r x) * w (ix2 x d) := by
  pointwise [k0_pay17, k0_pay16]

theorem sv_at (w : Vec Ideal S1024x128 .bf16) (r : Fin 512) (d : Fin 128) : k0_pay2 H w (ix2 r d) = ∑ x, H (ix2 r x) * w (ix2 x d) := by
  pointwise [k0_pay2]

theorem q_at (w : Vec Ideal S1024x256 .bf16) (r : Fin 512) (d : Fin 256) : k0_pay6 v0 v11 v14 v20 w (ix2 r d) = ∑ x, k0_pay3 v0 v11 v14 v20 (ix2 r x) * w (ix2 x d) := by
  pointwise [k0_pay6]

theorem k_at (w : Vec Ideal S1024x256 .bf16) (r : Fin 512) (d : Fin 256) : k0_pay8 H w (ix2 r d) = ∑ x, H (ix2 r x) * w (ix2 x d) := by
  pointwise [k0_pay8]

theorem sk_at (w : Vec Ideal S1024x128 .bf16) (r : Fin 512) (d : Fin 128) : k0_pay19 H w (ix2 r d) = ∑ x, H (ix2 r x) * w (ix2 x d) := by
  pointwise [k0_pay19]

/-- The entry 32 places on, around the row. -/
def ahead32 {n : Nat} (d : Fin n) : Fin n := ⟨(d.val + 32) % n, Nat.mod_lt _ d.pos⟩

/-- The entry 32 places back, around the row. -/
def back32 {n : Nat} (d : Fin n) : Fin n := ⟨(d.val + n - 32) % n, Nat.mod_lt _ d.pos⟩

/-- An entry's frequency: its place in its half of a head. -/
def freq {n : Nat} (d : Fin n) : Fin 32 := ⟨d.val % 32, Nat.mod_lt _ (by decide)⟩

/-- Each head's pairs of entries 32 apart turned by the row's angles. -/
def turned {n : Nat} (p : Fin n → EReal) (co si : Fin 32 → EReal) (d : Fin n) : EReal :=
  if d.val % 64 < 32 then p d * co (freq d) - p (ahead32 d) * si (freq d) else p (back32 d) * si (freq d) + p d * co (freq d)

/-- The sine as the kernel's table has it: negated in the first half of a head. -/
def signed {n : Nat} (si : Fin 32 → EReal) (d : Fin n) : EReal := if d.val % 64 < 32 then -si (freq d) else si (freq d)

theorem turn_eq {n : Nat} (p : Fin n → EReal) (co si : Fin 32 → EReal) (d : Fin n) (w : BitVec 1) (hw : w = if d.val % 64 < 32 then 1#1 else 0#1) :
    p d * co (freq d) + Scalar.select w (p (ahead32 d)) (p (back32 d)) * signed si d = turned p co si d := by
  unfold turned signed
  rw [hw]
  split
  · change p d * co (freq d) + p (ahead32 d) * -si (freq d) = _
    rw [mul_neg, ← sub_eq_add_neg]
  · change p d * co (freq d) + p (back32 d) * si (freq d) = _
    rw [add_comm]

/-- The word that tells the two halves of a head apart. -/
def halfWord (d : Nat) : BitVec 1 :=
  IntOp.cmpi .slt (Scalar.select (IntOp.andi (IntOp.xori (IntOp.cmpi .slt (IntOp.remsi .vector (BitVec.ofNat 32 d) (Scalar.select (Scalar.cmpi .eq 64#32 0#32) 1#32 64#32)) 0#32)
      (Scalar.cmpi .slt (Scalar.select (Scalar.cmpi .eq 64#32 0#32) 1#32 64#32) 0#32))
      (IntOp.cmpi .ne (IntOp.remsi .vector (BitVec.ofNat 32 d) (Scalar.select (Scalar.cmpi .eq 64#32 0#32) 1#32 64#32)) 0#32))
    (IntOp.addi (IntOp.remsi .vector (BitVec.ofNat 32 d) (Scalar.select (Scalar.cmpi .eq 64#32 0#32) 1#32 64#32)) (Scalar.select (Scalar.cmpi .eq 64#32 0#32) 1#32 64#32))
    (IntOp.remsi .vector (BitVec.ofNat 32 d) (Scalar.select (Scalar.cmpi .eq 64#32 0#32) 1#32 64#32))) 32#32

theorem halfWord_eq : ∀ d : Fin 256, halfWord d.val = if d.val % 64 < 32 then 1#1 else 0#1 := by
  decide +kernel

section Turn
variable (r : Fin 512) (co si : Fin 32 → EReal) (hC : ∀ d, C (ix2 r d) = co (freq d)) (hS : ∀ d, S (ix2 r d) = signed si d)
include hC hS

theorem rq_at (P : FVec Ideal S512x256 .f32) (d : Fin 256) :
    k0_pay7 C S P (iota .tc S512x256 32 [1] iota_S512x256_d1_w32) 64#32 (Scalar.cmpi .eq 64#32 0#32) (ix2 r d)
      = turned (fun d => P (ix2 r d)) co si d := by
  rw [← turn_eq (fun d => P (ix2 r d)) co si d _ (halfWord_eq d), ← hC, ← hS]
  pointwise [k0_pay7]
  rfl

theorem rk_at (P : FVec Ideal S512x256 .f32) (d : Fin 256) :
    k0_pay12 C S P (Scalar.select (Scalar.cmpi .eq 64#32 0#32) 1#32 64#32) k0_pay9 k0_pay10 k0_pay11 (ix2 r d)
      = turned (fun d => P (ix2 r d)) co si d * Ideal.ofBits .f32 0x3E000000#32 := by
  rw [← turn_eq (fun d => P (ix2 r d)) co si d _ (halfWord_eq d), ← hC, ← hS]
  pointwise [k0_pay12, k0_pay9, k0_pay10, k0_pay11]
  rfl

theorem sq_at (w : Vec Ideal S1024x256 .bf16) (d : Fin 256) :
    k0_pay18 H C S w (ix2 r d) = turned (fun d : Fin 256 => ∑ x, H (ix2 r x) * w (ix2 x d)) co si d * Ideal.ofBits .f32 0x3E000000#32 := by
  rw [← turn_eq (fun d : Fin 256 => ∑ x, H (ix2 r x) * w (ix2 x d)) co si d _ (halfWord_eq d), ← hC, ← hS]
  pointwise [k0_pay18]
  rfl

theorem skr_at (P : FVec Ideal S512x128 .f32) (d : Fin 128) :
    k0_pay1 S P (k0_pay20 C) (ix2 r d) = turned (fun d => P (ix2 r d)) co si d := by
  rw [← turn_eq (fun d => P (ix2 r d)) co si d _ (halfWord_eq ⟨d.val, by omega⟩)]
  have h1 : C (ix2 r ⟨d.val, by omega⟩) = co (freq d) := hC ⟨d.val, by omega⟩
  have h2 : S (ix2 r ⟨d.val, by omega⟩) = signed si d := hS ⟨d.val, by omega⟩
  rw [← h1, ← h2]
  pointwise [k0_pay1, k0_pay20]
  rfl

end Turn

end At

end Cert.InProj
-- ==== Proof.InHost.lean ====
module

public import proofs.«01_k».proof.Proof.InBody
public import proofs.«01_k».proof.Proof.Gen.Kernel2Ideal.Value
public import Idealize.ShloMosaic.Lib.StableHlo.ReadAt
public import Idealize.ShloMosaic.Lib.Claim

@[expose] public section

set_option maxRecDepth 16384

noncomputable section

namespace Cert.InProj

open Idealize.ShloMosaic Idealize.ShloMosaic.TcCoe
open Cert.Kernel2Ideal Cert.Kernel2Ideal.Gen

/-! # The arrays laid out before the projection, and the windows' blocks of them -/

/-- The angle of a position at a frequency. -/
def angle (p : Nat) (f : Fin 32) : EReal :=
  FloatOps.sitofp (F := Ideal) FTy.f32 (BitVec.ofNat 32 p) * Ideal.pow (Ideal.ofBits FTy.f32 1176256512#32)
    (Ideal.div (-FloatOps.sitofp (F := Ideal) FTy.f32 (BitVec.ofNat 32 f.val)) (Ideal.ofBits FTy.f32 1107296256#32))

/-- Its cosine and its sine. -/
def coAt (p : Nat) (f : Fin 32) : EReal := Ideal.cos (angle p f)
def siAt (p : Nat) (f : Fin 32) : EReal := Ideal.sin (angle p f)

/-- The column of the whole weights a laid-out column of the attention weights comes from: the heads 0, 2, 1, 3. -/
def swaCol (j : Fin 512) : Fin 3080 :=
  if h : j.val < 256 then ⟨2568 + 64 * (2 * (j.val / 64 % 2) + j.val / 64 / 2) + j.val % 64, by omega⟩ else ⟨2568 + j.val, by omega⟩

variable (m : (ℓ : Loc nD τ sig) → Buf (Elt Ideal) ℓ) (c : Dev nD)

/-- The weights of the projection. -/
abbrev wl : Vec Ideal S1024x3080 .f32 := m ((c : Thread nD τ).loc main_arg3)

theorem main_at (x : Fin 1024) (j : Fin 2560) :
    (V (F := Ideal) m c main_v44 : Vec Ideal S1024x2560 .bf16) (ix2 x j) = wl m c (ix2 x ⟨j.val, by omega⟩) := by
  unfold V
  after_reads_at

theorem swa_at (x : Fin 1024) (j : Fin 512) :
    (V (F := Ideal) m c main_v45 : Vec Ideal S1024x512 .bf16) (ix2 x j) = wl m c (ix2 x (swaCol j)) := by
  unfold V
  after_reads_at
  pointwise
  split
  · after_reads_at
    pointwise
    split
    · after_reads_at
      pointwise
      refine congrArg (fun k => wl m c (ix2 x k)) (Fin.ext ?_)
      simp only [swaCol]
      split <;> simp only <;> omega
    · split
      · after_reads_at
        pointwise
        refine congrArg (fun k => wl m c (ix2 x k)) (Fin.ext ?_)
        simp only [swaCol]
        split <;> simp only <;> omega
      · split
        · after_reads_at
          pointwise
          refine congrArg (fun k => wl m c (ix2 x k)) (Fin.ext ?_)
          simp only [swaCol]
          split <;> simp only <;> omega
        · after_reads_at
          pointwise
          refine congrArg (fun k => wl m c (ix2 x k)) (Fin.ext ?_)
          simp only [swaCol]
          split <;> simp only <;> omega
  · after_reads_at
    pointwise
    refine congrArg (fun k => wl m c (ix2 x k)) (Fin.ext ?_)
    simp only [swaCol]
    split <;> simp only <;> omega

theorem dtw_at (x : Fin 1024) (j : Fin 128) : (V (F := Ideal) m c main_v2 : Vec Ideal S1024x128 .bf16) (ix2 x j)
    = if h : j.val < 8 then wl m c (ix2 x ⟨2560 + j.val, by omega⟩) else 0 := by
  unfold V
  after_reads_at
  pointwise
  split
  · rfl
  · simp [FloatOps.sitofp]

theorem cos_table (a : Fin 4) (r : Fin 512) (j : Fin 256) :
    (V (F := Ideal) m c main_v38 : Vec Ideal S4x512x256 .f32) (ix3 a r j) = coAt (a.val * 512 + r.val) (freq j) := by
  unfold V
  after_reads_at
  pointwise
  split
  · after_reads_at
    pointwise
    have e : freq j = ⟨j.val % 64, by omega⟩ := Fin.ext (by simp only [freq]; omega)
    rw [e]
    rfl
  · after_reads_at
    pointwise
    have e : freq j = ⟨j.val % 64 - 32, by omega⟩ := Fin.ext (by simp only [freq]; omega)
    rw [e]
    rfl

theorem sin_table (a : Fin 4) (r : Fin 512) (j : Fin 256) :
    (V (F := Ideal) m c main_v42 : Vec Ideal S4x512x256 .f32) (ix3 a r j) = signed (siAt (a.val * 512 + r.val)) j := by
  unfold V
  after_reads_at
  pointwise
  unfold signed
  split
  · after_reads_at
    pointwise
    have e : freq j = ⟨j.val % 64, by omega⟩ := Fin.ext (by simp only [freq]; omega)
    rw [e]
    rfl
  · after_reads_at
    pointwise
    have e : freq j = ⟨j.val % 64 - 32, by omega⟩ := Fin.ext (by simp only [freq]; omega)
    rw [e]
    rfl

theorem pt_lt (t : Fin cfg0.N) : t.val < 32 := t.isLt.trans_eq N_0

/-- Where each window's block stands at a grid point. -/
theorem places : ∀ t : Fin cfg0.N,
    win0_0.index t = ![t.val, 0] ∧ win0_1.index t = ![0, 0] ∧ win0_2.index t = ![t.val / 4, 0, 1] ∧ win0_3.index t = ![t.val / 4, 0, 0]
    ∧ win0_4.index t = ![t.val % 4, 0, 0] ∧ win0_5.index t = ![t.val % 4, 0, 0] ∧ win0_6.index t = ![0, 0]
    ∧ win0_7.index t = ![0, 0] ∧ win0_8.index t = ![0, 0] :=
  (by decide +kernel : ∀ t : Fin grid0.N,
    win0_0.index t = ![t.val, 0] ∧ win0_1.index t = ![0, 0] ∧ win0_2.index t = ![t.val / 4, 0, 1] ∧ win0_3.index t = ![t.val / 4, 0, 0]
    ∧ win0_4.index t = ![t.val % 4, 0, 0] ∧ win0_5.index t = ![t.val % 4, 0, 0] ∧ win0_6.index t = ![0, 0]
    ∧ win0_7.index t = ![0, 0] ∧ win0_8.index t = ![0, 0])

/-- Where each result's block is written. -/
theorem outPlaces : ∀ t : Fin cfg0.N,
    win0_9.index t = ![t.val, 0] ∧ win0_10.index t = ![t.val, 0] ∧ win0_11.index t = ![t.val, 0] ∧ win0_12.index t = ![t.val, 0]
    ∧ win0_13.index t = ![t.val, 0] ∧ win0_14.index t = ![t.val, 0] ∧ win0_15.index t = ![t.val, 0] :=
  (by decide +kernel : ∀ t : Fin grid0.N,
    win0_9.index t = ![t.val, 0] ∧ win0_10.index t = ![t.val, 0] ∧ win0_11.index t = ![t.val, 0] ∧ win0_12.index t = ![t.val, 0]
    ∧ win0_13.index t = ![t.val, 0] ∧ win0_14.index t = ![t.val, 0] ∧ win0_15.index t = ![t.val, 0])

/-- A point's row as one of the 16384 tokens. -/
def token (t : Fin cfg0.N) (ρ : Fin 512) : Fin 16384 := ⟨512 * t.val + ρ.val, by have := pt_lt t; omega⟩

/-- The sequence of a point's tokens. -/
def seqOf (t : Fin cfg0.N) : Fin 8 := ⟨t.val / 4, by have := pt_lt t; omega⟩

/-- Which quarter of its sequence a point's tokens are. -/
def quarter (t : Fin cfg0.N) : Fin 4 := ⟨t.val % 4, by omega⟩

theorem blk0 (t : Fin cfg0.N) (ρ : Fin 512) (k : Fin 1024) : iblk (F := Ideal) m c 0 t (ix2 ρ k) = V (F := Ideal) m c main_arg0 (ix2 (token t ρ) k) := by
  have e := places t
  blk_ext [iblk, token, e]

theorem blk1 (t : Fin cfg0.N) (a : Fin 1) (k : Fin 1024) : iblk (F := Ideal) m c 1 t (ix2 a k) = V (F := Ideal) m c main_arg1 (ix2 a k) := by
  have e := places t
  blk_ext [iblk, e]

theorem blk2 (t : Fin cfg0.N) (k : Fin 1024) :
    iblk (F := Ideal) m c 2 t (ix3 0 0 k) = V (F := Ideal) m c main_arg2 (ix3 (seqOf t) 0 ⟨1024 + k.val, by omega⟩) := by
  have e := places t
  blk_ext [iblk, seqOf, e]

theorem blk3 (t : Fin cfg0.N) (k : Fin 1024) :
    iblk (F := Ideal) m c 3 t (ix3 0 0 k) = V (F := Ideal) m c main_arg2 (ix3 (seqOf t) 0 ⟨k.val, by omega⟩) := by
  have e := places t
  blk_ext [iblk, seqOf, e]

theorem blk4_of (X : Vec Ideal S4x512x256 .f32) (t : Fin cfg0.N) (r : Fin 512) (k : Fin 256) :
    ((cfg0.win 4).blk t).view.read (Elt Ideal) X (ix3 0 r k) = X (ix3 (quarter t) r k) := by
  have e := places t
  blk_ext [quarter, e]

theorem blk4 (t : Fin cfg0.N) (r : Fin 512) (k : Fin 256) : iblk (F := Ideal) m c 4 t (ix3 0 r k) = V (F := Ideal) m c main_v38 (ix3 (quarter t) r k) :=
  blk4_of _ t r k

theorem blk5_of (X : Vec Ideal S4x512x256 .f32) (t : Fin cfg0.N) (r : Fin 512) (k : Fin 256) :
    ((cfg0.win 5).blk t).view.read (Elt Ideal) X (ix3 0 r k) = X (ix3 (quarter t) r k) := by
  have e := places t
  blk_ext [quarter, e]

theorem blk5 (t : Fin cfg0.N) (r : Fin 512) (k : Fin 256) : iblk (F := Ideal) m c 5 t (ix3 0 r k) = V (F := Ideal) m c main_v42 (ix3 (quarter t) r k) :=
  blk5_of _ t r k

theorem blk6_of (X : Vec Ideal S1024x2560 .bf16) (t : Fin cfg0.N) (a : Fin 1024) (b : Fin 2560) : ((cfg0.win 6).blk t).view.read (Elt Ideal) X (ix2 a b) = X (ix2 a b) := by
  have e := places t
  blk_ext [e]

theorem blk6 (t : Fin cfg0.N) (a : Fin 1024) (b : Fin 2560) : iblk (F := Ideal) m c 6 t (ix2 a b) = V (F := Ideal) m c main_v44 (ix2 a b) :=
  blk6_of _ t a b

theorem blk7_of (X : Vec Ideal S1024x512 .bf16) (t : Fin cfg0.N) (a : Fin 1024) (b : Fin 512) : ((cfg0.win 7).blk t).view.read (Elt Ideal) X (ix2 a b) = X (ix2 a b) := by
  have e := places t
  blk_ext [e]

theorem blk7 (t : Fin cfg0.N) (a : Fin 1024) (b : Fin 512) : iblk (F := Ideal) m c 7 t (ix2 a b) = V (F := Ideal) m c main_v45 (ix2 a b) :=
  blk7_of _ t a b

theorem blk8_of (X : Vec Ideal S1024x128 .bf16) (t : Fin cfg0.N) (a : Fin 1024) (b : Fin 128) : ((cfg0.win 8).blk t).view.read (Elt Ideal) X (ix2 a b) = X (ix2 a b) := by
  have e := places t
  blk_ext [e]

theorem blk8 (t : Fin cfg0.N) (a : Fin 1024) (b : Fin 128) : iblk (F := Ideal) m c 8 t (ix2 a b) = V (F := Ideal) m c main_v2 (ix2 a b) :=
  blk8_of _ t a b

theorem read9 (X : Vec Ideal S16384x1024 .bf16) (t : Fin cfg0.N) (ρ : Fin 512) (d : Fin 1024) :
    ((cfg0.win 9).blk t).view.read (Elt Ideal) X (ix2 ρ d) = X (ix2 (token t ρ) d) := by
  have e := outPlaces t
  blk_ext [token, e]

theorem read10 (X : Vec Ideal S16384x512 .bf16) (t : Fin cfg0.N) (ρ : Fin 512) (d : Fin 512) :
    ((cfg0.win 10).blk t).view.read (Elt Ideal) X (ix2 ρ d) = X (ix2 (token t ρ) d) := by
  have e := outPlaces t
  blk_ext [token, e]

theorem read11 (X : Vec Ideal S16384x1024 .f32) (t : Fin cfg0.N) (ρ : Fin 512) (d : Fin 1024) :
    ((cfg0.win 11).blk t).view.read (Elt Ideal) X (ix2 ρ d) = X (ix2 (token t ρ) d) := by
  have e := outPlaces t
  blk_ext [token, e]

theorem read12 (X : Vec Ideal S16384x128 .f32) (t : Fin cfg0.N) (ρ : Fin 512) (d : Fin 128) :
    ((cfg0.win 12).blk t).view.read (Elt Ideal) X (ix2 ρ d) = X (ix2 (token t ρ) d) := by
  have e := outPlaces t
  blk_ext [token, e]

theorem read13 (X : Vec Ideal S16384x256 .bf16) (t : Fin cfg0.N) (ρ : Fin 512) (d : Fin 256) :
    ((cfg0.win 13).blk t).view.read (Elt Ideal) X (ix2 ρ d) = X (ix2 (token t ρ) d) := by
  have e := outPlaces t
  blk_ext [token, e]

theorem read14 (X : Vec Ideal S16384x128 .f32) (t : Fin cfg0.N) (ρ : Fin 512) (d : Fin 128) :
    ((cfg0.win 14).blk t).view.read (Elt Ideal) X (ix2 ρ d) = X (ix2 (token t ρ) d) := by
  have e := outPlaces t
  blk_ext [token, e]

theorem read15 (X : Vec Ideal S16384x128 .f32) (t : Fin cfg0.N) (ρ : Fin 512) (d : Fin 128) :
    ((cfg0.win 15).blk t).view.read (Elt Ideal) X (ix2 ρ d) = X (ix2 (token t ρ) d) := by
  have e := outPlaces t
  blk_ext [token, e]

end Cert.InProj
-- ==== Proof.InRef.lean ====
module

public import proofs.«01_k».proof.Proof.InHost
public import proofs.«01_k».proof.Proof.Gen.Reference2Ideal.Run

@[expose] public section

set_option maxRecDepth 16384

noncomputable section

namespace Cert.InProj

open Idealize.ShloMosaic Idealize.ShloMosaic.StableHlo Idealize.ShloMosaic.TcCoe
open Cert.Reference2Ideal Cert.Reference2Ideal.Gen Cert.Reference2Ideal.Value

/-! # The reference's projection at an index -/

/-- Every head's pairs of entries 32 apart turned, in the reference's words: four heads, and two. -/
def rot4 (A : FVec Ideal S16384x4x64 .f32) (C S : FVec Ideal S16384x1x32 .f32) : FVec Ideal S16384x4x64 .f32 :=
  concatenate S16384x4x64 2 [⟨S16384x4x32, (subf (mulf (extractStridedSlice S16384x4x32 ![0, 0, 0] A slices_S16384x4x64_S16384x4x32_0_0_0) (broadcastInDim S16384x4x32 ![0, 1, 2] bcast_S16384x1x32_S16384x4x32_0_1_2 C)) (mulf (extractStridedSlice S16384x4x32 ![0, 0, 32] A slices_S16384x4x64_S16384x4x32_0_0_32) (broadcastInDim S16384x4x32 ![0, 1, 2] bcast_S16384x1x32_S16384x4x32_0_1_2 S)))⟩,
    ⟨S16384x4x32, (addf (mulf (extractStridedSlice S16384x4x32 ![0, 0, 0] A slices_S16384x4x64_S16384x4x32_0_0_0) (broadcastInDim S16384x4x32 ![0, 1, 2] bcast_S16384x1x32_S16384x4x32_0_1_2 S)) (mulf (extractStridedSlice S16384x4x32 ![0, 0, 32] A slices_S16384x4x64_S16384x4x32_0_0_32) (broadcastInDim S16384x4x32 ![0, 1, 2] bcast_S16384x1x32_S16384x4x32_0_1_2 C)))⟩] concatenates_S16384x4x32_S16384x4x32_S16384x4x64_d2
def rot2 (A : FVec Ideal S16384x2x64 .f32) (C S : FVec Ideal S16384x1x32 .f32) : FVec Ideal S16384x2x64 .f32 :=
  concatenate S16384x2x64 2 [⟨S16384x2x32, (subf (mulf (extractStridedSlice S16384x2x32 ![0, 0, 0] A slices_S16384x2x64_S16384x2x32_0_0_0) (broadcastInDim S16384x2x32 ![0, 1, 2] bcast_S16384x1x32_S16384x2x32_0_1_2 C)) (mulf (extractStridedSlice S16384x2x32 ![0, 0, 32] A slices_S16384x2x64_S16384x2x32_0_0_32) (broadcastInDim S16384x2x32 ![0, 1, 2] bcast_S16384x1x32_S16384x2x32_0_1_2 S)))⟩,
    ⟨S16384x2x32, (addf (mulf (extractStridedSlice S16384x2x32 ![0, 0, 0] A slices_S16384x2x64_S16384x2x32_0_0_0) (broadcastInDim S16384x2x32 ![0, 1, 2] bcast_S16384x1x32_S16384x2x32_0_1_2 S)) (mulf (extractStridedSlice S16384x2x32 ![0, 0, 32] A slices_S16384x2x64_S16384x2x32_0_0_32) (broadcastInDim S16384x2x32 ![0, 1, 2] bcast_S16384x1x32_S16384x2x32_0_1_2 C)))⟩] concatenates_S16384x2x32_S16384x2x32_S16384x2x64_d2

section Rot
variable (C S : FVec Ideal S16384x1x32 .f32) (t : Fin 16384) (co si : Fin 32 → EReal)
  (hC : ∀ f, C (ix3 t 0 f) = co f) (hS : ∀ f, S (ix3 t 0 f) = si f)
include hC hS

theorem rot4_at (P : Fin 256 → EReal) (A : FVec Ideal S16384x4x64 .f32) (hA : ∀ (h : Fin 4) (e : Fin 64), A (ix3 t h e) = P ⟨64 * h.val + e.val, by omega⟩)
    (h : Fin 4) (e : Fin 64) : rot4 A C S (ix3 t h e) = turned P co si ⟨64 * h.val + e.val, by omega⟩ := by
  pointwise [rot4]
  unfold turned
  simp only [hC, hS, hA]
  by_cases he : e.val < 32
  · have e1 : (64 * h.val + e.val) % 64 < 32 := by omega
    rw [dif_pos he, if_pos e1]
    congr 2
    · exact congrArg co (Fin.ext (by simp only [freq]; omega))
    · exact congrArg P (Fin.ext (by simp only [ahead32]; omega))
    · exact congrArg si (Fin.ext (by simp only [freq]; omega))
  · have e1 : ¬(64 * h.val + e.val) % 64 < 32 := by omega
    rw [dif_neg he, if_neg e1]
    congr 2
    · exact congrArg P (Fin.ext (by simp only [back32]; omega))
    · exact congrArg si (Fin.ext (by simp only [freq]; omega))
    · exact congrArg P (Fin.ext (by simp only; omega))
    · exact congrArg co (Fin.ext (by simp only [freq]; omega))

theorem rot2_at (P : Fin 128 → EReal) (A : FVec Ideal S16384x2x64 .f32) (hA : ∀ (h : Fin 2) (e : Fin 64), A (ix3 t h e) = P ⟨64 * h.val + e.val, by omega⟩)
    (h : Fin 2) (e : Fin 64) : rot2 A C S (ix3 t h e) = turned P co si ⟨64 * h.val + e.val, by omega⟩ := by
  pointwise [rot2]
  unfold turned
  simp only [hC, hS, hA]
  by_cases he : e.val < 32
  · have e1 : (64 * h.val + e.val) % 64 < 32 := by omega
    rw [dif_pos he, if_pos e1]
    congr 2
    · exact congrArg co (Fin.ext (by simp only [freq]; omega))
    · exact congrArg P (Fin.ext (by simp only [ahead32]; omega))
    · exact congrArg si (Fin.ext (by simp only [freq]; omega))
  · have e1 : ¬(64 * h.val + e.val) % 64 < 32 := by omega
    rw [dif_neg he, if_neg e1]
    congr 2
    · exact congrArg P (Fin.ext (by simp only [back32]; omega))
    · exact congrArg si (Fin.ext (by simp only [freq]; omega))
    · exact congrArg P (Fin.ext (by simp only; omega))
    · exact congrArg co (Fin.ext (by simp only [freq]; omega))

end Rot

variable (m : (ℓ : Loc nD τ sig) → Buf (Elt Ideal) ℓ) (c : Dev nD)

/-- The reference's rows of the modulation, its normalised rows, its product, its cosines and its sines. -/
def modsR : FVec Ideal S16384x6144 .f32 :=
  (shapeCast _ (broadcastInDim S8x2048x6144 ![0, 2] bcast_S8x6144_S8x2048x6144_0_2 (shapeCast _ (m ((c.tc : Thread nD τ).loc main_arg2)) shapeCasts_S8x1x6144_S8x6144)) shapeCasts_S8x2048x6144_S16384x6144)
def rowR : FVec Ideal S16384x1024 .f32 :=
  (addf (mulf (mulf (mulf (m ((c.tc : Thread nD τ).loc main_arg0)) (broadcastInDim S16384x1024 ![0, 1] bcast_S16384x1_S16384x1024_0_1 (Host.rsqrt (addf (Host.divf (broadcastInDim S16384x1 ![0] bcast_S16384_S16384x1_0 (Host.reduceAdd (mulf (m ((c.tc : Thread nD τ).loc main_arg0)) (m ((c.tc : Thread nD τ).loc main_arg0))) (constant S_ .f32 0x00000000#32) reducesTo_S16384x1024_S16384_d1 h_S_)) (broadcastInDim S16384x1 ![] bcast_S_S16384x1 (constant S_ .f32 0x44800000#32))) (broadcastInDim S16384x1 ![] bcast_S_S16384x1 (constant S_ .f32 0x358637BD#32)))))) (broadcastInDim S16384x1024 ![0, 1] bcast_S1x1024_S16384x1024_0_1 (m ((c.tc : Thread nD τ).loc main_arg1)))) (addf (broadcastInDim S16384x1024 ![] bcast_S_S16384x1024 (constant S_ .f32 0x3F800000#32)) (extractStridedSlice S16384x1024 ![0, 1024] (modsR m c) slices_S16384x6144_S16384x1024_0_1024))) (extractStridedSlice S16384x1024 ![0, 0] (modsR m c) slices_S16384x6144_S16384x1024_0_0))
def projR : FVec Ideal S16384x3080 .f32 :=
  Host.dotGeneral (φ₂ := .f32) dot_S16384x1024_S1024x3080_S16384x3080_1_0_0_1_n_n none (rowR m c) (m ((c.tc : Thread nD τ).loc main_arg3))
def cosR : FVec Ideal S16384x1x32 .f32 :=
  (broadcastInDim S16384x1x32 ![0, 2] bcast_S16384x32_S16384x1x32_0_2 (Host.cos (mulf (broadcastInDim S16384x32 ![0, 1] bcast_S16384x1_S16384x32_0_1 (broadcastInDim S16384x1 ![0] bcast_S16384_S16384x1_0 (sitofp .f32 (shapeCast _ (broadcastInDim S8x2048 ![0, 1] bcast_S1x2048_S8x2048_0_1 (shapeCast _ (iotaInDim S2048 32 0) shapeCasts_S2048_S1x2048)) shapeCasts_S8x2048_S16384)))) (broadcastInDim S16384x32 ![0, 1] bcast_S1x32_S16384x32_0_1 (broadcastInDim S1x32 ![1] bcast_S32_S1x32_1 (Host.powf (broadcastInDim S32 ![] bcast_S_S32 (constant S_ .f32 0x461C4000#32)) (Host.divf (Host.negf (sitofp .f32 (iotaInDim S32 32 0))) (broadcastInDim S32 ![] bcast_S_S32 (constant S_ .f32 0x42000000#32)))))))))
def sinR : FVec Ideal S16384x1x32 .f32 :=
  (broadcastInDim S16384x1x32 ![0, 2] bcast_S16384x32_S16384x1x32_0_2 (Host.sin (mulf (broadcastInDim S16384x32 ![0, 1] bcast_S16384x1_S16384x32_0_1 (broadcastInDim S16384x1 ![0] bcast_S16384_S16384x1_0 (sitofp .f32 (shapeCast _ (broadcastInDim S8x2048 ![0, 1] bcast_S1x2048_S8x2048_0_1 (shapeCast _ (iotaInDim S2048 32 0) shapeCasts_S2048_S1x2048)) shapeCasts_S8x2048_S16384)))) (broadcastInDim S16384x32 ![0, 1] bcast_S1x32_S16384x32_0_1 (broadcastInDim S1x32 ![1] bcast_S32_S1x32_1 (Host.powf (broadcastInDim S32 ![] bcast_S_S32 (constant S_ .f32 0x461C4000#32)) (Host.divf (Host.negf (sitofp .f32 (iotaInDim S32 32 0))) (broadcastInDim S32 ![] bcast_S_S32 (constant S_ .f32 0x42000000#32)))))))))

/-- The arguments, the token's rows of the modulation, and the reference's normalised row and product. -/
abbrev r0 : Vec Ideal S16384x1024 .f32 := m ((c : Thread nD τ).loc main_arg0)
abbrev r1 : Vec Ideal S1x1024 .f32 := m ((c : Thread nD τ).loc main_arg1)
abbrev r2 : Vec Ideal S8x1x6144 .f32 := m ((c : Thread nD τ).loc main_arg2)
abbrev r3 : Vec Ideal S1024x3080 .f32 := m ((c : Thread nD τ).loc main_arg3)

open Cert.OutMoe in
/-- Entry `j` of a token's row times the weights. -/
def prod (x : Vec Ideal S16384x1024 .f32) (g : Vec Ideal S1x1024 .f32) (mo : Vec Ideal S8x1x6144 .f32) (w : Vec Ideal S1024x3080 .f32) (t : Fin 16384) (j : Fin 3080) : EReal :=
  ∑ k : Fin 1024, modul (fun d => x (ix2 t d)) (fun d => g (ix2 0 d)) (fun d => mo (ix3 ⟨t.val / 2048, by omega⟩ 0 ⟨1024 + d.val, by omega⟩))
    (fun d => mo (ix3 ⟨t.val / 2048, by omega⟩ 0 ⟨d.val, by omega⟩)) k * w (ix2 k j)

abbrev prodR (t : Fin 16384) (j : Fin 3080) : EReal := prod (r0 m c) (r1 m c) (r2 m c) (r3 m c) t j

theorem mods_of (X : Vec Ideal S8x1x6144 .f32) (t : Fin 16384) (k : Fin 6144) :
    (shapeCast _ (broadcastInDim S8x2048x6144 ![0, 2] bcast_S8x6144_S8x2048x6144_0_2 (shapeCast _ X shapeCasts_S8x1x6144_S8x6144)) shapeCasts_S8x2048x6144_S16384x6144
      : Vec Ideal S16384x6144 .f32) (ix2 t k) = X (ix3 ⟨t.val / 2048, by omega⟩ 0 k) := by
  pointwise

theorem modsR_at (t : Fin 16384) (k : Fin 6144) : modsR m c (ix2 t k) = r2 m c (ix3 ⟨t.val / 2048, by omega⟩ 0 k) := by
  exact mods_of (r2 m c) t k

open Cert.OutMoe in
theorem rowR_at (t : Fin 16384) (k : Fin 1024) : rowR m c (ix2 t k) =
    modul (fun d => r0 m c (ix2 t d)) (fun d => r1 m c (ix2 0 d)) (fun d => r2 m c (ix3 ⟨t.val / 2048, by omega⟩ 0 ⟨1024 + d.val, by omega⟩))
      (fun d => r2 m c (ix3 ⟨t.val / 2048, by omega⟩ 0 ⟨d.val, by omega⟩)) k := by
  pointwise [rowR]
  rw [modsR_at, modsR_at]
  rfl

theorem projR_at (t : Fin 16384) (j : Fin 3080) : projR m c (ix2 t j) = prodR m c t j := by
  pointwise [projR]
  exact Finset.sum_congr rfl fun k _ => congrArg (· * _) (rowR_at m c t k)

theorem cosR_at (t : Fin 16384) (f : Fin 32) : cosR (ix3 t 0 f) = coAt (t.val % 2048) f := by
  pointwise [cosR]
  rfl

theorem sinR_at (t : Fin 16384) (f : Fin 32) : sinR (ix3 t 0 f) = siAt (t.val % 2048) f := by
  pointwise [sinR]
  rfl

/-- Each head of 256 columns of the product, from column `o`, turned. -/
theorem rotq_at (o : Nat) (ho : o + 256 ≤ 3080) (hs : S16384x3080.Slices ![0, o] S16384x256) (t : Fin 16384) (h : Fin 4) (e : Fin 64) :
    rot4 (shapeCast _ (extractStridedSlice S16384x256 ![0, o] (projR m c) hs) shapeCasts_S16384x256_S16384x4x64) cosR sinR (ix3 t h e)
      = turned (fun d : Fin 256 => prodR m c t ⟨o + d.val, by omega⟩) (coAt (t.val % 2048)) (siAt (t.val % 2048)) ⟨64 * h.val + e.val, by omega⟩ := by
  refine rot4_at _ _ t _ _ (cosR_at t) (sinR_at t) (fun d : Fin 256 => prodR m c t ⟨o + d.val, by omega⟩) _ (fun h e => ?_) h e
  rw [← projR_at]
  pointwise
  exact congrArg (fun k => projR m c (ix2 t k)) (Fin.ext (by simp only; omega))

theorem rotk_at (t : Fin 16384) (h : Fin 2) (e : Fin 64) :
    rot2 (shapeCast _ (extractStridedSlice S16384x128 ![0, 2824] (projR m c) slices_S16384x3080_S16384x128_0_2824) shapeCasts_S16384x128_S16384x2x64) cosR sinR (ix3 t h e)
      = turned (fun d : Fin 128 => prodR m c t ⟨2824 + d.val, by omega⟩) (coAt (t.val % 2048)) (siAt (t.val % 2048)) ⟨64 * h.val + e.val, by omega⟩ := by
  refine rot2_at _ _ t _ _ (cosR_at t) (sinR_at t) (fun d : Fin 128 => prodR m c t ⟨2824 + d.val, by omega⟩) _ (fun h e => ?_) h e
  rw [← projR_at]
  pointwise
  exact congrArg (fun k => projR m c (ix2 t k)) (Fin.ext (by simp only; omega))

/-- The turned keys, the turned queries with their heads in the order 0, 2, 1, 3, and the four parts of the first result. -/
def keysR : FVec Ideal S16384x128 .f32 :=
  shapeCast _ (rot2 (shapeCast _ (extractStridedSlice S16384x128 ![0, 2824] (projR m c) slices_S16384x3080_S16384x128_0_2824) shapeCasts_S16384x128_S16384x2x64) cosR sinR) shapeCasts_S16384x2x64_S16384x128
def headsR : FVec Ideal S16384x256 .bf16 :=
  truncf .bf16 (shapeCast _ ((concatenate S16384x4x64 1 [⟨S16384x1x64, ((extractStridedSlice S16384x1x64 ![0, 0, 0] (mulf (rot4 (shapeCast _ (extractStridedSlice S16384x256 ![0, 2568] (projR m c) slices_S16384x3080_S16384x256_0_2568) shapeCasts_S16384x256_S16384x4x64) cosR sinR) (broadcastInDim S16384x4x64 ![] bcast_S_S16384x4x64 (constant S_ .f32 0x3E000000#32))) slices_S16384x4x64_S16384x1x64_0_0_0) : (⟨S16384x1x64, .f32⟩ : BufTy).Contents (Elt Ideal))⟩, ⟨S16384x1x64, ((extractStridedSlice S16384x1x64 ![0, 2, 0] (mulf (rot4 (shapeCast _ (extractStridedSlice S16384x256 ![0, 2568] (projR m c) slices_S16384x3080_S16384x256_0_2568) shapeCasts_S16384x256_S16384x4x64) cosR sinR) (broadcastInDim S16384x4x64 ![] bcast_S_S16384x4x64 (constant S_ .f32 0x3E000000#32))) slices_S16384x4x64_S16384x1x64_0_2_0) : (⟨S16384x1x64, .f32⟩ : BufTy).Contents (Elt Ideal))⟩, ⟨S16384x1x64, ((extractStridedSlice S16384x1x64 ![0, 1, 0] (mulf (rot4 (shapeCast _ (extractStridedSlice S16384x256 ![0, 2568] (projR m c) slices_S16384x3080_S16384x256_0_2568) shapeCasts_S16384x256_S16384x4x64) cosR sinR) (broadcastInDim S16384x4x64 ![] bcast_S_S16384x4x64 (constant S_ .f32 0x3E000000#32))) slices_S16384x4x64_S16384x1x64_0_1_0) : (⟨S16384x1x64, .f32⟩ : BufTy).Contents (Elt Ideal))⟩, ⟨S16384x1x64, ((extractStridedSlice S16384x1x64 ![0, 3, 0] (mulf (rot4 (shapeCast _ (extractStridedSlice S16384x256 ![0, 2568] (projR m c) slices_S16384x3080_S16384x256_0_2568) shapeCasts_S16384x256_S16384x4x64) cosR sinR) (broadcastInDim S16384x4x64 ![] bcast_S_S16384x4x64 (constant S_ .f32 0x3E000000#32))) slices_S16384x4x64_S16384x1x64_0_3_0) : (⟨S16384x1x64, .f32⟩ : BufTy).Contents (Elt Ideal))⟩] concatenates_S16384x1x64_S16384x1x64_S16384x1x64_S16384x1x64_S16384x4x64_d1 : (⟨S16384x4x64, .f32⟩ : BufTy).Contents (Elt Ideal))) shapeCasts_S16384x4x64_S16384x256) bitsLt_bf16_f32
def retR : FVec Ideal S16384x1024 .bf16 :=
  truncf .bf16 ((concatenate S16384x1024 1 [⟨S16384x256, ((shapeCast _ (rot4 (shapeCast _ (extractStridedSlice S16384x256 ![0, 0] (projR m c) slices_S16384x3080_S16384x256_0_0) shapeCasts_S16384x256_S16384x4x64) cosR sinR) shapeCasts_S16384x4x64_S16384x256) : (⟨S16384x256, .f32⟩ : BufTy).Contents (Elt Ideal))⟩, ⟨S16384x256, ((mulf (shapeCast _ (rot4 (shapeCast _ (extractStridedSlice S16384x256 ![0, 256] (projR m c) slices_S16384x3080_S16384x256_0_256) shapeCasts_S16384x256_S16384x4x64) cosR sinR) shapeCasts_S16384x4x64_S16384x256) (broadcastInDim S16384x256 ![] bcast_S_S16384x256 (constant S_ .f32 0x3E000000#32))) : (⟨S16384x256, .f32⟩ : BufTy).Contents (Elt Ideal))⟩, ⟨S16384x256, ((extractStridedSlice S16384x256 ![0, 512] (projR m c) slices_S16384x3080_S16384x256_0_512) : (⟨S16384x256, .f32⟩ : BufTy).Contents (Elt Ideal))⟩, ⟨S16384x256, ((extractStridedSlice S16384x256 ![0, 768] (projR m c) slices_S16384x3080_S16384x256_0_768) : (⟨S16384x256, .f32⟩ : BufTy).Contents (Elt Ideal))⟩] concatenates_S16384x256_S16384x256_S16384x256_S16384x256_S16384x1024_d1 : (⟨S16384x1024, .f32⟩ : BufTy).Contents (Elt Ideal))) bitsLt_bf16_f32

theorem res129 : res_main_v129 m c = keysR m c := rfl
theorem res114 : res_main_v114 m c = headsR m c := rfl
theorem res111 : res_main_v111 m c = retR m c := rfl

/-- The position of a token in its sequence. -/
abbrev pos (t : Fin 16384) : Nat := t.val % 2048

theorem keysR_at (t : Fin 16384) (d : Fin 128) : keysR m c (ix2 t d)
    = turned (fun d : Fin 128 => prodR m c t ⟨2824 + d.val, by omega⟩) (coAt (pos t)) (siAt (pos t)) d := by
  have h := rotk_at m c t ⟨d.val / 64, by omega⟩ ⟨d.val % 64, by omega⟩
  pointwise [keysR]
  refine Eq.trans ?_ (h.trans ?_)
  · rfl
  · exact congrArg (turned _ _ _) (Fin.ext (by simp only; omega))

/-- The place a head's entry of the queries is read from. -/
def headAt (d : Fin 256) : Fin 256 := ⟨64 * (2 * (d.val / 64 % 2) + d.val / 64 / 2) + d.val % 64, by omega⟩

theorem headsR_at (t : Fin 16384) (d : Fin 256) : headsR m c (ix2 t d)
    = turned (fun d : Fin 256 => prodR m c t ⟨2568 + d.val, by omega⟩) (coAt (pos t)) (siAt (pos t)) (headAt d) * Ideal.ofBits .f32 0x3E000000#32 := by
  pointwise [headsR]
  simp only [rotq_at m c 2568 (by omega)]
  split
  · exact congrArg (fun k => turned _ _ _ k * _) (Fin.ext (by simp only [headAt]; omega))
  · split
    · exact congrArg (fun k => turned _ _ _ k * _) (Fin.ext (by simp only [headAt]; omega))
    · split
      · exact congrArg (fun k => turned _ _ _ k * _) (Fin.ext (by simp only [headAt]; omega))
      · exact congrArg (fun k => turned _ _ _ k * _) (Fin.ext (by simp only [headAt]; omega))

theorem retR_at0 (t : Fin 16384) (d : Fin 256) : retR m c (ix2 t ⟨d.val, by omega⟩)
    = turned (fun d : Fin 256 => prodR m c t ⟨d.val, by omega⟩) (coAt (pos t)) (siAt (pos t)) d := by
  pointwise [retR]
  rw [rotq_at m c 0 (by omega)]
  have e : (fun d : Fin 256 => prodR m c t ⟨0 + d.val, by omega⟩) = fun d : Fin 256 => prodR m c t ⟨d.val, by omega⟩ :=
    funext fun d => congrArg (prodR m c t) (Fin.ext (Nat.zero_add _))
  rw [e]
  refine congrArg (turned _ _ _) (Fin.ext ?_)
  show 64 * (d.val / 64) + d.val % 64 = d.val
  omega

theorem retR_at1 (t : Fin 16384) (d : Fin 256) : retR m c (ix2 t ⟨256 + d.val, by omega⟩)
    = turned (fun d : Fin 256 => prodR m c t ⟨256 + d.val, by omega⟩) (coAt (pos t)) (siAt (pos t)) d * Ideal.ofBits .f32 0x3E000000#32 := by
  pointwise [retR]
  rw [rotq_at m c 256 (by omega)]
  exact congrArg (fun k => turned _ _ _ k * _) (Fin.ext (by first | omega | (simp only; omega)))

theorem retR_at2 (t : Fin 16384) (d : Fin 512) : retR m c (ix2 t ⟨512 + d.val, by omega⟩) = prodR m c t ⟨512 + d.val, by omega⟩ := by
  rw [← projR_at]
  pointwise [retR]
  rw [dif_neg (by omega), dif_neg (by omega)]
  split
  · exact congrArg (fun k => projR m c (ix2 t k)) (Fin.ext (by first | omega | (simp only; omega)))
  · exact congrArg (fun k => projR m c (ix2 t k)) (Fin.ext (by first | omega | (simp only; omega)))

/-- The four results that are columns of the product. -/
def zR : FVec Ideal S16384x512 .bf16 :=
  truncf .bf16 (extractStridedSlice S16384x512 ![0, 1024] (projR m c) slices_S16384x3080_S16384x512_0_1024) bitsLt_bf16_f32
def xbcR : FVec Ideal S16384x1024 .f32 := extractStridedSlice S16384x1024 ![0, 1536] (projR m c) slices_S16384x3080_S16384x1024_0_1536
def dtR : FVec Ideal S16384x128 .f32 :=
  pad S16384x128 ![0, 0] ![0, 120] ![0, 0] (extractStridedSlice S16384x8 ![0, 2560] (projR m c) slices_S16384x3080_S16384x8_0_2560) (sitofp .f32 (constantI S_ 32 0#32)) pads_S16384x8_S16384x128_000_01200 h_S_
def svR : FVec Ideal S16384x128 .f32 := extractStridedSlice S16384x128 ![0, 2952] (projR m c) slices_S16384x3080_S16384x128_0_2952

theorem zR_at (t : Fin 16384) (d : Fin 512) : zR m c (ix2 t d) = prodR m c t ⟨1024 + d.val, by omega⟩ := by
  rw [← projR_at]
  pointwise [zR]

theorem xbcR_at (t : Fin 16384) (d : Fin 1024) : xbcR m c (ix2 t d) = prodR m c t ⟨1536 + d.val, by omega⟩ := by
  rw [← projR_at]
  pointwise [xbcR]

theorem dtR_at (t : Fin 16384) (d : Fin 128) : dtR m c (ix2 t d) = if h : d.val < 8 then prodR m c t ⟨2560 + d.val, by omega⟩ else 0 := by
  simp only [← projR_at]
  pointwise [dtR]
  split
  · rfl
  · simp [FloatOps.sitofp]

theorem svR_at (t : Fin 16384) (d : Fin 128) : svR m c (ix2 t d) = prodR m c t ⟨2952 + d.val, by omega⟩ := by
  rw [← projR_at]
  pointwise [svR]

end Cert.InProj
-- ==== Proof.InFinal.lean ====
module

public import proofs.«01_k».proof.Proof.InRef

@[expose] public section

set_option maxRecDepth 16384

noncomputable section

namespace Cert.InProj

open Idealize.ShloMosaic Idealize.ShloMosaic.StableHlo Idealize.ShloMosaic.TcCoe
open Cert.Kernel2Ideal Cert.Kernel2Ideal.Gen

/-! # The projection's results, entry by entry -/

variable (m : (ℓ : Loc nD τ sig) → Buf (Elt Ideal) ℓ) (c : Dev nD)

/-- The kernel's arguments, and its product of a token's row and the weights. -/
abbrev k0 : Vec Ideal S16384x1024 .f32 := m ((c : Thread nD τ).loc main_arg0)
abbrev k1 : Vec Ideal S1x1024 .f32 := m ((c : Thread nD τ).loc main_arg1)
abbrev k2 : Vec Ideal S8x1x6144 .f32 := m ((c : Thread nD τ).loc main_arg2)
abbrev prodK (t : Fin 16384) (j : Fin 3080) : EReal := prod (k0 m c) (k1 m c) (k2 m c) (wl m c) t j

/-- A point's rows, normalised and modulated. -/
abbrev hK (t : Fin cfg0.N) : FVec Ideal S512x1024 .bf16 := k0_pay3 (F := Ideal) (iblk (F := Ideal) m c 0 t) (iblk (F := Ideal) m c 1 t) (iblk (F := Ideal) m c 2 t) (iblk (F := Ideal) m c 3 t)

theorem V_arg0 : V (F := Ideal) m c main_arg0 = k0 m c := by
  unfold V
  after_reads_at

theorem V_arg1 : V (F := Ideal) m c main_arg1 = k1 m c := by
  unfold V
  after_reads_at

theorem V_arg2 : V (F := Ideal) m c main_arg2 = k2 m c := by
  unfold V
  after_reads_at

variable (t : Fin cfg0.N) (ρ : Fin 512)

open Cert.OutMoe (modul) in
theorem hK_at (k : Fin 1024) : hK m c t (ix2 ρ k) =
    modul (fun d => k0 m c (ix2 (token t ρ) d)) (fun d => k1 m c (ix2 0 d)) (fun d => k2 m c (ix3 ⟨(token t ρ).val / 2048, by omega⟩ 0 ⟨1024 + d.val, by omega⟩))
      (fun d => k2 m c (ix3 ⟨(token t ρ).val / 2048, by omega⟩ 0 ⟨d.val, by omega⟩)) k := by
  have hs : seqOf t = ⟨(token t ρ).val / 2048, by omega⟩ := Fin.ext (by have := pt_lt t; simp only [seqOf, token]; omega)
  rw [hK, h_at]
  simp only [blk0, blk1, blk2, blk3, hs]
  rw [V_arg0, V_arg1, V_arg2]

/-- A product of a point's row and a column that the blocks' weights and the whole weights share. -/
theorem sum_at (w : Fin 1024 → EReal) (j : Fin 3080) (hw : ∀ k, w k = wl m c (ix2 k j)) : ∑ k, hK m c t (ix2 ρ k) * w k = prodK m c (token t ρ) j := by
  unfold prodK prod
  exact Finset.sum_congr rfl fun k _ => by rw [hK_at, hw]

theorem mainw_at (k : Fin 1024) (j : Fin 2560) : iblk (F := Ideal) m c 6 t (ix2 k j) = wl m c (ix2 k ⟨j.val, by omega⟩) := by
  rw [blk6, main_at]

theorem swaw_at (k : Fin 1024) (j : Fin 512) : iblk (F := Ideal) m c 7 t (ix2 k j) = wl m c (ix2 k (swaCol j)) := by
  rw [blk7, swa_at]

theorem cosK (d : Fin 256) : k0_pay4 (F := Ideal) (iblk (F := Ideal) m c 4 t) (ix2 ρ d) = coAt (pos (token t ρ)) (freq d) := by
  rw [cos_at, blk4, cos_table]
  exact congrArg (fun p => coAt p (freq d)) (by simp only [quarter, pos, token]; omega)

theorem sinK (d : Fin 256) : k0_pay5 (F := Ideal) (iblk (F := Ideal) m c 5 t) (ix2 ρ d) = signed (siAt (pos (token t ρ))) d := by
  rw [sin_at, blk5, sin_table]
  exact congrArg (fun p => signed (siAt p) d) (by simp only [quarter, pos, token]; omega)

theorem main256col_at (X : Vec Ideal S1024x2560 .bf16) (k : Fin 1024) (d : Fin 256) : main256 X (ix2 k d) = X (ix2 k ⟨0 + d.val, by omega⟩) :=
  View.ld_unit_apply_of _ _ _ _ _ _ fun a => by
    fin_cases a
    · exact (Nat.zero_add _).symm
    · rfl

theorem main256_col_at (X : Vec Ideal S1024x2560 .bf16) (k : Fin 1024) (d : Fin 256) : main256' X (ix2 k d) = X (ix2 k ⟨256 + d.val, by omega⟩) :=
  View.ld_unit_apply_of _ _ _ _ _ _ fun a => by
    fin_cases a
    · exact (Nat.zero_add _).symm
    · rfl

theorem main512col_at (X : Vec Ideal S1024x2560 .bf16) (k : Fin 1024) (d : Fin 512) : main512 X (ix2 k d) = X (ix2 k ⟨512 + d.val, by omega⟩) :=
  View.ld_unit_apply_of _ _ _ _ _ _ fun a => by
    fin_cases a
    · exact (Nat.zero_add _).symm
    · rfl

theorem main512_col_at (X : Vec Ideal S1024x2560 .bf16) (k : Fin 1024) (d : Fin 512) : main512' X (ix2 k d) = X (ix2 k ⟨1024 + d.val, by omega⟩) :=
  View.ld_unit_apply_of _ _ _ _ _ _ fun a => by
    fin_cases a
    · exact (Nat.zero_add _).symm
    · rfl

theorem main1024col_at (X : Vec Ideal S1024x2560 .bf16) (k : Fin 1024) (d : Fin 1024) : main1024 X (ix2 k d) = X (ix2 k ⟨1536 + d.val, by omega⟩) :=
  View.ld_unit_apply_of _ _ _ _ _ _ fun a => by
    fin_cases a
    · exact (Nat.zero_add _).symm
    · rfl

theorem swa256col_at (X : Vec Ideal S1024x512 .bf16) (k : Fin 1024) (d : Fin 256) : swa256 X (ix2 k d) = X (ix2 k ⟨0 + d.val, by omega⟩) :=
  View.ld_unit_apply_of _ _ _ _ _ _ fun a => by
    fin_cases a
    · exact (Nat.zero_add _).symm
    · rfl

theorem swa128col_at (X : Vec Ideal S1024x512 .bf16) (k : Fin 1024) (d : Fin 128) : swa128 X (ix2 k d) = X (ix2 k ⟨256 + d.val, by omega⟩) :=
  View.ld_unit_apply_of _ _ _ _ _ _ fun a => by
    fin_cases a
    · exact (Nat.zero_add _).symm
    · rfl

theorem swa128_col_at (X : Vec Ideal S1024x512 .bf16) (k : Fin 1024) (d : Fin 128) : swa128' X (ix2 k d) = X (ix2 k ⟨384 + d.val, by omega⟩) :=
  View.ld_unit_apply_of _ _ _ _ _ _ fun a => by
    fin_cases a
    · exact (Nat.zero_add _).symm
    · rfl

theorem arr10_at (d : Fin 512) : (dats (F := Ideal) m 0 c).arrAt 10 cfg0.N (ix2 (token t ρ) d) =
    k0_pay14 (F := Ideal) (hK m c t) (main512' (iblk (F := Ideal) m c 6 t)) (ix2 ρ d) := by
  have h := congrFun (Value.blocks10 m c t ((by decide +kernel : ∀ t : Fin cfg0.N, (cfg0.win 10).flush t = true) t)) (ix2 ρ d)
  rw [Value.flushed10_A, piece10] at h
  refine (read10 _ t ρ d).symm.trans (h.trans ?_)
  rfl

theorem arr11_at (d : Fin 1024) : (dats (F := Ideal) m 0 c).arrAt 11 cfg0.N (ix2 (token t ρ) d) =
    k0_pay15 (F := Ideal) (hK m c t) (main1024 (iblk (F := Ideal) m c 6 t)) (ix2 ρ d) := by
  have h := congrFun (Value.blocks11 m c t ((by decide +kernel : ∀ t : Fin cfg0.N, (cfg0.win 11).flush t = true) t)) (ix2 ρ d)
  rw [Value.flushed11_A, piece11] at h
  refine (read11 _ t ρ d).symm.trans (h.trans ?_)
  rfl

theorem arr12_at (d : Fin 128) : (dats (F := Ideal) m 0 c).arrAt 12 cfg0.N (ix2 (token t ρ) d) =
    k0_pay17 (F := Ideal) (hK m c t) (k0_pay16 (F := Ideal) (iblk (F := Ideal) m c 8 t)) (constant S512x128 .f32 0x00000000#32) (ix2 ρ d) := by
  have h := congrFun (Value.blocks12 m c t ((by decide +kernel : ∀ t : Fin cfg0.N, (cfg0.win 12).flush t = true) t)) (ix2 ρ d)
  rw [Value.flushed12_A, piece12] at h
  refine (read12 _ t ρ d).symm.trans (h.trans ?_)
  rfl

theorem arr13_at (d : Fin 256) : (dats (F := Ideal) m 0 c).arrAt 13 cfg0.N (ix2 (token t ρ) d) =
    k0_pay18 (F := Ideal) (hK m c t) (k0_pay4 (F := Ideal) (iblk (F := Ideal) m c 4 t)) (k0_pay5 (F := Ideal) (iblk (F := Ideal) m c 5 t)) (swa256 (iblk (F := Ideal) m c 7 t)) (ix2 ρ d) := by
  have h := congrFun (Value.blocks13 m c t ((by decide +kernel : ∀ t : Fin cfg0.N, (cfg0.win 13).flush t = true) t)) (ix2 ρ d)
  rw [Value.flushed13_A, piece13] at h
  refine (read13 _ t ρ d).symm.trans (h.trans ?_)
  rfl

theorem arr14_at (d : Fin 128) : (dats (F := Ideal) m 0 c).arrAt 14 cfg0.N (ix2 (token t ρ) d) =
    k0_pay1 (F := Ideal) (k0_pay5 (F := Ideal) (iblk (F := Ideal) m c 5 t)) (k0_pay19 (F := Ideal) (hK m c t) (swa128 (iblk (F := Ideal) m c 7 t))) (k0_pay20 (F := Ideal) (k0_pay4 (F := Ideal) (iblk (F := Ideal) m c 4 t))) (ix2 ρ d) := by
  have h := congrFun (Value.blocks14 m c t ((by decide +kernel : ∀ t : Fin cfg0.N, (cfg0.win 14).flush t = true) t)) (ix2 ρ d)
  rw [Value.flushed14_A, piece14] at h
  refine (read14 _ t ρ d).symm.trans (h.trans ?_)
  rfl

theorem arr15_at (d : Fin 128) : (dats (F := Ideal) m 0 c).arrAt 15 cfg0.N (ix2 (token t ρ) d) =
    k0_pay2 (F := Ideal) (hK m c t) (swa128' (iblk (F := Ideal) m c 7 t)) (ix2 ρ d) := by
  have h := congrFun (Value.blocks15 m c t ((by decide +kernel : ∀ t : Fin cfg0.N, (cfg0.win 15).flush t = true) t)) (ix2 ρ d)
  rw [Value.flushed15_A, piece15] at h
  refine (read15 _ t ρ d).symm.trans (h.trans ?_)
  rfl

/-- The three column ranges of the first result, as the body stores them. -/
abbrev parts9 : Vec Ideal S512x1024 .bf16 := View.canon ([
    ⟨Rect.unit (s := S512x1024) ![0, 512] S512x512.size inb_S512x1024_S512x512_0_512, k0_pay13 (F := Ideal) (hK m c t) (main512 (iblk (F := Ideal) m c 6 t))⟩,
    ⟨Rect.unit (s := S512x1024) ![0, 256] S512x256.size inb_S512x1024_S512x256_0_256, k0_pay12 (F := Ideal) (k0_pay4 (F := Ideal) (iblk (F := Ideal) m c 4 t)) (k0_pay5 (F := Ideal) (iblk (F := Ideal) m c 5 t)) (k0_pay8 (F := Ideal) (hK m c t) (main256' (iblk (F := Ideal) m c 6 t))) (Scalar.select (Scalar.cmpi .eq 64#32 0#32) 1#32 64#32) k0_pay9 k0_pay10 k0_pay11⟩,
    ⟨Rect.unit (s := S512x1024) ![0, 0] S512x256.size inb_S512x1024_S512x256_0_0, k0_pay7 (F := Ideal) (k0_pay4 (F := Ideal) (iblk (F := Ideal) m c 4 t)) (k0_pay5 (F := Ideal) (iblk (F := Ideal) m c 5 t)) (k0_pay6 (F := Ideal) (iblk (F := Ideal) m c 0 t) (iblk (F := Ideal) m c 1 t) (iblk (F := Ideal) m c 2 t) (iblk (F := Ideal) m c 3 t) (main256 (iblk (F := Ideal) m c 6 t))) (iota .tc S512x256 32 [1] iota_S512x256_d1_w32) 64#32 (Scalar.cmpi .eq 64#32 0#32)⟩] : List (View.Piece (Elt Ideal) S512x1024 .bf16))

theorem arr9_at (d : Fin 1024) : (dats (F := Ideal) m 0 c).arrAt 9 cfg0.N (ix2 (token t ρ) d) =
    parts9 m c t (ix2 ρ d) := by
  have h := congrFun (Value.blocks9 m c t ((by decide +kernel : ∀ t : Fin cfg0.N, (cfg0.win 9).flush t = true) t)) (ix2 ρ d)
  rw [Value.flushed9_A, piece9] at h
  refine (read9 _ t ρ d).symm.trans (h.trans ?_)
  rfl

theorem z_eq (d : Fin 512) : (dats (F := Ideal) m 0 c).arrAt 10 cfg0.N (ix2 (token t ρ) d) = prodK m c (token t ρ) ⟨1024 + d.val, by omega⟩ := by
  rw [arr10_at, z_at]
  exact sum_at m c t ρ _ _ fun k => by rw [main512_col_at, mainw_at]

theorem xbc_eq (d : Fin 1024) : (dats (F := Ideal) m 0 c).arrAt 11 cfg0.N (ix2 (token t ρ) d) = prodK m c (token t ρ) ⟨1536 + d.val, by omega⟩ := by
  rw [arr11_at, xbc_at]
  exact sum_at m c t ρ _ _ fun k => by rw [main1024col_at, mainw_at]

theorem dt_eq (d : Fin 128) : (dats (F := Ideal) m 0 c).arrAt 12 cfg0.N (ix2 (token t ρ) d)
    = if h : d.val < 8 then prodK m c (token t ρ) ⟨2560 + d.val, by omega⟩ else 0 := by
  rw [arr12_at, dt_at]
  split
  · rename_i h
    exact sum_at m c t ρ _ _ fun k => by rw [blk8, dtw_at, dif_pos h]
  · rename_i h
    have z : ∑ k : Fin 1024, hK m c t (ix2 ρ k) * iblk (F := Ideal) m c 8 t (ix2 k d) = (0 : EReal) := Finset.sum_eq_zero fun k _ => by
      rw [blk8, dtw_at, dif_neg h]
      exact mul_zero _
    exact z

theorem sv_eq (d : Fin 128) : (dats (F := Ideal) m 0 c).arrAt 15 cfg0.N (ix2 (token t ρ) d) = prodK m c (token t ρ) ⟨2952 + d.val, by omega⟩ := by
  rw [arr15_at, sv_at]
  refine sum_at m c t ρ _ _ fun k => ?_
  rw [swa128_col_at, swaw_at]
  exact congrArg (fun j => wl m c (ix2 k j)) (Fin.ext (by simp only [swaCol]; split <;> simp only <;> omega))

theorem sk_eq (d : Fin 128) : (dats (F := Ideal) m 0 c).arrAt 14 cfg0.N (ix2 (token t ρ) d)
    = turned (fun d : Fin 128 => prodK m c (token t ρ) ⟨2824 + d.val, by omega⟩) (coAt (pos (token t ρ))) (siAt (pos (token t ρ))) d := by
  rw [arr14_at, skr_at _ _ ρ (coAt (pos (token t ρ))) (siAt (pos (token t ρ))) (cosK m c t ρ) (sinK m c t ρ)]
  refine congrArg (fun p => turned p _ _ d) (funext fun d => ?_)
  rw [sk_at]
  refine sum_at m c t ρ _ _ fun k => ?_
  rw [swa128col_at, swaw_at]
  exact congrArg (fun j => wl m c (ix2 k j)) (Fin.ext (by simp only [swaCol]; split <;> simp only <;> omega))

/-- Turning commutes with the order of the heads. -/
theorem turned_head (P : Fin 256 → EReal) (co si : Fin 32 → EReal) (d : Fin 256) :
    turned (fun d => P (headAt d)) co si d = turned P co si (headAt d) := by
  have e : (headAt d).val % 64 = d.val % 64 := by simp only [headAt]; omega
  have f : freq (headAt d) = freq d := Fin.ext (by simp only [freq, headAt]; omega)
  unfold turned
  rw [e, f]
  split
  · rename_i h
    rw [← (by decide +kernel : ∀ d : Fin 256, d.val % 64 < 32 → headAt (ahead32 d) = ahead32 (headAt d)) d h]
  · rename_i h
    rw [← (by decide +kernel : ∀ d : Fin 256, ¬d.val % 64 < 32 → headAt (back32 d) = back32 (headAt d)) d h]

theorem sq_eq (d : Fin 256) : (dats (F := Ideal) m 0 c).arrAt 13 cfg0.N (ix2 (token t ρ) d)
    = turned (fun d : Fin 256 => prodK m c (token t ρ) ⟨2568 + d.val, by omega⟩) (coAt (pos (token t ρ))) (siAt (pos (token t ρ))) (headAt d)
      * Ideal.ofBits .f32 0x3E000000#32 := by
  rw [arr13_at, sq_at _ _ _ ρ (coAt (pos (token t ρ))) (siAt (pos (token t ρ))) (cosK m c t ρ) (sinK m c t ρ), ← turned_head]
  refine congrArg (fun p => turned p _ _ d * _) (funext fun d => ?_)
  refine sum_at m c t ρ _ _ fun k => ?_
  rw [swa256col_at, swaw_at]
  exact congrArg (fun j => wl m c (ix2 k j)) (Fin.ext (by simp only [swaCol, headAt]; split <;> simp only <;> omega))

theorem c0_emb (d : Fin 256) : (Rect.unit (s := S512x1024) ![0, 0] S512x256.size inb_S512x1024_S512x256_0_0).emb (ix2 ρ d) = ix2 ρ ⟨0 + d.val, by omega⟩ := by
  funext a
  apply Fin.ext
  refine (ValueKit.rect_emb_unit_val _ _ _ _ a).trans ?_
  fin_cases a
  · exact Nat.zero_add _
  · rfl

theorem c256_emb (d : Fin 256) : (Rect.unit (s := S512x1024) ![0, 256] S512x256.size inb_S512x1024_S512x256_0_256).emb (ix2 ρ d) = ix2 ρ ⟨256 + d.val, by omega⟩ := by
  funext a
  apply Fin.ext
  refine (ValueKit.rect_emb_unit_val _ _ _ _ a).trans ?_
  fin_cases a
  · exact Nat.zero_add _
  · rfl

theorem c512_emb (d : Fin 512) : (Rect.unit (s := S512x1024) ![0, 512] S512x512.size inb_S512x1024_S512x512_0_512).emb (ix2 ρ d) = ix2 ρ ⟨512 + d.val, by omega⟩ := by
  funext a
  apply Fin.ext
  refine (ValueKit.rect_emb_unit_val _ _ _ _ a).trans ?_
  fin_cases a
  · exact Nat.zero_add _
  · rfl

theorem c256_out (d : Fin 1024) (h : d.val < 256) : (ix2 ρ d : S512x1024.Idx) ∉ (Rect.unit (s := S512x1024) ![0, 256] S512x256.size inb_S512x1024_S512x256_0_256).set := by
  intro q
  have h0 := (Rect.mem_set_unit.mp q ⟨1, by decide⟩).1
  have : (256 : Nat) ≤ d.val := h0
  omega

theorem c512_out (d : Fin 1024) (h : d.val < 512) : (ix2 ρ d : S512x1024.Idx) ∉ (Rect.unit (s := S512x1024) ![0, 512] S512x512.size inb_S512x1024_S512x512_0_512).set := by
  intro q
  have h0 := (Rect.mem_set_unit.mp q ⟨1, by decide⟩).1
  have : (512 : Nat) ≤ d.val := h0
  omega

section Parts
variable (A : FVec Ideal S512x512 .bf16) (B C : FVec Ideal S512x256 .bf16)

/-- Three column ranges stored side by side. -/
abbrev sideBySide : Vec Ideal S512x1024 .bf16 := View.canon ([
    ⟨Rect.unit (s := S512x1024) ![0, 512] S512x512.size inb_S512x1024_S512x512_0_512, A⟩,
    ⟨Rect.unit (s := S512x1024) ![0, 256] S512x256.size inb_S512x1024_S512x256_0_256, B⟩,
    ⟨Rect.unit (s := S512x1024) ![0, 0] S512x256.size inb_S512x1024_S512x256_0_0, C⟩] : List (View.Piece (Elt Ideal) S512x1024 .bf16))

theorem side2 (d : Fin 512) : sideBySide A B C (ix2 ρ ⟨512 + d.val, by omega⟩) = A (ix2 ρ d) := by
  rw [← c512_emb]
  exact View.canon_cons_emb (Rect.unit (s := S512x1024) ![0, 512] S512x512.size inb_S512x1024_S512x512_0_512) _ _ (ix2 ρ d)

theorem side1 (d : Fin 256) : sideBySide A B C (ix2 ρ ⟨256 + d.val, by omega⟩) = B (ix2 ρ d) := by
  rw [sideBySide, View.canon_cons_of_not_mem]
  · rw [← c256_emb]
    exact View.canon_cons_emb (Rect.unit (s := S512x1024) ![0, 256] S512x256.size inb_S512x1024_S512x256_0_256) _ _ (ix2 ρ d)
  · exact c512_out ρ ⟨256 + d.val, by omega⟩ (show 256 + d.val < 512 by omega)

theorem side0 (d : Fin 256) : sideBySide A B C (ix2 ρ ⟨d.val, by omega⟩) = C (ix2 ρ d) := by
  rw [sideBySide, View.canon_cons_of_not_mem]
  · rw [View.canon_cons_of_not_mem]
    · have e : (ix2 ρ ⟨d.val, by omega⟩ : S512x1024.Idx) = ix2 ρ ⟨0 + d.val, by omega⟩ := congrArg (ix2 ρ) (Fin.ext (Nat.zero_add _).symm)
      rw [e, ← c0_emb]
      exact View.canon_cons_emb (Rect.unit (s := S512x1024) ![0, 0] S512x256.size inb_S512x1024_S512x256_0_0) _ _ (ix2 ρ d)
    · exact c256_out ρ ⟨d.val, by omega⟩ (show d.val < 256 by omega)
  · exact c512_out ρ ⟨d.val, by omega⟩ (show d.val < 512 by omega)

end Parts

theorem ret_eq2 (d : Fin 512) : (dats (F := Ideal) m 0 c).arrAt 9 cfg0.N (ix2 (token t ρ) ⟨512 + d.val, by omega⟩) = prodK m c (token t ρ) ⟨512 + d.val, by omega⟩ := by
  rw [arr9_at]
  refine (side2 ρ _ _ _ d).trans ?_
  refine (vg_at (hK m c t) _ ρ d).trans ?_
  exact sum_at m c t ρ _ _ fun k => by rw [main512col_at, mainw_at]

theorem ret_eq1 (d : Fin 256) : (dats (F := Ideal) m 0 c).arrAt 9 cfg0.N (ix2 (token t ρ) ⟨256 + d.val, by omega⟩)
    = turned (fun d : Fin 256 => prodK m c (token t ρ) ⟨256 + d.val, by omega⟩) (coAt (pos (token t ρ))) (siAt (pos (token t ρ))) d * Ideal.ofBits .f32 0x3E000000#32 := by
  rw [arr9_at]
  refine (side1 ρ _ _ _ d).trans ?_
  refine (rk_at _ _ ρ (coAt (pos (token t ρ))) (siAt (pos (token t ρ))) (cosK m c t ρ) (sinK m c t ρ) _ d).trans ?_
  refine congrArg (fun p => turned p _ _ d * _) (funext fun d => ?_)
  rw [k_at]
  exact sum_at m c t ρ _ _ fun k => by rw [main256_col_at, mainw_at]

theorem ret_eq0 (d : Fin 256) : (dats (F := Ideal) m 0 c).arrAt 9 cfg0.N (ix2 (token t ρ) ⟨d.val, by omega⟩)
    = turned (fun d : Fin 256 => prodK m c (token t ρ) ⟨d.val, by omega⟩) (coAt (pos (token t ρ))) (siAt (pos (token t ρ))) d := by
  rw [arr9_at]
  refine (side0 ρ _ _ _ d).trans ?_
  refine (rq_at _ _ ρ (coAt (pos (token t ρ))) (siAt (pos (token t ρ))) (cosK m c t ρ) (sinK m c t ρ) _ d).trans ?_
  refine congrArg (fun p => turned p _ _ d) (funext fun d => ?_)
  rw [q_at]
  refine sum_at m c t ρ _ _ fun k => ?_
  rw [main256col_at, mainw_at]
  exact congrArg (fun j => wl m c (ix2 k j)) (Fin.ext (Nat.zero_add _))

/-! ## The arrays -/

variable (m' : (ℓ : Loc Cert.Reference2Ideal.nD Cert.Reference2Ideal.τ Cert.Reference2Ideal.sig) → Buf (Elt Ideal) ℓ)

/-- The two launches have the same arguments. -/
structure Same : Prop where
  e0 : r0 m' c = k0 m c
  e1 : r1 m' c = k1 m c
  e2 : r2 m' c = k2 m c
  e3 : r3 m' c = wl m c

theorem prod_eq (S : Same m c m') (t : Fin 16384) (j : Fin 3080) : prodR m' c t j = prodK m c t j := by
  rw [prodR, prodK, S.e0, S.e1, S.e2, S.e3]

theorem token_eq (t : Fin 16384) : ∃ (p : Fin cfg0.N) (ρ : Fin 512), token p ρ = t := by
  have hN : cfg0.N = 32 := N_0
  exact ⟨⟨t.val / 512, by omega⟩, ⟨t.val % 512, by omega⟩, Fin.ext (by simp only [token]; omega)⟩

theorem z_arr (S : Same m c m') : zR m' c = (dats (F := Ideal) m 0 c).arrAt 10 cfg0.N := by
  funext i
  obtain ⟨t, d, rfl⟩ : ∃ (t : Fin 16384) (d : Fin 512), i = ix2 t d := ⟨i 0, i 1, (ix2_eta i).symm⟩
  obtain ⟨p, ρ, rfl⟩ := token_eq t
  refine Eq.trans ?_ (z_eq m c p ρ d).symm
  rw [zR_at]
  simp only [prod_eq m c m' S]

theorem xbc_arr (S : Same m c m') : xbcR m' c = (dats (F := Ideal) m 0 c).arrAt 11 cfg0.N := by
  funext i
  obtain ⟨t, d, rfl⟩ : ∃ (t : Fin 16384) (d : Fin 1024), i = ix2 t d := ⟨i 0, i 1, (ix2_eta i).symm⟩
  obtain ⟨p, ρ, rfl⟩ := token_eq t
  refine Eq.trans ?_ (xbc_eq m c p ρ d).symm
  rw [xbcR_at]
  simp only [prod_eq m c m' S]

theorem dt_arr (S : Same m c m') : dtR m' c = (dats (F := Ideal) m 0 c).arrAt 12 cfg0.N := by
  funext i
  obtain ⟨t, d, rfl⟩ : ∃ (t : Fin 16384) (d : Fin 128), i = ix2 t d := ⟨i 0, i 1, (ix2_eta i).symm⟩
  obtain ⟨p, ρ, rfl⟩ := token_eq t
  refine Eq.trans ?_ (dt_eq m c p ρ d).symm
  rw [dtR_at]
  simp only [prod_eq m c m' S]

theorem sq_arr (S : Same m c m') : headsR m' c = (dats (F := Ideal) m 0 c).arrAt 13 cfg0.N := by
  funext i
  obtain ⟨t, d, rfl⟩ : ∃ (t : Fin 16384) (d : Fin 256), i = ix2 t d := ⟨i 0, i 1, (ix2_eta i).symm⟩
  obtain ⟨p, ρ, rfl⟩ := token_eq t
  refine Eq.trans ?_ (sq_eq m c p ρ d).symm
  rw [headsR_at]
  simp only [prod_eq m c m' S]

theorem sk_arr (S : Same m c m') : keysR m' c = (dats (F := Ideal) m 0 c).arrAt 14 cfg0.N := by
  funext i
  obtain ⟨t, d, rfl⟩ : ∃ (t : Fin 16384) (d : Fin 128), i = ix2 t d := ⟨i 0, i 1, (ix2_eta i).symm⟩
  obtain ⟨p, ρ, rfl⟩ := token_eq t
  refine Eq.trans ?_ (sk_eq m c p ρ d).symm
  rw [keysR_at]
  simp only [prod_eq m c m' S]

theorem sv_arr (S : Same m c m') : svR m' c = (dats (F := Ideal) m 0 c).arrAt 15 cfg0.N := by
  funext i
  obtain ⟨t, d, rfl⟩ : ∃ (t : Fin 16384) (d : Fin 128), i = ix2 t d := ⟨i 0, i 1, (ix2_eta i).symm⟩
  obtain ⟨p, ρ, rfl⟩ := token_eq t
  refine Eq.trans ?_ (sv_eq m c p ρ d).symm
  rw [svR_at]
  simp only [prod_eq m c m' S]

theorem ret_arr (S : Same m c m') : retR m' c = (dats (F := Ideal) m 0 c).arrAt 9 cfg0.N := by
  funext i
  obtain ⟨t, d, rfl⟩ : ∃ (t : Fin 16384) (d : Fin 1024), i = ix2 t d := ⟨i 0, i 1, (ix2_eta i).symm⟩
  obtain ⟨p, ρ, rfl⟩ := token_eq t
  by_cases h0 : d.val < 256
  · refine (retR_at0 m' c (token p ρ) ⟨d.val, h0⟩).trans (Eq.trans ?_ (ret_eq0 m c p ρ ⟨d.val, h0⟩).symm)
    simp only [prod_eq m c m' S]
  · by_cases h1 : d.val < 512
    · obtain ⟨e, he⟩ : ∃ e : Fin 256, d = ⟨256 + e.val, by omega⟩ := ⟨⟨d.val - 256, by omega⟩, Fin.ext (by simp only; omega)⟩
      rw [he]
      rw [retR_at1]
      refine Eq.trans ?_ (ret_eq1 m c p ρ e).symm
      simp only [prod_eq m c m' S]
    · obtain ⟨e, he⟩ : ∃ e : Fin 512, d = ⟨512 + e.val, by omega⟩ := ⟨⟨d.val - 512, by omega⟩, Fin.ext (by simp only; omega)⟩
      rw [he]
      rw [retR_at2]
      refine Eq.trans ?_ (ret_eq2 m c p ρ e).symm
      rw [prod_eq m c m' S]

end Cert.InProj
-- ==== Proof.Mod.lean ====
module

public import proofs.«01_k».proof.Proof.Spec
public import proofs.«01_k».proof.Proof.Gen.Kernel3Ideal.Value
public import proofs.«01_k».proof.Proof.Gen.Reference3Ideal.Run
public import Idealize.ShloMosaic.Lib.Pipeline.ValueKit
public import Idealize.ShloMosaic.Lib.Pipeline.Value
public import Idealize.ShloMosaic.Lib.Pointwise
public import Idealize.ShloMosaic.Lib.StableHlo.ReadAt
public import Idealize.ShloMosaic.Lib.Claim

@[expose] public section

set_option maxRecDepth 16384

noncomputable section

namespace Cert.Modul

open Idealize.ShloMosaic Idealize.ShloMosaic.StableHlo Idealize.ShloMosaic.TcCoe
open Cert.OutMoe (lgst)

/-- A conditioning row's entry of the modulation: the row through `z · lgst z`, times a column, plus the bias. -/
def modEntry (x w : Fin 1024 → EReal) (b : EReal) : EReal := (∑ k, x k * lgst (x k) * w k) + b

/-- The row of the two batches laid one after the other. -/
def row136 (p : Fin 8 → Fin 1024 → EReal) (s : Fin 128 → Fin 1024 → EReal) (r : Fin 136) : Fin 1024 → EReal :=
  if h : r.val < 8 then p ⟨r.val, h⟩ else s ⟨r.val - 8, by omega⟩

/-! # The reference -/

section Ref
open Cert.Reference3Ideal Cert.Reference3Ideal.Gen Cert.Reference3Ideal.Value

variable (m : (ℓ : Loc nD τ sig) → Buf (Elt Ideal) ℓ) (c : Dev nD)

/-- The reference's arguments. -/
abbrev q0 : Vec Ideal S8x1024 .f32 := m ((c.tc : Thread nD τ).loc main_arg0)
abbrev q1 : Vec Ideal S128x1024 .f32 := m ((c.tc : Thread nD τ).loc main_arg1)
abbrev q2 : Vec Ideal S2x1024x6144 .f32 := m ((c.tc : Thread nD τ).loc main_arg2)
abbrev q3 : Vec Ideal S2x6144 .f32 := m ((c.tc : Thread nD τ).loc main_arg3)

/-- Its two batches through `z · lgst z`, their products for each layer, and its result. -/
def spR : FVec Ideal S8x1024 .f32 := mulf (q0 m c) (Host.divf (broadcastInDim S8x1024 ![] bcast_S_S8x1024 (constant S_ .f32 0x3F800000#32)) (addf (broadcastInDim S8x1024 ![] bcast_S_S8x1024 (constant S_ .f32 0x3F800000#32)) (Host.exp (Host.negf (q0 m c)))))
def ssR : FVec Ideal S128x1024 .f32 := mulf (q1 m c) (Host.divf (broadcastInDim S128x1024 ![] bcast_S_S128x1024 (constant S_ .f32 0x3F800000#32)) (addf (broadcastInDim S128x1024 ![] bcast_S_S128x1024 (constant S_ .f32 0x3F800000#32)) (Host.exp (Host.negf (q1 m c)))))
def p0R : FVec Ideal S8x6144 .f32 :=
  addf (Host.dotGeneral (φ₂ := .f32) dot_S8x1024_S1024x6144_S8x6144_1_0_0_1_n_n none (spR m c) (shapeCast _ (extractStridedSlice S1x1024x6144 ![0, 0, 0] (q2 m c) slices_S2x1024x6144_S1x1024x6144_0_0_0) shapeCasts_S1x1024x6144_S1024x6144)) (broadcastInDim S8x6144 ![0, 1] bcast_S1x6144_S8x6144_0_1 (broadcastInDim S1x6144 ![1] bcast_S6144_S1x6144_1 (shapeCast _ (extractStridedSlice S1x6144 ![0, 0] (q3 m c) slices_S2x6144_S1x6144_0_0) shapeCasts_S1x6144_S6144)))
def s0R : FVec Ideal S128x6144 .f32 :=
  addf (Host.dotGeneral (φ₂ := .f32) dot_S128x1024_S1024x6144_S128x6144_1_0_0_1_n_n none (ssR m c) (shapeCast _ (extractStridedSlice S1x1024x6144 ![0, 0, 0] (q2 m c) slices_S2x1024x6144_S1x1024x6144_0_0_0) shapeCasts_S1x1024x6144_S1024x6144)) (broadcastInDim S128x6144 ![0, 1] bcast_S1x6144_S128x6144_0_1 (broadcastInDim S1x6144 ![1] bcast_S6144_S1x6144_1 (shapeCast _ (extractStridedSlice S1x6144 ![0, 0] (q3 m c) slices_S2x6144_S1x6144_0_0) shapeCasts_S1x6144_S6144)))
def p1R : FVec Ideal S8x6144 .f32 :=
  addf (Host.dotGeneral (φ₂ := .f32) dot_S8x1024_S1024x6144_S8x6144_1_0_0_1_n_n none (spR m c) (shapeCast _ (extractStridedSlice S1x1024x6144 ![1, 0, 0] (q2 m c) slices_S2x1024x6144_S1x1024x6144_1_0_0) shapeCasts_S1x1024x6144_S1024x6144)) (broadcastInDim S8x6144 ![0, 1] bcast_S1x6144_S8x6144_0_1 (broadcastInDim S1x6144 ![1] bcast_S6144_S1x6144_1 (shapeCast _ (extractStridedSlice S1x6144 ![1, 0] (q3 m c) slices_S2x6144_S1x6144_1_0) shapeCasts_S1x6144_S6144)))
def s1R : FVec Ideal S128x6144 .f32 :=
  addf (Host.dotGeneral (φ₂ := .f32) dot_S128x1024_S1024x6144_S128x6144_1_0_0_1_n_n none (ssR m c) (shapeCast _ (extractStridedSlice S1x1024x6144 ![1, 0, 0] (q2 m c) slices_S2x1024x6144_S1x1024x6144_1_0_0) shapeCasts_S1x1024x6144_S1024x6144)) (broadcastInDim S128x6144 ![0, 1] bcast_S1x6144_S128x6144_0_1 (broadcastInDim S1x6144 ![1] bcast_S6144_S1x6144_1 (shapeCast _ (extractStridedSlice S1x6144 ![1, 0] (q3 m c) slices_S2x6144_S1x6144_1_0) shapeCasts_S1x6144_S6144)))
def outR : FVec Ideal S2x136x6144 .f32 :=
  concatenate S2x136x6144 0 [⟨S1x136x6144, (broadcastInDim S1x136x6144 ![1, 2] bcast_S136x6144_S1x136x6144_1_2 (concatenate S136x6144 0 [⟨S8x6144, (p0R m c)⟩, ⟨S128x6144, (s0R m c)⟩] concatenates_S8x6144_S128x6144_S136x6144_d0))⟩, ⟨S1x136x6144, (broadcastInDim S1x136x6144 ![1, 2] bcast_S136x6144_S1x136x6144_1_2 (concatenate S136x6144 0 [⟨S8x6144, (p1R m c)⟩, ⟨S128x6144, (s1R m c)⟩] concatenates_S8x6144_S128x6144_S136x6144_d0))⟩] concatenates_S1x136x6144_S1x136x6144_S2x136x6144_d0

theorem spR_at (r : Fin 8) (k : Fin 1024) : spR m c (ix2 r k) = q0 m c (ix2 r k) * lgst (q0 m c (ix2 r k)) := by
  pointwise [spR]
  rw [← zero_sub]
  rfl

theorem ssR_at (r : Fin 128) (k : Fin 1024) : ssR m c (ix2 r k) = q1 m c (ix2 r k) * lgst (q1 m c (ix2 r k)) := by
  pointwise [ssR]
  rw [← zero_sub]
  rfl

theorem p0R_at (r : Fin 8) (d : Fin 6144) : p0R m c (ix2 r d) = modEntry (fun k => q0 m c (ix2 r k)) (fun k => q2 m c (ix3 0 k d)) (q3 m c (ix2 0 d)) := by
  pointwise [p0R]
  unfold modEntry
  simp only [spR_at]

theorem s0R_at (r : Fin 128) (d : Fin 6144) : s0R m c (ix2 r d) = modEntry (fun k => q1 m c (ix2 r k)) (fun k => q2 m c (ix3 0 k d)) (q3 m c (ix2 0 d)) := by
  pointwise [s0R]
  unfold modEntry
  simp only [ssR_at]

theorem p1R_at (r : Fin 8) (d : Fin 6144) : p1R m c (ix2 r d) = modEntry (fun k => q0 m c (ix2 r k)) (fun k => q2 m c (ix3 1 k d)) (q3 m c (ix2 1 d)) := by
  pointwise [p1R]
  unfold modEntry
  simp only [spR_at]

theorem s1R_at (r : Fin 128) (d : Fin 6144) : s1R m c (ix2 r d) = modEntry (fun k => q1 m c (ix2 r k)) (fun k => q2 m c (ix3 1 k d)) (q3 m c (ix2 1 d)) := by
  pointwise [s1R]
  unfold modEntry
  simp only [ssR_at]

theorem outR_at (l : Fin 2) (r : Fin 136) (d : Fin 6144) : outR m c (ix3 l r d) =
    modEntry (row136 (fun r k => q0 m c (ix2 r k)) (fun r k => q1 m c (ix2 r k)) r) (fun k => q2 m c (ix3 l k d)) (q3 m c (ix2 l d)) := by
  pointwise [outR]
  simp only [p0R_at, s0R_at, p1R_at, s1R_at, row136]
  fin_cases l <;> by_cases h : r.val < 8 <;> simp [h]

end Ref

/-! # The kernel -/

section Ker
open Cert.Kernel3Ideal Cert.Kernel3Ideal.Gen

variable (m : (ℓ : Loc nD τ sig) → Buf (Elt Ideal) ℓ) (c : Dev nD)

/-- The kernel's arguments. -/
abbrev k0 : Vec Ideal S8x1024 .f32 := m ((c.tc : Thread nD τ).loc main_arg0)
abbrev k1 : Vec Ideal S128x1024 .f32 := m ((c.tc : Thread nD τ).loc main_arg1)
abbrev k2 : Vec Ideal S2x1024x6144 .f32 := m ((c.tc : Thread nD τ).loc main_arg2)
abbrev k3 : Vec Ideal S2x6144 .f32 := m ((c.tc : Thread nD τ).loc main_arg3)

theorem body_at (x : Vec Ideal S136x1024 .f32) (w : Vec Ideal S1x1024x512 .f32) (b : Vec Ideal S1x1x512 .f32) (r : Fin 136) (d : Fin 512) :
    k0_pay1 x w b (ix3 0 r d) = modEntry (fun k => x (ix2 r k)) (fun k => w (ix3 0 k d)) (b (ix3 0 0 d)) := by
  pointwise [k0_pay1]
  rfl

theorem hz2 : (![0, 0] : Fin 2 → Nat) = fun _ => 0 := by
  funext a
  fin_cases a <;> rfl

theorem hz3 : (![0, 0, 0] : Fin 3 → Nat) = fun _ => 0 := by
  funext a
  fin_cases a <;> rfl

theorem piece3 (x : Vec Ideal S136x1024 .f32) (w : Vec Ideal S1x1024x512 .f32) (b : Vec Ideal S1x1x512 .f32) : out0_3 x w b = k0_pay1 x w b := by
  unfold out0_3
  rw [View.canon_unit_zero hz3]
  simp only [View.ld_unit_zero (S := S136x1024) hz2, View.ld_unit_zero (S := S1x1024x512) hz3, View.ld_unit_zero (S := S1x1x512) hz3]

/-- The rows laid one after the other, and the bias with a unit axis. -/
theorem rows_at (r : Fin 136) (k : Fin 1024) : (V (F := Ideal) m c main_v0 : Vec Ideal S136x1024 .f32) (ix2 r k) =
    row136 (fun r k => k0 m c (ix2 r k)) (fun r k => k1 m c (ix2 r k)) r k := by
  unfold V
  after_reads_at
  pointwise
  unfold row136
  split <;> after_reads_at

theorem bias_at (l : Fin 2) (d : Fin 6144) : (V (F := Ideal) m c main_v1 : Vec Ideal S2x1x6144 .f32) (ix3 l 0 d) = k3 m c (ix2 l d) := by
  unfold V
  after_reads_at

theorem pt_lt (t : Fin cfg0.N) : t.val < 24 := t.isLt.trans_eq N_0

/-- Where each window's block stands at a grid point. -/
theorem places : ∀ t : Fin cfg0.N,
    win0_0.index t = ![0, 0] ∧ win0_1.index t = ![t.val / 12, 0, t.val % 12] ∧ win0_2.index t = ![t.val / 12, 0, t.val % 12]
    ∧ win0_3.index t = ![t.val / 12, 0, t.val % 12] :=
  (by decide +kernel : ∀ t : Fin grid0.N,
    win0_0.index t = ![0, 0] ∧ win0_1.index t = ![t.val / 12, 0, t.val % 12] ∧ win0_2.index t = ![t.val / 12, 0, t.val % 12]
    ∧ win0_3.index t = ![t.val / 12, 0, t.val % 12])

/-- The layer of a point, and the column of the whole that a column of its block is. -/
def layer (t : Fin cfg0.N) : Fin 2 := ⟨t.val / 12, by have := pt_lt t; omega⟩
def col (t : Fin cfg0.N) (d : Fin 512) : Fin 6144 := ⟨512 * (t.val % 12) + d.val, by omega⟩

theorem blk0_of (X : Vec Ideal S136x1024 .f32) (t : Fin cfg0.N) (r : Fin 136) (k : Fin 1024) :
    ((cfg0.win 0).blk t).view.read (Elt Ideal) X (ix2 r k) = X (ix2 r k) := by
  have e := places t
  blk_ext [e]

theorem blk1_of (X : Vec Ideal S2x1024x6144 .f32) (t : Fin cfg0.N) (k : Fin 1024) (d : Fin 512) :
    ((cfg0.win 1).blk t).view.read (Elt Ideal) X (ix3 0 k d) = X (ix3 (layer t) k (col t d)) := by
  have e := places t
  blk_ext [layer, col, e]

theorem blk2_of (X : Vec Ideal S2x1x6144 .f32) (t : Fin cfg0.N) (d : Fin 512) :
    ((cfg0.win 2).blk t).view.read (Elt Ideal) X (ix3 0 0 d) = X (ix3 (layer t) 0 (col t d)) := by
  have e := places t
  blk_ext [layer, col, e]

theorem blk3_of (X : Vec Ideal S2x136x6144 .f32) (t : Fin cfg0.N) (r : Fin 136) (d : Fin 512) :
    ((cfg0.win 3).blk t).view.read (Elt Ideal) X (ix3 0 r d) = X (ix3 (layer t) r (col t d)) := by
  have e := places t
  blk_ext [layer, col, e]

theorem blk0 (t : Fin cfg0.N) (r : Fin 136) (k : Fin 1024) : iblk (F := Ideal) m c 0 t (ix2 r k) = V (F := Ideal) m c main_v0 (ix2 r k) :=
  blk0_of _ t r k

theorem blk1 (t : Fin cfg0.N) (k : Fin 1024) (d : Fin 512) : iblk (F := Ideal) m c 1 t (ix3 0 k d) = V (F := Ideal) m c main_arg2 (ix3 (layer t) k (col t d)) :=
  blk1_of _ t k d

theorem blk2 (t : Fin cfg0.N) (d : Fin 512) : iblk (F := Ideal) m c 2 t (ix3 0 0 d) = V (F := Ideal) m c main_v1 (ix3 (layer t) 0 (col t d)) :=
  blk2_of _ t d

theorem arr3_at (t : Fin cfg0.N) (r : Fin 136) (d : Fin 512) : (dats (F := Ideal) m 0 c).arrAt 3 cfg0.N (ix3 (layer t) r (col t d)) =
    k0_pay1 (F := Ideal) (iblk (F := Ideal) m c 0 t) (iblk (F := Ideal) m c 1 t) (iblk (F := Ideal) m c 2 t) (ix3 0 r d) := by
  have h := congrFun (Value.blocks3 m c t ((by decide +kernel : ∀ t : Fin cfg0.N, (cfg0.win 3).flush t = true) t)) (ix3 0 r d)
  rw [Value.flushed3, piece3] at h
  refine (blk3_of _ t r d).symm.trans (h.trans ?_)
  rfl

theorem out_at (t : Fin cfg0.N) (r : Fin 136) (d : Fin 512) : (dats (F := Ideal) m 0 c).arrAt 3 cfg0.N (ix3 (layer t) r (col t d)) =
    modEntry (row136 (fun r k => k0 m c (ix2 r k)) (fun r k => k1 m c (ix2 r k)) r) (fun k => k2 m c (ix3 (layer t) k (col t d))) (k3 m c (ix2 (layer t) (col t d))) := by
  rw [arr3_at, body_at]
  simp only [blk0, blk1, blk2]
  rw [V_main_arg2]
  exact congrArg₂ (fun x b => modEntry x _ b) (funext fun k => rows_at m c r k) (bias_at m c _ _)

end Ker

/-! # The two agree -/

open Cert.Kernel3Ideal Cert.Kernel3Ideal.Gen in
theorem out_arr (m : (ℓ : Loc nD τ sig) → Buf (Elt Ideal) ℓ) (c : Dev nD)
    (m' : (ℓ : Loc Cert.Reference3Ideal.nD Cert.Reference3Ideal.τ Cert.Reference3Ideal.sig) → Buf (Elt Ideal) ℓ)
    (h0 : q0 m' c = k0 m c) (h1 : q1 m' c = k1 m c) (h2 : q2 m' c = k2 m c) (h3 : q3 m' c = k3 m c) :
    outR m' c = (dats (F := Ideal) m 0 c).arrAt 3 cfg0.N := by
  funext i
  obtain ⟨l, r, d, rfl⟩ : ∃ (l : Fin 2) (r : Fin 136) (d : Fin 6144), i = ix3 l r d := ⟨i 0, i 1, i 2, (ix3_eta i).symm⟩
  have hN : cfg0.N = 24 := N_0
  have hl : layer ⟨12 * l.val + d.val / 512, by omega⟩ = l := Fin.ext (by simp only [layer]; omega)
  have hd : col ⟨12 * l.val + d.val / 512, by omega⟩ ⟨d.val % 512, by omega⟩ = d := Fin.ext (by simp only [col]; omega)
  have h := out_at m c ⟨12 * l.val + d.val / 512, by omega⟩ r ⟨d.val % 512, by omega⟩
  rw [hl, hd] at h
  rw [outR_at, h0, h1, h2, h3]
  exact h.symm

end Cert.Modul

end
-- ==== Proof.SampBody.lean ====
module

public import proofs.«01_k».proof.Proof.InFinal
public import proofs.«01_k».proof.Proof.Gen.Kernel4Ideal.Frame
public import Idealize.ShloMosaic.Lib.Pipeline.ValueKit
public import Idealize.ShloMosaic.Lib.Pipeline.Value
public import Idealize.ShloMosaic.Lib.Pointwise

@[expose] public section

set_option maxRecDepth 16384

noncomputable section

namespace Cert.InSample

open Idealize.ShloMosaic Idealize.ShloMosaic.TcCoe
open Cert.Kernel4Ideal Cert.Kernel4Ideal.Gen
open Cert.InProj (ahead32 back32 freq turned signed turn_eq halfWord halfWord_eq hz2 hz3)

/-! # The pieces the projection's body stores, of the sample batch -/

/-- Columns of the main weights, from column `o`. -/
abbrev main256 (x6 : Vec Ideal S1024x2560 .bf16) : Vec Ideal S1024x256 .bf16 :=
  View.ld x6 (Rect.unit (s := S1024x2560) ![0, 0] S1024x256.size inb_S1024x2560_S1024x256_0_0)
abbrev main256' (x6 : Vec Ideal S1024x2560 .bf16) : Vec Ideal S1024x256 .bf16 :=
  View.ld x6 (Rect.unit (s := S1024x2560) ![0, 256] S1024x256.size inb_S1024x2560_S1024x256_0_256)
abbrev main512 (x6 : Vec Ideal S1024x2560 .bf16) : Vec Ideal S1024x512 .bf16 :=
  View.ld x6 (Rect.unit (s := S1024x2560) ![0, 512] S1024x512.size inb_S1024x2560_S1024x512_0_512)
abbrev main512' (x6 : Vec Ideal S1024x2560 .bf16) : Vec Ideal S1024x512 .bf16 :=
  View.ld x6 (Rect.unit (s := S1024x2560) ![0, 1024] S1024x512.size inb_S1024x2560_S1024x512_0_1024)
abbrev main1024 (x6 : Vec Ideal S1024x2560 .bf16) : Vec Ideal S1024x1024 .bf16 :=
  View.ld x6 (Rect.unit (s := S1024x2560) ![0, 1536] S1024x1024.size inb_S1024x2560_S1024x1024_0_1536)

/-- Columns of the attention weights. -/
abbrev swa256 (x7 : Vec Ideal S1024x512 .bf16) : Vec Ideal S1024x256 .bf16 :=
  View.ld x7 (Rect.unit (s := S1024x512) ![0, 0] S1024x256.size inb_S1024x512_S1024x256_0_0)
abbrev swa128 (x7 : Vec Ideal S1024x512 .bf16) : Vec Ideal S1024x128 .bf16 :=
  View.ld x7 (Rect.unit (s := S1024x512) ![0, 256] S1024x128.size inb_S1024x512_S1024x128_0_256)
abbrev swa128' (x7 : Vec Ideal S1024x512 .bf16) : Vec Ideal S1024x128 .bf16 :=
  View.ld x7 (Rect.unit (s := S1024x512) ![0, 384] S1024x128.size inb_S1024x512_S1024x128_0_384)

section Body

variable (c : Dev nD) (i : grid0.Coords) (a1 : Memref sig .tc .vmem S512x1024 .f32) (h1 : a1.IsWhole) (a2 : Memref sig .tc .vmem S1x1024 .f32) (h2 : a2.IsWhole) (a3 : Memref sig .tc .vmem S1x512x1024 .f32) (h3 : a3.IsWhole) (a4 : Memref sig .tc .vmem S1x512x1024 .f32) (h4 : a4.IsWhole) (a5 : Memref sig .tc .vmem S1x512x256 .f32) (h5 : a5.IsWhole) (a6 : Memref sig .tc .vmem S1x512x256 .f32) (h6 : a6.IsWhole) (a7 : Memref sig .tc .vmem S1024x2560 .bf16) (h7 : a7.IsWhole) (a8 : Memref sig .tc .vmem S1024x512 .bf16) (h8 : a8.IsWhole) (a9 : Memref sig .tc .vmem S1024x128 .bf16) (h9 : a9.IsWhole) (a10 : Memref sig .tc .vmem S512x1024 .f32) (h10 : a10.IsWhole) (a11 : Memref sig .tc .vmem S512x512 .f32) (h11 : a11.IsWhole) (a12 : Memref sig .tc .vmem S512x1024 .f32) (h12 : a12.IsWhole) (a13 : Memref sig .tc .vmem S512x128 .f32) (h13 : a13.IsWhole) (a14 : Memref sig .tc .vmem S512x256 .f32) (h14 : a14.IsWhole) (a15 : Memref sig .tc .vmem S512x128 .f32) (h15 : a15.IsWhole) (a16 : Memref sig .tc .vmem S512x128 .f32) (h16 : a16.IsWhole)
variable (x0 : Vec Ideal S512x1024 .f32) (x1 : Vec Ideal S1x1024 .f32) (x2 : Vec Ideal S1x512x1024 .f32) (x3 : Vec Ideal S1x512x1024 .f32) (x4 : Vec Ideal S1x512x256 .f32) (x5 : Vec Ideal S1x512x256 .f32) (x6 : Vec Ideal S1024x2560 .bf16) (x7 : Vec Ideal S1024x512 .bf16) (x8 : Vec Ideal S1024x128 .bf16)

theorem piece10 : out0_A_10 (F := Ideal) c i a1 h1 a2 h2 a3 h3 a4 h4 a5 h5 a6 h6 a7 h7 a8 h8 a9 h9 a10 h10 a11 h11 a12 h12 a13 h13 a14 h14 a15 h15 a16 h16 x0 x1 x2 x3 x4 x5 x6 x7 x8 = k0_pay14 (k0_pay3 x0 x1 x2 x3) (main512' x6) := by
  unfold out0_A_10
  rw [View.read_writes_junk_eq_canon]
  unfold kernelRun0_A
  dsimp only
  sl_unfold_words
  rw [View.canon_unit_zero hz2]
  simp only [View.readAt_eq_ld, h1.read_unread, h2.read_unread, h3.read_unread, h4.read_unread, h5.read_unread, h6.read_unread, h7.read_unread, h8.read_unread, h9.read_unread, View.ld_unit_zero (S := S512x1024) hz2, View.ld_unit_zero (S := S1x1024) hz2, View.ld_unit_zero (S := S1x512x1024) hz3, View.ld_unit_zero (S := S1x512x256) hz3, View.ld_unit_zero (S := S1024x128) hz2]

theorem piece11 : out0_A_11 (F := Ideal) c i a1 h1 a2 h2 a3 h3 a4 h4 a5 h5 a6 h6 a7 h7 a8 h8 a9 h9 a10 h10 a11 h11 a12 h12 a13 h13 a14 h14 a15 h15 a16 h16 x0 x1 x2 x3 x4 x5 x6 x7 x8 = k0_pay15 (k0_pay3 x0 x1 x2 x3) (main1024 x6) := by
  unfold out0_A_11
  rw [View.read_writes_junk_eq_canon]
  unfold kernelRun0_A
  dsimp only
  sl_unfold_words
  rw [View.canon_unit_zero hz2]
  simp only [View.readAt_eq_ld, h1.read_unread, h2.read_unread, h3.read_unread, h4.read_unread, h5.read_unread, h6.read_unread, h7.read_unread, h8.read_unread, h9.read_unread, View.ld_unit_zero (S := S512x1024) hz2, View.ld_unit_zero (S := S1x1024) hz2, View.ld_unit_zero (S := S1x512x1024) hz3, View.ld_unit_zero (S := S1x512x256) hz3, View.ld_unit_zero (S := S1024x128) hz2]

theorem piece12 : out0_A_12 (F := Ideal) c i a1 h1 a2 h2 a3 h3 a4 h4 a5 h5 a6 h6 a7 h7 a8 h8 a9 h9 a10 h10 a11 h11 a12 h12 a13 h13 a14 h14 a15 h15 a16 h16 x0 x1 x2 x3 x4 x5 x6 x7 x8 = k0_pay16 (k0_pay3 x0 x1 x2 x3) x8 := by
  unfold out0_A_12
  rw [View.read_writes_junk_eq_canon]
  unfold kernelRun0_A
  dsimp only
  sl_unfold_words
  rw [View.canon_unit_zero hz2]
  simp only [View.readAt_eq_ld, h1.read_unread, h2.read_unread, h3.read_unread, h4.read_unread, h5.read_unread, h6.read_unread, h7.read_unread, h8.read_unread, h9.read_unread, View.ld_unit_zero (S := S512x1024) hz2, View.ld_unit_zero (S := S1x1024) hz2, View.ld_unit_zero (S := S1x512x1024) hz3, View.ld_unit_zero (S := S1x512x256) hz3, View.ld_unit_zero (S := S1024x128) hz2]

theorem piece13 : out0_A_13 (F := Ideal) c i a1 h1 a2 h2 a3 h3 a4 h4 a5 h5 a6 h6 a7 h7 a8 h8 a9 h9 a10 h10 a11 h11 a12 h12 a13 h13 a14 h14 a15 h15 a16 h16 x0 x1 x2 x3 x4 x5 x6 x7 x8 = k0_pay17 (k0_pay3 x0 x1 x2 x3) (k0_pay4 x4) (k0_pay5 x5) (swa256 x7) := by
  unfold out0_A_13
  rw [View.read_writes_junk_eq_canon]
  unfold kernelRun0_A
  dsimp only
  sl_unfold_words
  rw [View.canon_unit_zero hz2]
  simp only [View.readAt_eq_ld, h1.read_unread, h2.read_unread, h3.read_unread, h4.read_unread, h5.read_unread, h6.read_unread, h7.read_unread, h8.read_unread, h9.read_unread, View.ld_unit_zero (S := S512x1024) hz2, View.ld_unit_zero (S := S1x1024) hz2, View.ld_unit_zero (S := S1x512x1024) hz3, View.ld_unit_zero (S := S1x512x256) hz3, View.ld_unit_zero (S := S1024x128) hz2]

theorem piece14 : out0_A_14 (F := Ideal) c i a1 h1 a2 h2 a3 h3 a4 h4 a5 h5 a6 h6 a7 h7 a8 h8 a9 h9 a10 h10 a11 h11 a12 h12 a13 h13 a14 h14 a15 h15 a16 h16 x0 x1 x2 x3 x4 x5 x6 x7 x8 = k0_pay1 (k0_pay18 (k0_pay3 x0 x1 x2 x3) (swa128 x7)) (k0_pay19 (k0_pay4 x4)) (k0_pay20 (k0_pay5 x5)) (iota .tc S512x128 32 [1] iota_S512x128_d1_w32) (Scalar.select (Scalar.cmpi .eq 64#32 0#32) 1#32 64#32) := by
  unfold out0_A_14
  rw [View.read_writes_junk_eq_canon]
  unfold kernelRun0_A
  dsimp only
  sl_unfold_words
  rw [View.canon_unit_zero hz2]
  simp only [View.readAt_eq_ld, h1.read_unread, h2.read_unread, h3.read_unread, h4.read_unread, h5.read_unread, h6.read_unread, h7.read_unread, h8.read_unread, h9.read_unread, View.ld_unit_zero (S := S512x1024) hz2, View.ld_unit_zero (S := S1x1024) hz2, View.ld_unit_zero (S := S1x512x1024) hz3, View.ld_unit_zero (S := S1x512x256) hz3, View.ld_unit_zero (S := S1024x128) hz2]
  rfl

theorem piece15 : out0_A_15 (F := Ideal) c i a1 h1 a2 h2 a3 h3 a4 h4 a5 h5 a6 h6 a7 h7 a8 h8 a9 h9 a10 h10 a11 h11 a12 h12 a13 h13 a14 h14 a15 h15 a16 h16 x0 x1 x2 x3 x4 x5 x6 x7 x8 = k0_pay2 (k0_pay3 x0 x1 x2 x3) (swa128' x7) := by
  unfold out0_A_15
  rw [View.read_writes_junk_eq_canon]
  unfold kernelRun0_A
  dsimp only
  sl_unfold_words
  rw [View.canon_unit_zero hz2]
  simp only [View.readAt_eq_ld, h1.read_unread, h2.read_unread, h3.read_unread, h4.read_unread, h5.read_unread, h6.read_unread, h7.read_unread, h8.read_unread, h9.read_unread, View.ld_unit_zero (S := S512x1024) hz2, View.ld_unit_zero (S := S1x1024) hz2, View.ld_unit_zero (S := S1x512x1024) hz3, View.ld_unit_zero (S := S1x512x256) hz3, View.ld_unit_zero (S := S1024x128) hz2]

theorem piece9 : out0_A_9 (F := Ideal) c i a1 h1 a2 h2 a3 h3 a4 h4 a5 h5 a6 h6 a7 h7 a8 h8 a9 h9 a10 h10 a11 h11 a12 h12 a13 h13 a14 h14 a15 h15 a16 h16 x0 x1 x2 x3 x4 x5 x6 x7 x8 = View.canon ([
    ⟨Rect.unit (s := S512x1024) ![0, 512] S512x512.size inb_S512x1024_S512x512_0_512, k0_pay13 (k0_pay3 x0 x1 x2 x3) (main512 x6)⟩,
    ⟨Rect.unit (s := S512x1024) ![0, 256] S512x256.size inb_S512x1024_S512x256_0_256, k0_pay12 (k0_pay4 x4) (k0_pay5 x5) (k0_pay8 (k0_pay3 x0 x1 x2 x3) (main256' x6)) k0_pay9 k0_pay10 k0_pay11⟩,
    ⟨Rect.unit (s := S512x1024) ![0, 0] S512x256.size inb_S512x1024_S512x256_0_0, k0_pay7 (k0_pay4 x4) (k0_pay5 x5) (k0_pay6 x0 x1 x2 x3 (main256 x6)) (iota .tc S512x256 32 [1] iota_S512x256_d1_w32) (Scalar.select (Scalar.cmpi .eq 64#32 0#32) 1#32 64#32)⟩] : List (View.Piece (Elt Ideal) S512x1024 .f32)) := by
  unfold out0_A_9
  rw [View.read_writes_junk_eq_canon]
  unfold kernelRun0_A
  dsimp only
  sl_unfold_words
  simp only [View.readAt_eq_ld, h1.read_unread, h2.read_unread, h3.read_unread, h4.read_unread, h5.read_unread, h6.read_unread, h7.read_unread, h8.read_unread, h9.read_unread, View.ld_unit_zero (S := S512x1024) hz2, View.ld_unit_zero (S := S1x1024) hz2, View.ld_unit_zero (S := S1x512x1024) hz3, View.ld_unit_zero (S := S1x512x256) hz3, View.ld_unit_zero (S := S1024x128) hz2]
  rfl

end Body

section At
variable (v0 : Vec Ideal S512x1024 .f32) (v11 : Vec Ideal S1x1024 .f32) (v14 v20 : Vec Ideal S1x512x1024 .f32) (H : FVec Ideal S512x1024 .bf16) (C S : FVec Ideal S512x256 .f32)

open Cert.OutMoe in
theorem h_at (r : Fin 512) (d : Fin 1024) : k0_pay3 v0 v11 v14 v20 (ix2 r d) =
    modul (fun d => v0 (ix2 r d)) (fun d => v11 (ix2 0 d)) (fun d => v14 (ix3 0 r d)) (fun d => v20 (ix3 0 r d)) d := by
  pointwise [k0_pay3]
  rfl

theorem cos_at (X : Vec Ideal S1x512x256 .f32) (r : Fin 512) (d : Fin 256) : k0_pay4 X (ix2 r d) = X (ix3 0 r d) := by
  pointwise [k0_pay4]

theorem sin_at (X : Vec Ideal S1x512x256 .f32) (r : Fin 512) (d : Fin 256) : k0_pay5 X (ix2 r d) = X (ix3 0 r d) := by
  pointwise [k0_pay5]

theorem z_at (w : Vec Ideal S1024x512 .bf16) (r d : Fin 512) : k0_pay14 H w (ix2 r d) = ∑ x, H (ix2 r x) * w (ix2 x d) := by
  pointwise [k0_pay14]

theorem vg_at (w : Vec Ideal S1024x512 .bf16) (r d : Fin 512) : k0_pay13 H w (ix2 r d) = ∑ x, H (ix2 r x) * w (ix2 x d) := by
  pointwise [k0_pay13]

theorem xbc_at (w : Vec Ideal S1024x1024 .bf16) (r : Fin 512) (d : Fin 1024) : k0_pay15 H w (ix2 r d) = ∑ x, H (ix2 r x) * w (ix2 x d) := by
  pointwise [k0_pay15]

theorem dt_at (w : Vec Ideal S1024x128 .bf16) (r : Fin 512) (d : Fin 128) :
    k0_pay16 H w (ix2 r d) = ∑ x, H (ix2 r x) * w (ix2 x d) := by
  pointwise [k0_pay16]

theorem sv_at (w : Vec Ideal S1024x128 .bf16) (r : Fin 512) (d : Fin 128) : k0_pay2 H w (ix2 r d) = ∑ x, H (ix2 r x) * w (ix2 x d) := by
  pointwise [k0_pay2]

theorem q_at (w : Vec Ideal S1024x256 .bf16) (r : Fin 512) (d : Fin 256) : k0_pay6 v0 v11 v14 v20 w (ix2 r d) = ∑ x, k0_pay3 v0 v11 v14 v20 (ix2 r x) * w (ix2 x d) := by
  pointwise [k0_pay6]

theorem k_at (w : Vec Ideal S1024x256 .bf16) (r : Fin 512) (d : Fin 256) : k0_pay8 H w (ix2 r d) = ∑ x, H (ix2 r x) * w (ix2 x d) := by
  pointwise [k0_pay8]

theorem sk_at (w : Vec Ideal S1024x128 .bf16) (r : Fin 512) (d : Fin 128) : k0_pay18 H w (ix2 r d) = ∑ x, H (ix2 r x) * w (ix2 x d) := by
  pointwise [k0_pay18]

section Turn
variable (r : Fin 512) (co si : Fin 32 → EReal) (hC : ∀ d, C (ix2 r d) = co (freq d)) (hS : ∀ d, S (ix2 r d) = signed si d)
include hC hS

theorem rq_at (P : FVec Ideal S512x256 .f32) (d : Fin 256) :
    k0_pay7 C S P (iota .tc S512x256 32 [1] iota_S512x256_d1_w32) (Scalar.select (Scalar.cmpi .eq 64#32 0#32) 1#32 64#32) (ix2 r d)
      = turned (fun d => P (ix2 r d)) co si d := by
  rw [← turn_eq (fun d => P (ix2 r d)) co si d _ (halfWord_eq d), ← hC, ← hS]
  pointwise [k0_pay7]
  rfl

theorem rk_at (P : FVec Ideal S512x256 .f32) (d : Fin 256) :
    k0_pay12 C S P k0_pay9 k0_pay10 k0_pay11 (ix2 r d)
      = turned (fun d => P (ix2 r d)) co si d * Ideal.ofBits .f32 0x3E000000#32 := by
  rw [← turn_eq (fun d => P (ix2 r d)) co si d _ (halfWord_eq d), ← hC, ← hS]
  pointwise [k0_pay12, k0_pay9, k0_pay10, k0_pay11]
  rfl

theorem sq_at (w : Vec Ideal S1024x256 .bf16) (d : Fin 256) :
    k0_pay17 H C S w (ix2 r d) = turned (fun d : Fin 256 => ∑ x, H (ix2 r x) * w (ix2 x d)) co si d * Ideal.ofBits .f32 0x3E000000#32 := by
  rw [← turn_eq (fun d : Fin 256 => ∑ x, H (ix2 r x) * w (ix2 x d)) co si d _ (halfWord_eq d), ← hC, ← hS]
  pointwise [k0_pay17]
  rfl

theorem skr_at (P : FVec Ideal S512x128 .f32) (d : Fin 128) :
    k0_pay1 P (k0_pay19 C) (k0_pay20 S) (iota .tc S512x128 32 [1] iota_S512x128_d1_w32) (Scalar.select (Scalar.cmpi .eq 64#32 0#32) 1#32 64#32) (ix2 r d) = turned (fun d => P (ix2 r d)) co si d := by
  rw [← turn_eq (fun d => P (ix2 r d)) co si d _ (halfWord_eq ⟨d.val, by omega⟩)]
  have h1 : C (ix2 r ⟨d.val, by omega⟩) = co (freq d) := hC ⟨d.val, by omega⟩
  have h2 : S (ix2 r ⟨d.val, by omega⟩) = signed si d := hS ⟨d.val, by omega⟩
  rw [← h1, ← h2]
  pointwise [k0_pay1, k0_pay19, k0_pay20]
  rfl

end Turn

end At

end Cert.InSample
-- ==== Proof.SampHost.lean ====
module

public import proofs.«01_k».proof.Proof.SampBody
public import proofs.«01_k».proof.Proof.Gen.Kernel4Ideal.Value
public import Idealize.ShloMosaic.Lib.StableHlo.ReadAt
public import Idealize.ShloMosaic.Lib.Claim

@[expose] public section

set_option maxRecDepth 16384

noncomputable section

namespace Cert.InSample

open Idealize.ShloMosaic Idealize.ShloMosaic.TcCoe
open Cert.Kernel4Ideal Cert.Kernel4Ideal.Gen
open Cert.InProj (ahead32 back32 freq turned signed turn_eq halfWord halfWord_eq angle coAt siAt swaCol hz2 hz3 headAt turned_head)

/-! # The arrays laid out before the projection of the sample batch, and the windows' blocks of them -/

/-- The word of a position past the first 16384. -/
theorem word_eq (k : Nat) : IntOp.addi 16384#32 (BitVec.ofNat 32 k) = BitVec.ofNat 32 (16384 + k) := by
  change BitVec.ofNat 32 16384 + BitVec.ofNat 32 k = _
  rw [BitVec.ofNat_add]

/-- Its angle, from the word as it is added up. -/
theorem angle_eq (k : Nat) (f : Fin 32) : FloatOps.sitofp (F := Ideal) FTy.f32 (IntOp.addi 16384#32 (BitVec.ofNat 32 k)) * Ideal.pow (Ideal.ofBits FTy.f32 1176256512#32)
    (Ideal.div (-FloatOps.sitofp (F := Ideal) FTy.f32 (BitVec.ofNat 32 f.val)) (Ideal.ofBits FTy.f32 1107296256#32)) = angle (16384 + k) f := by
  rw [word_eq]
  rfl

theorem co_eq (k : Nat) (f : Fin 32) : Ideal.cos (FloatOps.sitofp (F := Ideal) FTy.f32 (IntOp.addi 16384#32 (BitVec.ofNat 32 k)) * Ideal.pow (Ideal.ofBits FTy.f32 1176256512#32)
    (Ideal.div (-FloatOps.sitofp (F := Ideal) FTy.f32 (BitVec.ofNat 32 f.val)) (Ideal.ofBits FTy.f32 1107296256#32))) = coAt (16384 + k) f := congrArg Ideal.cos (angle_eq k f)

theorem si_eq (k : Nat) (f : Fin 32) : Ideal.sin (FloatOps.sitofp (F := Ideal) FTy.f32 (IntOp.addi 16384#32 (BitVec.ofNat 32 k)) * Ideal.pow (Ideal.ofBits FTy.f32 1176256512#32)
    (Ideal.div (-FloatOps.sitofp (F := Ideal) FTy.f32 (BitVec.ofNat 32 f.val)) (Ideal.ofBits FTy.f32 1107296256#32))) = siAt (16384 + k) f := congrArg Ideal.sin (angle_eq k f)

variable (m : (ℓ : Loc nD τ sig) → Buf (Elt Ideal) ℓ) (c : Dev nD)

/-- The weights of the projection. -/
abbrev wl : Vec Ideal S1024x3080 .f32 := m ((c : Thread nD τ).loc main_arg3)

theorem main_at (x : Fin 1024) (j : Fin 2560) :
    (V (F := Ideal) m c main_v49 : Vec Ideal S1024x2560 .bf16) (ix2 x j) = wl m c (ix2 x ⟨j.val, by omega⟩) := by
  unfold V
  after_reads_at

theorem swa_at (x : Fin 1024) (j : Fin 512) :
    (V (F := Ideal) m c main_v50 : Vec Ideal S1024x512 .bf16) (ix2 x j) = wl m c (ix2 x (swaCol j)) := by
  unfold V
  after_reads_at
  pointwise
  split
  · after_reads_at
    pointwise
    split
    · after_reads_at
      pointwise
      refine congrArg (fun k => wl m c (ix2 x k)) (Fin.ext ?_)
      simp only [swaCol]
      split <;> simp only <;> omega
    · split
      · after_reads_at
        pointwise
        refine congrArg (fun k => wl m c (ix2 x k)) (Fin.ext ?_)
        simp only [swaCol]
        split <;> simp only <;> omega
      · split
        · after_reads_at
          pointwise
          refine congrArg (fun k => wl m c (ix2 x k)) (Fin.ext ?_)
          simp only [swaCol]
          split <;> simp only <;> omega
        · after_reads_at
          pointwise
          refine congrArg (fun k => wl m c (ix2 x k)) (Fin.ext ?_)
          simp only [swaCol]
          split <;> simp only <;> omega
  · after_reads_at
    pointwise
    refine congrArg (fun k => wl m c (ix2 x k)) (Fin.ext ?_)
    simp only [swaCol]
    split <;> simp only <;> omega

theorem dtw_at (x : Fin 1024) (j : Fin 128) : (V (F := Ideal) m c main_v2 : Vec Ideal S1024x128 .bf16) (ix2 x j)
    = if h : j.val < 8 then wl m c (ix2 x ⟨2560 + j.val, by omega⟩) else 0 := by
  unfold V
  after_reads_at
  pointwise
  split
  · rfl
  · simp [FloatOps.sitofp]

theorem cos_table (r : Fin 512) (j : Fin 256) :
    (V (F := Ideal) m c main_v40 : Vec Ideal S1x512x256 .f32) (ix3 0 r j) = coAt (16384 + r.val % 4) (freq j) := by
  unfold V
  after_reads_at
  pointwise
  split
  · after_reads_at
    pointwise
    have e : freq j = ⟨j.val % 64, by omega⟩ := Fin.ext (by simp only [freq]; omega)
    rw [e, ← co_eq]
  · after_reads_at
    pointwise
    have e : freq j = ⟨j.val % 64 - 32, by omega⟩ := Fin.ext (by simp only [freq]; omega)
    rw [e, ← co_eq]

theorem sin_table (r : Fin 512) (j : Fin 256) :
    (V (F := Ideal) m c main_v44 : Vec Ideal S1x512x256 .f32) (ix3 0 r j) = signed (siAt (16384 + r.val % 4)) j := by
  unfold V
  after_reads_at
  pointwise
  unfold signed
  split
  · after_reads_at
    pointwise
    have e : freq j = ⟨j.val % 64, by omega⟩ := Fin.ext (by simp only [freq]; omega)
    rw [e, ← si_eq]
  · after_reads_at
    pointwise
    have e : freq j = ⟨j.val % 64 - 32, by omega⟩ := Fin.ext (by simp only [freq]; omega)
    rw [e, ← si_eq]

/-- The modulation's rows: a token's is its sequence's. -/
theorem mods_at (r : Fin 512) (k : Fin 6144) :
    (V (F := Ideal) m c main_v47 : Vec Ideal S1x512x6144 .f32) (ix3 0 r k) = (m ((c : Thread nD τ).loc main_arg2) : Vec Ideal S128x6144 .f32) (ix2 ⟨r.val / 4, by omega⟩ k) := by
  unfold V
  after_reads_at

/-- Where each window's block stands at a grid point. -/
theorem places : ∀ t : Fin cfg0.N,
    win0_0.index t = ![0, 0] ∧ win0_1.index t = ![0, 0] ∧ win0_2.index t = ![0, 0, 1] ∧ win0_3.index t = ![0, 0, 0]
    ∧ win0_4.index t = ![0, 0, 0] ∧ win0_5.index t = ![0, 0, 0] ∧ win0_6.index t = ![0, 0]
    ∧ win0_7.index t = ![0, 0] ∧ win0_8.index t = ![0, 0] :=
  (by decide +kernel : ∀ t : Fin grid0.N,
    win0_0.index t = ![0, 0] ∧ win0_1.index t = ![0, 0] ∧ win0_2.index t = ![0, 0, 1] ∧ win0_3.index t = ![0, 0, 0]
    ∧ win0_4.index t = ![0, 0, 0] ∧ win0_5.index t = ![0, 0, 0] ∧ win0_6.index t = ![0, 0]
    ∧ win0_7.index t = ![0, 0] ∧ win0_8.index t = ![0, 0])

/-- Where each result's block is written. -/
theorem outPlaces : ∀ t : Fin cfg0.N,
    win0_9.index t = ![0, 0] ∧ win0_10.index t = ![0, 0] ∧ win0_11.index t = ![0, 0] ∧ win0_12.index t = ![0, 0]
    ∧ win0_13.index t = ![0, 0] ∧ win0_14.index t = ![0, 0] ∧ win0_15.index t = ![0, 0] :=
  (by decide +kernel : ∀ t : Fin grid0.N,
    win0_9.index t = ![0, 0] ∧ win0_10.index t = ![0, 0] ∧ win0_11.index t = ![0, 0] ∧ win0_12.index t = ![0, 0]
    ∧ win0_13.index t = ![0, 0] ∧ win0_14.index t = ![0, 0] ∧ win0_15.index t = ![0, 0])

theorem blk0 (t : Fin cfg0.N) (ρ : Fin 512) (k : Fin 1024) : iblk (F := Ideal) m c 0 t (ix2 ρ k) = V (F := Ideal) m c main_arg0 (ix2 ρ k) := by
  have e := places t
  blk_ext [iblk, e]

theorem blk1 (t : Fin cfg0.N) (a : Fin 1) (k : Fin 1024) : iblk (F := Ideal) m c 1 t (ix2 a k) = V (F := Ideal) m c main_arg1 (ix2 a k) := by
  have e := places t
  blk_ext [iblk, e]

theorem blk2_of (X : Vec Ideal S1x512x6144 .f32) (t : Fin cfg0.N) (r : Fin 512) (k : Fin 1024) :
    ((cfg0.win 2).blk t).view.read (Elt Ideal) X (ix3 0 r k) = X (ix3 0 r ⟨1024 + k.val, by omega⟩) := by
  have e := places t
  blk_ext [e]

theorem blk2 (t : Fin cfg0.N) (r : Fin 512) (k : Fin 1024) :
    iblk (F := Ideal) m c 2 t (ix3 0 r k) = V (F := Ideal) m c main_v47 (ix3 0 r ⟨1024 + k.val, by omega⟩) :=
  blk2_of _ t r k

theorem blk3_of (X : Vec Ideal S1x512x6144 .f32) (t : Fin cfg0.N) (r : Fin 512) (k : Fin 1024) :
    ((cfg0.win 3).blk t).view.read (Elt Ideal) X (ix3 0 r k) = X (ix3 0 r ⟨k.val, by omega⟩) := by
  have e := places t
  blk_ext [e]

theorem blk3 (t : Fin cfg0.N) (r : Fin 512) (k : Fin 1024) :
    iblk (F := Ideal) m c 3 t (ix3 0 r k) = V (F := Ideal) m c main_v47 (ix3 0 r ⟨k.val, by omega⟩) :=
  blk3_of _ t r k

theorem blk4_of (X : Vec Ideal S1x512x256 .f32) (t : Fin cfg0.N) (r : Fin 512) (k : Fin 256) :
    ((cfg0.win 4).blk t).view.read (Elt Ideal) X (ix3 0 r k) = X (ix3 0 r k) := by
  have e := places t
  blk_ext [e]

theorem blk4 (t : Fin cfg0.N) (r : Fin 512) (k : Fin 256) : iblk (F := Ideal) m c 4 t (ix3 0 r k) = V (F := Ideal) m c main_v40 (ix3 0 r k) :=
  blk4_of _ t r k

theorem blk5_of (X : Vec Ideal S1x512x256 .f32) (t : Fin cfg0.N) (r : Fin 512) (k : Fin 256) :
    ((cfg0.win 5).blk t).view.read (Elt Ideal) X (ix3 0 r k) = X (ix3 0 r k) := by
  have e := places t
  blk_ext [e]

theorem blk5 (t : Fin cfg0.N) (r : Fin 512) (k : Fin 256) : iblk (F := Ideal) m c 5 t (ix3 0 r k) = V (F := Ideal) m c main_v44 (ix3 0 r k) :=
  blk5_of _ t r k

theorem blk6_of (X : Vec Ideal S1024x2560 .bf16) (t : Fin cfg0.N) (a : Fin 1024) (b : Fin 2560) : ((cfg0.win 6).blk t).view.read (Elt Ideal) X (ix2 a b) = X (ix2 a b) := by
  have e := places t
  blk_ext [e]

theorem blk6 (t : Fin cfg0.N) (a : Fin 1024) (b : Fin 2560) : iblk (F := Ideal) m c 6 t (ix2 a b) = V (F := Ideal) m c main_v49 (ix2 a b) :=
  blk6_of _ t a b

theorem blk7_of (X : Vec Ideal S1024x512 .bf16) (t : Fin cfg0.N) (a : Fin 1024) (b : Fin 512) : ((cfg0.win 7).blk t).view.read (Elt Ideal) X (ix2 a b) = X (ix2 a b) := by
  have e := places t
  blk_ext [e]

theorem blk7 (t : Fin cfg0.N) (a : Fin 1024) (b : Fin 512) : iblk (F := Ideal) m c 7 t (ix2 a b) = V (F := Ideal) m c main_v50 (ix2 a b) :=
  blk7_of _ t a b

theorem blk8_of (X : Vec Ideal S1024x128 .bf16) (t : Fin cfg0.N) (a : Fin 1024) (b : Fin 128) : ((cfg0.win 8).blk t).view.read (Elt Ideal) X (ix2 a b) = X (ix2 a b) := by
  have e := places t
  blk_ext [e]

theorem blk8 (t : Fin cfg0.N) (a : Fin 1024) (b : Fin 128) : iblk (F := Ideal) m c 8 t (ix2 a b) = V (F := Ideal) m c main_v2 (ix2 a b) :=
  blk8_of _ t a b

theorem read9 (X : Vec Ideal S512x1024 .f32) (t : Fin cfg0.N) (ρ : Fin 512) (d : Fin 1024) :
    ((cfg0.win 9).blk t).view.read (Elt Ideal) X (ix2 ρ d) = X (ix2 ρ d) := by
  have e := outPlaces t
  blk_ext [e]

theorem read10 (X : Vec Ideal S512x512 .f32) (t : Fin cfg0.N) (ρ : Fin 512) (d : Fin 512) :
    ((cfg0.win 10).blk t).view.read (Elt Ideal) X (ix2 ρ d) = X (ix2 ρ d) := by
  have e := outPlaces t
  blk_ext [e]

theorem read11 (X : Vec Ideal S512x1024 .f32) (t : Fin cfg0.N) (ρ : Fin 512) (d : Fin 1024) :
    ((cfg0.win 11).blk t).view.read (Elt Ideal) X (ix2 ρ d) = X (ix2 ρ d) := by
  have e := outPlaces t
  blk_ext [e]

theorem read12 (X : Vec Ideal S512x128 .f32) (t : Fin cfg0.N) (ρ : Fin 512) (d : Fin 128) :
    ((cfg0.win 12).blk t).view.read (Elt Ideal) X (ix2 ρ d) = X (ix2 ρ d) := by
  have e := outPlaces t
  blk_ext [e]

theorem read13 (X : Vec Ideal S512x256 .f32) (t : Fin cfg0.N) (ρ : Fin 512) (d : Fin 256) :
    ((cfg0.win 13).blk t).view.read (Elt Ideal) X (ix2 ρ d) = X (ix2 ρ d) := by
  have e := outPlaces t
  blk_ext [e]

theorem read14 (X : Vec Ideal S512x128 .f32) (t : Fin cfg0.N) (ρ : Fin 512) (d : Fin 128) :
    ((cfg0.win 14).blk t).view.read (Elt Ideal) X (ix2 ρ d) = X (ix2 ρ d) := by
  have e := outPlaces t
  blk_ext [e]

theorem read15 (X : Vec Ideal S512x128 .f32) (t : Fin cfg0.N) (ρ : Fin 512) (d : Fin 128) :
    ((cfg0.win 15).blk t).view.read (Elt Ideal) X (ix2 ρ d) = X (ix2 ρ d) := by
  have e := outPlaces t
  blk_ext [e]

end Cert.InSample
-- ==== Proof.SampRef.lean ====
module

public import proofs.«01_k».proof.Proof.SampHost
public import proofs.«01_k».proof.Proof.Gen.Reference4Ideal.Run

@[expose] public section

set_option maxRecDepth 16384

noncomputable section

namespace Cert.InSample

open Idealize.ShloMosaic Idealize.ShloMosaic.StableHlo Idealize.ShloMosaic.TcCoe
open Cert.Reference4Ideal Cert.Reference4Ideal.Gen Cert.Reference4Ideal.Value
open Cert.InProj (ahead32 back32 freq turned signed turn_eq halfWord halfWord_eq angle coAt siAt swaCol hz2 hz3 headAt turned_head)

/-! # The reference's projection of the sample batch at an index -/

/-- Every head's pairs of entries 32 apart turned, in the reference's words: four heads, and two. -/
def rot4 (A : FVec Ideal S512x4x64 .f32) (C S : FVec Ideal S512x1x32 .f32) : FVec Ideal S512x4x64 .f32 :=
  concatenate S512x4x64 2 [⟨S512x4x32, (subf (mulf (extractStridedSlice S512x4x32 ![0, 0, 0] A slices_S512x4x64_S512x4x32_0_0_0) (broadcastInDim S512x4x32 ![0, 1, 2] bcast_S512x1x32_S512x4x32_0_1_2 C)) (mulf (extractStridedSlice S512x4x32 ![0, 0, 32] A slices_S512x4x64_S512x4x32_0_0_32) (broadcastInDim S512x4x32 ![0, 1, 2] bcast_S512x1x32_S512x4x32_0_1_2 S)))⟩,
    ⟨S512x4x32, (addf (mulf (extractStridedSlice S512x4x32 ![0, 0, 0] A slices_S512x4x64_S512x4x32_0_0_0) (broadcastInDim S512x4x32 ![0, 1, 2] bcast_S512x1x32_S512x4x32_0_1_2 S)) (mulf (extractStridedSlice S512x4x32 ![0, 0, 32] A slices_S512x4x64_S512x4x32_0_0_32) (broadcastInDim S512x4x32 ![0, 1, 2] bcast_S512x1x32_S512x4x32_0_1_2 C)))⟩] concatenates_S512x4x32_S512x4x32_S512x4x64_d2
def rot2 (A : FVec Ideal S512x2x64 .f32) (C S : FVec Ideal S512x1x32 .f32) : FVec Ideal S512x2x64 .f32 :=
  concatenate S512x2x64 2 [⟨S512x2x32, (subf (mulf (extractStridedSlice S512x2x32 ![0, 0, 0] A slices_S512x2x64_S512x2x32_0_0_0) (broadcastInDim S512x2x32 ![0, 1, 2] bcast_S512x1x32_S512x2x32_0_1_2 C)) (mulf (extractStridedSlice S512x2x32 ![0, 0, 32] A slices_S512x2x64_S512x2x32_0_0_32) (broadcastInDim S512x2x32 ![0, 1, 2] bcast_S512x1x32_S512x2x32_0_1_2 S)))⟩,
    ⟨S512x2x32, (addf (mulf (extractStridedSlice S512x2x32 ![0, 0, 0] A slices_S512x2x64_S512x2x32_0_0_0) (broadcastInDim S512x2x32 ![0, 1, 2] bcast_S512x1x32_S512x2x32_0_1_2 S)) (mulf (extractStridedSlice S512x2x32 ![0, 0, 32] A slices_S512x2x64_S512x2x32_0_0_32) (broadcastInDim S512x2x32 ![0, 1, 2] bcast_S512x1x32_S512x2x32_0_1_2 C)))⟩] concatenates_S512x2x32_S512x2x32_S512x2x64_d2

section Rot
variable (C S : FVec Ideal S512x1x32 .f32) (t : Fin 512) (co si : Fin 32 → EReal)
  (hC : ∀ f, C (ix3 t 0 f) = co f) (hS : ∀ f, S (ix3 t 0 f) = si f)
include hC hS

theorem rot4_at (P : Fin 256 → EReal) (A : FVec Ideal S512x4x64 .f32) (hA : ∀ (h : Fin 4) (e : Fin 64), A (ix3 t h e) = P ⟨64 * h.val + e.val, by omega⟩)
    (h : Fin 4) (e : Fin 64) : rot4 A C S (ix3 t h e) = turned P co si ⟨64 * h.val + e.val, by omega⟩ := by
  pointwise [rot4]
  unfold turned
  simp only [hC, hS, hA]
  by_cases he : e.val < 32
  · have e1 : (64 * h.val + e.val) % 64 < 32 := by omega
    rw [dif_pos he, if_pos e1]
    congr 2
    · exact congrArg co (Fin.ext (by simp only [freq]; omega))
    · exact congrArg P (Fin.ext (by simp only [ahead32]; omega))
    · exact congrArg si (Fin.ext (by simp only [freq]; omega))
  · have e1 : ¬(64 * h.val + e.val) % 64 < 32 := by omega
    rw [dif_neg he, if_neg e1]
    congr 2
    · exact congrArg P (Fin.ext (by simp only [back32]; omega))
    · exact congrArg si (Fin.ext (by simp only [freq]; omega))
    · exact congrArg P (Fin.ext (by simp only; omega))
    · exact congrArg co (Fin.ext (by simp only [freq]; omega))

theorem rot2_at (P : Fin 128 → EReal) (A : FVec Ideal S512x2x64 .f32) (hA : ∀ (h : Fin 2) (e : Fin 64), A (ix3 t h e) = P ⟨64 * h.val + e.val, by omega⟩)
    (h : Fin 2) (e : Fin 64) : rot2 A C S (ix3 t h e) = turned P co si ⟨64 * h.val + e.val, by omega⟩ := by
  pointwise [rot2]
  unfold turned
  simp only [hC, hS, hA]
  by_cases he : e.val < 32
  · have e1 : (64 * h.val + e.val) % 64 < 32 := by omega
    rw [dif_pos he, if_pos e1]
    congr 2
    · exact congrArg co (Fin.ext (by simp only [freq]; omega))
    · exact congrArg P (Fin.ext (by simp only [ahead32]; omega))
    · exact congrArg si (Fin.ext (by simp only [freq]; omega))
  · have e1 : ¬(64 * h.val + e.val) % 64 < 32 := by omega
    rw [dif_neg he, if_neg e1]
    congr 2
    · exact congrArg P (Fin.ext (by simp only [back32]; omega))
    · exact congrArg si (Fin.ext (by simp only [freq]; omega))
    · exact congrArg P (Fin.ext (by simp only; omega))
    · exact congrArg co (Fin.ext (by simp only [freq]; omega))

end Rot

variable (m : (ℓ : Loc nD τ sig) → Buf (Elt Ideal) ℓ) (c : Dev nD)

/-- The reference's rows of the modulation, its normalised rows, its product, its cosines and its sines. -/
def modsR : FVec Ideal S512x6144 .f32 :=
  (shapeCast _ (broadcastInDim S128x4x6144 ![0, 2] bcast_S128x6144_S128x4x6144_0_2 (m ((c.tc : Thread nD τ).loc main_arg2))) shapeCasts_S128x4x6144_S512x6144)
def rowR : FVec Ideal S512x1024 .f32 :=
  (addf (mulf (mulf (mulf (m ((c.tc : Thread nD τ).loc main_arg0)) (broadcastInDim S512x1024 ![0, 1] bcast_S512x1_S512x1024_0_1 (Host.rsqrt (addf (Host.divf (broadcastInDim S512x1 ![0] bcast_S512_S512x1_0 (Host.reduceAdd (mulf (m ((c.tc : Thread nD τ).loc main_arg0)) (m ((c.tc : Thread nD τ).loc main_arg0))) (constant S_ .f32 0x00000000#32) reducesTo_S512x1024_S512_d1 h_S_)) (broadcastInDim S512x1 ![] bcast_S_S512x1 (constant S_ .f32 0x44800000#32))) (broadcastInDim S512x1 ![] bcast_S_S512x1 (constant S_ .f32 0x358637BD#32)))))) (broadcastInDim S512x1024 ![0, 1] bcast_S1x1024_S512x1024_0_1 (m ((c.tc : Thread nD τ).loc main_arg1)))) (addf (broadcastInDim S512x1024 ![] bcast_S_S512x1024 (constant S_ .f32 0x3F800000#32)) (extractStridedSlice S512x1024 ![0, 1024] (modsR m c) slices_S512x6144_S512x1024_0_1024))) (extractStridedSlice S512x1024 ![0, 0] (modsR m c) slices_S512x6144_S512x1024_0_0))
def projR : FVec Ideal S512x3080 .f32 :=
  Host.dotGeneral (φ₂ := .f32) dot_S512x1024_S1024x3080_S512x3080_1_0_0_1_n_n none (rowR m c) (m ((c.tc : Thread nD τ).loc main_arg3))
def cosR : FVec Ideal S512x1x32 .f32 :=
  (broadcastInDim S512x1x32 ![0, 2] bcast_S512x32_S512x1x32_0_2 (Host.cos (mulf (broadcastInDim S512x32 ![0, 1] bcast_S512x1_S512x32_0_1 (broadcastInDim S512x1 ![0] bcast_S512_S512x1_0 (sitofp .f32 (shapeCast _ (broadcastInDim S128x4 ![0, 1] bcast_S1x4_S128x4_0_1 (shapeCast _ (addi (broadcastInDim S4 ![] bcast_S_S4 (constantI S_ 32 16384#32)) (iotaInDim S4 32 0)) shapeCasts_S4_S1x4)) shapeCasts_S128x4_S512)))) (broadcastInDim S512x32 ![0, 1] bcast_S1x32_S512x32_0_1 (broadcastInDim S1x32 ![1] bcast_S32_S1x32_1 (Host.powf (broadcastInDim S32 ![] bcast_S_S32 (constant S_ .f32 0x461C4000#32)) (Host.divf (Host.negf (sitofp .f32 (iotaInDim S32 32 0))) (broadcastInDim S32 ![] bcast_S_S32 (constant S_ .f32 0x42000000#32)))))))))
def sinR : FVec Ideal S512x1x32 .f32 :=
  (broadcastInDim S512x1x32 ![0, 2] bcast_S512x32_S512x1x32_0_2 (Host.sin (mulf (broadcastInDim S512x32 ![0, 1] bcast_S512x1_S512x32_0_1 (broadcastInDim S512x1 ![0] bcast_S512_S512x1_0 (sitofp .f32 (shapeCast _ (broadcastInDim S128x4 ![0, 1] bcast_S1x4_S128x4_0_1 (shapeCast _ (addi (broadcastInDim S4 ![] bcast_S_S4 (constantI S_ 32 16384#32)) (iotaInDim S4 32 0)) shapeCasts_S4_S1x4)) shapeCasts_S128x4_S512)))) (broadcastInDim S512x32 ![0, 1] bcast_S1x32_S512x32_0_1 (broadcastInDim S1x32 ![1] bcast_S32_S1x32_1 (Host.powf (broadcastInDim S32 ![] bcast_S_S32 (constant S_ .f32 0x461C4000#32)) (Host.divf (Host.negf (sitofp .f32 (iotaInDim S32 32 0))) (broadcastInDim S32 ![] bcast_S_S32 (constant S_ .f32 0x42000000#32)))))))))

/-- The arguments, the token's rows of the modulation, and the reference's normalised row and product. -/
abbrev r0 : Vec Ideal S512x1024 .f32 := m ((c : Thread nD τ).loc main_arg0)
abbrev r1 : Vec Ideal S1x1024 .f32 := m ((c : Thread nD τ).loc main_arg1)
abbrev r2 : Vec Ideal S128x6144 .f32 := m ((c : Thread nD τ).loc main_arg2)
abbrev r3 : Vec Ideal S1024x3080 .f32 := m ((c : Thread nD τ).loc main_arg3)

open Cert.OutMoe in
/-- Entry `j` of a token's row times the weights. -/
def prod (x : Vec Ideal S512x1024 .f32) (g : Vec Ideal S1x1024 .f32) (mo : Vec Ideal S128x6144 .f32) (w : Vec Ideal S1024x3080 .f32) (t : Fin 512) (j : Fin 3080) : EReal :=
  ∑ k : Fin 1024, modul (fun d => x (ix2 t d)) (fun d => g (ix2 0 d)) (fun d => mo (ix2 ⟨t.val / 4, by omega⟩ ⟨1024 + d.val, by omega⟩))
    (fun d => mo (ix2 ⟨t.val / 4, by omega⟩ ⟨d.val, by omega⟩)) k * w (ix2 k j)

abbrev prodR (t : Fin 512) (j : Fin 3080) : EReal := prod (r0 m c) (r1 m c) (r2 m c) (r3 m c) t j

theorem mods_of (X : Vec Ideal S128x6144 .f32) (t : Fin 512) (k : Fin 6144) :
    (shapeCast _ (broadcastInDim S128x4x6144 ![0, 2] bcast_S128x6144_S128x4x6144_0_2 X) shapeCasts_S128x4x6144_S512x6144
      : Vec Ideal S512x6144 .f32) (ix2 t k) = X (ix2 ⟨t.val / 4, by omega⟩ k) := by
  pointwise

theorem modsR_at (t : Fin 512) (k : Fin 6144) : modsR m c (ix2 t k) = r2 m c (ix2 ⟨t.val / 4, by omega⟩ k) := by
  exact mods_of (r2 m c) t k

open Cert.OutMoe in
theorem rowR_at (t : Fin 512) (k : Fin 1024) : rowR m c (ix2 t k) =
    modul (fun d => r0 m c (ix2 t d)) (fun d => r1 m c (ix2 0 d)) (fun d => r2 m c (ix2 ⟨t.val / 4, by omega⟩ ⟨1024 + d.val, by omega⟩))
      (fun d => r2 m c (ix2 ⟨t.val / 4, by omega⟩ ⟨d.val, by omega⟩)) k := by
  pointwise [rowR]
  rw [modsR_at, modsR_at]
  rfl

theorem projR_at (t : Fin 512) (j : Fin 3080) : projR m c (ix2 t j) = prodR m c t j := by
  pointwise [projR]
  exact Finset.sum_congr rfl fun k _ => congrArg (· * _) (rowR_at m c t k)

theorem cosR_at (t : Fin 512) (f : Fin 32) : cosR (ix3 t 0 f) = coAt (16384 + t.val % 4) f := by
  rw [← co_eq]
  pointwise [cosR]

theorem sinR_at (t : Fin 512) (f : Fin 32) : sinR (ix3 t 0 f) = siAt (16384 + t.val % 4) f := by
  rw [← si_eq]
  pointwise [sinR]

/-- Each head of 256 columns of the product, from column `o`, turned. -/
theorem rotq_at (o : Nat) (ho : o + 256 ≤ 3080) (hs : S512x3080.Slices ![0, o] S512x256) (t : Fin 512) (h : Fin 4) (e : Fin 64) :
    rot4 (shapeCast _ (extractStridedSlice S512x256 ![0, o] (projR m c) hs) shapeCasts_S512x256_S512x4x64) cosR sinR (ix3 t h e)
      = turned (fun d : Fin 256 => prodR m c t ⟨o + d.val, by omega⟩) (coAt (16384 + t.val % 4)) (siAt (16384 + t.val % 4)) ⟨64 * h.val + e.val, by omega⟩ := by
  refine rot4_at _ _ t _ _ (cosR_at t) (sinR_at t) (fun d : Fin 256 => prodR m c t ⟨o + d.val, by omega⟩) _ (fun h e => ?_) h e
  rw [← projR_at]
  pointwise
  exact congrArg (fun k => projR m c (ix2 t k)) (Fin.ext (by simp only; omega))

theorem rotk_at (t : Fin 512) (h : Fin 2) (e : Fin 64) :
    rot2 (shapeCast _ (extractStridedSlice S512x128 ![0, 2824] (projR m c) slices_S512x3080_S512x128_0_2824) shapeCasts_S512x128_S512x2x64) cosR sinR (ix3 t h e)
      = turned (fun d : Fin 128 => prodR m c t ⟨2824 + d.val, by omega⟩) (coAt (16384 + t.val % 4)) (siAt (16384 + t.val % 4)) ⟨64 * h.val + e.val, by omega⟩ := by
  refine rot2_at _ _ t _ _ (cosR_at t) (sinR_at t) (fun d : Fin 128 => prodR m c t ⟨2824 + d.val, by omega⟩) _ (fun h e => ?_) h e
  rw [← projR_at]
  pointwise
  exact congrArg (fun k => projR m c (ix2 t k)) (Fin.ext (by simp only; omega))

/-- The turned keys, the turned queries with their heads in the order 0, 2, 1, 3, and the four parts of the first result. -/
def keysR : FVec Ideal S512x128 .f32 :=
  shapeCast _ (rot2 (shapeCast _ (extractStridedSlice S512x128 ![0, 2824] (projR m c) slices_S512x3080_S512x128_0_2824) shapeCasts_S512x128_S512x2x64) cosR sinR) shapeCasts_S512x2x64_S512x128
def headsR : FVec Ideal S512x256 .f32 :=
  (shapeCast _ ((concatenate S512x4x64 1 [⟨S512x1x64, ((extractStridedSlice S512x1x64 ![0, 0, 0] (mulf (rot4 (shapeCast _ (extractStridedSlice S512x256 ![0, 2568] (projR m c) slices_S512x3080_S512x256_0_2568) shapeCasts_S512x256_S512x4x64) cosR sinR) (broadcastInDim S512x4x64 ![] bcast_S_S512x4x64 (constant S_ .f32 0x3E000000#32))) slices_S512x4x64_S512x1x64_0_0_0) : (⟨S512x1x64, .f32⟩ : BufTy).Contents (Elt Ideal))⟩, ⟨S512x1x64, ((extractStridedSlice S512x1x64 ![0, 2, 0] (mulf (rot4 (shapeCast _ (extractStridedSlice S512x256 ![0, 2568] (projR m c) slices_S512x3080_S512x256_0_2568) shapeCasts_S512x256_S512x4x64) cosR sinR) (broadcastInDim S512x4x64 ![] bcast_S_S512x4x64 (constant S_ .f32 0x3E000000#32))) slices_S512x4x64_S512x1x64_0_2_0) : (⟨S512x1x64, .f32⟩ : BufTy).Contents (Elt Ideal))⟩, ⟨S512x1x64, ((extractStridedSlice S512x1x64 ![0, 1, 0] (mulf (rot4 (shapeCast _ (extractStridedSlice S512x256 ![0, 2568] (projR m c) slices_S512x3080_S512x256_0_2568) shapeCasts_S512x256_S512x4x64) cosR sinR) (broadcastInDim S512x4x64 ![] bcast_S_S512x4x64 (constant S_ .f32 0x3E000000#32))) slices_S512x4x64_S512x1x64_0_1_0) : (⟨S512x1x64, .f32⟩ : BufTy).Contents (Elt Ideal))⟩, ⟨S512x1x64, ((extractStridedSlice S512x1x64 ![0, 3, 0] (mulf (rot4 (shapeCast _ (extractStridedSlice S512x256 ![0, 2568] (projR m c) slices_S512x3080_S512x256_0_2568) shapeCasts_S512x256_S512x4x64) cosR sinR) (broadcastInDim S512x4x64 ![] bcast_S_S512x4x64 (constant S_ .f32 0x3E000000#32))) slices_S512x4x64_S512x1x64_0_3_0) : (⟨S512x1x64, .f32⟩ : BufTy).Contents (Elt Ideal))⟩] concatenates_S512x1x64_S512x1x64_S512x1x64_S512x1x64_S512x4x64_d1 : (⟨S512x4x64, .f32⟩ : BufTy).Contents (Elt Ideal))) shapeCasts_S512x4x64_S512x256)
def retR : FVec Ideal S512x1024 .f32 :=
  ((concatenate S512x1024 1 [⟨S512x256, ((shapeCast _ (rot4 (shapeCast _ (extractStridedSlice S512x256 ![0, 0] (projR m c) slices_S512x3080_S512x256_0_0) shapeCasts_S512x256_S512x4x64) cosR sinR) shapeCasts_S512x4x64_S512x256) : (⟨S512x256, .f32⟩ : BufTy).Contents (Elt Ideal))⟩, ⟨S512x256, ((mulf (shapeCast _ (rot4 (shapeCast _ (extractStridedSlice S512x256 ![0, 256] (projR m c) slices_S512x3080_S512x256_0_256) shapeCasts_S512x256_S512x4x64) cosR sinR) shapeCasts_S512x4x64_S512x256) (broadcastInDim S512x256 ![] bcast_S_S512x256 (constant S_ .f32 0x3E000000#32))) : (⟨S512x256, .f32⟩ : BufTy).Contents (Elt Ideal))⟩, ⟨S512x256, ((extractStridedSlice S512x256 ![0, 512] (projR m c) slices_S512x3080_S512x256_0_512) : (⟨S512x256, .f32⟩ : BufTy).Contents (Elt Ideal))⟩, ⟨S512x256, ((extractStridedSlice S512x256 ![0, 768] (projR m c) slices_S512x3080_S512x256_0_768) : (⟨S512x256, .f32⟩ : BufTy).Contents (Elt Ideal))⟩] concatenates_S512x256_S512x256_S512x256_S512x256_S512x1024_d1 : (⟨S512x1024, .f32⟩ : BufTy).Contents (Elt Ideal)))

theorem res127 : res_main_v127 m c = keysR m c := rfl
theorem res111 : res_main_v111 m c = headsR m c := rfl
theorem res89 : res_main_v89 m c = retR m c := rfl

/-- The position of a token in its sequence, after the 16384 before. -/
abbrev pos (t : Fin 512) : Nat := 16384 + t.val % 4

theorem keysR_at (t : Fin 512) (d : Fin 128) : keysR m c (ix2 t d)
    = turned (fun d : Fin 128 => prodR m c t ⟨2824 + d.val, by omega⟩) (coAt (pos t)) (siAt (pos t)) d := by
  have h := rotk_at m c t ⟨d.val / 64, by omega⟩ ⟨d.val % 64, by omega⟩
  pointwise [keysR]
  refine Eq.trans ?_ (h.trans ?_)
  · rfl
  · exact congrArg (turned _ _ _) (Fin.ext (by simp only; omega))

theorem headsR_at (t : Fin 512) (d : Fin 256) : headsR m c (ix2 t d)
    = turned (fun d : Fin 256 => prodR m c t ⟨2568 + d.val, by omega⟩) (coAt (pos t)) (siAt (pos t)) (headAt d) * Ideal.ofBits .f32 0x3E000000#32 := by
  pointwise [headsR]
  simp only [rotq_at m c 2568 (by omega)]
  split
  · exact congrArg (fun k => turned _ _ _ k * _) (Fin.ext (by simp only [headAt]; omega))
  · split
    · exact congrArg (fun k => turned _ _ _ k * _) (Fin.ext (by simp only [headAt]; omega))
    · split
      · exact congrArg (fun k => turned _ _ _ k * _) (Fin.ext (by simp only [headAt]; omega))
      · exact congrArg (fun k => turned _ _ _ k * _) (Fin.ext (by simp only [headAt]; omega))

theorem retR_at0 (t : Fin 512) (d : Fin 256) : retR m c (ix2 t ⟨d.val, by omega⟩)
    = turned (fun d : Fin 256 => prodR m c t ⟨d.val, by omega⟩) (coAt (pos t)) (siAt (pos t)) d := by
  pointwise [retR]
  rw [rotq_at m c 0 (by omega)]
  have e : (fun d : Fin 256 => prodR m c t ⟨0 + d.val, by omega⟩) = fun d : Fin 256 => prodR m c t ⟨d.val, by omega⟩ :=
    funext fun d => congrArg (prodR m c t) (Fin.ext (Nat.zero_add _))
  rw [e]
  refine congrArg (turned _ _ _) (Fin.ext ?_)
  show 64 * (d.val / 64) + d.val % 64 = d.val
  omega

theorem retR_at1 (t : Fin 512) (d : Fin 256) : retR m c (ix2 t ⟨256 + d.val, by omega⟩)
    = turned (fun d : Fin 256 => prodR m c t ⟨256 + d.val, by omega⟩) (coAt (pos t)) (siAt (pos t)) d * Ideal.ofBits .f32 0x3E000000#32 := by
  pointwise [retR]
  rw [rotq_at m c 256 (by omega)]
  exact congrArg (fun k => turned _ _ _ k * _) (Fin.ext (by first | omega | (simp only; omega)))

theorem retR_at2 (t : Fin 512) (d : Fin 512) : retR m c (ix2 t ⟨512 + d.val, by omega⟩) = prodR m c t ⟨512 + d.val, by omega⟩ := by
  rw [← projR_at]
  pointwise [retR]
  rw [dif_neg (by omega), dif_neg (by omega)]
  split
  · exact congrArg (fun k => projR m c (ix2 t k)) (Fin.ext (by first | omega | (simp only; omega)))
  · exact congrArg (fun k => projR m c (ix2 t k)) (Fin.ext (by first | omega | (simp only; omega)))

/-- The four results that are columns of the product. -/
def zR : FVec Ideal S512x512 .f32 :=
  (extractStridedSlice S512x512 ![0, 1024] (projR m c) slices_S512x3080_S512x512_0_1024)
def xbcR : FVec Ideal S512x1024 .f32 := extractStridedSlice S512x1024 ![0, 1536] (projR m c) slices_S512x3080_S512x1024_0_1536
def dtR : FVec Ideal S512x128 .f32 :=
  pad S512x128 ![0, 0] ![0, 120] ![0, 0] (extractStridedSlice S512x8 ![0, 2560] (projR m c) slices_S512x3080_S512x8_0_2560) (sitofp .f32 (constantI S_ 32 0#32)) pads_S512x8_S512x128_000_01200 h_S_
def svR : FVec Ideal S512x128 .f32 := extractStridedSlice S512x128 ![0, 2952] (projR m c) slices_S512x3080_S512x128_0_2952

theorem zR_at (t : Fin 512) (d : Fin 512) : zR m c (ix2 t d) = prodR m c t ⟨1024 + d.val, by omega⟩ := by
  rw [← projR_at]
  pointwise [zR]

theorem xbcR_at (t : Fin 512) (d : Fin 1024) : xbcR m c (ix2 t d) = prodR m c t ⟨1536 + d.val, by omega⟩ := by
  rw [← projR_at]
  pointwise [xbcR]

theorem dtR_at (t : Fin 512) (d : Fin 128) : dtR m c (ix2 t d) = if h : d.val < 8 then prodR m c t ⟨2560 + d.val, by omega⟩ else 0 := by
  simp only [← projR_at]
  pointwise [dtR]
  split
  · rfl
  · simp [FloatOps.sitofp]

theorem svR_at (t : Fin 512) (d : Fin 128) : svR m c (ix2 t d) = prodR m c t ⟨2952 + d.val, by omega⟩ := by
  rw [← projR_at]
  pointwise [svR]

end Cert.InSample
-- ==== Proof.SampFinal.lean ====
module

public import proofs.«01_k».proof.Proof.SampRef

@[expose] public section

set_option maxRecDepth 16384

noncomputable section

namespace Cert.InSample

open Idealize.ShloMosaic Idealize.ShloMosaic.StableHlo Idealize.ShloMosaic.TcCoe
open Cert.Kernel4Ideal Cert.Kernel4Ideal.Gen
open Cert.InProj (ahead32 back32 freq turned signed turn_eq halfWord halfWord_eq angle coAt siAt swaCol hz2 hz3 headAt turned_head)

/-! # The projection's results of the sample batch, entry by entry -/

variable (m : (ℓ : Loc nD τ sig) → Buf (Elt Ideal) ℓ) (c : Dev nD)

/-- The kernel's arguments, and its product of a token's row and the weights. -/
abbrev k0 : Vec Ideal S512x1024 .f32 := m ((c : Thread nD τ).loc main_arg0)
abbrev k1 : Vec Ideal S1x1024 .f32 := m ((c : Thread nD τ).loc main_arg1)
abbrev k2 : Vec Ideal S128x6144 .f32 := m ((c : Thread nD τ).loc main_arg2)
abbrev prodK (t : Fin 512) (j : Fin 3080) : EReal := prod (k0 m c) (k1 m c) (k2 m c) (wl m c) t j

/-- A point's rows, normalised and modulated. -/
abbrev hK (t : Fin cfg0.N) : FVec Ideal S512x1024 .bf16 := k0_pay3 (F := Ideal) (iblk (F := Ideal) m c 0 t) (iblk (F := Ideal) m c 1 t) (iblk (F := Ideal) m c 2 t) (iblk (F := Ideal) m c 3 t)

theorem V_arg0 : V (F := Ideal) m c main_arg0 = k0 m c := by
  unfold V
  after_reads_at

theorem V_arg1 : V (F := Ideal) m c main_arg1 = k1 m c := by
  unfold V
  after_reads_at

/-- The one grid point. -/
abbrev p0 : Fin cfg0.N := ⟨0, by decide⟩

variable (t : Fin cfg0.N) (ρ : Fin 512)

open Cert.OutMoe (modul) in
theorem hK_at (k : Fin 1024) : hK m c t (ix2 ρ k) =
    modul (fun d => k0 m c (ix2 ρ d)) (fun d => k1 m c (ix2 0 d)) (fun d => k2 m c (ix2 ⟨ρ.val / 4, by omega⟩ ⟨1024 + d.val, by omega⟩))
      (fun d => k2 m c (ix2 ⟨ρ.val / 4, by omega⟩ ⟨d.val, by omega⟩)) k := by
  rw [hK, h_at]
  simp only [blk0, blk1, blk2, blk3]
  rw [V_arg0, V_arg1]
  exact congrArg₂ (fun a b => modul _ _ a b k) (funext fun d => mods_at m c ρ _) (funext fun d => mods_at m c ρ _)

/-- A product of a point's row and a column that the blocks' weights and the whole weights share. -/
theorem sum_at (w : Fin 1024 → EReal) (j : Fin 3080) (hw : ∀ k, w k = wl m c (ix2 k j)) : ∑ k, hK m c t (ix2 ρ k) * w k = prodK m c ρ j := by
  unfold prodK prod
  exact Finset.sum_congr rfl fun k _ => by rw [hK_at, hw]

theorem mainw_at (k : Fin 1024) (j : Fin 2560) : iblk (F := Ideal) m c 6 t (ix2 k j) = wl m c (ix2 k ⟨j.val, by omega⟩) := by
  rw [blk6, main_at]

theorem swaw_at (k : Fin 1024) (j : Fin 512) : iblk (F := Ideal) m c 7 t (ix2 k j) = wl m c (ix2 k (swaCol j)) := by
  rw [blk7, swa_at]

theorem cosK (d : Fin 256) : k0_pay4 (F := Ideal) (iblk (F := Ideal) m c 4 t) (ix2 ρ d) = coAt (pos ρ) (freq d) := by
  rw [cos_at, blk4, cos_table]

theorem sinK (d : Fin 256) : k0_pay5 (F := Ideal) (iblk (F := Ideal) m c 5 t) (ix2 ρ d) = signed (siAt (pos ρ)) d := by
  rw [sin_at, blk5, sin_table]

theorem main256col_at (X : Vec Ideal S1024x2560 .bf16) (k : Fin 1024) (d : Fin 256) : main256 X (ix2 k d) = X (ix2 k ⟨0 + d.val, by omega⟩) :=
  Cert.InProj.main256col_at X k d

theorem main256_col_at (X : Vec Ideal S1024x2560 .bf16) (k : Fin 1024) (d : Fin 256) : main256' X (ix2 k d) = X (ix2 k ⟨256 + d.val, by omega⟩) :=
  Cert.InProj.main256_col_at X k d

theorem main512col_at (X : Vec Ideal S1024x2560 .bf16) (k : Fin 1024) (d : Fin 512) : main512 X (ix2 k d) = X (ix2 k ⟨512 + d.val, by omega⟩) :=
  Cert.InProj.main512col_at X k d

theorem main512_col_at (X : Vec Ideal S1024x2560 .bf16) (k : Fin 1024) (d : Fin 512) : main512' X (ix2 k d) = X (ix2 k ⟨1024 + d.val, by omega⟩) :=
  Cert.InProj.main512_col_at X k d

theorem main1024col_at (X : Vec Ideal S1024x2560 .bf16) (k : Fin 1024) (d : Fin 1024) : main1024 X (ix2 k d) = X (ix2 k ⟨1536 + d.val, by omega⟩) :=
  Cert.InProj.main1024col_at X k d

theorem swa256col_at (X : Vec Ideal S1024x512 .bf16) (k : Fin 1024) (d : Fin 256) : swa256 X (ix2 k d) = X (ix2 k ⟨0 + d.val, by omega⟩) :=
  Cert.InProj.swa256col_at X k d

theorem swa128col_at (X : Vec Ideal S1024x512 .bf16) (k : Fin 1024) (d : Fin 128) : swa128 X (ix2 k d) = X (ix2 k ⟨256 + d.val, by omega⟩) :=
  Cert.InProj.swa128col_at X k d

theorem swa128_col_at (X : Vec Ideal S1024x512 .bf16) (k : Fin 1024) (d : Fin 128) : swa128' X (ix2 k d) = X (ix2 k ⟨384 + d.val, by omega⟩) :=
  Cert.InProj.swa128_col_at X k d

theorem arr10_at (d : Fin 512) : (dats (F := Ideal) m 0 c).arrAt 10 cfg0.N (ix2 ρ d) =
    k0_pay14 (F := Ideal) (hK m c t) (main512' (iblk (F := Ideal) m c 6 t)) (ix2 ρ d) := by
  have h := congrFun (Value.blocks10 m c t ((by decide +kernel : ∀ t : Fin cfg0.N, (cfg0.win 10).flush t = true) t)) (ix2 ρ d)
  rw [Value.flushed10_A, piece10] at h
  refine (read10 _ t ρ d).symm.trans (h.trans ?_)
  rfl

theorem arr11_at (d : Fin 1024) : (dats (F := Ideal) m 0 c).arrAt 11 cfg0.N (ix2 ρ d) =
    k0_pay15 (F := Ideal) (hK m c t) (main1024 (iblk (F := Ideal) m c 6 t)) (ix2 ρ d) := by
  have h := congrFun (Value.blocks11 m c t ((by decide +kernel : ∀ t : Fin cfg0.N, (cfg0.win 11).flush t = true) t)) (ix2 ρ d)
  rw [Value.flushed11_A, piece11] at h
  refine (read11 _ t ρ d).symm.trans (h.trans ?_)
  rfl

theorem arr12_at (d : Fin 128) : (dats (F := Ideal) m 0 c).arrAt 12 cfg0.N (ix2 ρ d) =
    k0_pay16 (F := Ideal) (hK m c t) (iblk (F := Ideal) m c 8 t) (ix2 ρ d) := by
  have h := congrFun (Value.blocks12 m c t ((by decide +kernel : ∀ t : Fin cfg0.N, (cfg0.win 12).flush t = true) t)) (ix2 ρ d)
  rw [Value.flushed12_A, piece12] at h
  refine (read12 _ t ρ d).symm.trans (h.trans ?_)
  rfl

theorem arr13_at (d : Fin 256) : (dats (F := Ideal) m 0 c).arrAt 13 cfg0.N (ix2 ρ d) =
    k0_pay17 (F := Ideal) (hK m c t) (k0_pay4 (F := Ideal) (iblk (F := Ideal) m c 4 t)) (k0_pay5 (F := Ideal) (iblk (F := Ideal) m c 5 t)) (swa256 (iblk (F := Ideal) m c 7 t)) (ix2 ρ d) := by
  have h := congrFun (Value.blocks13 m c t ((by decide +kernel : ∀ t : Fin cfg0.N, (cfg0.win 13).flush t = true) t)) (ix2 ρ d)
  rw [Value.flushed13_A, piece13] at h
  refine (read13 _ t ρ d).symm.trans (h.trans ?_)
  rfl

theorem arr14_at (d : Fin 128) : (dats (F := Ideal) m 0 c).arrAt 14 cfg0.N (ix2 ρ d) =
    k0_pay1 (F := Ideal) (k0_pay18 (F := Ideal) (hK m c t) (swa128 (iblk (F := Ideal) m c 7 t))) (k0_pay19 (F := Ideal) (k0_pay4 (F := Ideal) (iblk (F := Ideal) m c 4 t))) (k0_pay20 (F := Ideal) (k0_pay5 (F := Ideal) (iblk (F := Ideal) m c 5 t))) (iota .tc S512x128 32 [1] iota_S512x128_d1_w32) (Scalar.select (Scalar.cmpi .eq 64#32 0#32) 1#32 64#32) (ix2 ρ d) := by
  have h := congrFun (Value.blocks14 m c t ((by decide +kernel : ∀ t : Fin cfg0.N, (cfg0.win 14).flush t = true) t)) (ix2 ρ d)
  rw [Value.flushed14_A, piece14] at h
  refine (read14 _ t ρ d).symm.trans (h.trans ?_)
  rfl

theorem arr15_at (d : Fin 128) : (dats (F := Ideal) m 0 c).arrAt 15 cfg0.N (ix2 ρ d) =
    k0_pay2 (F := Ideal) (hK m c t) (swa128' (iblk (F := Ideal) m c 7 t)) (ix2 ρ d) := by
  have h := congrFun (Value.blocks15 m c t ((by decide +kernel : ∀ t : Fin cfg0.N, (cfg0.win 15).flush t = true) t)) (ix2 ρ d)
  rw [Value.flushed15_A, piece15] at h
  refine (read15 _ t ρ d).symm.trans (h.trans ?_)
  rfl

/-- The three column ranges of the first result, as the body stores them. -/
abbrev parts9 : Vec Ideal S512x1024 .f32 := View.canon ([
    ⟨Rect.unit (s := S512x1024) ![0, 512] S512x512.size inb_S512x1024_S512x512_0_512, k0_pay13 (F := Ideal) (hK m c t) (main512 (iblk (F := Ideal) m c 6 t))⟩,
    ⟨Rect.unit (s := S512x1024) ![0, 256] S512x256.size inb_S512x1024_S512x256_0_256, k0_pay12 (F := Ideal) (k0_pay4 (F := Ideal) (iblk (F := Ideal) m c 4 t)) (k0_pay5 (F := Ideal) (iblk (F := Ideal) m c 5 t)) (k0_pay8 (F := Ideal) (hK m c t) (main256' (iblk (F := Ideal) m c 6 t))) k0_pay9 k0_pay10 k0_pay11⟩,
    ⟨Rect.unit (s := S512x1024) ![0, 0] S512x256.size inb_S512x1024_S512x256_0_0, k0_pay7 (F := Ideal) (k0_pay4 (F := Ideal) (iblk (F := Ideal) m c 4 t)) (k0_pay5 (F := Ideal) (iblk (F := Ideal) m c 5 t)) (k0_pay6 (F := Ideal) (iblk (F := Ideal) m c 0 t) (iblk (F := Ideal) m c 1 t) (iblk (F := Ideal) m c 2 t) (iblk (F := Ideal) m c 3 t) (main256 (iblk (F := Ideal) m c 6 t))) (iota .tc S512x256 32 [1] iota_S512x256_d1_w32) (Scalar.select (Scalar.cmpi .eq 64#32 0#32) 1#32 64#32)⟩] : List (View.Piece (Elt Ideal) S512x1024 .f32))

theorem arr9_at (d : Fin 1024) : (dats (F := Ideal) m 0 c).arrAt 9 cfg0.N (ix2 ρ d) =
    parts9 m c t (ix2 ρ d) := by
  have h := congrFun (Value.blocks9 m c t ((by decide +kernel : ∀ t : Fin cfg0.N, (cfg0.win 9).flush t = true) t)) (ix2 ρ d)
  rw [Value.flushed9_A, piece9] at h
  refine (read9 _ t ρ d).symm.trans (h.trans ?_)
  rfl

theorem z_eq (d : Fin 512) : (dats (F := Ideal) m 0 c).arrAt 10 cfg0.N (ix2 ρ d) = prodK m c ρ ⟨1024 + d.val, by omega⟩ := by
  rw [arr10_at m c p0, z_at]
  exact sum_at m c p0 ρ _ _ fun k => by rw [main512_col_at, mainw_at]

theorem xbc_eq (d : Fin 1024) : (dats (F := Ideal) m 0 c).arrAt 11 cfg0.N (ix2 ρ d) = prodK m c ρ ⟨1536 + d.val, by omega⟩ := by
  rw [arr11_at m c p0, xbc_at]
  exact sum_at m c p0 ρ _ _ fun k => by rw [main1024col_at, mainw_at]

theorem dt_eq (d : Fin 128) : (dats (F := Ideal) m 0 c).arrAt 12 cfg0.N (ix2 ρ d)
    = if h : d.val < 8 then prodK m c ρ ⟨2560 + d.val, by omega⟩ else 0 := by
  rw [arr12_at m c p0, dt_at]
  split
  · rename_i h
    exact sum_at m c p0 ρ _ _ fun k => by rw [blk8, dtw_at, dif_pos h]
  · rename_i h
    have z : ∑ k : Fin 1024, hK m c p0 (ix2 ρ k) * iblk (F := Ideal) m c 8 p0 (ix2 k d) = (0 : EReal) := Finset.sum_eq_zero fun k _ => by
      rw [blk8, dtw_at, dif_neg h]
      exact mul_zero _
    exact z

theorem sv_eq (d : Fin 128) : (dats (F := Ideal) m 0 c).arrAt 15 cfg0.N (ix2 ρ d) = prodK m c ρ ⟨2952 + d.val, by omega⟩ := by
  rw [arr15_at m c p0, sv_at]
  refine sum_at m c p0 ρ _ _ fun k => ?_
  rw [swa128_col_at, swaw_at]
  exact congrArg (fun j => wl m c (ix2 k j)) (Fin.ext (by simp only [swaCol]; split <;> simp only <;> omega))

theorem sk_eq (d : Fin 128) : (dats (F := Ideal) m 0 c).arrAt 14 cfg0.N (ix2 ρ d)
    = turned (fun d : Fin 128 => prodK m c ρ ⟨2824 + d.val, by omega⟩) (coAt (pos ρ)) (siAt (pos ρ)) d := by
  rw [arr14_at m c p0, skr_at _ _ ρ (coAt (pos ρ)) (siAt (pos ρ)) (cosK m c p0 ρ) (sinK m c p0 ρ)]
  refine congrArg (fun p => turned p _ _ d) (funext fun d => ?_)
  rw [sk_at]
  refine sum_at m c p0 ρ _ _ fun k => ?_
  rw [swa128col_at, swaw_at]
  exact congrArg (fun j => wl m c (ix2 k j)) (Fin.ext (by simp only [swaCol]; split <;> simp only <;> omega))

theorem sq_eq (d : Fin 256) : (dats (F := Ideal) m 0 c).arrAt 13 cfg0.N (ix2 ρ d)
    = turned (fun d : Fin 256 => prodK m c ρ ⟨2568 + d.val, by omega⟩) (coAt (pos ρ)) (siAt (pos ρ)) (headAt d)
      * Ideal.ofBits .f32 0x3E000000#32 := by
  rw [arr13_at m c p0, sq_at _ _ _ ρ (coAt (pos ρ)) (siAt (pos ρ)) (cosK m c p0 ρ) (sinK m c p0 ρ), ← turned_head]
  refine congrArg (fun p => turned p _ _ d * _) (funext fun d => ?_)
  refine sum_at m c p0 ρ _ _ fun k => ?_
  rw [swa256col_at, swaw_at]
  exact congrArg (fun j => wl m c (ix2 k j)) (Fin.ext (by simp only [swaCol, headAt]; split <;> simp only <;> omega))

theorem c0_emb (d : Fin 256) : (Rect.unit (s := S512x1024) ![0, 0] S512x256.size inb_S512x1024_S512x256_0_0).emb (ix2 ρ d) = ix2 ρ ⟨0 + d.val, by omega⟩ := by
  funext a
  apply Fin.ext
  refine (ValueKit.rect_emb_unit_val _ _ _ _ a).trans ?_
  fin_cases a
  · exact Nat.zero_add _
  · rfl

theorem c256_emb (d : Fin 256) : (Rect.unit (s := S512x1024) ![0, 256] S512x256.size inb_S512x1024_S512x256_0_256).emb (ix2 ρ d) = ix2 ρ ⟨256 + d.val, by omega⟩ := by
  funext a
  apply Fin.ext
  refine (ValueKit.rect_emb_unit_val _ _ _ _ a).trans ?_
  fin_cases a
  · exact Nat.zero_add _
  · rfl

theorem c512_emb (d : Fin 512) : (Rect.unit (s := S512x1024) ![0, 512] S512x512.size inb_S512x1024_S512x512_0_512).emb (ix2 ρ d) = ix2 ρ ⟨512 + d.val, by omega⟩ := by
  funext a
  apply Fin.ext
  refine (ValueKit.rect_emb_unit_val _ _ _ _ a).trans ?_
  fin_cases a
  · exact Nat.zero_add _
  · rfl

theorem c256_out (d : Fin 1024) (h : d.val < 256) : (ix2 ρ d : S512x1024.Idx) ∉ (Rect.unit (s := S512x1024) ![0, 256] S512x256.size inb_S512x1024_S512x256_0_256).set := by
  intro q
  have h0 := (Rect.mem_set_unit.mp q ⟨1, by decide⟩).1
  have : (256 : Nat) ≤ d.val := h0
  omega

theorem c512_out (d : Fin 1024) (h : d.val < 512) : (ix2 ρ d : S512x1024.Idx) ∉ (Rect.unit (s := S512x1024) ![0, 512] S512x512.size inb_S512x1024_S512x512_0_512).set := by
  intro q
  have h0 := (Rect.mem_set_unit.mp q ⟨1, by decide⟩).1
  have : (512 : Nat) ≤ d.val := h0
  omega

section Parts
variable (A : FVec Ideal S512x512 .f32) (B C : FVec Ideal S512x256 .f32)

/-- Three column ranges stored side by side. -/
abbrev sideBySide : Vec Ideal S512x1024 .f32 := View.canon ([
    ⟨Rect.unit (s := S512x1024) ![0, 512] S512x512.size inb_S512x1024_S512x512_0_512, A⟩,
    ⟨Rect.unit (s := S512x1024) ![0, 256] S512x256.size inb_S512x1024_S512x256_0_256, B⟩,
    ⟨Rect.unit (s := S512x1024) ![0, 0] S512x256.size inb_S512x1024_S512x256_0_0, C⟩] : List (View.Piece (Elt Ideal) S512x1024 .f32))

theorem side2 (d : Fin 512) : sideBySide A B C (ix2 ρ ⟨512 + d.val, by omega⟩) = A (ix2 ρ d) := by
  rw [← c512_emb]
  exact View.canon_cons_emb (Rect.unit (s := S512x1024) ![0, 512] S512x512.size inb_S512x1024_S512x512_0_512) _ _ (ix2 ρ d)

theorem side1 (d : Fin 256) : sideBySide A B C (ix2 ρ ⟨256 + d.val, by omega⟩) = B (ix2 ρ d) := by
  rw [sideBySide, View.canon_cons_of_not_mem]
  · rw [← c256_emb]
    exact View.canon_cons_emb (Rect.unit (s := S512x1024) ![0, 256] S512x256.size inb_S512x1024_S512x256_0_256) _ _ (ix2 ρ d)
  · exact c512_out ρ ⟨256 + d.val, by omega⟩ (show 256 + d.val < 512 by omega)

theorem side0 (d : Fin 256) : sideBySide A B C (ix2 ρ ⟨d.val, by omega⟩) = C (ix2 ρ d) := by
  rw [sideBySide, View.canon_cons_of_not_mem]
  · rw [View.canon_cons_of_not_mem]
    · have e : (ix2 ρ ⟨d.val, by omega⟩ : S512x1024.Idx) = ix2 ρ ⟨0 + d.val, by omega⟩ := congrArg (ix2 ρ) (Fin.ext (Nat.zero_add _).symm)
      rw [e, ← c0_emb]
      exact View.canon_cons_emb (Rect.unit (s := S512x1024) ![0, 0] S512x256.size inb_S512x1024_S512x256_0_0) _ _ (ix2 ρ d)
    · exact c256_out ρ ⟨d.val, by omega⟩ (show d.val < 256 by omega)
  · exact c512_out ρ ⟨d.val, by omega⟩ (show d.val < 512 by omega)

end Parts

theorem ret_eq2 (d : Fin 512) : (dats (F := Ideal) m 0 c).arrAt 9 cfg0.N (ix2 ρ ⟨512 + d.val, by omega⟩) = prodK m c ρ ⟨512 + d.val, by omega⟩ := by
  rw [arr9_at m c p0]
  refine (side2 ρ _ _ _ d).trans ?_
  refine (vg_at (hK m c p0) _ ρ d).trans ?_
  exact sum_at m c p0 ρ _ _ fun k => by rw [main512col_at, mainw_at]

theorem ret_eq1 (d : Fin 256) : (dats (F := Ideal) m 0 c).arrAt 9 cfg0.N (ix2 ρ ⟨256 + d.val, by omega⟩)
    = turned (fun d : Fin 256 => prodK m c ρ ⟨256 + d.val, by omega⟩) (coAt (pos ρ)) (siAt (pos ρ)) d * Ideal.ofBits .f32 0x3E000000#32 := by
  rw [arr9_at m c p0]
  refine (side1 ρ _ _ _ d).trans ?_
  refine (rk_at _ _ ρ (coAt (pos ρ)) (siAt (pos ρ)) (cosK m c p0 ρ) (sinK m c p0 ρ) _ d).trans ?_
  refine congrArg (fun p => turned p _ _ d * _) (funext fun d => ?_)
  rw [k_at]
  exact sum_at m c p0 ρ _ _ fun k => by rw [main256_col_at, mainw_at]

theorem ret_eq0 (d : Fin 256) : (dats (F := Ideal) m 0 c).arrAt 9 cfg0.N (ix2 ρ ⟨d.val, by omega⟩)
    = turned (fun d : Fin 256 => prodK m c ρ ⟨d.val, by omega⟩) (coAt (pos ρ)) (siAt (pos ρ)) d := by
  rw [arr9_at m c p0]
  refine (side0 ρ _ _ _ d).trans ?_
  refine (rq_at _ _ ρ (coAt (pos ρ)) (siAt (pos ρ)) (cosK m c p0 ρ) (sinK m c p0 ρ) _ d).trans ?_
  refine congrArg (fun p => turned p _ _ d) (funext fun d => ?_)
  rw [q_at]
  refine sum_at m c p0 ρ _ _ fun k => ?_
  rw [main256col_at, mainw_at]
  exact congrArg (fun j => wl m c (ix2 k j)) (Fin.ext (Nat.zero_add _))

/-! ## The arrays -/

variable (m' : (ℓ : Loc Cert.Reference4Ideal.nD Cert.Reference4Ideal.τ Cert.Reference4Ideal.sig) → Buf (Elt Ideal) ℓ)

/-- The two launches have the same arguments. -/
structure Same : Prop where
  e0 : r0 m' c = k0 m c
  e1 : r1 m' c = k1 m c
  e2 : r2 m' c = k2 m c
  e3 : r3 m' c = wl m c

theorem prod_eq (S : Same m c m') (t : Fin 512) (j : Fin 3080) : prodR m' c t j = prodK m c t j := by
  rw [prodR, prodK, S.e0, S.e1, S.e2, S.e3]

theorem z_arr (S : Same m c m') : zR m' c = (dats (F := Ideal) m 0 c).arrAt 10 cfg0.N := by
  funext i
  obtain ⟨t, d, rfl⟩ : ∃ (t : Fin 512) (d : Fin 512), i = ix2 t d := ⟨i 0, i 1, (ix2_eta i).symm⟩
  refine Eq.trans ?_ (z_eq m c t d).symm
  rw [zR_at]
  simp only [prod_eq m c m' S]

theorem xbc_arr (S : Same m c m') : xbcR m' c = (dats (F := Ideal) m 0 c).arrAt 11 cfg0.N := by
  funext i
  obtain ⟨t, d, rfl⟩ : ∃ (t : Fin 512) (d : Fin 1024), i = ix2 t d := ⟨i 0, i 1, (ix2_eta i).symm⟩
  refine Eq.trans ?_ (xbc_eq m c t d).symm
  rw [xbcR_at]
  simp only [prod_eq m c m' S]

theorem dt_arr (S : Same m c m') : dtR m' c = (dats (F := Ideal) m 0 c).arrAt 12 cfg0.N := by
  funext i
  obtain ⟨t, d, rfl⟩ : ∃ (t : Fin 512) (d : Fin 128), i = ix2 t d := ⟨i 0, i 1, (ix2_eta i).symm⟩
  refine Eq.trans ?_ (dt_eq m c t d).symm
  rw [dtR_at]
  simp only [prod_eq m c m' S]

theorem sq_arr (S : Same m c m') : headsR m' c = (dats (F := Ideal) m 0 c).arrAt 13 cfg0.N := by
  funext i
  obtain ⟨t, d, rfl⟩ : ∃ (t : Fin 512) (d : Fin 256), i = ix2 t d := ⟨i 0, i 1, (ix2_eta i).symm⟩
  refine Eq.trans ?_ (sq_eq m c t d).symm
  rw [headsR_at]
  simp only [prod_eq m c m' S]

theorem sk_arr (S : Same m c m') : keysR m' c = (dats (F := Ideal) m 0 c).arrAt 14 cfg0.N := by
  funext i
  obtain ⟨t, d, rfl⟩ : ∃ (t : Fin 512) (d : Fin 128), i = ix2 t d := ⟨i 0, i 1, (ix2_eta i).symm⟩
  refine Eq.trans ?_ (sk_eq m c t d).symm
  rw [keysR_at]
  simp only [prod_eq m c m' S]

theorem sv_arr (S : Same m c m') : svR m' c = (dats (F := Ideal) m 0 c).arrAt 15 cfg0.N := by
  funext i
  obtain ⟨t, d, rfl⟩ : ∃ (t : Fin 512) (d : Fin 128), i = ix2 t d := ⟨i 0, i 1, (ix2_eta i).symm⟩
  refine Eq.trans ?_ (sv_eq m c t d).symm
  rw [svR_at]
  simp only [prod_eq m c m' S]

theorem ret_arr (S : Same m c m') : retR m' c = (dats (F := Ideal) m 0 c).arrAt 9 cfg0.N := by
  funext i
  obtain ⟨t, d, rfl⟩ : ∃ (t : Fin 512) (d : Fin 1024), i = ix2 t d := ⟨i 0, i 1, (ix2_eta i).symm⟩
  by_cases h0 : d.val < 256
  · refine (retR_at0 m' c t ⟨d.val, h0⟩).trans (Eq.trans ?_ (ret_eq0 m c t ⟨d.val, h0⟩).symm)
    simp only [prod_eq m c m' S]
  · by_cases h1 : d.val < 512
    · obtain ⟨e, he⟩ : ∃ e : Fin 256, d = ⟨256 + e.val, by omega⟩ := ⟨⟨d.val - 256, by omega⟩, Fin.ext (by simp only; omega)⟩
      rw [he]
      rw [retR_at1]
      refine Eq.trans ?_ (ret_eq1 m c t e).symm
      simp only [prod_eq m c m' S]
    · obtain ⟨e, he⟩ : ∃ e : Fin 512, d = ⟨512 + e.val, by omega⟩ := ⟨⟨d.val - 512, by omega⟩, Fin.ext (by simp only; omega)⟩
      rw [he]
      rw [retR_at2]
      refine Eq.trans ?_ (ret_eq2 m c t e).symm
      rw [prod_eq m c m' S]

end Cert.InSample
-- ==== Proof.lean ====
/- The three calls of the kernel and their references: every claim of the certificate. -/
module

public import proofs.«01_k».proof.Defs
public import proofs.«01_k».proof.Proof.Gen.Kernel
public import proofs.«01_k».proof.Proof.Gen.Kernel.Skeleton
public import proofs.«01_k».proof.Proof.Gen.Kernel.Launch
public import proofs.«01_k».proof.Proof.Gen.Kernel.Points
public import proofs.«01_k».proof.Proof.Gen.Kernel.Frame
public import proofs.«01_k».proof.Proof.Gen.KernelIdeal
public import proofs.«01_k».proof.Proof.Gen.KernelIdeal.Skeleton
public import proofs.«01_k».proof.Proof.Gen.KernelIdeal.Launch
public import proofs.«01_k».proof.Proof.Gen.KernelIdeal.Points
public import proofs.«01_k».proof.Proof.Gen.KernelIdeal.Frame
public import proofs.«01_k».proof.Proof.Gen.ReferenceIdeal
public import proofs.«01_k».proof.Proof.Gen.KernelIdeal.Value
public import proofs.«01_k».proof.Proof.Gen.ReferenceIdeal.Run
public import proofs.«01_k».proof.Proof.Gen.Kernel2
public import proofs.«01_k».proof.Proof.Gen.Kernel2.Skeleton
public import proofs.«01_k».proof.Proof.Gen.Kernel2.Launch
public import proofs.«01_k».proof.Proof.Gen.Kernel2.Points
public import proofs.«01_k».proof.Proof.Gen.Kernel2.Frame
public import proofs.«01_k».proof.Proof.Gen.Kernel2Ideal
public import proofs.«01_k».proof.Proof.Gen.Kernel2Ideal.Skeleton
public import proofs.«01_k».proof.Proof.Gen.Kernel2Ideal.Launch
public import proofs.«01_k».proof.Proof.Gen.Kernel2Ideal.Points
public import proofs.«01_k».proof.Proof.Gen.Kernel2Ideal.Frame
public import proofs.«01_k».proof.Proof.Gen.Kernel2Ideal.Value
public import proofs.«01_k».proof.Proof.Gen.Reference2Ideal
public import proofs.«01_k».proof.Proof.Gen.Reference2Ideal.Run
public import proofs.«01_k».proof.Proof.Gen.Kernel3
public import proofs.«01_k».proof.Proof.Gen.Kernel3.Skeleton
public import proofs.«01_k».proof.Proof.Gen.Kernel3.Launch
public import proofs.«01_k».proof.Proof.Gen.Kernel3.Points
public import proofs.«01_k».proof.Proof.Gen.Kernel3.Frame
public import proofs.«01_k».proof.Proof.Gen.Kernel3Ideal
public import proofs.«01_k».proof.Proof.Gen.Kernel3Ideal.Skeleton
public import proofs.«01_k».proof.Proof.Gen.Kernel3Ideal.Launch
public import proofs.«01_k».proof.Proof.Gen.Kernel3Ideal.Points
public import proofs.«01_k».proof.Proof.Gen.Kernel3Ideal.Frame
public import proofs.«01_k».proof.Proof.Gen.Kernel3Ideal.Value
public import proofs.«01_k».proof.Proof.Gen.Reference3Ideal
public import proofs.«01_k».proof.Proof.Gen.Reference3Ideal.Run
public import proofs.«01_k».proof.Proof.Gen.Kernel4
public import proofs.«01_k».proof.Proof.Gen.Kernel4.Skeleton
public import proofs.«01_k».proof.Proof.Gen.Kernel4.Launch
public import proofs.«01_k».proof.Proof.Gen.Kernel4.Points
public import proofs.«01_k».proof.Proof.Gen.Kernel4.Frame
public import proofs.«01_k».proof.Proof.Gen.Kernel4Ideal
public import proofs.«01_k».proof.Proof.Gen.Kernel4Ideal.Skeleton
public import proofs.«01_k».proof.Proof.Gen.Kernel4Ideal.Launch
public import proofs.«01_k».proof.Proof.Gen.Kernel4Ideal.Points
public import proofs.«01_k».proof.Proof.Gen.Kernel4Ideal.Frame
public import proofs.«01_k».proof.Proof.Gen.Kernel4Ideal.Value
public import proofs.«01_k».proof.Proof.Gen.Reference4Ideal
public import proofs.«01_k».proof.Proof.Gen.Reference4Ideal.Run
public import proofs.«01_k».proof.Proof.Final
public import proofs.«01_k».proof.Proof.InFinal
public import proofs.«01_k».proof.Proof.Mod
public import proofs.«01_k».proof.Proof.SampFinal
public import Idealize.ShloMosaic.Adequacy
public import Idealize.ShloMosaic.Init

@[expose] public section

set_option maxRecDepth 16384

noncomputable section

namespace Cert.Proof

open Idealize.ShloMosaic Idealize.SL.Sem Cert.OutMoe

/-- The kernel runs, keeps its arguments and leaves every counter at zero. -/
theorem frame_kernel : Cert.quiescent_Kernel (hKernel := Cert.Kernel.Gen.facts) := fun m g _ => Cert.Kernel.Gen.frame m g

/-- So does its reading over the extended reals. -/
theorem frame_ideal : Cert.quiescent_KernelIdeal (hKernelIdeal := Cert.KernelIdeal.Gen.facts) := fun m g _ => Cert.KernelIdeal.Gen.frame m g

/-- So does the reference, which has no counters. -/
theorem frame_reference : Cert.quiescent_ReferenceIdeal (hReferenceIdeal := Cert.ReferenceIdeal.Gen.facts) := fun m g _ =>
  (θ_run Cert.ReferenceIdeal.defs _ _).mono (fun r h => ⟨fun c => (h c).2, sem_eq_zero_of_no_sems (by decide) r.2⟩)
    (Cert.ReferenceIdeal.Value.run (F := Ideal) m g)

variable {m : (ℓ : Loc Cert.KernelIdeal.nD Cert.KernelIdeal.τ Cert.KernelIdeal.sig) → Buf (Elt Ideal) ℓ}
  {m' : (ℓ : Loc Cert.ReferenceIdeal.nD Cert.ReferenceIdeal.τ Cert.ReferenceIdeal.sig) → Buf (Elt Ideal) ℓ}

/-- Where the precondition holds, and of the same arguments, the kernel's array is the reference's. -/
theorem arrays_eq (hp : Cert.Pre_KernelIdeal_finite (hPre_finite := preFacts) m) (c : Dev Cert.KernelIdeal.nD)
    (S : Same m c (StableHlo.launchContents m' c)) :
    refOut (StableHlo.launchContents m' c) = (Cert.KernelIdeal.Gen.dats (F := Ideal) m 0 c).arrAt 17 Cert.KernelIdeal.cfg0.N := by
  have H : AllOk (StableHlo.launchContents m' c) := fun t d => by
    have h := congrFun (hp c) (ix2 t d)
    rw [← S.e0, ← S.e1, ← S.e2, ← S.e3, ← S.e4, ← S.e5, ← S.e6, ← S.e7, ← S.e8] at h
    exact ok_of_pre _ _ _ _ _ _ _ _ _ _ _ _ _ t d h
  funext i
  obtain ⟨t, d, rfl⟩ : ∃ (t : Fin 16384) (d : Fin 1024), i = ix2 t d := ⟨i 0, i 1, (ix2_eta i).symm⟩
  have hN : Cert.KernelIdeal.cfg0.N = 32 := Cert.KernelIdeal.Gen.N_0
  have ht : token ⟨t.val / 512, by omega⟩ ⟨t.val % 512, by omega⟩ = t := Fin.ext (by simp only [token]; omega)
  rw [← ht]
  exact (entry_eq S H _ _ d).symm

/-- Over the extended reals the kernel and the reference compute the same array. -/
theorem same_value : Cert.algebraic_KernelIdeal_ReferenceIdeal_pre_finite (hKernelIdeal := Cert.KernelIdeal.Gen.facts)
    (hReferenceIdeal := Cert.ReferenceIdeal.Gen.facts) (hPre_finite := preFacts) := by
  intro m g m' g' hp hm
  have hS : ∀ c, Same m c (StableHlo.launchContents m' c) := fun c =>
    { e0 := (hm c).1
      e1 := (hm c).2.1
      e2 := (hm c).2.2.1
      e3 := (hm c).2.2.2.1
      e4 := (hm c).2.2.2.2.1
      e5 := (hm c).2.2.2.2.2.1
      e6 := (hm c).2.2.2.2.2.2.1
      e7 := (hm c).2.2.2.2.2.2.2.1
      e8 := (hm c).2.2.2.2.2.2.2.2.1
      e9 := (hm c).2.2.2.2.2.2.2.2.2.1
      e10 := (hm c).2.2.2.2.2.2.2.2.2.2.1
      e11 := (hm c).2.2.2.2.2.2.2.2.2.2.2.1
      e12 := (hm c).2.2.2.2.2.2.2.2.2.2.2.2 }
  refine ⟨fun c => (Cert.KernelIdeal.Gen.dats (F := Ideal) m 0 c).arrAt 17 Cert.KernelIdeal.cfg0.N, Cert.KernelIdeal.Value.run_blocks m g, ?_⟩
  exact (θ_run Cert.ReferenceIdeal.defs _ _).mono (fun r h c => ⟨(h c).1.trans (arrays_eq hp c (hS c)), (h c).2⟩)
    (Cert.ReferenceIdeal.Value.run (F := Ideal) m' g')

/-- The projection runs, keeps its arguments and leaves every counter at zero. -/
theorem frame_kernel2 : Cert.quiescent_Kernel2 (hKernel2 := Cert.Kernel2.Gen.facts) := fun m g _ => Cert.Kernel2.Gen.frame m g

/-- So does its reading over the extended reals. -/
theorem frame_ideal2 : Cert.quiescent_Kernel2Ideal (hKernel2Ideal := Cert.Kernel2Ideal.Gen.facts) := fun m g _ => Cert.Kernel2Ideal.Gen.frame m g

/-- So does its reference. -/
theorem frame_reference2 : Cert.quiescent_Reference2Ideal (hReference2Ideal := Cert.Reference2Ideal.Gen.facts) := fun m g _ =>
  (θ_run Cert.Reference2Ideal.defs _ _).mono (fun r h => ⟨fun c => (h c).2.2.2.2.2.2.2, sem_eq_zero_of_no_sems (by decide) r.2⟩)
    (Cert.Reference2Ideal.Value.run (F := Ideal) m g)

/-- Over the extended reals the projection and its reference compute the same seven arrays. -/
theorem same_value2 : Cert.algebraic_Kernel2Ideal_Reference2Ideal (hKernel2Ideal := Cert.Kernel2Ideal.Gen.facts)
    (hReference2Ideal := Cert.Reference2Ideal.Gen.facts) := by
  intro m g m' g' _ hm
  have S : ∀ c, Cert.InProj.Same m c m' := fun c => ⟨(hm c).1, (hm c).2.1, (hm c).2.2.1, (hm c).2.2.2⟩
  refine ⟨_, _, _, _, _, _, _, Cert.Kernel2Ideal.Value.run_blocks m g, ?_⟩
  refine (θ_run Cert.Reference2Ideal.defs _ _).mono (fun r h c => ?_) (Cert.Reference2Ideal.Value.run (F := Ideal) m' g')
  obtain ⟨h0, h1, h2, h3, h4, h5, h6, h7⟩ := h c
  exact ⟨h0.trans (Cert.InProj.ret_arr m c m' (S c)), h1.trans (Cert.InProj.z_arr m c m' (S c)), h2.trans (Cert.InProj.xbc_arr m c m' (S c)),
    h3.trans (Cert.InProj.dt_arr m c m' (S c)), h4.trans (Cert.InProj.sq_arr m c m' (S c)), h5.trans (Cert.InProj.sk_arr m c m' (S c)),
    h6.trans (Cert.InProj.sv_arr m c m' (S c)), h7⟩

/-- The modulation runs, keeps its arguments and leaves every counter at zero. -/
theorem frame_kernel3 : Cert.quiescent_Kernel3 (hKernel3 := Cert.Kernel3.Gen.facts) := fun m g _ => Cert.Kernel3.Gen.frame m g

/-- So does its reading over the extended reals. -/
theorem frame_ideal3 : Cert.quiescent_Kernel3Ideal (hKernel3Ideal := Cert.Kernel3Ideal.Gen.facts) := fun m g _ => Cert.Kernel3Ideal.Gen.frame m g

/-- So does its reference. -/
theorem frame_reference3 : Cert.quiescent_Reference3Ideal (hReference3Ideal := Cert.Reference3Ideal.Gen.facts) := fun m g _ =>
  (θ_run Cert.Reference3Ideal.defs _ _).mono (fun r h => ⟨fun c => (h c).2, sem_eq_zero_of_no_sems (by decide) r.2⟩)
    (Cert.Reference3Ideal.Value.run (F := Ideal) m g)

/-- Over the extended reals the modulation and its reference compute the same array. -/
theorem same_value3 : Cert.algebraic_Kernel3Ideal_Reference3Ideal (hKernel3Ideal := Cert.Kernel3Ideal.Gen.facts)
    (hReference3Ideal := Cert.Reference3Ideal.Gen.facts) := by
  intro m g m' g' _ hm
  refine ⟨_, Cert.Kernel3Ideal.Value.run_blocks m g, ?_⟩
  refine (θ_run Cert.Reference3Ideal.defs _ _).mono (fun r h c => ?_) (Cert.Reference3Ideal.Value.run (F := Ideal) m' g')
  exact ⟨(h c).1.trans (Cert.Modul.out_arr m c m' (hm c).1 (hm c).2.1 (hm c).2.2.1 (hm c).2.2.2), (h c).2⟩

/-- The projection of the sample batch runs, keeps its arguments and leaves every counter at zero. -/
theorem frame_kernel4 : Cert.quiescent_Kernel4 (hKernel4 := Cert.Kernel4.Gen.facts) := fun m g _ => Cert.Kernel4.Gen.frame m g

/-- So does its reading over the extended reals. -/
theorem frame_ideal4 : Cert.quiescent_Kernel4Ideal (hKernel4Ideal := Cert.Kernel4Ideal.Gen.facts) := fun m g _ => Cert.Kernel4Ideal.Gen.frame m g

/-- So does its reference. -/
theorem frame_reference4 : Cert.quiescent_Reference4Ideal (hReference4Ideal := Cert.Reference4Ideal.Gen.facts) := fun m g _ =>
  (θ_run Cert.Reference4Ideal.defs _ _).mono (fun r h => ⟨fun c => (h c).2.2.2.2.2.2.2, sem_eq_zero_of_no_sems (by decide) r.2⟩)
    (Cert.Reference4Ideal.Value.run (F := Ideal) m g)

/-- Over the extended reals the projection of the sample batch and its reference compute the same seven arrays. -/
theorem same_value4 : Cert.algebraic_Kernel4Ideal_Reference4Ideal (hKernel4Ideal := Cert.Kernel4Ideal.Gen.facts)
    (hReference4Ideal := Cert.Reference4Ideal.Gen.facts) := by
  intro m g m' g' _ hm
  have S : ∀ c, Cert.InSample.Same m c m' := fun c => ⟨(hm c).1, (hm c).2.1, (hm c).2.2.1, (hm c).2.2.2⟩
  refine ⟨_, _, _, _, _, _, _, Cert.Kernel4Ideal.Value.run_blocks m g, ?_⟩
  refine (θ_run Cert.Reference4Ideal.defs _ _).mono (fun r h c => ?_) (Cert.Reference4Ideal.Value.run (F := Ideal) m' g')
  obtain ⟨h0, h1, h2, h3, h4, h5, h6, h7⟩ := h c
  exact ⟨h0.trans (Cert.InSample.ret_arr m c m' (S c)), h1.trans (Cert.InSample.z_arr m c m' (S c)), h2.trans (Cert.InSample.xbc_arr m c m' (S c)),
    h3.trans (Cert.InSample.dt_arr m c m' (S c)), h4.trans (Cert.InSample.sq_arr m c m' (S c)), h5.trans (Cert.InSample.sk_arr m c m' (S c)),
    h6.trans (Cert.InSample.sv_arr m c m' (S c)), h7⟩

theorem claim : Cert.Claim :=
  ⟨Cert.Kernel.Gen.facts, Cert.KernelIdeal.Gen.facts, Cert.ReferenceIdeal.Gen.facts, Cert.Kernel2.Gen.facts, Cert.Kernel2Ideal.Gen.facts,
    Cert.Reference2Ideal.Gen.facts, Cert.Kernel3.Gen.facts, Cert.Kernel3Ideal.Gen.facts, Cert.Reference3Ideal.Gen.facts,
    Cert.Kernel4.Gen.facts, Cert.Kernel4Ideal.Gen.facts, Cert.Reference4Ideal.Gen.facts, preFacts,
    frame_kernel, frame_ideal, fun m g _ => frame_ideal m g trivial, frame_reference,
    fun m g _ => frame_reference m g trivial, frame_kernel2, frame_ideal2, frame_reference2, frame_kernel3, frame_ideal3, frame_reference3,
    frame_kernel4, frame_ideal4, frame_reference4,
    trivial, same_value, trivial, same_value2, trivial, same_value3, trivial, same_value4⟩

end Cert.Proof

end
